-- ==== Defs.lean ====
def Pre_Kernel [hPre_rows_fit : Cert.Pre_rows_fit.Facts] (m : (ℓ : Loc Cert.Kernel.nD Cert.Kernel.τ Cert.Kernel.sig) → Buf (Elt Bits) ℓ) : Prop :=
  ∀ c : Dev Cert.Kernel.nD,
    (Cert.Pre_rows_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_rows_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_rows_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2 = (fun _ => 1#1)

def Pre_KernelIdeal [hPre_rows_fit : Cert.Pre_rows_fit.Facts] (m : (ℓ : Loc Cert.KernelIdeal.nD Cert.KernelIdeal.τ Cert.KernelIdeal.sig) → Buf (Elt Ideal) ℓ) : Prop :=
  ∀ c : Dev Cert.KernelIdeal.nD,
    (Cert.Pre_rows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_rows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_rows_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_fit [hPre_rows_fit : Cert.Pre_rows_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_rows_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_rows_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Reference [hPre_rows_fit : Cert.Pre_rows_fit.Facts] (m : (ℓ : Loc Cert.Reference.nD Cert.Reference.τ Cert.Reference.sig) → Buf (Elt Bits) ℓ) : Prop :=
  ∀ c : Dev Cert.Reference.nD,
    (Cert.Pre_rows_fit.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).1 = (fun _ => 1#1)
    ∧ (Cert.Pre_rows_fit.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.1 = (fun _ => 1#1)
    ∧ (Cert.Pre_rows_fit.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))).2.2 = (fun _ => 1#1)

def quiescent_Kernel [hKernel : Cert.Kernel.Facts] [hPre_rows_fit : Cert.Pre_rows_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_fit : Cert.Pre_rows_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_rows_fit [hReferenceIdeal : Cert.ReferenceIdeal.Facts] [hPre_rows_fit : Cert.Pre_rows_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_rows_fit : Cert.Pre_rows_fit.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_fit : Cert.Pre_rows_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_rows_fit : Cert.Pre_rows_fit.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v29)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v29) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_rows_fit : Cert.Pre_rows_fit.Facts),
    quiescent_Kernel (hKernel := hKernel) (hPre_rows_fit := hPre_rows_fit)
    ∧ quiescent_KernelIdeal (hKernelIdeal := hKernelIdeal) (hPre_rows_fit := hPre_rows_fit)
    ∧ quiescent_ReferenceIdeal (hReferenceIdeal := hReferenceIdeal)
    ∧ quiescent_ReferenceIdeal_pre_rows_fit (hReferenceIdeal := hReferenceIdeal) (hPre_rows_fit := hPre_rows_fit)
    ∧ quiescent_Reference (hReference := hReference) (hPre_rows_fit := hPre_rows_fit)
    ∧ preserves_Kernel_KernelIdeal
    ∧ algebraic_KernelIdeal_ReferenceIdeal (hKernelIdeal := hKernelIdeal) (hReferenceIdeal := hReferenceIdeal) (hPre_rows_fit := hPre_rows_fit)
    ∧ bitexact_Kernel_Reference (hKernel := hKernel) (hReference := hReference) (hPre_rows_fit := hPre_rows_fit)
-- ==== Pre_rows_fit.lean ====
abbrev S1000000x64 : Shape := ⟨2, ![1000000, 64]⟩
abbrev S16384 : Shape := ⟨1, ![16384]⟩
abbrev S16384x64 : Shape := ⟨2, ![16384, 64]⟩
abbrev S32 : Shape := ⟨1, ![32]⟩
abbrev S32x1 : Shape := ⟨2, ![32, 1]⟩
abbrev S_ : Shape := ⟨0, ![]⟩
abbrev S1x16384 : Shape := ⟨2, ![1, 16384]⟩
abbrev S32x16384 : Shape := ⟨2, ![32, 16384]⟩
abbrev S1953 : Shape := ⟨1, ![1953]⟩
abbrev S1953x1 : Shape := ⟨2, ![1953, 1]⟩
abbrev S1953x16384 : Shape := ⟨2, ![1953, 16384]⟩

class Facts : Prop where
  bcast_S32_S32x1_0 : S32.BroadcastsInDim S32x1 (![0] : Fin 1 → Fin S32x1.rank)
  bcast_S_S32x1 : S_.BroadcastsInDim S32x1 (![] : Fin 0 → Fin S32x1.rank)
  bcast_S16384_S1x16384_1 : S16384.BroadcastsInDim S1x16384 (![1] : Fin 1 → Fin S1x16384.rank)
  bcast_S1x16384_S32x16384_0_1 : S1x16384.BroadcastsInDim S32x16384 (![0, 1] : Fin 2 → Fin S32x16384.rank)
  bcast_S32x1_S32x16384_0_1 : S32x1.BroadcastsInDim S32x16384 (![0, 1] : Fin 2 → Fin S32x16384.rank)
  bcast_S1953_S1953x1_0 : S1953.BroadcastsInDim S1953x1 (![0] : Fin 1 → Fin S1953x1.rank)
  bcast_S_S1x16384 : S_.BroadcastsInDim S1x16384 (![] : Fin 0 → Fin S1x16384.rank)
  bcast_S1x16384_S1953x16384_0_1 : S1x16384.BroadcastsInDim S1953x16384 (![0, 1] : Fin 2 → Fin S1953x16384.rank)
  bcast_S1953x1_S1953x16384_0_1 : S1953x1.BroadcastsInDim S1953x16384 (![0, 1] : Fin 2 → Fin S1953x16384.rank)
  bcast_S_S16384 : S_.BroadcastsInDim S16384 (![] : Fin 0 → Fin S16384.rank)
  natLt_1_32 : 1 < 32
  reducesTo_S32x16384_S32_d1 : S32x16384.ReducesTo [1] S32
  h_S_ : 0 < S_.numel
  bcast_S_S32 : S_.BroadcastsInDim S32 (![] : Fin 0 → Fin S32.rank)
  reducesTo_S1953x16384_S1953_d1 : S1953x16384.ReducesTo [1] S1953
  bcast_S_S1953 : S_.BroadcastsInDim S1953 (![] : Fin 0 → Fin S1953.rank)

variable [Facts]

def fn_part2 {F : FTy → Type} [FloatOps F] (main_v24 : IVec S32x16384 1) (main_v32 : IVec S1953x16384 1) (main_v37 : IVec S16384 1) : IVec S16384 1 × IVec S32 1 × IVec S1953 1 :=
  let main_v38 : IVec S32x16384 32 := (extui 32 · natLt_1_32) main_v24
  let main_c_9 : IVec S_ 32 := constantI S_ 32 0#32
  let main_v39 : IVec S32 32 := (fun x v => Host.reduce IntOp.addi x v reducesTo_S32x16384_S32_d1 h_S_) main_v38 main_c_9
  let main_c_10 : IVec S_ 32 := constantI S_ 32 4096#32
  let main_v40 : IVec S32 32 := broadcastInDim S32 ![] bcast_S_S32 main_c_10
  let main_v41 : IVec S32 1 := cmpi .sle main_v39 main_v40
  let main_v42 : IVec S1953x16384 32 := (extui 32 · natLt_1_32) main_v32
  let main_c_11 : IVec S_ 32 := constantI S_ 32 0#32
  let main_v43 : IVec S1953 32 := (fun x v => Host.reduce IntOp.addi x v reducesTo_S1953x16384_S1953_d1 h_S_) main_v42 main_c_11
  let main_c_12 : IVec S_ 32 := constantI S_ 32 2048#32
  let main_v44 : IVec S1953 32 := broadcastInDim S1953 ![] bcast_S_S1953 main_c_12
  let main_v45 : IVec S1953 1 := cmpi .sle main_v43 main_v44
  (main_v37, main_v41, main_v45)

def fn_part1 {F : FTy → Type} [FloatOps F] (main_arg1 : IVec S16384 32) (main_v7 : IVec S32x1 32) (main_v15 : IVec S32x1 32) (main_v16 : IVec S1x16384 32) : IVec S16384 1 × IVec S32 1 × IVec S1953 1 :=
  let main_v17 : IVec S32x16384 32 := broadcastInDim S32x16384 ![0, 1] bcast_S1x16384_S32x16384_0_1 main_v16
  let main_v18 : IVec S32x16384 32 := broadcastInDim S32x16384 ![0, 1] bcast_S32x1_S32x16384_0_1 main_v7
  let main_v19 : IVec S32x16384 1 := cmpi .sge main_v17 main_v18
  let main_v20 : IVec S1x16384 32 := broadcastInDim S1x16384 ![1] bcast_S16384_S1x16384_1 main_arg1
  let main_v21 : IVec S32x16384 32 := broadcastInDim S32x16384 ![0, 1] bcast_S1x16384_S32x16384_0_1 main_v20
  let main_v22 : IVec S32x16384 32 := broadcastInDim S32x16384 ![0, 1] bcast_S32x1_S32x16384_0_1 main_v15
  let main_v23 : IVec S32x16384 1 := cmpi .slt main_v21 main_v22
  let main_v24 : IVec S32x16384 1 := andi main_v19 main_v23
  let main_v25 : IVec S1953 32 := iotaInDim S1953 32 0
  let main_v26 : IVec S1953x1 32 := broadcastInDim S1953x1 ![0] bcast_S1953_S1953x1_0 main_v25
  let main_v27 : IVec S1x16384 32 := broadcastInDim S1x16384 ![1] bcast_S16384_S1x16384_1 main_arg1
  let main_c_6 : IVec S_ 32 := constantI S_ 32 9#32
  let main_v28 : IVec S1x16384 32 := broadcastInDim S1x16384 ![] bcast_S_S1x16384 main_c_6
  let main_v29 : IVec S1x16384 32 := Host.shrsi main_v27 main_v28
  let main_v30 : IVec S1953x16384 32 := broadcastInDim S1953x16384 ![0, 1] bcast_S1x16384_S1953x16384_0_1 main_v29
  let main_v31 : IVec S1953x16384 32 := broadcastInDim S1953x16384 ![0, 1] bcast_S1953x1_S1953x16384_0_1 main_v26
  let main_v32 : IVec S1953x16384 1 := cmpi .eq main_v30 main_v31
  let main_c_7 : IVec S_ 32 := constantI S_ 32 0#32
  let main_v33 : IVec S16384 32 := broadcastInDim S16384 ![] bcast_S_S16384 main_c_7
  let main_v34 : IVec S16384 1 := cmpi .sge main_arg1 main_v33
  let main_c_8 : IVec S_ 32 := constantI S_ 32 1000000#32
  let main_v35 : IVec S16384 32 := broadcastInDim S16384 ![] bcast_S_S16384 main_c_8
  let main_v36 : IVec S16384 1 := cmpi .slt main_arg1 main_v35
  let main_v37 : IVec S16384 1 := andi main_v34 main_v36
  fn_part2 (F := F) main_v24 main_v32 main_v37

def fn {F : FTy → Type} [FloatOps F] (main_arg0 : FVec F S1000000x64 .f32) (main_arg1 : IVec S16384 32) (main_arg2 : FVec F S16384x64 .f32) : IVec S16384 1 × IVec S32 1 × IVec S1953 1 :=
  let main_v0 : IVec S32 32 := iotaInDim S32 32 0
  let main_v1 : IVec S32x1 32 := broadcastInDim S32x1 ![0] bcast_S32_S32x1_0 main_v0
  let main_c : IVec S_ 32 := constantI S_ 32 1953#32
  let main_v2 : IVec S32x1 32 := broadcastInDim S32x1 ![] bcast_S_S32x1 main_c
  let main_v3 : IVec S32x1 32 := muli main_v1 main_v2
  let main_c_0 : IVec S_ 32 := constantI S_ 32 5#32
  let main_v4 : IVec S32x1 32 := broadcastInDim S32x1 ![] bcast_S_S32x1 main_c_0
  let main_v5 : IVec S32x1 32 := Host.shrsi main_v3 main_v4
  let main_c_1 : IVec S_ 32 := constantI S_ 32 9#32
  let main_v6 : IVec S32x1 32 := broadcastInDim S32x1 ![] bcast_S_S32x1 main_c_1
  let main_v7 : IVec S32x1 32 := Host.shli main_v5 main_v6
  let main_c_2 : IVec S_ 32 := constantI S_ 32 1#32
  let main_v8 : IVec S32x1 32 := broadcastInDim S32x1 ![] bcast_S_S32x1 main_c_2
  let main_v9 : IVec S32x1 32 := addi main_v1 main_v8
  let main_c_3 : IVec S_ 32 := constantI S_ 32 1953#32
  let main_v10 : IVec S32x1 32 := broadcastInDim S32x1 ![] bcast_S_S32x1 main_c_3
  let main_v11 : IVec S32x1 32 := muli main_v9 main_v10
  let main_c_4 : IVec S_ 32 := constantI S_ 32 5#32
  let main_v12 : IVec S32x1 32 := broadcastInDim S32x1 ![] bcast_S_S32x1 main_c_4
  let main_v13 : IVec S32x1 32 := Host.shrsi main_v11 main_v12
  let main_c_5 : IVec S_ 32 := constantI S_ 32 9#32
  let main_v14 : IVec S32x1 32 := broadcastInDim S32x1 ![] bcast_S_S32x1 main_c_5
  let main_v15 : IVec S32x1 32 := Host.shli main_v13 main_v14
  let main_v16 : IVec S1x16384 32 := broadcastInDim S1x16384 ![1] bcast_S16384_S1x16384_1 main_arg1
  fn_part1 (F := F) main_arg1 main_v7 main_v15 main_v16
-- ==== Kernel.lean ====
abbrev S1000000x64 : Shape := ⟨2, ![1000000, 64]⟩
abbrev S16384 : Shape := ⟨1, ![16384]⟩
abbrev S16384x64 : Shape := ⟨2, ![16384, 64]⟩
abbrev S8192x128 : Shape := ⟨2, ![8192, 128]⟩
abbrev S64x1000000 : Shape := ⟨2, ![64, 1000000]⟩
abbrev S4112 : Shape := ⟨1, ![4112]⟩
abbrev S2064 : Shape := ⟨1, ![2064]⟩
abbrev S64x512 : Shape := ⟨2, ![64, 512]⟩
abbrev S16x128 : Shape := ⟨2, ![16, 128]⟩
abbrev S16 : Shape := ⟨1, ![16]⟩
abbrev S_ : Shape := ⟨0, ![]⟩
abbrev S1 : Shape := ⟨1, ![1]⟩
abbrev S1x128 : Shape := ⟨2, ![1, 128]⟩
abbrev S128 : Shape := ⟨1, ![128]⟩
abbrev S1x16384 : Shape := ⟨2, ![1, 16384]⟩
abbrev S64 : Shape := ⟨1, ![64]⟩
abbrev S64x1 : Shape := ⟨2, ![64, 1]⟩
abbrev S64x16384 : Shape := ⟨2, ![64, 16384]⟩
abbrev S64x64 : Shape := ⟨2, ![64, 64]⟩

abbrev nBuf : Table → Nat
  | .hbm => 48
  | .local .scVector .vmem => 8
  | _ => 0

abbrev bufTy : (tb : Table) → Fin (nBuf tb) → BufTy
  | .hbm, ⟨0, _⟩ => ⟨S1000000x64, .f32⟩
  | .hbm, ⟨1, _⟩ => ⟨S16384, .i32⟩
  | .hbm, ⟨2, _⟩ => ⟨S16384x64, .f32⟩
  | .hbm, ⟨3, _⟩ => ⟨S8192x128, .f32⟩
  | .hbm, ⟨4, _⟩ => ⟨S64x1000000, .f32⟩
  | .hbm, ⟨5, _⟩ => ⟨S64x1000000, .f32⟩
  | .hbm, ⟨6, _⟩ => ⟨S1000000x64, .f32⟩
  | .hbm, ⟨7, _⟩ => ⟨S1x16384, .i32⟩
  | .hbm, ⟨8, _⟩ => ⟨S64, .i32⟩
  | .hbm, ⟨9, _⟩ => ⟨S64x1, .i32⟩
  | .hbm, ⟨10, _⟩ => ⟨S_, .i32⟩
  | .hbm, ⟨11, _⟩ => ⟨S64x1, .i32⟩
  | .hbm, ⟨12, _⟩ => ⟨S64x1, .i32⟩
  | .hbm, ⟨13, _⟩ => ⟨S64x16384, .i32⟩
  | .hbm, ⟨14, _⟩ => ⟨S64x16384, .i32⟩
  | .hbm, ⟨15, _⟩ => ⟨S64x16384, .i1⟩
  | .hbm, ⟨16, _⟩ => ⟨S16384, .i32⟩
  | .hbm, ⟨17, _⟩ => ⟨S1x16384, .i32⟩
  | .hbm, ⟨18, _⟩ => ⟨S_, .i32⟩
  | .hbm, ⟨19, _⟩ => ⟨S_, .i32⟩
  | .hbm, ⟨20, _⟩ => ⟨S64x16384, .i32⟩
  | .hbm, ⟨21, _⟩ => ⟨S64x16384, .i32⟩
  | .hbm, ⟨22, _⟩ => ⟨S64x16384, .i32⟩
  | .hbm, ⟨23, _⟩ => ⟨S_, .i32⟩
  | .hbm, ⟨24, _⟩ => ⟨S64, .i32⟩
  | .hbm, ⟨25, _⟩ => ⟨S64x1, .i32⟩
  | .hbm, ⟨26, _⟩ => ⟨S_, .i32⟩
  | .hbm, ⟨27, _⟩ => ⟨S64x1, .i32⟩
  | .hbm, ⟨28, _⟩ => ⟨S64x1, .i1⟩
  | .hbm, ⟨29, _⟩ => ⟨S_, .i32⟩
  | .hbm, ⟨30, _⟩ => ⟨S_, .i32⟩
  | .hbm, ⟨31, _⟩ => ⟨S64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S64x1, .i32⟩
  | .hbm, ⟨41, _⟩ => ⟨S64x64, .f32⟩
  | .hbm, ⟨42, _⟩ => ⟨S64x64, .f32⟩
  | .hbm, ⟨43, _⟩ => ⟨S64x64, .i1⟩
  | .hbm, ⟨44, _⟩ => ⟨S64x64, .f32⟩
  | .hbm, ⟨45, _⟩ => ⟨S_, .i32⟩
  | .hbm, ⟨46, _⟩ => ⟨S_, .i32⟩
  | .hbm, ⟨47, _⟩ => ⟨S1000000x64, .f32⟩
  | .local .scVector .vmem, ⟨0, _⟩ => ⟨S16384, .i32⟩
  | .local .scVector .vmem, ⟨1, _⟩ => ⟨S4112, .i32⟩
  | .local .scVector .vmem, ⟨2, _⟩ => ⟨S4112, .i32⟩
  | .local .scVector .vmem, ⟨3, _⟩ => ⟨S2064, .i32⟩
  | .local .scVector .vmem, ⟨4, _⟩ => ⟨S2064, .i32⟩
  | .local .scVector .vmem, ⟨5, _⟩ => ⟨S64x512, .f32⟩
  | .local .scVector .vmem, ⟨6, _⟩ => ⟨S16x128, .f32⟩
  | .local .scVector .vmem, ⟨7, _⟩ => ⟨S16, .i32⟩
  | _, _ => ⟨S1000000x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v14 : Ref sig .tc := ⟨.hbm, 22, rfl⟩
abbrev main_c_1 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call2_v0 : Ref sig .tc := ⟨.hbm, 43, rfl⟩
abbrev main_v28 : Ref sig .tc := ⟨.hbm, 44, rfl⟩
abbrev main_c_6 : Ref sig .tc := ⟨.hbm, 45, rfl⟩
abbrev main_c_7 : Ref sig .tc := ⟨.hbm, 46, rfl⟩
abbrev main_v29 : Ref sig .tc := ⟨.hbm, 47, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_15 : BitVec 32 := 0#32
  let c1024_i32 : BitVec 32 := 1024#32
  let v42 : BitVec 32 := Scalar.addi c0_i32_15 c1024_i32
  let c1_i32_16 : BitVec 32 := 1#32
  ⟨c0_i32_15, v42, c1_i32_16⟩
def k0_mult1 (k0_t1 : Fin k0_t1_loop.trips) : BitVec 32 :=
  let c0_i32_15 : BitVec 32 := 0#32
  let c1_i32_16 : BitVec 32 := 1#32
  let arg17 : BitVec 32 := Scf.iv c0_i32_15 c1_i32_16 k0_t1
  let c16_i32_32 : BitVec 32 := 16#32
  let v68 : BitVec 32 := Scalar.muli arg17 c16_i32_32
  v68
def k0_off1 (k0_t1 : Fin k0_t1_loop.trips) : Fin 1 → Nat :=
  let c0_i32_15 : BitVec 32 := 0#32
  let c1_i32_16 : BitVec 32 := 1#32
  let arg17 : BitVec 32 := Scf.iv c0_i32_15 c1_i32_16 k0_t1
  let c16_i32_32 : BitVec 32 := 16#32
  let v68 : BitVec 32 := Scalar.muli arg17 c16_i32_32
  let v69 : BitVec 32 := v68
  let v70 : Index := Scalar.indexCast v69
  ![v70.toNat]

def k0_chk1 (v86 : IVec S16 32) : Prop :=
  (∀ a x, ((![v86] : Fin 1 → IVec S16 32) a x).toNat < S4112.size a) ∧
  (∀ a x, ((![v86] : Fin 1 → IVec S16 32) a x).toNat < S4112.size a)
theorem k0_idx1_inb : ∀ (v86 : IVec S16 32) (k0_hw1 : k0_chk1 v86), ∀ a x, ((![v86] : Fin 1 → IVec S16 32) a x).toNat < S4112.size a := fun v86 k0_hw1 => k0_hw1.1
theorem k0_idx2_inb : ∀ (v86 : IVec S16 32) (k0_hw1 : k0_chk1 v86), ∀ a x, ((![v86] : Fin 1 → IVec S16 32) a x).toNat < S4112.size a := fun v86 k0_hw1 => k0_hw1.2
def k0_cond1 (v43_0 : BitVec 32) : BitVec 1 :=
  let c4096_i32 : BitVec 32 := 4096#32
  let v44 : BitVec 32 := Scalar.minsi v43_0 c4096_i32
  let c0_i32_18 : BitVec 32 := 0#32
  let v45 : BitVec 1 := Scalar.cmpi .sgt v44 c0_i32_18
  let v46 : BitVec 32 := Scalar.extui v45
  let c0_i32_19 : BitVec 32 := 0#32
  let v47 : BitVec 1 := Scalar.cmpi .ne v46 c0_i32_19
  v47

def k0_chk2 (v43_0 : BitVec 32) (v69 : IVec S16 32) : Prop :=
  (∀ (k0_h1 : k0_cond1 v43_0 = 1#1), ∀ a x, ((![v69] : Fin 1 → IVec S16 32) a x).toNat < S4112.size a)
theorem k0_idx3_inb : ∀ (v43_0 : BitVec 32) (v69 : IVec S16 32) (k0_hw2 : k0_chk2 v43_0 v69), ∀ (k0_h1 : k0_cond1 v43_0 = 1#1), ∀ a x, ((![v69] : Fin 1 → IVec S16 32) a x).toNat < S4112.size a := fun v43_0 v69 k0_hw2 k0_h1 => k0_hw2 k0_h1

def k0_chk3 (v43_0 : BitVec 32) (v73 : IVec S16 32) : Prop :=
  (∀ (k0_h1 : k0_cond1 v43_0 = 1#1), ∀ a x, ((![v73] : Fin 1 → IVec S16 32) a x).toNat < S4112.size a)
theorem k0_idx4_inb : ∀ (v43_0 : BitVec 32) (v73 : IVec S16 32) (k0_hw3 : k0_chk3 v43_0 v73), ∀ (k0_h1 : k0_cond1 v43_0 = 1#1), ∀ a x, ((![v73] : Fin 1 → IVec S16 32) a x).toNat < S4112.size a := fun v43_0 v73 k0_hw3 k0_h1 => k0_hw3 k0_h1
@[reducible] def k0_t2_loop : Scf.Loop 32 :=
  let c0_i32_29 : BitVec 32 := 0#32
  let c62_i32 : BitVec 32 := 62#32
  let v67 : BitVec 32 := Scalar.addi c0_i32_29 c62_i32
  let c1_i32_30 : BitVec 32 := 1#32
  ⟨c0_i32_29, v67, c1_i32_30⟩
def k0_cond2 (i : grid0.Coords) (k0_t2 : Fin k0_t2_loop.trips) : BitVec 1 :=
  let c0_i32_29 : BitVec 32 := 0#32
  let c1_i32_30 : BitVec 32 := 1#32
  let arg17 : BitVec 32 := Scf.iv c0_i32_29 c1_i32_30 k0_t2
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1_i32_4 : BitVec 32 := 1#32
  let v21 : BitVec 32 := Scalar.addi v1 c1_i32_4
  let c1953_i32_5 : BitVec 32 := 1953#32
  let v22 : BitVec 32 := Scalar.muli v21 c1953_i32_5
  let c0_i32_7 : BitVec 32 := 0#32
  let v24 : BitVec 1 := Scalar.cmpi .sgt v22 c0_i32_7
  let v25 : BitVec 32 := Scalar.extui v24
  let c0_i32_8 : BitVec 32 := 0#32
  let v26 : BitVec 1 := Scalar.cmpi .slt v22 c0_i32_8
  let v27 : BitVec 32 := Scalar.extui v26
  let v28 : BitVec 32 := Scalar.subi v25 v27
  let c32_i32_6 : BitVec 32 := 32#32
  let c0_i32_9 : BitVec 32 := 0#32
  let v29 : BitVec 1 := Scalar.cmpi .sgt c32_i32_6 c0_i32_9
  let v30 : BitVec 32 := Scalar.extui v29
  let c0_i32_10 : BitVec 32 := 0#32
  let v31 : BitVec 1 := Scalar.cmpi .slt c32_i32_6 c0_i32_10
  let v32 : BitVec 32 := Scalar.extui v31
  let v33 : BitVec 32 := Scalar.subi v30 v32
  let v34 : BitVec 1 := Scalar.cmpi .ne v28 v33
  let v35 : BitVec 32 := Scalar.remsi v22 c32_i32_6
  let c0_i32_11 : BitVec 32 := 0#32
  let v36 : BitVec 1 := Scalar.cmpi .ne v35 c0_i32_11
  let v37 : BitVec 1 := Scalar.andi v34 v36
  let v23 : BitVec 32 := Scalar.divsi v22 c32_i32_6
  let c1_i32_12 : BitVec 32 := 1#32
  let v38 : BitVec 32 := Scalar.subi v23 c1_i32_12
  let v39 : BitVec 32 := Scalar.select v37 v38 v23
  let c1953_i32 : BitVec 32 := 1953#32
  let v3 : BitVec 32 := Scalar.muli v1 c1953_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v3 c32_i32
  let c0_i32_3 : BitVec 32 := 0#32
  let v17 : BitVec 1 := Scalar.cmpi .ne v16 c0_i32_3
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let v68 : BitVec 32 := Scalar.subi v39 v20
  let v69 : BitVec 1 := Scalar.cmpi .slt arg17 v68
  let v70 : BitVec 32 := Scalar.extui v69
  let c0_i32_32 : BitVec 32 := 0#32
  let v71 : BitVec 1 := Scalar.cmpi .ne v70 c0_i32_32
  v71

@[reducible] def k0_t3_loop (v43_0 : BitVec 32) : Scf.Loop 32 :=
  let c0_i32_34 : BitVec 32 := 0#32
  let c4096_i32 : BitVec 32 := 4096#32
  let v44 : BitVec 32 := Scalar.minsi v43_0 c4096_i32
  let c16_i32 : BitVec 32 := 16#32
  let v48 : BitVec 32 := Scalar.addi v44 c16_i32
  let c1_i32_20 : BitVec 32 := 1#32
  let v49 : BitVec 32 := Scalar.subi v48 c1_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v74 : BitVec 32 := Scalar.subi v66 c0_i32_34
  let c1_i32_37 : BitVec 32 := 1#32
  let v76 : BitVec 32 := Scalar.divsi v74 c1_i32_37
  let v77 : BitVec 32 := Scalar.muli v76 c1_i32_37
  let v78 : BitVec 32 := Scalar.addi c0_i32_34 v77
  let c1_i32_38 : BitVec 32 := 1#32
  ⟨c0_i32_34, v78, c1_i32_38⟩

def k0_mult2 (v43_0 : BitVec 32) (k0_t3 : Fin (k0_t3_loop v43_0).trips) : BitVec 32 :=
  let c0_i32_34 : BitVec 32 := 0#32
  let c1_i32_38 : BitVec 32 := 1#32
  let arg18 : BitVec 32 := Scf.iv c0_i32_34 c1_i32_38 k0_t3
  let c16_i32_63 : BitVec 32 := 16#32
  let v113 : BitVec 32 := Scalar.muli arg18 c16_i32_63
  v113
def k0_off2 (v43_0 : BitVec 32) (k0_t3 : Fin (k0_t3_loop v43_0).trips) : Fin 1 → Nat :=
  let c0_i32_34 : BitVec 32 := 0#32
  let c1_i32_38 : BitVec 32 := 1#32
  let arg18 : BitVec 32 := Scf.iv c0_i32_34 c1_i32_38 k0_t3
  let c16_i32_63 : BitVec 32 := 16#32
  let v113 : BitVec 32 := Scalar.muli arg18 c16_i32_63
  let v114 : BitVec 32 := v113
  let v115 : Index := Scalar.indexCast v114
  ![v115.toNat]

def k0_chk5 (i : grid0.Coords) (k0_t2 : Fin k0_t2_loop.trips) (v137 : IVec S16 32) : Prop :=
  (∀ (k0_h2 : k0_cond2 i k0_t2 = 1#1), ∀ a x, ((![v137] : Fin 1 → IVec S16 32) a x).toNat < S2064.size a) ∧
  (∀ (k0_h2 : k0_cond2 i k0_t2 = 1#1), ∀ a x, ((![v137] : Fin 1 → IVec S16 32) a x).toNat < S2064.size a)
theorem k0_idx5_inb : ∀ (i : grid0.Coords) (k0_t2 : Fin k0_t2_loop.trips) (v137 : IVec S16 32) (k0_hw5 : k0_chk5 i k0_t2 v137), ∀ (k0_h2 : k0_cond2 i k0_t2 = 1#1), ∀ a x, ((![v137] : Fin 1 → IVec S16 32) a x).toNat < S2064.size a := fun i k0_t2 v137 k0_hw5 k0_h2 => k0_hw5.1 k0_h2
theorem k0_idx6_inb : ∀ (i : grid0.Coords) (k0_t2 : Fin k0_t2_loop.trips) (v137 : IVec S16 32) (k0_hw5 : k0_chk5 i k0_t2 v137), ∀ (k0_h2 : k0_cond2 i k0_t2 = 1#1), ∀ a x, ((![v137] : Fin 1 → IVec S16 32) a x).toNat < S2064.size a := fun i k0_t2 v137 k0_hw5 k0_h2 => k0_hw5.2 k0_h2
@[reducible] def k0_t4_loop (v43_0 : BitVec 32) : Scf.Loop 32 :=
  let c0_i32_34 : BitVec 32 := 0#32
  let c4096_i32 : BitVec 32 := 4096#32
  let v44 : BitVec 32 := Scalar.minsi v43_0 c4096_i32
  let c16_i32 : BitVec 32 := 16#32
  let v48 : BitVec 32 := Scalar.addi v44 c16_i32
  let c1_i32_20 : BitVec 32 := 1#32
  let v49 : BitVec 32 := Scalar.subi v48 c1_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v74 : BitVec 32 := Scalar.subi v66 c0_i32_34
  let c1_i32_37 : BitVec 32 := 1#32
  let v76 : BitVec 32 := Scalar.divsi v74 c1_i32_37
  let v77 : BitVec 32 := Scalar.muli v76 c1_i32_37
  let v78 : BitVec 32 := Scalar.addi c0_i32_34 v77
  let v75 : BitVec 32 := Scalar.addi c0_i32_34 v74
  let c1_i32_39 : BitVec 32 := 1#32
  ⟨v78, v75, c1_i32_39⟩
def k0_mult3 (v43_0 : BitVec 32) (k0_t4 : Fin (k0_t4_loop v43_0).trips) : BitVec 32 :=
  let c0_i32_34 : BitVec 32 := 0#32
  let c4096_i32 : BitVec 32 := 4096#32
  let v44 : BitVec 32 := Scalar.minsi v43_0 c4096_i32
  let c16_i32 : BitVec 32 := 16#32
  let v48 : BitVec 32 := Scalar.addi v44 c16_i32
  let c1_i32_20 : BitVec 32 := 1#32
  let v49 : BitVec 32 := Scalar.subi v48 c1_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v74 : BitVec 32 := Scalar.subi v66 c0_i32_34
  let c1_i32_37 : BitVec 32 := 1#32
  let v76 : BitVec 32 := Scalar.divsi v74 c1_i32_37
  let v77 : BitVec 32 := Scalar.muli v76 c1_i32_37
  let v78 : BitVec 32 := Scalar.addi c0_i32_34 v77
  let c1_i32_39 : BitVec 32 := 1#32
  let arg18 : BitVec 32 := Scf.iv v78 c1_i32_39 k0_t4
  let c16_i32_63 : BitVec 32 := 16#32
  let v113 : BitVec 32 := Scalar.muli arg18 c16_i32_63
  v113
def k0_off3 (v43_0 : BitVec 32) (k0_t4 : Fin (k0_t4_loop v43_0).trips) : Fin 1 → Nat :=
  let c0_i32_34 : BitVec 32 := 0#32
  let c4096_i32 : BitVec 32 := 4096#32
  let v44 : BitVec 32 := Scalar.minsi v43_0 c4096_i32
  let c16_i32 : BitVec 32 := 16#32
  let v48 : BitVec 32 := Scalar.addi v44 c16_i32
  let c1_i32_20 : BitVec 32 := 1#32
  let v49 : BitVec 32 := Scalar.subi v48 c1_i32_20
  let c0_i32_22 : BitVec 32 := 0#32
  let v51 : BitVec 1 := Scalar.cmpi .sgt v49 c0_i32_22
  let v52 : BitVec 32 := Scalar.extui v51
  let c0_i32_23 : BitVec 32 := 0#32
  let v53 : BitVec 1 := Scalar.cmpi .slt v49 c0_i32_23
  let v54 : BitVec 32 := Scalar.extui v53
  let v55 : BitVec 32 := Scalar.subi v52 v54
  let c16_i32_21 : BitVec 32 := 16#32
  let c0_i32_24 : BitVec 32 := 0#32
  let v56 : BitVec 1 := Scalar.cmpi .sgt c16_i32_21 c0_i32_24
  let v57 : BitVec 32 := Scalar.extui v56
  let c0_i32_25 : BitVec 32 := 0#32
  let v58 : BitVec 1 := Scalar.cmpi .slt c16_i32_21 c0_i32_25
  let v59 : BitVec 32 := Scalar.extui v58
  let v60 : BitVec 32 := Scalar.subi v57 v59
  let v61 : BitVec 1 := Scalar.cmpi .ne v55 v60
  let v62 : BitVec 32 := Scalar.remsi v49 c16_i32_21
  let c0_i32_26 : BitVec 32 := 0#32
  let v63 : BitVec 1 := Scalar.cmpi .ne v62 c0_i32_26
  let v64 : BitVec 1 := Scalar.andi v61 v63
  let v50 : BitVec 32 := Scalar.divsi v49 c16_i32_21
  let c1_i32_27 : BitVec 32 := 1#32
  let v65 : BitVec 32 := Scalar.subi v50 c1_i32_27
  let v66 : BitVec 32 := Scalar.select v64 v65 v50
  let v74 : BitVec 32 := Scalar.subi v66 c0_i32_34
  let c1_i32_37 : BitVec 32 := 1#32
  let v76 : BitVec 32 := Scalar.divsi v74 c1_i32_37
  let v77 : BitVec 32 := Scalar.muli v76 c1_i32_37
  let v78 : BitVec 32 := Scalar.addi c0_i32_34 v77
  let c1_i32_39 : BitVec 32 := 1#32
  let arg18 : BitVec 32 := Scf.iv v78 c1_i32_39 k0_t4
  let c16_i32_63 : BitVec 32 := 16#32
  let v113 : BitVec 32 := Scalar.muli arg18 c16_i32_63
  let v114 : BitVec 32 := v113
  let v115 : Index := Scalar.indexCast v114
  ![v115.toNat]

def k0_chk4 (i : grid0.Coords) (v43_0 : BitVec 32) : Prop :=
  (∀ k0_t2 : Fin k0_t2_loop.trips, ∀ (k0_h2 : k0_cond2 i k0_t2 = 1#1), (k0_t3_loop v43_0).OK) ∧
  (∀ (k0_t2 : Fin k0_t2_loop.trips) (k0_t3 : Fin (k0_t3_loop v43_0).trips), ∀ (k0_h2 : k0_cond2 i k0_t2 = 1#1), 16 ∣ (k0_mult2 v43_0 k0_t3).toNat) ∧
  (∀ (k0_t2 : Fin k0_t2_loop.trips) (k0_t3 : Fin (k0_t3_loop v43_0).trips), ∀ (k0_h2 : k0_cond2 i k0_t2 = 1#1), ∀ a, (k0_off2 v43_0 k0_t3) a + S16.size a ≤ S4112.size a) ∧
  (∀ k0_t2 : Fin k0_t2_loop.trips, ∀ (k0_h2 : k0_cond2 i k0_t2 = 1#1), (k0_t4_loop v43_0).OK) ∧
  (∀ (k0_t2 : Fin k0_t2_loop.trips) (k0_t4 : Fin (k0_t4_loop v43_0).trips), ∀ (k0_h2 : k0_cond2 i k0_t2 = 1#1), 16 ∣ (k0_mult3 v43_0 k0_t4).toNat) ∧
  (∀ (k0_t2 : Fin k0_t2_loop.trips) (k0_t4 : Fin (k0_t4_loop v43_0).trips), ∀ (k0_h2 : k0_cond2 i k0_t2 = 1#1), ∀ a, (k0_off3 v43_0 k0_t4) a + S16.size a ≤ S4112.size a)
theorem k0_t3_ok : ∀ (i : grid0.Coords) (v43_0 : BitVec 32) (k0_hw4 : k0_chk4 i v43_0) (k0_t2 : Fin k0_t2_loop.trips), ∀ (k0_h2 : k0_cond2 i k0_t2 = 1#1), (k0_t3_loop v43_0).OK := fun i v43_0 k0_hw4 k0_t2 k0_h2 => k0_hw4.1 k0_t2 k0_h2
theorem k0_mult2_dvd : ∀ (i : grid0.Coords) (v43_0 : BitVec 32) (k0_hw4 : k0_chk4 i v43_0) (k0_t2 : Fin k0_t2_loop.trips) (k0_t3 : Fin (k0_t3_loop v43_0).trips), ∀ (k0_h2 : k0_cond2 i k0_t2 = 1#1), 16 ∣ (k0_mult2 v43_0 k0_t3).toNat := fun i v43_0 k0_hw4 k0_t2 k0_t3 k0_h2 => k0_hw4.2.1 k0_t2 k0_t3 k0_h2
theorem k0_off2_inb : ∀ (i : grid0.Coords) (v43_0 : BitVec 32) (k0_hw4 : k0_chk4 i v43_0) (k0_t2 : Fin k0_t2_loop.trips) (k0_t3 : Fin (k0_t3_loop v43_0).trips), ∀ (k0_h2 : k0_cond2 i k0_t2 = 1#1), ∀ a, (k0_off2 v43_0 k0_t3) a + S16.size a ≤ S4112.size a := fun i v43_0 k0_hw4 k0_t2 k0_t3 k0_h2 => k0_hw4.2.2.1 k0_t2 k0_t3 k0_h2
theorem k0_t4_ok : ∀ (i : grid0.Coords) (v43_0 : BitVec 32) (k0_hw4 : k0_chk4 i v43_0) (k0_t2 : Fin k0_t2_loop.trips), ∀ (k0_h2 : k0_cond2 i k0_t2 = 1#1), (k0_t4_loop v43_0).OK := fun i v43_0 k0_hw4 k0_t2 k0_h2 => k0_hw4.2.2.2.1 k0_t2 k0_h2
theorem k0_mult3_dvd : ∀ (i : grid0.Coords) (v43_0 : BitVec 32) (k0_hw4 : k0_chk4 i v43_0) (k0_t2 : Fin k0_t2_loop.trips) (k0_t4 : Fin (k0_t4_loop v43_0).trips), ∀ (k0_h2 : k0_cond2 i k0_t2 = 1#1), 16 ∣ (k0_mult3 v43_0 k0_t4).toNat := fun i v43_0 k0_hw4 k0_t2 k0_t4 k0_h2 => k0_hw4.2.2.2.2.1 k0_t2 k0_t4 k0_h2
theorem k0_off3_inb : ∀ (i : grid0.Coords) (v43_0 : BitVec 32) (k0_hw4 : k0_chk4 i v43_0) (k0_t2 : Fin k0_t2_loop.trips) (k0_t4 : Fin (k0_t4_loop v43_0).trips), ∀ (k0_h2 : k0_cond2 i k0_t2 = 1#1), ∀ a, (k0_off3 v43_0 k0_t4) a + S16.size a ≤ S4112.size a := fun i v43_0 k0_hw4 k0_t2 k0_t4 k0_h2 => k0_hw4.2.2.2.2.2 k0_t2 k0_t4 k0_h2

def k0_chk6 (i : grid0.Coords) (k0_t2 : Fin k0_t2_loop.trips) (v137 : IVec S16 32) : Prop :=
  (∀ (k0_h2 : k0_cond2 i k0_t2 = 1#1), ∀ a x, ((![v137] : Fin 1 → IVec S16 32) a x).toNat < S2064.size a) ∧
  (∀ (k0_h2 : k0_cond2 i k0_t2 = 1#1), ∀ a x, ((![v137] : Fin 1 → IVec S16 32) a x).toNat < S2064.size a)
theorem k0_idx7_inb : ∀ (i : grid0.Coords) (k0_t2 : Fin k0_t2_loop.trips) (v137 : IVec S16 32) (k0_hw6 : k0_chk6 i k0_t2 v137), ∀ (k0_h2 : k0_cond2 i k0_t2 = 1#1), ∀ a x, ((![v137] : Fin 1 → IVec S16 32) a x).toNat < S2064.size a := fun i k0_t2 v137 k0_hw6 k0_h2 => k0_hw6.1 k0_h2
theorem k0_idx8_inb : ∀ (i : grid0.Coords) (k0_t2 : Fin k0_t2_loop.trips) (v137 : IVec S16 32) (k0_hw6 : k0_chk6 i k0_t2 v137), ∀ (k0_h2 : k0_cond2 i k0_t2 = 1#1), ∀ a x, ((![v137] : Fin 1 → IVec S16 32) a x).toNat < S2064.size a := fun i k0_t2 v137 k0_hw6 k0_h2 => k0_hw6.2 k0_h2
def k0_cond3 (v80_0 : BitVec 32) : BitVec 1 :=
  let c2048_i32 : BitVec 32 := 2048#32
  let v81 : BitVec 32 := Scalar.minsi v80_0 c2048_i32
  let c0_i32_40 : BitVec 32 := 0#32
  let v82 : BitVec 1 := Scalar.cmpi .sgt v81 c0_i32_40
  let v83 : BitVec 32 := Scalar.extui v82
  let c0_i32_41 : BitVec 32 := 0#32
  let v84 : BitVec 1 := Scalar.cmpi .ne v83 c0_i32_41
  v84

def k0_chk7 (i : grid0.Coords) (k0_t2 : Fin k0_t2_loop.trips) (v80_0 : BitVec 32) (v114 : IVec S16 32) : Prop :=
  (∀ (k0_h2 : k0_cond2 i k0_t2 = 1#1), ∀ (k0_h3 : k0_cond3 v80_0 = 1#1), ∀ a x, ((![v114] : Fin 1 → IVec S16 32) a x).toNat < S2064.size a)
theorem k0_idx9_inb : ∀ (i : grid0.Coords) (k0_t2 : Fin k0_t2_loop.trips) (v80_0 : BitVec 32) (v114 : IVec S16 32) (k0_hw7 : k0_chk7 i k0_t2 v80_0 v114), ∀ (k0_h2 : k0_cond2 i k0_t2 = 1#1), ∀ (k0_h3 : k0_cond3 v80_0 = 1#1), ∀ a x, ((![v114] : Fin 1 → IVec S16 32) a x).toNat < S2064.size a := fun i k0_t2 v80_0 v114 k0_hw7 k0_h2 k0_h3 => k0_hw7 k0_h2 k0_h3

def k0_chk8 (i : grid0.Coords) (k0_t2 : Fin k0_t2_loop.trips) (v80_0 : BitVec 32) (v118 : IVec S16 32) : Prop :=
  (∀ (k0_h2 : k0_cond2 i k0_t2 = 1#1), ∀ (k0_h3 : k0_cond3 v80_0 = 1#1), ∀ a x, ((![v118] : Fin 1 → IVec S16 32) a x).toNat < S2064.size a)
theorem k0_idx10_inb : ∀ (i : grid0.Coords) (k0_t2 : Fin k0_t2_loop.trips) (v80_0 : BitVec 32) (v118 : IVec S16 32) (k0_hw8 : k0_chk8 i k0_t2 v80_0 v118), ∀ (k0_h2 : k0_cond2 i k0_t2 = 1#1), ∀ (k0_h3 : k0_cond3 v80_0 = 1#1), ∀ a x, ((![v118] : Fin 1 → IVec S16 32) a x).toNat < S2064.size a := fun i k0_t2 v80_0 v118 k0_hw8 k0_h2 k0_h3 => k0_hw8 k0_h2 k0_h3
def k0_off4 (i : grid0.Coords) (k0_t2 : Fin k0_t2_loop.trips) : Fin 2 → Nat :=
  let c0_i32_42 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1953_i32 : BitVec 32 := 1953#32
  let v3 : BitVec 32 := Scalar.muli v1 c1953_i32
  let c0_i32 : BitVec 32 := 0#32
  let v5 : BitVec 1 := Scalar.cmpi .sgt v3 c0_i32
  let v6 : BitVec 32 := Scalar.extui v5
  let c0_i32_0 : BitVec 32 := 0#32
  let v7 : BitVec 1 := Scalar.cmpi .slt v3 c0_i32_0
  let v8 : BitVec 32 := Scalar.extui v7
  let v9 : BitVec 32 := Scalar.subi v6 v8
  let c32_i32 : BitVec 32 := 32#32
  let c0_i32_1 : BitVec 32 := 0#32
  let v10 : BitVec 1 := Scalar.cmpi .sgt c32_i32 c0_i32_1
  let v11 : BitVec 32 := Scalar.extui v10
  let c0_i32_2 : BitVec 32 := 0#32
  let v12 : BitVec 1 := Scalar.cmpi .slt c32_i32 c0_i32_2
  let v13 : BitVec 32 := Scalar.extui v12
  let v14 : BitVec 32 := Scalar.subi v11 v13
  let v15 : BitVec 1 := Scalar.cmpi .ne v9 v14
  let v16 : BitVec 32 := Scalar.remsi v3 c32_i32
  let c0_i32_3 : BitVec 32 := 0#32
  let v17 : BitVec 1 := Scalar.cmpi .ne v16 c0_i32_3
  let v18 : BitVec 1 := Scalar.andi v15 v17
  let v4 : BitVec 32 := Scalar.divsi v3 c32_i32
  let c1_i32 : BitVec 32 := 1#32
  let v19 : BitVec 32 := Scalar.subi v4 c1_i32
  let v20 : BitVec 32 := Scalar.select v18 v19 v4
  let c512_i32 : BitVec 32 := 512#32
  let v40 : BitVec 32 := Scalar.muli v20 c512_i32
  let c0_i32_29 : BitVec 32 := 0#32
  let c1_i32_30 : BitVec 32 := 1#32
  let arg17 : BitVec 32 := Scf.iv c0_i32_29 c1_i32_30 k0_t2
  let c512_i32_33 : BitVec 32 := 512#32
  let v72 : BitVec 32 := Scalar.muli arg17 c512_i32_33
  let v73 : BitVec 32 := Scalar.addi v40 v72
  ![0, v73.toNat]
@[reducible] def k0_t5_loop : Scf.Loop 32 :=
  let c0_i32_56 : BitVec 32 := 0#32
  let c128_i32 : BitVec 32 := 128#32
  let v108 : BitVec 32 := Scalar.addi c0_i32_56 c128_i32
  let c1_i32_57 : BitVec 32 := 1#32
  ⟨c0_i32_56, v108, c1_i32_57⟩
def k0_mult4 (k0_t5 : Fin k0_t5_loop.trips) : BitVec 32 :=
  let c0_i32_56 : BitVec 32 := 0#32
  let c1_i32_57 : BitVec 32 := 1#32
  let arg18 : BitVec 32 := Scf.iv c0_i32_56 c1_i32_57 k0_t5
  let c16_i32_64 : BitVec 32 := 16#32
  let v116 : BitVec 32 := Scalar.muli arg18 c16_i32_64
  v116
def k0_off5 (k0_t5 : Fin k0_t5_loop.trips) : Fin 1 → Nat :=
  let c0_i32_56 : BitVec 32 := 0#32
  let c1_i32_57 : BitVec 32 := 1#32
  let arg18 : BitVec 32 := Scf.iv c0_i32_56 c1_i32_57 k0_t5
  let c16_i32_64 : BitVec 32 := 16#32
  let v116 : BitVec 32 := Scalar.muli arg18 c16_i32_64
  let v117 : BitVec 32 := v116
  let v118 : Index := Scalar.indexCast v117
  ![v118.toNat]
def k0_mult5 (v272 : BitVec 32) : BitVec 32 :=
  let c1_i32_70 : BitVec 32 := 1#32
  let v273 : BitVec 32 := Scalar.andi v272 c1_i32_70
  let c64_i32 : BitVec 32 := 64#32
  let v274 : BitVec 32 := Scalar.muli v273 c64_i32
  v274
def k0_cond4 (v80_0 : BitVec 32) (k0_t5 : Fin k0_t5_loop.trips) : BitVec 1 :=
  let c0_i32_56 : BitVec 32 := 0#32
  let c1_i32_57 : BitVec 32 := 1#32
  let arg18 : BitVec 32 := Scf.iv c0_i32_56 c1_i32_57 k0_t5
  let c2048_i32 : BitVec 32 := 2048#32
  let v81 : BitVec 32 := Scalar.minsi v80_0 c2048_i32
  let c16_i32_46 : BitVec 32 := 16#32
  let v89 : BitVec 32 := Scalar.addi v81 c16_i32_46
  let c1_i32_47 : BitVec 32 := 1#32
  let v90 : BitVec 32 := Scalar.subi v89 c1_i32_47
  let c0_i32_49 : BitVec 32 := 0#32
  let v92 : BitVec 1 := Scalar.cmpi .sgt v90 c0_i32_49
  let v93 : BitVec 32 := Scalar.extui v92
  let c0_i32_50 : BitVec 32 := 0#32
  let v94 : BitVec 1 := Scalar.cmpi .slt v90 c0_i32_50
  let v95 : BitVec 32 := Scalar.extui v94
  let v96 : BitVec 32 := Scalar.subi v93 v95
  let c16_i32_48 : BitVec 32 := 16#32
  let c0_i32_51 : BitVec 32 := 0#32
  let v97 : BitVec 1 := Scalar.cmpi .sgt c16_i32_48 c0_i32_51
  let v98 : BitVec 32 := Scalar.extui v97
  let c0_i32_52 : BitVec 32 := 0#32
  let v99 : BitVec 1 := Scalar.cmpi .slt c16_i32_48 c0_i32_52
  let v100 : BitVec 32 := Scalar.extui v99
  let v101 : BitVec 32 := Scalar.subi v98 v100
  let v102 : BitVec 1 := Scalar.cmpi .ne v96 v101
  let v103 : BitVec 32 := Scalar.remsi v90 c16_i32_48
  let c0_i32_53 : BitVec 32 := 0#32
  let v104 : BitVec 1 := Scalar.cmpi .ne v103 c0_i32_53
  let v105 : BitVec 1 := Scalar.andi v102 v104
  let v91 : BitVec 32 := Scalar.divsi v90 c16_i32_48
  let c1_i32_54 : BitVec 32 := 1#32
  let v106 : BitVec 32 := Scalar.subi v91 c1_i32_54
  let v107 : BitVec 32 := Scalar.select v105 v106 v91
  let v113 : BitVec 1 := Scalar.cmpi .slt arg18 v107
  let v114 : BitVec 32 := Scalar.extui v113
  let c0_i32_63 : BitVec 32 := 0#32
  let v115 : BitVec 1 := Scalar.cmpi .ne v114 c0_i32_63
  v115

def k0_off6 (v272 : BitVec 32) : Fin 1 → Nat :=
  let c1_i32_70 : BitVec 32 := 1#32
  let v273 : BitVec 32 := Scalar.andi v272 c1_i32_70
  let c64_i32 : BitVec 32 := 64#32
  let v274 : BitVec 32 := Scalar.muli v273 c64_i32
  let v275 : BitVec 32 := v274
  let c0_i32_71 : BitVec 32 := 0#32
  let v278 : BitVec 32 := Scalar.addi v275 c0_i32_71
  let v281 : Index := Scalar.indexCast v278
  ![v281.toNat]

def k0_chk10 (i : grid0.Coords) (k0_t2 : Fin k0_t2_loop.trips) (v80_0 : BitVec 32) (k0_t5 : Fin k0_t5_loop.trips) (v284 : IVec S16 32) (v285 : IVec S16 32) : Prop :=
  (∀ (k0_h2 : k0_cond2 i k0_t2 = 1#1), ∀ (k0_h4 : k0_cond4 v80_0 k0_t5 = 1#1), ∀ a x, ((![v284, v285] : Fin 2 → IVec S16 32) a x).toNat < S64x512.size a)
theorem k0_idx11_inb : ∀ (i : grid0.Coords) (k0_t2 : Fin k0_t2_loop.trips) (v80_0 : BitVec 32) (k0_t5 : Fin k0_t5_loop.trips) (v284 : IVec S16 32) (v285 : IVec S16 32) (k0_hw10 : k0_chk10 i k0_t2 v80_0 k0_t5 v284 v285), ∀ (k0_h2 : k0_cond2 i k0_t2 = 1#1), ∀ (k0_h4 : k0_cond4 v80_0 k0_t5 = 1#1), ∀ a x, ((![v284, v285] : Fin 2 → IVec S16 32) a x).toNat < S64x512.size a := fun i k0_t2 v80_0 k0_t5 v284 v285 k0_hw10 k0_h2 k0_h4 => k0_hw10 k0_h2 k0_h4
def k0_off7 (v272 : BitVec 32) : Fin 1 → Nat :=
  let c1_i32_70 : BitVec 32 := 1#32
  let v273 : BitVec 32 := Scalar.andi v272 c1_i32_70
  let c64_i32 : BitVec 32 := 64#32
  let v274 : BitVec 32 := Scalar.muli v273 c64_i32
  let v275 : BitVec 32 := v274
  let c16_i32_75 : BitVec 32 := 16#32
  let v286 : BitVec 32 := Scalar.addi v275 c16_i32_75
  let v289 : Index := Scalar.indexCast v286
  ![v289.toNat]

def k0_chk11 (i : grid0.Coords) (k0_t2 : Fin k0_t2_loop.trips) (v80_0 : BitVec 32) (k0_t5 : Fin k0_t5_loop.trips) (v292 : IVec S16 32) (v293 : IVec S16 32) : Prop :=
  (∀ (k0_h2 : k0_cond2 i k0_t2 = 1#1), ∀ (k0_h4 : k0_cond4 v80_0 k0_t5 = 1#1), ∀ a x, ((![v292, v293] : Fin 2 → IVec S16 32) a x).toNat < S64x512.size a)
theorem k0_idx12_inb : ∀ (i : grid0.Coords) (k0_t2 : Fin k0_t2_loop.trips) (v80_0 : BitVec 32) (k0_t5 : Fin k0_t5_loop.trips) (v292 : IVec S16 32) (v293 : IVec S16 32) (k0_hw11 : k0_chk11 i k0_t2 v80_0 k0_t5 v292 v293), ∀ (k0_h2 : k0_cond2 i k0_t2 = 1#1), ∀ (k0_h4 : k0_cond4 v80_0 k0_t5 = 1#1), ∀ a x, ((![v292, v293] : Fin 2 → IVec S16 32) a x).toNat < S64x512.size a := fun i k0_t2 v80_0 k0_t5 v292 v293 k0_hw11 k0_h2 k0_h4 => k0_hw11 k0_h2 k0_h4
def k0_off8 (v272 : BitVec 32) : Fin 1 → Nat :=
  let c1_i32_70 : BitVec 32 := 1#32
  let v273 : BitVec 32 := Scalar.andi v272 c1_i32_70
  let c64_i32 : BitVec 32 := 64#32
  let v274 : BitVec 32 := Scalar.muli v273 c64_i32
  let v275 : BitVec 32 := v274
  let c32_i32_79 : BitVec 32 := 32#32
  let v294 : BitVec 32 := Scalar.addi v275 c32_i32_79
  let v297 : Index := Scalar.indexCast v294
  ![v297.toNat]

def k0_chk12 (i : grid0.Coords) (k0_t2 : Fin k0_t2_loop.trips) (v80_0 : BitVec 32) (k0_t5 : Fin k0_t5_loop.trips) (v300 : IVec S16 32) (v301 : IVec S16 32) : Prop :=
  (∀ (k0_h2 : k0_cond2 i k0_t2 = 1#1), ∀ (k0_h4 : k0_cond4 v80_0 k0_t5 = 1#1), ∀ a x, ((![v300, v301] : Fin 2 → IVec S16 32) a x).toNat < S64x512.size a)
theorem k0_idx13_inb : ∀ (i : grid0.Coords) (k0_t2 : Fin k0_t2_loop.trips) (v80_0 : BitVec 32) (k0_t5 : Fin k0_t5_loop.trips) (v300 : IVec S16 32) (v301 : IVec S16 32) (k0_hw12 : k0_chk12 i k0_t2 v80_0 k0_t5 v300 v301), ∀ (k0_h2 : k0_cond2 i k0_t2 = 1#1), ∀ (k0_h4 : k0_cond4 v80_0 k0_t5 = 1#1), ∀ a x, ((![v300, v301] : Fin 2 → IVec S16 32) a x).toNat < S64x512.size a := fun i k0_t2 v80_0 k0_t5 v300 v301 k0_hw12 k0_h2 k0_h4 => k0_hw12 k0_h2 k0_h4
def k0_off9 (v272 : BitVec 32) : Fin 1 → Nat :=
  let c1_i32_70 : BitVec 32 := 1#32
  let v273 : BitVec 32 := Scalar.andi v272 c1_i32_70
  let c64_i32 : BitVec 32 := 64#32
  let v274 : BitVec 32 := Scalar.muli v273 c64_i32
  let v275 : BitVec 32 := v274
  let c48_i32 : BitVec 32 := 48#32
  let v302 : BitVec 32 := Scalar.addi v275 c48_i32
  let v305 : Index := Scalar.indexCast v302
  ![v305.toNat]

def k0_chk9 (i : grid0.Coords) (k0_t2 : Fin k0_t2_loop.trips) (v80_0 : BitVec 32) (k0_t5 : Fin k0_t5_loop.trips) (v272 : BitVec 32) : Prop :=
  (∀ (k0_h2 : k0_cond2 i k0_t2 = 1#1), ∀ (k0_h4 : k0_cond4 v80_0 k0_t5 = 1#1), 16 ∣ (k0_mult5 v272).toNat) ∧
  (∀ (k0_h2 : k0_cond2 i k0_t2 = 1#1), ∀ (k0_h4 : k0_cond4 v80_0 k0_t5 = 1#1), ∀ a, (k0_off6 v272) a + S16.size a ≤ S128.size a) ∧
  (∀ (k0_h2 : k0_cond2 i k0_t2 = 1#1), ∀ (k0_h4 : k0_cond4 v80_0 k0_t5 = 1#1), ∀ a, (k0_off7 v272) a + S16.size a ≤ S128.size a) ∧
  (∀ (k0_h2 : k0_cond2 i k0_t2 = 1#1), ∀ (k0_h4 : k0_cond4 v80_0 k0_t5 = 1#1), ∀ a, (k0_off8 v272) a + S16.size a ≤ S128.size a) ∧
  (∀ (k0_h2 : k0_cond2 i k0_t2 = 1#1), ∀ (k0_h4 : k0_cond4 v80_0 k0_t5 = 1#1), ∀ a, (k0_off9 v272) a + S16.size a ≤ S128.size a)
theorem k0_mult5_dvd : ∀ (i : grid0.Coords) (k0_t2 : Fin k0_t2_loop.trips) (v80_0 : BitVec 32) (k0_t5 : Fin k0_t5_loop.trips) (v272 : BitVec 32) (k0_hw9 : k0_chk9 i k0_t2 v80_0 k0_t5 v272), ∀ (k0_h2 : k0_cond2 i k0_t2 = 1#1), ∀ (k0_h4 : k0_cond4 v80_0 k0_t5 = 1#1), 16 ∣ (k0_mult5 v272).toNat := fun i k0_t2 v80_0 k0_t5 v272 k0_hw9 k0_h2 k0_h4 => k0_hw9.1 k0_h2 k0_h4
theorem k0_off6_inb : ∀ (i : grid0.Coords) (k0_t2 : Fin k0_t2_loop.trips) (v80_0 : BitVec 32) (k0_t5 : Fin k0_t5_loop.trips) (v272 : BitVec 32) (k0_hw9 : k0_chk9 i k0_t2 v80_0 k0_t5 v272), ∀ (k0_h2 : k0_cond2 i k0_t2 = 1#1), ∀ (k0_h4 : k0_cond4 v80_0 k0_t5 = 1#1), ∀ a, (k0_off6 v272) a + S16.size a ≤ S128.size a := fun i k0_t2 v80_0 k0_t5 v272 k0_hw9 k0_h2 k0_h4 => k0_hw9.2.1 k0_h2 k0_h4
theorem k0_off7_inb : ∀ (i : grid0.Coords) (k0_t2 : Fin k0_t2_loop.trips) (v80_0 : BitVec 32) (k0_t5 : Fin k0_t5_loop.trips) (v272 : BitVec 32) (k0_hw9 : k0_chk9 i k0_t2 v80_0 k0_t5 v272), ∀ (k0_h2 : k0_cond2 i k0_t2 = 1#1), ∀ (k0_h4 : k0_cond4 v80_0 k0_t5 = 1#1), ∀ a, (k0_off7 v272) a + S16.size a ≤ S128.size a := fun i k0_t2 v80_0 k0_t5 v272 k0_hw9 k0_h2 k0_h4 => k0_hw9.2.2.1 k0_h2 k0_h4
theorem k0_off8_inb : ∀ (i : grid0.Coords) (k0_t2 : Fin k0_t2_loop.trips) (v80_0 : BitVec 32) (k0_t5 : Fin k0_t5_loop.trips) (v272 : BitVec 32) (k0_hw9 : k0_chk9 i k0_t2 v80_0 k0_t5 v272), ∀ (k0_h2 : k0_cond2 i k0_t2 = 1#1), ∀ (k0_h4 : k0_cond4 v80_0 k0_t5 = 1#1), ∀ a, (k0_off8 v272) a + S16.size a ≤ S128.size a := fun i k0_t2 v80_0 k0_t5 v272 k0_hw9 k0_h2 k0_h4 => k0_hw9.2.2.2.1 k0_h2 k0_h4
theorem k0_off9_inb : ∀ (i : grid0.Coords) (k0_t2 : Fin k0_t2_loop.trips) (v80_0 : BitVec 32) (k0_t5 : Fin k0_t5_loop.trips) (v272 : BitVec 32) (k0_hw9 : k0_chk9 i k0_t2 v80_0 k0_t5 v272), ∀ (k0_h2 : k0_cond2 i k0_t2 = 1#1), ∀ (k0_h4 : k0_cond4 v80_0 k0_t5 = 1#1), ∀ a, (k0_off9 v272) a + S16.size a ≤ S128.size a := fun i k0_t2 v80_0 k0_t5 v272 k0_hw9 k0_h2 k0_h4 => k0_hw9.2.2.2.2 k0_h2 k0_h4

def k0_chk13 (i : grid0.Coords) (k0_t2 : Fin k0_t2_loop.trips) (v80_0 : BitVec 32) (k0_t5 : Fin k0_t5_loop.trips) (v308 : IVec S16 32) (v309 : IVec S16 32) : Prop :=
  (∀ (k0_h2 : k0_cond2 i k0_t2 = 1#1), ∀ (k0_h4 : k0_cond4 v80_0 k0_t5 = 1#1), ∀ a x, ((![v308, v309] : Fin 2 → IVec S16 32) a x).toNat < S64x512.size a)
theorem k0_idx14_inb : ∀ (i : grid0.Coords) (k0_t2 : Fin k0_t2_loop.trips) (v80_0 : BitVec 32) (k0_t5 : Fin k0_t5_loop.trips) (v308 : IVec S16 32) (v309 : IVec S16 32) (k0_hw13 : k0_chk13 i k0_t2 v80_0 k0_t5 v308 v309), ∀ (k0_h2 : k0_cond2 i k0_t2 = 1#1), ∀ (k0_h4 : k0_cond4 v80_0 k0_t5 = 1#1), ∀ a x, ((![v308, v309] : Fin 2 → IVec S16 32) a x).toNat < S64x512.size a := fun i k0_t2 v80_0 k0_t5 v308 v309 k0_hw13 k0_h2 k0_h4 => k0_hw13 k0_h2 k0_h4
def k0_mult6 (v311 : BitVec 32) : BitVec 32 :=
  let c1_i32_86 : BitVec 32 := 1#32
  let v312 : BitVec 32 := Scalar.andi v311 c1_i32_86
  let c64_i32_87 : BitVec 32 := 64#32
  let v313 : BitVec 32 := Scalar.muli v312 c64_i32_87
  v313

def k0_off10 (v311 : BitVec 32) : Fin 1 → Nat :=
  let c1_i32_86 : BitVec 32 := 1#32
  let v312 : BitVec 32 := Scalar.andi v311 c1_i32_86
  let c64_i32_87 : BitVec 32 := 64#32
  let v313 : BitVec 32 := Scalar.muli v312 c64_i32_87
  let v314 : BitVec 32 := v313
  let c0_i32_88 : BitVec 32 := 0#32
  let v317 : BitVec 32 := Scalar.addi v314 c0_i32_88
  let v320 : Index := Scalar.indexCast v317
  ![v320.toNat]

def k0_chk15 (i : grid0.Coords) (k0_t2 : Fin k0_t2_loop.trips) (v80_0 : BitVec 32) (k0_t5 : Fin k0_t5_loop.trips) (v323 : IVec S16 32) (v324 : IVec S16 32) : Prop :=
  (∀ (k0_h2 : k0_cond2 i k0_t2 = 1#1), ∀ (k0_h4 : k0_cond4 v80_0 k0_t5 = 1#1), ∀ a x, ((![v323, v324] : Fin 2 → IVec S16 32) a x).toNat < S64x512.size a)
theorem k0_idx15_inb : ∀ (i : grid0.Coords) (k0_t2 : Fin k0_t2_loop.trips) (v80_0 : BitVec 32) (k0_t5 : Fin k0_t5_loop.trips) (v323 : IVec S16 32) (v324 : IVec S16 32) (k0_hw15 : k0_chk15 i k0_t2 v80_0 k0_t5 v323 v324), ∀ (k0_h2 : k0_cond2 i k0_t2 = 1#1), ∀ (k0_h4 : k0_cond4 v80_0 k0_t5 = 1#1), ∀ a x, ((![v323, v324] : Fin 2 → IVec S16 32) a x).toNat < S64x512.size a := fun i k0_t2 v80_0 k0_t5 v323 v324 k0_hw15 k0_h2 k0_h4 => k0_hw15 k0_h2 k0_h4
def k0_off11 (v311 : BitVec 32) : Fin 1 → Nat :=
  let c1_i32_86 : BitVec 32 := 1#32
  let v312 : BitVec 32 := Scalar.andi v311 c1_i32_86
  let c64_i32_87 : BitVec 32 := 64#32
  let v313 : BitVec 32 := Scalar.muli v312 c64_i32_87
  let v314 : BitVec 32 := v313
  let c16_i32_92 : BitVec 32 := 16#32
  let v325 : BitVec 32 := Scalar.addi v314 c16_i32_92
  let v328 : Index := Scalar.indexCast v325
  ![v328.toNat]

def k0_chk16 (i : grid0.Coords) (k0_t2 : Fin k0_t2_loop.trips) (v80_0 : BitVec 32) (k0_t5 : Fin k0_t5_loop.trips) (v331 : IVec S16 32) (v332 : IVec S16 32) : Prop :=
  (∀ (k0_h2 : k0_cond2 i k0_t2 = 1#1), ∀ (k0_h4 : k0_cond4 v80_0 k0_t5 = 1#1), ∀ a x, ((![v331, v332] : Fin 2 → IVec S16 32) a x).toNat < S64x512.size a)
theorem k0_idx16_inb : ∀ (i : grid0.Coords) (k0_t2 : Fin k0_t2_loop.trips) (v80_0 : BitVec 32) (k0_t5 : Fin k0_t5_loop.trips) (v331 : IVec S16 32) (v332 : IVec S16 32) (k0_hw16 : k0_chk16 i k0_t2 v80_0 k0_t5 v331 v332), ∀ (k0_h2 : k0_cond2 i k0_t2 = 1#1), ∀ (k0_h4 : k0_cond4 v80_0 k0_t5 = 1#1), ∀ a x, ((![v331, v332] : Fin 2 → IVec S16 32) a x).toNat < S64x512.size a := fun i k0_t2 v80_0 k0_t5 v331 v332 k0_hw16 k0_h2 k0_h4 => k0_hw16 k0_h2 k0_h4
def k0_off12 (v311 : BitVec 32) : Fin 1 → Nat :=
  let c1_i32_86 : BitVec 32 := 1#32
  let v312 : BitVec 32 := Scalar.andi v311 c1_i32_86
  let c64_i32_87 : BitVec 32 := 64#32
  let v313 : BitVec 32 := Scalar.muli v312 c64_i32_87
  let v314 : BitVec 32 := v313
  let c32_i32_96 : BitVec 32 := 32#32
  let v333 : BitVec 32 := Scalar.addi v314 c32_i32_96
  let v336 : Index := Scalar.indexCast v333
  ![v336.toNat]

def k0_chk17 (i : grid0.Coords) (k0_t2 : Fin k0_t2_loop.trips) (v80_0 : BitVec 32) (k0_t5 : Fin k0_t5_loop.trips) (v339 : IVec S16 32) (v340 : IVec S16 32) : Prop :=
  (∀ (k0_h2 : k0_cond2 i k0_t2 = 1#1), ∀ (k0_h4 : k0_cond4 v80_0 k0_t5 = 1#1), ∀ a x, ((![v339, v340] : Fin 2 → IVec S16 32) a x).toNat < S64x512.size a)
theorem k0_idx17_inb : ∀ (i : grid0.Coords) (k0_t2 : Fin k0_t2_loop.trips) (v80_0 : BitVec 32) (k0_t5 : Fin k0_t5_loop.trips) (v339 : IVec S16 32) (v340 : IVec S16 32) (k0_hw17 : k0_chk17 i k0_t2 v80_0 k0_t5 v339 v340), ∀ (k0_h2 : k0_cond2 i k0_t2 = 1#1), ∀ (k0_h4 : k0_cond4 v80_0 k0_t5 = 1#1), ∀ a x, ((![v339, v340] : Fin 2 → IVec S16 32) a x).toNat < S64x512.size a := fun i k0_t2 v80_0 k0_t5 v339 v340 k0_hw17 k0_h2 k0_h4 => k0_hw17 k0_h2 k0_h4
def k0_off13 (v311 : BitVec 32) : Fin 1 → Nat :=
  let c1_i32_86 : BitVec 32 := 1#32
  let v312 : BitVec 32 := Scalar.andi v311 c1_i32_86
  let c64_i32_87 : BitVec 32 := 64#32
  let v313 : BitVec 32 := Scalar.muli v312 c64_i32_87
  let v314 : BitVec 32 := v313
  let c48_i32_100 : BitVec 32 := 48#32
  let v341 : BitVec 32 := Scalar.addi v314 c48_i32_100
  let v344 : Index := Scalar.indexCast v341
  ![v344.toNat]

def k0_chk14 (i : grid0.Coords) (k0_t2 : Fin k0_t2_loop.trips) (v80_0 : BitVec 32) (k0_t5 : Fin k0_t5_loop.trips) (v311 : BitVec 32) : Prop :=
  (∀ (k0_h2 : k0_cond2 i k0_t2 = 1#1), ∀ (k0_h4 : k0_cond4 v80_0 k0_t5 = 1#1), 16 ∣ (k0_mult6 v311).toNat) ∧
  (∀ (k0_h2 : k0_cond2 i k0_t2 = 1#1), ∀ (k0_h4 : k0_cond4 v80_0 k0_t5 = 1#1), ∀ a, (k0_off10 v311) a + S16.size a ≤ S128.size a) ∧
  (∀ (k0_h2 : k0_cond2 i k0_t2 = 1#1), ∀ (k0_h4 : k0_cond4 v80_0 k0_t5 = 1#1), ∀ a, (k0_off11 v311) a + S16.size a ≤ S128.size a) ∧
  (∀ (k0_h2 : k0_cond2 i k0_t2 = 1#1), ∀ (k0_h4 : k0_cond4 v80_0 k0_t5 = 1#1), ∀ a, (k0_off12 v311) a + S16.size a ≤ S128.size a) ∧
  (∀ (k0_h2 : k0_cond2 i k0_t2 = 1#1), ∀ (k0_h4 : k0_cond4 v80_0 k0_t5 = 1#1), ∀ a, (k0_off13 v311) a + S16.size a ≤ S128.size a)
theorem k0_mult6_dvd : ∀ (i : grid0.Coords) (k0_t2 : Fin k0_t2_loop.trips) (v80_0 : BitVec 32) (k0_t5 : Fin k0_t5_loop.trips) (v311 : BitVec 32) (k0_hw14 : k0_chk14 i k0_t2 v80_0 k0_t5 v311), ∀ (k0_h2 : k0_cond2 i k0_t2 = 1#1), ∀ (k0_h4 : k0_cond4 v80_0 k0_t5 = 1#1), 16 ∣ (k0_mult6 v311).toNat := fun i k0_t2 v80_0 k0_t5 v311 k0_hw14 k0_h2 k0_h4 => k0_hw14.1 k0_h2 k0_h4
theorem k0_off10_inb : ∀ (i : grid0.Coords) (k0_t2 : Fin k0_t2_loop.trips) (v80_0 : BitVec 32) (k0_t5 : Fin k0_t5_loop.trips) (v311 : BitVec 32) (k0_hw14 : k0_chk14 i k0_t2 v80_0 k0_t5 v311), ∀ (k0_h2 : k0_cond2 i k0_t2 = 1#1), ∀ (k0_h4 : k0_cond4 v80_0 k0_t5 = 1#1), ∀ a, (k0_off10 v311) a + S16.size a ≤ S128.size a := fun i k0_t2 v80_0 k0_t5 v311 k0_hw14 k0_h2 k0_h4 => k0_hw14.2.1 k0_h2 k0_h4
theorem k0_off11_inb : ∀ (i : grid0.Coords) (k0_t2 : Fin k0_t2_loop.trips) (v80_0 : BitVec 32) (k0_t5 : Fin k0_t5_loop.trips) (v311 : BitVec 32) (k0_hw14 : k0_chk14 i k0_t2 v80_0 k0_t5 v311), ∀ (k0_h2 : k0_cond2 i k0_t2 = 1#1), ∀ (k0_h4 : k0_cond4 v80_0 k0_t5 = 1#1), ∀ a, (k0_off11 v311) a + S16.size a ≤ S128.size a := fun i k0_t2 v80_0 k0_t5 v311 k0_hw14 k0_h2 k0_h4 => k0_hw14.2.2.1 k0_h2 k0_h4
theorem k0_off12_inb : ∀ (i : grid0.Coords) (k0_t2 : Fin k0_t2_loop.trips) (v80_0 : BitVec 32) (k0_t5 : Fin k0_t5_loop.trips) (v311 : BitVec 32) (k0_hw14 : k0_chk14 i k0_t2 v80_0 k0_t5 v311), ∀ (k0_h2 : k0_cond2 i k0_t2 = 1#1), ∀ (k0_h4 : k0_cond4 v80_0 k0_t5 = 1#1), ∀ a, (k0_off12 v311) a + S16.size a ≤ S128.size a := fun i k0_t2 v80_0 k0_t5 v311 k0_hw14 k0_h2 k0_h4 => k0_hw14.2.2.2.1 k0_h2 k0_h4
theorem k0_off13_inb : ∀ (i : grid0.Coords) (k0_t2 : Fin k0_t2_loop.trips) (v80_0 : BitVec 32) (k0_t5 : Fin k0_t5_loop.trips) (v311 : BitVec 32) (k0_hw14 : k0_chk14 i k0_t2 v80_0 k0_t5 v311), ∀ (k0_h2 : k0_cond2 i k0_t2 = 1#1), ∀ (k0_h4 : k0_cond4 v80_0 k0_t5 = 1#1), ∀ a, (k0_off13 v311) a + S16.size a ≤ S128.size a := fun i k0_t2 v80_0 k0_t5 v311 k0_hw14 k0_h2 k0_h4 => k0_hw14.2.2.2.2 k0_h2 k0_h4

def k0_chk18 (i : grid0.Coords) (k0_t2 : Fin k0_t2_loop.trips) (v80_0 : BitVec 32) (k0_t5 : Fin k0_t5_loop.trips) (v347 : IVec S16 32) (v348 : IVec S16 32) : Prop :=
  (∀ (k0_h2 : k0_cond2 i k0_t2 = 1#1), ∀ (k0_h4 : k0_cond4 v80_0 k0_t5 = 1#1), ∀ a x, ((![v347, v348] : Fin 2 → IVec S16 32) a x).toNat < S64x512.size a)
theorem k0_idx18_inb : ∀ (i : grid0.Coords) (k0_t2 : Fin k0_t2_loop.trips) (v80_0 : BitVec 32) (k0_t5 : Fin k0_t5_loop.trips) (v347 : IVec S16 32) (v348 : IVec S16 32) (k0_hw18 : k0_chk18 i k0_t2 v80_0 k0_t5 v347 v348), ∀ (k0_h2 : k0_cond2 i k0_t2 = 1#1), ∀ (k0_h4 : k0_cond4 v80_0 k0_t5 = 1#1), ∀ a x, ((![v347, v348] : Fin 2 → IVec S16 32) a x).toNat < S64x512.size a := fun i k0_t2 v80_0 k0_t5 v347 v348 k0_hw18 k0_h2 k0_h4 => k0_hw18 k0_h2 k0_h4
def k0_mult7 (v350 : BitVec 32) : BitVec 32 :=
  let c1_i32_104 : BitVec 32 := 1#32
  let v351 : BitVec 32 := Scalar.andi v350 c1_i32_104
  let c64_i32_105 : BitVec 32 := 64#32
  let v352 : BitVec 32 := Scalar.muli v351 c64_i32_105
  v352

def k0_off14 (v350 : BitVec 32) : Fin 1 → Nat :=
  let c1_i32_104 : BitVec 32 := 1#32
  let v351 : BitVec 32 := Scalar.andi v350 c1_i32_104
  let c64_i32_105 : BitVec 32 := 64#32
  let v352 : BitVec 32 := Scalar.muli v351 c64_i32_105
  let v353 : BitVec 32 := v352
  let c0_i32_106 : BitVec 32 := 0#32
  let v356 : BitVec 32 := Scalar.addi v353 c0_i32_106
  let v359 : Index := Scalar.indexCast v356
  ![v359.toNat]

def k0_chk20 (i : grid0.Coords) (k0_t2 : Fin k0_t2_loop.trips) (v80_0 : BitVec 32) (k0_t5 : Fin k0_t5_loop.trips) (v362 : IVec S16 32) (v363 : IVec S16 32) : Prop :=
  (∀ (k0_h2 : k0_cond2 i k0_t2 = 1#1), ∀ (k0_h4 : k0_cond4 v80_0 k0_t5 = 1#1), ∀ a x, ((![v362, v363] : Fin 2 → IVec S16 32) a x).toNat < S64x512.size a)
theorem k0_idx19_inb : ∀ (i : grid0.Coords) (k0_t2 : Fin k0_t2_loop.trips) (v80_0 : BitVec 32) (k0_t5 : Fin k0_t5_loop.trips) (v362 : IVec S16 32) (v363 : IVec S16 32) (k0_hw20 : k0_chk20 i k0_t2 v80_0 k0_t5 v362 v363), ∀ (k0_h2 : k0_cond2 i k0_t2 = 1#1), ∀ (k0_h4 : k0_cond4 v80_0 k0_t5 = 1#1), ∀ a x, ((![v362, v363] : Fin 2 → IVec S16 32) a x).toNat < S64x512.size a := fun i k0_t2 v80_0 k0_t5 v362 v363 k0_hw20 k0_h2 k0_h4 => k0_hw20 k0_h2 k0_h4
def k0_off15 (v350 : BitVec 32) : Fin 1 → Nat :=
  let c1_i32_104 : BitVec 32 := 1#32
  let v351 : BitVec 32 := Scalar.andi v350 c1_i32_104
  let c64_i32_105 : BitVec 32 := 64#32
  let v352 : BitVec 32 := Scalar.muli v351 c64_i32_105
  let v353 : BitVec 32 := v352
  let c16_i32_110 : BitVec 32 := 16#32
  let v364 : BitVec 32 := Scalar.addi v353 c16_i32_110
  let v367 : Index := Scalar.indexCast v364
  ![v367.toNat]

def k0_chk21 (i : grid0.Coords) (k0_t2 : Fin k0_t2_loop.trips) (v80_0 : BitVec 32) (k0_t5 : Fin k0_t5_loop.trips) (v370 : IVec S16 32) (v371 : IVec S16 32) : Prop :=
  (∀ (k0_h2 : k0_cond2 i k0_t2 = 1#1), ∀ (k0_h4 : k0_cond4 v80_0 k0_t5 = 1#1), ∀ a x, ((![v370, v371] : Fin 2 → IVec S16 32) a x).toNat < S64x512.size a)
theorem k0_idx20_inb : ∀ (i : grid0.Coords) (k0_t2 : Fin k0_t2_loop.trips) (v80_0 : BitVec 32) (k0_t5 : Fin k0_t5_loop.trips) (v370 : IVec S16 32) (v371 : IVec S16 32) (k0_hw21 : k0_chk21 i k0_t2 v80_0 k0_t5 v370 v371), ∀ (k0_h2 : k0_cond2 i k0_t2 = 1#1), ∀ (k0_h4 : k0_cond4 v80_0 k0_t5 = 1#1), ∀ a x, ((![v370, v371] : Fin 2 → IVec S16 32) a x).toNat < S64x512.size a := fun i k0_t2 v80_0 k0_t5 v370 v371 k0_hw21 k0_h2 k0_h4 => k0_hw21 k0_h2 k0_h4
def k0_off16 (v350 : BitVec 32) : Fin 1 → Nat :=
  let c1_i32_104 : BitVec 32 := 1#32
  let v351 : BitVec 32 := Scalar.andi v350 c1_i32_104
  let c64_i32_105 : BitVec 32 := 64#32
  let v352 : BitVec 32 := Scalar.muli v351 c64_i32_105
  let v353 : BitVec 32 := v352
  let c32_i32_114 : BitVec 32 := 32#32
  let v372 : BitVec 32 := Scalar.addi v353 c32_i32_114
  let v375 : Index := Scalar.indexCast v372
  ![v375.toNat]

def k0_chk22 (i : grid0.Coords) (k0_t2 : Fin k0_t2_loop.trips) (v80_0 : BitVec 32) (k0_t5 : Fin k0_t5_loop.trips) (v378 : IVec S16 32) (v379 : IVec S16 32) : Prop :=
  (∀ (k0_h2 : k0_cond2 i k0_t2 = 1#1), ∀ (k0_h4 : k0_cond4 v80_0 k0_t5 = 1#1), ∀ a x, ((![v378, v379] : Fin 2 → IVec S16 32) a x).toNat < S64x512.size a)
theorem k0_idx21_inb : ∀ (i : grid0.Coords) (k0_t2 : Fin k0_t2_loop.trips) (v80_0 : BitVec 32) (k0_t5 : Fin k0_t5_loop.trips) (v378 : IVec S16 32) (v379 : IVec S16 32) (k0_hw22 : k0_chk22 i k0_t2 v80_0 k0_t5 v378 v379), ∀ (k0_h2 : k0_cond2 i k0_t2 = 1#1), ∀ (k0_h4 : k0_cond4 v80_0 k0_t5 = 1#1), ∀ a x, ((![v378, v379] : Fin 2 → IVec S16 32) a x).toNat < S64x512.size a := fun i k0_t2 v80_0 k0_t5 v378 v379 k0_hw22 k0_h2 k0_h4 => k0_hw22 k0_h2 k0_h4
def k0_off17 (v350 : BitVec 32) : Fin 1 → Nat :=
  let c1_i32_104 : BitVec 32 := 1#32
  let v351 : BitVec 32 := Scalar.andi v350 c1_i32_104
  let c64_i32_105 : BitVec 32 := 64#32
  let v352 : BitVec 32 := Scalar.muli v351 c64_i32_105
  let v353 : BitVec 32 := v352
  let c48_i32_118 : BitVec 32 := 48#32
  let v380 : BitVec 32 := Scalar.addi v353 c48_i32_118
  let v383 : Index := Scalar.indexCast v380
  ![v383.toNat]

def k0_chk19 (i : grid0.Coords) (k0_t2 : Fin k0_t2_loop.trips) (v80_0 : BitVec 32) (k0_t5 : Fin k0_t5_loop.trips) (v350 : BitVec 32) : Prop :=
  (∀ (k0_h2 : k0_cond2 i k0_t2 = 1#1), ∀ (k0_h4 : k0_cond4 v80_0 k0_t5 = 1#1), 16 ∣ (k0_mult7 v350).toNat) ∧
  (∀ (k0_h2 : k0_cond2 i k0_t2 = 1#1), ∀ (k0_h4 : k0_cond4 v80_0 k0_t5 = 1#1), ∀ a, (k0_off14 v350) a + S16.size a ≤ S128.size a) ∧
  (∀ (k0_h2 : k0_cond2 i k0_t2 = 1#1), ∀ (k0_h4 : k0_cond4 v80_0 k0_t5 = 1#1), ∀ a, (k0_off15 v350) a + S16.size a ≤ S128.size a) ∧
  (∀ (k0_h2 : k0_cond2 i k0_t2 = 1#1), ∀ (k0_h4 : k0_cond4 v80_0 k0_t5 = 1#1), ∀ a, (k0_off16 v350) a + S16.size a ≤ S128.size a) ∧
  (∀ (k0_h2 : k0_cond2 i k0_t2 = 1#1), ∀ (k0_h4 : k0_cond4 v80_0 k0_t5 = 1#1), ∀ a, (k0_off17 v350) a + S16.size a ≤ S128.size a)
theorem k0_mult7_dvd : ∀ (i : grid0.Coords) (k0_t2 : Fin k0_t2_loop.trips) (v80_0 : BitVec 32) (k0_t5 : Fin k0_t5_loop.trips) (v350 : BitVec 32) (k0_hw19 : k0_chk19 i k0_t2 v80_0 k0_t5 v350), ∀ (k0_h2 : k0_cond2 i k0_t2 = 1#1), ∀ (k0_h4 : k0_cond4 v80_0 k0_t5 = 1#1), 16 ∣ (k0_mult7 v350).toNat := fun i k0_t2 v80_0 k0_t5 v350 k0_hw19 k0_h2 k0_h4 => k0_hw19.1 k0_h2 k0_h4
theorem k0_off14_inb : ∀ (i : grid0.Coords) (k0_t2 : Fin k0_t2_loop.trips) (v80_0 : BitVec 32) (k0_t5 : Fin k0_t5_loop.trips) (v350 : BitVec 32) (k0_hw19 : k0_chk19 i k0_t2 v80_0 k0_t5 v350), ∀ (k0_h2 : k0_cond2 i k0_t2 = 1#1), ∀ (k0_h4 : k0_cond4 v80_0 k0_t5 = 1#1), ∀ a, (k0_off14 v350) a + S16.size a ≤ S128.size a := fun i k0_t2 v80_0 k0_t5 v350 k0_hw19 k0_h2 k0_h4 => k0_hw19.2.1 k0_h2 k0_h4
theorem k0_off15_inb : ∀ (i : grid0.Coords) (k0_t2 : Fin k0_t2_loop.trips) (v80_0 : BitVec 32) (k0_t5 : Fin k0_t5_loop.trips) (v350 : BitVec 32) (k0_hw19 : k0_chk19 i k0_t2 v80_0 k0_t5 v350), ∀ (k0_h2 : k0_cond2 i k0_t2 = 1#1), ∀ (k0_h4 : k0_cond4 v80_0 k0_t5 = 1#1), ∀ a, (k0_off15 v350) a + S16.size a ≤ S128.size a := fun i k0_t2 v80_0 k0_t5 v350 k0_hw19 k0_h2 k0_h4 => k0_hw19.2.2.1 k0_h2 k0_h4
theorem k0_off16_inb : ∀ (i : grid0.Coords) (k0_t2 : Fin k0_t2_loop.trips) (v80_0 : BitVec 32) (k0_t5 : Fin k0_t5_loop.trips) (v350 : BitVec 32) (k0_hw19 : k0_chk19 i k0_t2 v80_0 k0_t5 v350), ∀ (k0_h2 : k0_cond2 i k0_t2 = 1#1), ∀ (k0_h4 : k0_cond4 v80_0 k0_t5 = 1#1), ∀ a, (k0_off16 v350) a + S16.size a ≤ S128.size a := fun i k0_t2 v80_0 k0_t5 v350 k0_hw19 k0_h2 k0_h4 => k0_hw19.2.2.2.1 k0_h2 k0_h4
theorem k0_off17_inb : ∀ (i : grid0.Coords) (k0_t2 : Fin k0_t2_loop.trips) (v80_0 : BitVec 32) (k0_t5 : Fin k0_t5_loop.trips) (v350 : BitVec 32) (k0_hw19 : k0_chk19 i k0_t2 v80_0 k0_t5 v350), ∀ (k0_h2 : k0_cond2 i k0_t2 = 1#1), ∀ (k0_h4 : k0_cond4 v80_0 k0_t5 = 1#1), ∀ a, (k0_off17 v350) a + S16.size a ≤ S128.size a := fun i k0_t2 v80_0 k0_t5 v350 k0_hw19 k0_h2 k0_h4 => k0_hw19.2.2.2.2 k0_h2 k0_h4

def k0_chk23 (i : grid0.Coords) (k0_t2 : Fin k0_t2_loop.trips) (v80_0 : BitVec 32) (k0_t5 : Fin k0_t5_loop.trips) (v386 : IVec S16 32) (v387 : IVec S16 32) : Prop :=
  (∀ (k0_h2 : k0_cond2 i k0_t2 = 1#1), ∀ (k0_h4 : k0_cond4 v80_0 k0_t5 = 1#1), ∀ a x, ((![v386, v387] : Fin 2 → IVec S16 32) a x).toNat < S64x512.size a)
theorem k0_idx22_inb : ∀ (i : grid0.Coords) (k0_t2 : Fin k0_t2_loop.trips) (v80_0 : BitVec 32) (k0_t5 : Fin k0_t5_loop.trips) (v386 : IVec S16 32) (v387 : IVec S16 32) (k0_hw23 : k0_chk23 i k0_t2 v80_0 k0_t5 v386 v387), ∀ (k0_h2 : k0_cond2 i k0_t2 = 1#1), ∀ (k0_h4 : k0_cond4 v80_0 k0_t5 = 1#1), ∀ a x, ((![v386, v387] : Fin 2 → IVec S16 32) a x).toNat < S64x512.size a := fun i k0_t2 v80_0 k0_t5 v386 v387 k0_hw23 k0_h2 k0_h4 => k0_hw23 k0_h2 k0_h4
def k0_mult8 (v389 : BitVec 32) : BitVec 32 :=
  let c1_i32_122 : BitVec 32 := 1#32
  let v390 : BitVec 32 := Scalar.andi v389 c1_i32_122
  let c64_i32_123 : BitVec 32 := 64#32
  let v391 : BitVec 32 := Scalar.muli v390 c64_i32_123
  v391

def k0_off18 (v389 : BitVec 32) : Fin 1 → Nat :=
  let c1_i32_122 : BitVec 32 := 1#32
  let v390 : BitVec 32 := Scalar.andi v389 c1_i32_122
  let c64_i32_123 : BitVec 32 := 64#32
  let v391 : BitVec 32 := Scalar.muli v390 c64_i32_123
  let v392 : BitVec 32 := v391
  let c0_i32_124 : BitVec 32 := 0#32
  let v395 : BitVec 32 := Scalar.addi v392 c0_i32_124
  let v398 : Index := Scalar.indexCast v395
  ![v398.toNat]

def k0_chk25 (i : grid0.Coords) (k0_t2 : Fin k0_t2_loop.trips) (v80_0 : BitVec 32) (k0_t5 : Fin k0_t5_loop.trips) (v401 : IVec S16 32) (v402 : IVec S16 32) : Prop :=
  (∀ (k0_h2 : k0_cond2 i k0_t2 = 1#1), ∀ (k0_h4 : k0_cond4 v80_0 k0_t5 = 1#1), ∀ a x, ((![v401, v402] : Fin 2 → IVec S16 32) a x).toNat < S64x512.size a)
theorem k0_idx23_inb : ∀ (i : grid0.Coords) (k0_t2 : Fin k0_t2_loop.trips) (v80_0 : BitVec 32) (k0_t5 : Fin k0_t5_loop.trips) (v401 : IVec S16 32) (v402 : IVec S16 32) (k0_hw25 : k0_chk25 i k0_t2 v80_0 k0_t5 v401 v402), ∀ (k0_h2 : k0_cond2 i k0_t2 = 1#1), ∀ (k0_h4 : k0_cond4 v80_0 k0_t5 = 1#1), ∀ a x, ((![v401, v402] : Fin 2 → IVec S16 32) a x).toNat < S64x512.size a := fun i k0_t2 v80_0 k0_t5 v401 v402 k0_hw25 k0_h2 k0_h4 => k0_hw25 k0_h2 k0_h4
def k0_off19 (v389 : BitVec 32) : Fin 1 → Nat :=
  let c1_i32_122 : BitVec 32 := 1#32
  let v390 : BitVec 32 := Scalar.andi v389 c1_i32_122
  let c64_i32_123 : BitVec 32 := 64#32
  let v391 : BitVec 32 := Scalar.muli v390 c64_i32_123
  let v392 : BitVec 32 := v391
  let c16_i32_127 : BitVec 32 := 16#32
  let v403 : BitVec 32 := Scalar.addi v392 c16_i32_127
  let v406 : Index := Scalar.indexCast v403
  ![v406.toNat]

def k0_chk26 (i : grid0.Coords) (k0_t2 : Fin k0_t2_loop.trips) (v80_0 : BitVec 32) (k0_t5 : Fin k0_t5_loop.trips) (v409 : IVec S16 32) (v410 : IVec S16 32) : Prop :=
  (∀ (k0_h2 : k0_cond2 i k0_t2 = 1#1), ∀ (k0_h4 : k0_cond4 v80_0 k0_t5 = 1#1), ∀ a x, ((![v409, v410] : Fin 2 → IVec S16 32) a x).toNat < S64x512.size a)
theorem k0_idx24_inb : ∀ (i : grid0.Coords) (k0_t2 : Fin k0_t2_loop.trips) (v80_0 : BitVec 32) (k0_t5 : Fin k0_t5_loop.trips) (v409 : IVec S16 32) (v410 : IVec S16 32) (k0_hw26 : k0_chk26 i k0_t2 v80_0 k0_t5 v409 v410), ∀ (k0_h2 : k0_cond2 i k0_t2 = 1#1), ∀ (k0_h4 : k0_cond4 v80_0 k0_t5 = 1#1), ∀ a x, ((![v409, v410] : Fin 2 → IVec S16 32) a x).toNat < S64x512.size a := fun i k0_t2 v80_0 k0_t5 v409 v410 k0_hw26 k0_h2 k0_h4 => k0_hw26 k0_h2 k0_h4
def k0_off20 (v389 : BitVec 32) : Fin 1 → Nat :=
  let c1_i32_122 : BitVec 32 := 1#32
  let v390 : BitVec 32 := Scalar.andi v389 c1_i32_122
  let c64_i32_123 : BitVec 32 := 64#32
  let v391 : BitVec 32 := Scalar.muli v390 c64_i32_123
  let v392 : BitVec 32 := v391
  let c32_i32_131 : BitVec 32 := 32#32
  let v411 : BitVec 32 := Scalar.addi v392 c32_i32_131
  let v414 : Index := Scalar.indexCast v411
  ![v414.toNat]

def k0_chk27 (i : grid0.Coords) (k0_t2 : Fin k0_t2_loop.trips) (v80_0 : BitVec 32) (k0_t5 : Fin k0_t5_loop.trips) (v417 : IVec S16 32) (v418 : IVec S16 32) : Prop :=
  (∀ (k0_h2 : k0_cond2 i k0_t2 = 1#1), ∀ (k0_h4 : k0_cond4 v80_0 k0_t5 = 1#1), ∀ a x, ((![v417, v418] : Fin 2 → IVec S16 32) a x).toNat < S64x512.size a)
theorem k0_idx25_inb : ∀ (i : grid0.Coords) (k0_t2 : Fin k0_t2_loop.trips) (v80_0 : BitVec 32) (k0_t5 : Fin k0_t5_loop.trips) (v417 : IVec S16 32) (v418 : IVec S16 32) (k0_hw27 : k0_chk27 i k0_t2 v80_0 k0_t5 v417 v418), ∀ (k0_h2 : k0_cond2 i k0_t2 = 1#1), ∀ (k0_h4 : k0_cond4 v80_0 k0_t5 = 1#1), ∀ a x, ((![v417, v418] : Fin 2 → IVec S16 32) a x).toNat < S64x512.size a := fun i k0_t2 v80_0 k0_t5 v417 v418 k0_hw27 k0_h2 k0_h4 => k0_hw27 k0_h2 k0_h4
def k0_off21 (v389 : BitVec 32) : Fin 1 → Nat :=
  let c1_i32_122 : BitVec 32 := 1#32
  let v390 : BitVec 32 := Scalar.andi v389 c1_i32_122
  let c64_i32_123 : BitVec 32 := 64#32
  let v391 : BitVec 32 := Scalar.muli v390 c64_i32_123
  let v392 : BitVec 32 := v391
  let c48_i32_135 : BitVec 32 := 48#32
  let v419 : BitVec 32 := Scalar.addi v392 c48_i32_135
  let v422 : Index := Scalar.indexCast v419
  ![v422.toNat]

def k0_chk24 (i : grid0.Coords) (k0_t2 : Fin k0_t2_loop.trips) (v80_0 : BitVec 32) (k0_t5 : Fin k0_t5_loop.trips) (v389 : BitVec 32) : Prop :=
  (∀ (k0_h2 : k0_cond2 i k0_t2 = 1#1), ∀ (k0_h4 : k0_cond4 v80_0 k0_t5 = 1#1), 16 ∣ (k0_mult8 v389).toNat) ∧
  (∀ (k0_h2 : k0_cond2 i k0_t2 = 1#1), ∀ (k0_h4 : k0_cond4 v80_0 k0_t5 = 1#1), ∀ a, (k0_off18 v389) a + S16.size a ≤ S128.size a) ∧
  (∀ (k0_h2 : k0_cond2 i k0_t2 = 1#1), ∀ (k0_h4 : k0_cond4 v80_0 k0_t5 = 1#1), ∀ a, (k0_off19 v389) a + S16.size a ≤ S128.size a) ∧
  (∀ (k0_h2 : k0_cond2 i k0_t2 = 1#1), ∀ (k0_h4 : k0_cond4 v80_0 k0_t5 = 1#1), ∀ a, (k0_off20 v389) a + S16.size a ≤ S128.size a) ∧
  (∀ (k0_h2 : k0_cond2 i k0_t2 = 1#1), ∀ (k0_h4 : k0_cond4 v80_0 k0_t5 = 1#1), ∀ a, (k0_off21 v389) a + S16.size a ≤ S128.size a)
theorem k0_mult8_dvd : ∀ (i : grid0.Coords) (k0_t2 : Fin k0_t2_loop.trips) (v80_0 : BitVec 32) (k0_t5 : Fin k0_t5_loop.trips) (v389 : BitVec 32) (k0_hw24 : k0_chk24 i k0_t2 v80_0 k0_t5 v389), ∀ (k0_h2 : k0_cond2 i k0_t2 = 1#1), ∀ (k0_h4 : k0_cond4 v80_0 k0_t5 = 1#1), 16 ∣ (k0_mult8 v389).toNat := fun i k0_t2 v80_0 k0_t5 v389 k0_hw24 k0_h2 k0_h4 => k0_hw24.1 k0_h2 k0_h4
theorem k0_off18_inb : ∀ (i : grid0.Coords) (k0_t2 : Fin k0_t2_loop.trips) (v80_0 : BitVec 32) (k0_t5 : Fin k0_t5_loop.trips) (v389 : BitVec 32) (k0_hw24 : k0_chk24 i k0_t2 v80_0 k0_t5 v389), ∀ (k0_h2 : k0_cond2 i k0_t2 = 1#1), ∀ (k0_h4 : k0_cond4 v80_0 k0_t5 = 1#1), ∀ a, (k0_off18 v389) a + S16.size a ≤ S128.size a := fun i k0_t2 v80_0 k0_t5 v389 k0_hw24 k0_h2 k0_h4 => k0_hw24.2.1 k0_h2 k0_h4
theorem k0_off19_inb : ∀ (i : grid0.Coords) (k0_t2 : Fin k0_t2_loop.trips) (v80_0 : BitVec 32) (k0_t5 : Fin k0_t5_loop.trips) (v389 : BitVec 32) (k0_hw24 : k0_chk24 i k0_t2 v80_0 k0_t5 v389), ∀ (k0_h2 : k0_cond2 i k0_t2 = 1#1), ∀ (k0_h4 : k0_cond4 v80_0 k0_t5 = 1#1), ∀ a, (k0_off19 v389) a + S16.size a ≤ S128.size a := fun i k0_t2 v80_0 k0_t5 v389 k0_hw24 k0_h2 k0_h4 => k0_hw24.2.2.1 k0_h2 k0_h4
theorem k0_off20_inb : ∀ (i : grid0.Coords) (k0_t2 : Fin k0_t2_loop.trips) (v80_0 : BitVec 32) (k0_t5 : Fin k0_t5_loop.trips) (v389 : BitVec 32) (k0_hw24 : k0_chk24 i k0_t2 v80_0 k0_t5 v389), ∀ (k0_h2 : k0_cond2 i k0_t2 = 1#1), ∀ (k0_h4 : k0_cond4 v80_0 k0_t5 = 1#1), ∀ a, (k0_off20 v389) a + S16.size a ≤ S128.size a := fun i k0_t2 v80_0 k0_t5 v389 k0_hw24 k0_h2 k0_h4 => k0_hw24.2.2.2.1 k0_h2 k0_h4
theorem k0_off21_inb : ∀ (i : grid0.Coords) (k0_t2 : Fin k0_t2_loop.trips) (v80_0 : BitVec 32) (k0_t5 : Fin k0_t5_loop.trips) (v389 : BitVec 32) (k0_hw24 : k0_chk24 i k0_t2 v80_0 k0_t5 v389), ∀ (k0_h2 : k0_cond2 i k0_t2 = 1#1), ∀ (k0_h4 : k0_cond4 v80_0 k0_t5 = 1#1), ∀ a, (k0_off21 v389) a + S16.size a ≤ S128.size a := fun i k0_t2 v80_0 k0_t5 v389 k0_hw24 k0_h2 k0_h4 => k0_hw24.2.2.2.2 k0_h2 k0_h4

def k0_chk28 (i : grid0.Coords) (k0_t2 : Fin k0_t2_loop.trips) (v80_0 : BitVec 32) (k0_t5 : Fin k0_t5_loop.trips) (v425 : IVec S16 32) (v426 : IVec S16 32) : Prop :=
  (∀ (k0_h2 : k0_cond2 i k0_t2 = 1#1), ∀ (k0_h4 : k0_cond4 v80_0 k0_t5 = 1#1), ∀ a x, ((![v425, v426] : Fin 2 → IVec S16 32) a x).toNat < S64x512.size a)
theorem k0_idx26_inb : ∀ (i : grid0.Coords) (k0_t2 : Fin k0_t2_loop.trips) (v80_0 : BitVec 32) (k0_t5 : Fin k0_t5_loop.trips) (v425 : IVec S16 32) (v426 : IVec S16 32) (k0_hw28 : k0_chk28 i k0_t2 v80_0 k0_t5 v425 v426), ∀ (k0_h2 : k0_cond2 i k0_t2 = 1#1), ∀ (k0_h4 : k0_cond4 v80_0 k0_t5 = 1#1), ∀ a x, ((![v425, v426] : Fin 2 → IVec S16 32) a x).toNat < S64x512.size a := fun i k0_t2 v80_0 k0_t5 v425 v426 k0_hw28 k0_h2 k0_h4 => k0_hw28 k0_h2 k0_h4
def k0_mult9 (v428 : BitVec 32) : BitVec 32 :=
  let c1_i32_139 : BitVec 32 := 1#32
  let v429 : BitVec 32 := Scalar.andi v428 c1_i32_139
  let c64_i32_140 : BitVec 32 := 64#32
  let v430 : BitVec 32 := Scalar.muli v429 c64_i32_140
  v430

def k0_off22 (v428 : BitVec 32) : Fin 1 → Nat :=
  let c1_i32_139 : BitVec 32 := 1#32
  let v429 : BitVec 32 := Scalar.andi v428 c1_i32_139
  let c64_i32_140 : BitVec 32 := 64#32
  let v430 : BitVec 32 := Scalar.muli v429 c64_i32_140
  let v431 : BitVec 32 := v430
  let c0_i32_141 : BitVec 32 := 0#32
  let v434 : BitVec 32 := Scalar.addi v431 c0_i32_141
  let v437 : Index := Scalar.indexCast v434
  ![v437.toNat]

def k0_chk30 (i : grid0.Coords) (k0_t2 : Fin k0_t2_loop.trips) (v80_0 : BitVec 32) (k0_t5 : Fin k0_t5_loop.trips) (v440 : IVec S16 32) (v441 : IVec S16 32) : Prop :=
  (∀ (k0_h2 : k0_cond2 i k0_t2 = 1#1), ∀ (k0_h4 : k0_cond4 v80_0 k0_t5 = 1#1), ∀ a x, ((![v440, v441] : Fin 2 → IVec S16 32) a x).toNat < S64x512.size a)
theorem k0_idx27_inb : ∀ (i : grid0.Coords) (k0_t2 : Fin k0_t2_loop.trips) (v80_0 : BitVec 32) (k0_t5 : Fin k0_t5_loop.trips) (v440 : IVec S16 32) (v441 : IVec S16 32) (k0_hw30 : k0_chk30 i k0_t2 v80_0 k0_t5 v440 v441), ∀ (k0_h2 : k0_cond2 i k0_t2 = 1#1), ∀ (k0_h4 : k0_cond4 v80_0 k0_t5 = 1#1), ∀ a x, ((![v440, v441] : Fin 2 → IVec S16 32) a x).toNat < S64x512.size a := fun i k0_t2 v80_0 k0_t5 v440 v441 k0_hw30 k0_h2 k0_h4 => k0_hw30 k0_h2 k0_h4
def k0_off23 (v428 : BitVec 32) : Fin 1 → Nat :=
  let c1_i32_139 : BitVec 32 := 1#32
  let v429 : BitVec 32 := Scalar.andi v428 c1_i32_139
  let c64_i32_140 : BitVec 32 := 64#32
  let v430 : BitVec 32 := Scalar.muli v429 c64_i32_140
  let v431 : BitVec 32 := v430
  let c16_i32_144 : BitVec 32 := 16#32
  let v442 : BitVec 32 := Scalar.addi v431 c16_i32_144
  let v445 : Index := Scalar.indexCast v442
  ![v445.toNat]

def k0_chk31 (i : grid0.Coords) (k0_t2 : Fin k0_t2_loop.trips) (v80_0 : BitVec 32) (k0_t5 : Fin k0_t5_loop.trips) (v448 : IVec S16 32) (v449 : IVec S16 32) : Prop :=
  (∀ (k0_h2 : k0_cond2 i k0_t2 = 1#1), ∀ (k0_h4 : k0_cond4 v80_0 k0_t5 = 1#1), ∀ a x, ((![v448, v449] : Fin 2 → IVec S16 32) a x).toNat < S64x512.size a)
theorem k0_idx28_inb : ∀ (i : grid0.Coords) (k0_t2 : Fin k0_t2_loop.trips) (v80_0 : BitVec 32) (k0_t5 : Fin k0_t5_loop.trips) (v448 : IVec S16 32) (v449 : IVec S16 32) (k0_hw31 : k0_chk31 i k0_t2 v80_0 k0_t5 v448 v449), ∀ (k0_h2 : k0_cond2 i k0_t2 = 1#1), ∀ (k0_h4 : k0_cond4 v80_0 k0_t5 = 1#1), ∀ a x, ((![v448, v449] : Fin 2 → IVec S16 32) a x).toNat < S64x512.size a := fun i k0_t2 v80_0 k0_t5 v448 v449 k0_hw31 k0_h2 k0_h4 => k0_hw31 k0_h2 k0_h4
def k0_off24 (v428 : BitVec 32) : Fin 1 → Nat :=
  let c1_i32_139 : BitVec 32 := 1#32
  let v429 : BitVec 32 := Scalar.andi v428 c1_i32_139
  let c64_i32_140 : BitVec 32 := 64#32
  let v430 : BitVec 32 := Scalar.muli v429 c64_i32_140
  let v431 : BitVec 32 := v430
  let c32_i32_148 : BitVec 32 := 32#32
  let v450 : BitVec 32 := Scalar.addi v431 c32_i32_148
  let v453 : Index := Scalar.indexCast v450
  ![v453.toNat]

def k0_chk32 (i : grid0.Coords) (k0_t2 : Fin k0_t2_loop.trips) (v80_0 : BitVec 32) (k0_t5 : Fin k0_t5_loop.trips) (v456 : IVec S16 32) (v457 : IVec S16 32) : Prop :=
  (∀ (k0_h2 : k0_cond2 i k0_t2 = 1#1), ∀ (k0_h4 : k0_cond4 v80_0 k0_t5 = 1#1), ∀ a x, ((![v456, v457] : Fin 2 → IVec S16 32) a x).toNat < S64x512.size a)
theorem k0_idx29_inb : ∀ (i : grid0.Coords) (k0_t2 : Fin k0_t2_loop.trips) (v80_0 : BitVec 32) (k0_t5 : Fin k0_t5_loop.trips) (v456 : IVec S16 32) (v457 : IVec S16 32) (k0_hw32 : k0_chk32 i k0_t2 v80_0 k0_t5 v456 v457), ∀ (k0_h2 : k0_cond2 i k0_t2 = 1#1), ∀ (k0_h4 : k0_cond4 v80_0 k0_t5 = 1#1), ∀ a x, ((![v456, v457] : Fin 2 → IVec S16 32) a x).toNat < S64x512.size a := fun i k0_t2 v80_0 k0_t5 v456 v457 k0_hw32 k0_h2 k0_h4 => k0_hw32 k0_h2 k0_h4
def k0_off25 (v428 : BitVec 32) : Fin 1 → Nat :=
  let c1_i32_139 : BitVec 32 := 1#32
  let v429 : BitVec 32 := Scalar.andi v428 c1_i32_139
  let c64_i32_140 : BitVec 32 := 64#32
  let v430 : BitVec 32 := Scalar.muli v429 c64_i32_140
  let v431 : BitVec 32 := v430
  let c48_i32_152 : BitVec 32 := 48#32
  let v458 : BitVec 32 := Scalar.addi v431 c48_i32_152
  let v461 : Index := Scalar.indexCast v458
  ![v461.toNat]

def k0_chk29 (i : grid0.Coords) (k0_t2 : Fin k0_t2_loop.trips) (v80_0 : BitVec 32) (k0_t5 : Fin k0_t5_loop.trips) (v428 : BitVec 32) : Prop :=
  (∀ (k0_h2 : k0_cond2 i k0_t2 = 1#1), ∀ (k0_h4 : k0_cond4 v80_0 k0_t5 = 1#1), 16 ∣ (k0_mult9 v428).toNat) ∧
  (∀ (k0_h2 : k0_cond2 i k0_t2 = 1#1), ∀ (k0_h4 : k0_cond4 v80_0 k0_t5 = 1#1), ∀ a, (k0_off22 v428) a + S16.size a ≤ S128.size a) ∧
  (∀ (k0_h2 : k0_cond2 i k0_t2 = 1#1), ∀ (k0_h4 : k0_cond4 v80_0 k0_t5 = 1#1), ∀ a, (k0_off23 v428) a + S16.size a ≤ S128.size a) ∧
  (∀ (k0_h2 : k0_cond2 i k0_t2 = 1#1), ∀ (k0_h4 : k0_cond4 v80_0 k0_t5 = 1#1), ∀ a, (k0_off24 v428) a + S16.size a ≤ S128.size a) ∧
  (∀ (k0_h2 : k0_cond2 i k0_t2 = 1#1), ∀ (k0_h4 : k0_cond4 v80_0 k0_t5 = 1#1), ∀ a, (k0_off25 v428) a + S16.size a ≤ S128.size a)
theorem k0_mult9_dvd : ∀ (i : grid0.Coords) (k0_t2 : Fin k0_t2_loop.trips) (v80_0 : BitVec 32) (k0_t5 : Fin k0_t5_loop.trips) (v428 : BitVec 32) (k0_hw29 : k0_chk29 i k0_t2 v80_0 k0_t5 v428), ∀ (k0_h2 : k0_cond2 i k0_t2 = 1#1), ∀ (k0_h4 : k0_cond4 v80_0 k0_t5 = 1#1), 16 ∣ (k0_mult9 v428).toNat := fun i k0_t2 v80_0 k0_t5 v428 k0_hw29 k0_h2 k0_h4 => k0_hw29.1 k0_h2 k0_h4
theorem k0_off22_inb : ∀ (i : grid0.Coords) (k0_t2 : Fin k0_t2_loop.trips) (v80_0 : BitVec 32) (k0_t5 : Fin k0_t5_loop.trips) (v428 : BitVec 32) (k0_hw29 : k0_chk29 i k0_t2 v80_0 k0_t5 v428), ∀ (k0_h2 : k0_cond2 i k0_t2 = 1#1), ∀ (k0_h4 : k0_cond4 v80_0 k0_t5 = 1#1), ∀ a, (k0_off22 v428) a + S16.size a ≤ S128.size a := fun i k0_t2 v80_0 k0_t5 v428 k0_hw29 k0_h2 k0_h4 => k0_hw29.2.1 k0_h2 k0_h4
theorem k0_off23_inb : ∀ (i : grid0.Coords) (k0_t2 : Fin k0_t2_loop.trips) (v80_0 : BitVec 32) (k0_t5 : Fin k0_t5_loop.trips) (v428 : BitVec 32) (k0_hw29 : k0_chk29 i k0_t2 v80_0 k0_t5 v428), ∀ (k0_h2 : k0_cond2 i k0_t2 = 1#1), ∀ (k0_h4 : k0_cond4 v80_0 k0_t5 = 1#1), ∀ a, (k0_off23 v428) a + S16.size a ≤ S128.size a := fun i k0_t2 v80_0 k0_t5 v428 k0_hw29 k0_h2 k0_h4 => k0_hw29.2.2.1 k0_h2 k0_h4
theorem k0_off24_inb : ∀ (i : grid0.Coords) (k0_t2 : Fin k0_t2_loop.trips) (v80_0 : BitVec 32) (k0_t5 : Fin k0_t5_loop.trips) (v428 : BitVec 32) (k0_hw29 : k0_chk29 i k0_t2 v80_0 k0_t5 v428), ∀ (k0_h2 : k0_cond2 i k0_t2 = 1#1), ∀ (k0_h4 : k0_cond4 v80_0 k0_t5 = 1#1), ∀ a, (k0_off24 v428) a + S16.size a ≤ S128.size a := fun i k0_t2 v80_0 k0_t5 v428 k0_hw29 k0_h2 k0_h4 => k0_hw29.2.2.2.1 k0_h2 k0_h4
theorem k0_off25_inb : ∀ (i : grid0.Coords) (k0_t2 : Fin k0_t2_loop.trips) (v80_0 : BitVec 32) (k0_t5 : Fin k0_t5_loop.trips) (v428 : BitVec 32) (k0_hw29 : k0_chk29 i k0_t2 v80_0 k0_t5 v428), ∀ (k0_h2 : k0_cond2 i k0_t2 = 1#1), ∀ (k0_h4 : k0_cond4 v80_0 k0_t5 = 1#1), ∀ a, (k0_off25 v428) a + S16.size a ≤ S128.size a := fun i k0_t2 v80_0 k0_t5 v428 k0_hw29 k0_h2 k0_h4 => k0_hw29.2.2.2.2 k0_h2 k0_h4

def k0_chk33 (i : grid0.Coords) (k0_t2 : Fin k0_t2_loop.trips) (v80_0 : BitVec 32) (k0_t5 : Fin k0_t5_loop.trips) (v464 : IVec S16 32) (v465 : IVec S16 32) : Prop :=
  (∀ (k0_h2 : k0_cond2 i k0_t2 = 1#1), ∀ (k0_h4 : k0_cond4 v80_0 k0_t5 = 1#1), ∀ a x, ((![v464, v465] : Fin 2 → IVec S16 32) a x).toNat < S64x512.size a)
theorem k0_idx30_inb : ∀ (i : grid0.Coords) (k0_t2 : Fin k0_t2_loop.trips) (v80_0 : BitVec 32) (k0_t5 : Fin k0_t5_loop.trips) (v464 : IVec S16 32) (v465 : IVec S16 32) (k0_hw33 : k0_chk33 i k0_t2 v80_0 k0_t5 v464 v465), ∀ (k0_h2 : k0_cond2 i k0_t2 = 1#1), ∀ (k0_h4 : k0_cond4 v80_0 k0_t5 = 1#1), ∀ a x, ((![v464, v465] : Fin 2 → IVec S16 32) a x).toNat < S64x512.size a := fun i k0_t2 v80_0 k0_t5 v464 v465 k0_hw33 k0_h2 k0_h4 => k0_hw33 k0_h2 k0_h4
def k0_mult10 (v467 : BitVec 32) : BitVec 32 :=
  let c1_i32_156 : BitVec 32 := 1#32
  let v468 : BitVec 32 := Scalar.andi v467 c1_i32_156
  let c64_i32_157 : BitVec 32 := 64#32
  let v469 : BitVec 32 := Scalar.muli v468 c64_i32_157
  v469

def k0_off26 (v467 : BitVec 32) : Fin 1 → Nat :=
  let c1_i32_156 : BitVec 32 := 1#32
  let v468 : BitVec 32 := Scalar.andi v467 c1_i32_156
  let c64_i32_157 : BitVec 32 := 64#32
  let v469 : BitVec 32 := Scalar.muli v468 c64_i32_157
  let v470 : BitVec 32 := v469
  let c0_i32_158 : BitVec 32 := 0#32
  let v473 : BitVec 32 := Scalar.addi v470 c0_i32_158
  let v476 : Index := Scalar.indexCast v473
  ![v476.toNat]

def k0_chk35 (i : grid0.Coords) (k0_t2 : Fin k0_t2_loop.trips) (v80_0 : BitVec 32) (k0_t5 : Fin k0_t5_loop.trips) (v479 : IVec S16 32) (v480 : IVec S16 32) : Prop :=
  (∀ (k0_h2 : k0_cond2 i k0_t2 = 1#1), ∀ (k0_h4 : k0_cond4 v80_0 k0_t5 = 1#1), ∀ a x, ((![v479, v480] : Fin 2 → IVec S16 32) a x).toNat < S64x512.size a)
theorem k0_idx31_inb : ∀ (i : grid0.Coords) (k0_t2 : Fin k0_t2_loop.trips) (v80_0 : BitVec 32) (k0_t5 : Fin k0_t5_loop.trips) (v479 : IVec S16 32) (v480 : IVec S16 32) (k0_hw35 : k0_chk35 i k0_t2 v80_0 k0_t5 v479 v480), ∀ (k0_h2 : k0_cond2 i k0_t2 = 1#1), ∀ (k0_h4 : k0_cond4 v80_0 k0_t5 = 1#1), ∀ a x, ((![v479, v480] : Fin 2 → IVec S16 32) a x).toNat < S64x512.size a := fun i k0_t2 v80_0 k0_t5 v479 v480 k0_hw35 k0_h2 k0_h4 => k0_hw35 k0_h2 k0_h4
def k0_off27 (v467 : BitVec 32) : Fin 1 → Nat :=
  let c1_i32_156 : BitVec 32 := 1#32
  let v468 : BitVec 32 := Scalar.andi v467 c1_i32_156
  let c64_i32_157 : BitVec 32 := 64#32
  let v469 : BitVec 32 := Scalar.muli v468 c64_i32_157
  let v470 : BitVec 32 := v469
  let c16_i32_161 : BitVec 32 := 16#32
  let v481 : BitVec 32 := Scalar.addi v470 c16_i32_161
  let v484 : Index := Scalar.indexCast v481
  ![v484.toNat]

def k0_chk36 (i : grid0.Coords) (k0_t2 : Fin k0_t2_loop.trips) (v80_0 : BitVec 32) (k0_t5 : Fin k0_t5_loop.trips) (v487 : IVec S16 32) (v488 : IVec S16 32) : Prop :=
  (∀ (k0_h2 : k0_cond2 i k0_t2 = 1#1), ∀ (k0_h4 : k0_cond4 v80_0 k0_t5 = 1#1), ∀ a x, ((![v487, v488] : Fin 2 → IVec S16 32) a x).toNat < S64x512.size a)
theorem k0_idx32_inb : ∀ (i : grid0.Coords) (k0_t2 : Fin k0_t2_loop.trips) (v80_0 : BitVec 32) (k0_t5 : Fin k0_t5_loop.trips) (v487 : IVec S16 32) (v488 : IVec S16 32) (k0_hw36 : k0_chk36 i k0_t2 v80_0 k0_t5 v487 v488), ∀ (k0_h2 : k0_cond2 i k0_t2 = 1#1), ∀ (k0_h4 : k0_cond4 v80_0 k0_t5 = 1#1), ∀ a x, ((![v487, v488] : Fin 2 → IVec S16 32) a x).toNat < S64x512.size a := fun i k0_t2 v80_0 k0_t5 v487 v488 k0_hw36 k0_h2 k0_h4 => k0_hw36 k0_h2 k0_h4
def k0_off28 (v467 : BitVec 32) : Fin 1 → Nat :=
  let c1_i32_156 : BitVec 32 := 1#32
  let v468 : BitVec 32 := Scalar.andi v467 c1_i32_156
  let c64_i32_157 : BitVec 32 := 64#32
  let v469 : BitVec 32 := Scalar.muli v468 c64_i32_157
  let v470 : BitVec 32 := v469
  let c32_i32_165 : BitVec 32 := 32#32
  let v489 : BitVec 32 := Scalar.addi v470 c32_i32_165
  let v492 : Index := Scalar.indexCast v489
  ![v492.toNat]

def k0_chk37 (i : grid0.Coords) (k0_t2 : Fin k0_t2_loop.trips) (v80_0 : BitVec 32) (k0_t5 : Fin k0_t5_loop.trips) (v495 : IVec S16 32) (v496 : IVec S16 32) : Prop :=
  (∀ (k0_h2 : k0_cond2 i k0_t2 = 1#1), ∀ (k0_h4 : k0_cond4 v80_0 k0_t5 = 1#1), ∀ a x, ((![v495, v496] : Fin 2 → IVec S16 32) a x).toNat < S64x512.size a)
theorem k0_idx33_inb : ∀ (i : grid0.Coords) (k0_t2 : Fin k0_t2_loop.trips) (v80_0 : BitVec 32) (k0_t5 : Fin k0_t5_loop.trips) (v495 : IVec S16 32) (v496 : IVec S16 32) (k0_hw37 : k0_chk37 i k0_t2 v80_0 k0_t5 v495 v496), ∀ (k0_h2 : k0_cond2 i k0_t2 = 1#1), ∀ (k0_h4 : k0_cond4 v80_0 k0_t5 = 1#1), ∀ a x, ((![v495, v496] : Fin 2 → IVec S16 32) a x).toNat < S64x512.size a := fun i k0_t2 v80_0 k0_t5 v495 v496 k0_hw37 k0_h2 k0_h4 => k0_hw37 k0_h2 k0_h4
def k0_off29 (v467 : BitVec 32) : Fin 1 → Nat :=
  let c1_i32_156 : BitVec 32 := 1#32
  let v468 : BitVec 32 := Scalar.andi v467 c1_i32_156
  let c64_i32_157 : BitVec 32 := 64#32
  let v469 : BitVec 32 := Scalar.muli v468 c64_i32_157
  let v470 : BitVec 32 := v469
  let c48_i32_169 : BitVec 32 := 48#32
  let v497 : BitVec 32 := Scalar.addi v470 c48_i32_169
  let v500 : Index := Scalar.indexCast v497
  ![v500.toNat]

def k0_chk34 (i : grid0.Coords) (k0_t2 : Fin k0_t2_loop.trips) (v80_0 : BitVec 32) (k0_t5 : Fin k0_t5_loop.trips) (v467 : BitVec 32) : Prop :=
  (∀ (k0_h2 : k0_cond2 i k0_t2 = 1#1), ∀ (k0_h4 : k0_cond4 v80_0 k0_t5 = 1#1), 16 ∣ (k0_mult10 v467).toNat) ∧
  (∀ (k0_h2 : k0_cond2 i k0_t2 = 1#1), ∀ (k0_h4 : k0_cond4 v80_0 k0_t5 = 1#1), ∀ a, (k0_off26 v467) a + S16.size a ≤ S128.size a) ∧
  (∀ (k0_h2 : k0_cond2 i k0_t2 = 1#1), ∀ (k0_h4 : k0_cond4 v80_0 k0_t5 = 1#1), ∀ a, (k0_off27 v467) a + S16.size a ≤ S128.size a) ∧
  (∀ (k0_h2 : k0_cond2 i k0_t2 = 1#1), ∀ (k0_h4 : k0_cond4 v80_0 k0_t5 = 1#1), ∀ a, (k0_off28 v467) a + S16.size a ≤ S128.size a) ∧
  (∀ (k0_h2 : k0_cond2 i k0_t2 = 1#1), ∀ (k0_h4 : k0_cond4 v80_0 k0_t5 = 1#1), ∀ a, (k0_off29 v467) a + S16.size a ≤ S128.size a)
theorem k0_mult10_dvd : ∀ (i : grid0.Coords) (k0_t2 : Fin k0_t2_loop.trips) (v80_0 : BitVec 32) (k0_t5 : Fin k0_t5_loop.trips) (v467 : BitVec 32) (k0_hw34 : k0_chk34 i k0_t2 v80_0 k0_t5 v467), ∀ (k0_h2 : k0_cond2 i k0_t2 = 1#1), ∀ (k0_h4 : k0_cond4 v80_0 k0_t5 = 1#1), 16 ∣ (k0_mult10 v467).toNat := fun i k0_t2 v80_0 k0_t5 v467 k0_hw34 k0_h2 k0_h4 => k0_hw34.1 k0_h2 k0_h4
theorem k0_off26_inb : ∀ (i : grid0.Coords) (k0_t2 : Fin k0_t2_loop.trips) (v80_0 : BitVec 32) (k0_t5 : Fin k0_t5_loop.trips) (v467 : BitVec 32) (k0_hw34 : k0_chk34 i k0_t2 v80_0 k0_t5 v467), ∀ (k0_h2 : k0_cond2 i k0_t2 = 1#1), ∀ (k0_h4 : k0_cond4 v80_0 k0_t5 = 1#1), ∀ a, (k0_off26 v467) a + S16.size a ≤ S128.size a := fun i k0_t2 v80_0 k0_t5 v467 k0_hw34 k0_h2 k0_h4 => k0_hw34.2.1 k0_h2 k0_h4
theorem k0_off27_inb : ∀ (i : grid0.Coords) (k0_t2 : Fin k0_t2_loop.trips) (v80_0 : BitVec 32) (k0_t5 : Fin k0_t5_loop.trips) (v467 : BitVec 32) (k0_hw34 : k0_chk34 i k0_t2 v80_0 k0_t5 v467), ∀ (k0_h2 : k0_cond2 i k0_t2 = 1#1), ∀ (k0_h4 : k0_cond4 v80_0 k0_t5 = 1#1), ∀ a, (k0_off27 v467) a + S16.size a ≤ S128.size a := fun i k0_t2 v80_0 k0_t5 v467 k0_hw34 k0_h2 k0_h4 => k0_hw34.2.2.1 k0_h2 k0_h4
theorem k0_off28_inb : ∀ (i : grid0.Coords) (k0_t2 : Fin k0_t2_loop.trips) (v80_0 : BitVec 32) (k0_t5 : Fin k0_t5_loop.trips) (v467 : BitVec 32) (k0_hw34 : k0_chk34 i k0_t2 v80_0 k0_t5 v467), ∀ (k0_h2 : k0_cond2 i k0_t2 = 1#1), ∀ (k0_h4 : k0_cond4 v80_0 k0_t5 = 1#1), ∀ a, (k0_off28 v467) a + S16.size a ≤ S128.size a := fun i k0_t2 v80_0 k0_t5 v467 k0_hw34 k0_h2 k0_h4 => k0_hw34.2.2.2.1 k0_h2 k0_h4
theorem k0_off29_inb : ∀ (i : grid0.Coords) (k0_t2 : Fin k0_t2_loop.trips) (v80_0 : BitVec 32) (k0_t5 : Fin k0_t5_loop.trips) (v467 : BitVec 32) (k0_hw34 : k0_chk34 i k0_t2 v80_0 k0_t5 v467), ∀ (k0_h2 : k0_cond2 i k0_t2 = 1#1), ∀ (k0_h4 : k0_cond4 v80_0 k0_t5 = 1#1), ∀ a, (k0_off29 v467) a + S16.size a ≤ S128.size a := fun i k0_t2 v80_0 k0_t5 v467 k0_hw34 k0_h2 k0_h4 => k0_hw34.2.2.2.2 k0_h2 k0_h4

def k0_chk38 (i : grid0.Coords) (k0_t2 : Fin k0_t2_loop.trips) (v80_0 : BitVec 32) (k0_t5 : Fin k0_t5_loop.trips) (v503 : IVec S16 32) (v504 : IVec S16 32) : Prop :=
  (∀ (k0_h2 : k0_cond2 i k0_t2 = 1#1), ∀ (k0_h4 : k0_cond4 v80_0 k0_t5 = 1#1), ∀ a x, ((![v503, v504] : Fin 2 → IVec S16 32) a x).toNat < S64x512.size a)
theorem k0_idx34_inb : ∀ (i : grid0.Coords) (k0_t2 : Fin k0_t2_loop.trips) (v80_0 : BitVec 32) (k0_t5 : Fin k0_t5_loop.trips) (v503 : IVec S16 32) (v504 : IVec S16 32) (k0_hw38 : k0_chk38 i k0_t2 v80_0 k0_t5 v503 v504), ∀ (k0_h2 : k0_cond2 i k0_t2 = 1#1), ∀ (k0_h4 : k0_cond4 v80_0 k0_t5 = 1#1), ∀ a x, ((![v503, v504] : Fin 2 → IVec S16 32) a x).toNat < S64x512.size a := fun i k0_t2 v80_0 k0_t5 v503 v504 k0_hw38 k0_h2 k0_h4 => k0_hw38 k0_h2 k0_h4
def k0_mult11 (v506 : BitVec 32) : BitVec 32 :=
  let c1_i32_173 : BitVec 32 := 1#32
  let v507 : BitVec 32 := Scalar.andi v506 c1_i32_173
  let c64_i32_174 : BitVec 32 := 64#32
  let v508 : BitVec 32 := Scalar.muli v507 c64_i32_174
  v508

def k0_off30 (v506 : BitVec 32) : Fin 1 → Nat :=
  let c1_i32_173 : BitVec 32 := 1#32
  let v507 : BitVec 32 := Scalar.andi v506 c1_i32_173
  let c64_i32_174 : BitVec 32 := 64#32
  let v508 : BitVec 32 := Scalar.muli v507 c64_i32_174
  let v509 : BitVec 32 := v508
  let c0_i32_175 : BitVec 32 := 0#32
  let v512 : BitVec 32 := Scalar.addi v509 c0_i32_175
  let v515 : Index := Scalar.indexCast v512
  ![v515.toNat]

def k0_chk40 (i : grid0.Coords) (k0_t2 : Fin k0_t2_loop.trips) (v80_0 : BitVec 32) (k0_t5 : Fin k0_t5_loop.trips) (v518 : IVec S16 32) (v519 : IVec S16 32) : Prop :=
  (∀ (k0_h2 : k0_cond2 i k0_t2 = 1#1), ∀ (k0_h4 : k0_cond4 v80_0 k0_t5 = 1#1), ∀ a x, ((![v518, v519] : Fin 2 → IVec S16 32) a x).toNat < S64x512.size a)
theorem k0_idx35_inb : ∀ (i : grid0.Coords) (k0_t2 : Fin k0_t2_loop.trips) (v80_0 : BitVec 32) (k0_t5 : Fin k0_t5_loop.trips) (v518 : IVec S16 32) (v519 : IVec S16 32) (k0_hw40 : k0_chk40 i k0_t2 v80_0 k0_t5 v518 v519), ∀ (k0_h2 : k0_cond2 i k0_t2 = 1#1), ∀ (k0_h4 : k0_cond4 v80_0 k0_t5 = 1#1), ∀ a x, ((![v518, v519] : Fin 2 → IVec S16 32) a x).toNat < S64x512.size a := fun i k0_t2 v80_0 k0_t5 v518 v519 k0_hw40 k0_h2 k0_h4 => k0_hw40 k0_h2 k0_h4
def k0_off31 (v506 : BitVec 32) : Fin 1 → Nat :=
  let c1_i32_173 : BitVec 32 := 1#32
  let v507 : BitVec 32 := Scalar.andi v506 c1_i32_173
  let c64_i32_174 : BitVec 32 := 64#32
  let v508 : BitVec 32 := Scalar.muli v507 c64_i32_174
  let v509 : BitVec 32 := v508
  let c16_i32_178 : BitVec 32 := 16#32
  let v520 : BitVec 32 := Scalar.addi v509 c16_i32_178
  let v523 : Index := Scalar.indexCast v520
  ![v523.toNat]

def k0_chk41 (i : grid0.Coords) (k0_t2 : Fin k0_t2_loop.trips) (v80_0 : BitVec 32) (k0_t5 : Fin k0_t5_loop.trips) (v526 : IVec S16 32) (v527 : IVec S16 32) : Prop :=
  (∀ (k0_h2 : k0_cond2 i k0_t2 = 1#1), ∀ (k0_h4 : k0_cond4 v80_0 k0_t5 = 1#1), ∀ a x, ((![v526, v527] : Fin 2 → IVec S16 32) a x).toNat < S64x512.size a)
theorem k0_idx36_inb : ∀ (i : grid0.Coords) (k0_t2 : Fin k0_t2_loop.trips) (v80_0 : BitVec 32) (k0_t5 : Fin k0_t5_loop.trips) (v526 : IVec S16 32) (v527 : IVec S16 32) (k0_hw41 : k0_chk41 i k0_t2 v80_0 k0_t5 v526 v527), ∀ (k0_h2 : k0_cond2 i k0_t2 = 1#1), ∀ (k0_h4 : k0_cond4 v80_0 k0_t5 = 1#1), ∀ a x, ((![v526, v527] : Fin 2 → IVec S16 32) a x).toNat < S64x512.size a := fun i k0_t2 v80_0 k0_t5 v526 v527 k0_hw41 k0_h2 k0_h4 => k0_hw41 k0_h2 k0_h4
def k0_off32 (v506 : BitVec 32) : Fin 1 → Nat :=
  let c1_i32_173 : BitVec 32 := 1#32
  let v507 : BitVec 32 := Scalar.andi v506 c1_i32_173
  let c64_i32_174 : BitVec 32 := 64#32
  let v508 : BitVec 32 := Scalar.muli v507 c64_i32_174
  let v509 : BitVec 32 := v508
  let c32_i32_182 : BitVec 32 := 32#32
  let v528 : BitVec 32 := Scalar.addi v509 c32_i32_182
  let v531 : Index := Scalar.indexCast v528
  ![v531.toNat]

def k0_chk42 (i : grid0.Coords) (k0_t2 : Fin k0_t2_loop.trips) (v80_0 : BitVec 32) (k0_t5 : Fin k0_t5_loop.trips) (v534 : IVec S16 32) (v535 : IVec S16 32) : Prop :=
  (∀ (k0_h2 : k0_cond2 i k0_t2 = 1#1), ∀ (k0_h4 : k0_cond4 v80_0 k0_t5 = 1#1), ∀ a x, ((![v534, v535] : Fin 2 → IVec S16 32) a x).toNat < S64x512.size a)
theorem k0_idx37_inb : ∀ (i : grid0.Coords) (k0_t2 : Fin k0_t2_loop.trips) (v80_0 : BitVec 32) (k0_t5 : Fin k0_t5_loop.trips) (v534 : IVec S16 32) (v535 : IVec S16 32) (k0_hw42 : k0_chk42 i k0_t2 v80_0 k0_t5 v534 v535), ∀ (k0_h2 : k0_cond2 i k0_t2 = 1#1), ∀ (k0_h4 : k0_cond4 v80_0 k0_t5 = 1#1), ∀ a x, ((![v534, v535] : Fin 2 → IVec S16 32) a x).toNat < S64x512.size a := fun i k0_t2 v80_0 k0_t5 v534 v535 k0_hw42 k0_h2 k0_h4 => k0_hw42 k0_h2 k0_h4
def k0_off33 (v506 : BitVec 32) : Fin 1 → Nat :=
  let c1_i32_173 : BitVec 32 := 1#32
  let v507 : BitVec 32 := Scalar.andi v506 c1_i32_173
  let c64_i32_174 : BitVec 32 := 64#32
  let v508 : BitVec 32 := Scalar.muli v507 c64_i32_174
  let v509 : BitVec 32 := v508
  let c48_i32_186 : BitVec 32 := 48#32
  let v536 : BitVec 32 := Scalar.addi v509 c48_i32_186
  let v539 : Index := Scalar.indexCast v536
  ![v539.toNat]

def k0_chk39 (i : grid0.Coords) (k0_t2 : Fin k0_t2_loop.trips) (v80_0 : BitVec 32) (k0_t5 : Fin k0_t5_loop.trips) (v506 : BitVec 32) : Prop :=
  (∀ (k0_h2 : k0_cond2 i k0_t2 = 1#1), ∀ (k0_h4 : k0_cond4 v80_0 k0_t5 = 1#1), 16 ∣ (k0_mult11 v506).toNat) ∧
  (∀ (k0_h2 : k0_cond2 i k0_t2 = 1#1), ∀ (k0_h4 : k0_cond4 v80_0 k0_t5 = 1#1), ∀ a, (k0_off30 v506) a + S16.size a ≤ S128.size a) ∧
  (∀ (k0_h2 : k0_cond2 i k0_t2 = 1#1), ∀ (k0_h4 : k0_cond4 v80_0 k0_t5 = 1#1), ∀ a, (k0_off31 v506) a + S16.size a ≤ S128.size a) ∧
  (∀ (k0_h2 : k0_cond2 i k0_t2 = 1#1), ∀ (k0_h4 : k0_cond4 v80_0 k0_t5 = 1#1), ∀ a, (k0_off32 v506) a + S16.size a ≤ S128.size a) ∧
  (∀ (k0_h2 : k0_cond2 i k0_t2 = 1#1), ∀ (k0_h4 : k0_cond4 v80_0 k0_t5 = 1#1), ∀ a, (k0_off33 v506) a + S16.size a ≤ S128.size a)
theorem k0_mult11_dvd : ∀ (i : grid0.Coords) (k0_t2 : Fin k0_t2_loop.trips) (v80_0 : BitVec 32) (k0_t5 : Fin k0_t5_loop.trips) (v506 : BitVec 32) (k0_hw39 : k0_chk39 i k0_t2 v80_0 k0_t5 v506), ∀ (k0_h2 : k0_cond2 i k0_t2 = 1#1), ∀ (k0_h4 : k0_cond4 v80_0 k0_t5 = 1#1), 16 ∣ (k0_mult11 v506).toNat := fun i k0_t2 v80_0 k0_t5 v506 k0_hw39 k0_h2 k0_h4 => k0_hw39.1 k0_h2 k0_h4
theorem k0_off30_inb : ∀ (i : grid0.Coords) (k0_t2 : Fin k0_t2_loop.trips) (v80_0 : BitVec 32) (k0_t5 : Fin k0_t5_loop.trips) (v506 : BitVec 32) (k0_hw39 : k0_chk39 i k0_t2 v80_0 k0_t5 v506), ∀ (k0_h2 : k0_cond2 i k0_t2 = 1#1), ∀ (k0_h4 : k0_cond4 v80_0 k0_t5 = 1#1), ∀ a, (k0_off30 v506) a + S16.size a ≤ S128.size a := fun i k0_t2 v80_0 k0_t5 v506 k0_hw39 k0_h2 k0_h4 => k0_hw39.2.1 k0_h2 k0_h4
theorem k0_off31_inb : ∀ (i : grid0.Coords) (k0_t2 : Fin k0_t2_loop.trips) (v80_0 : BitVec 32) (k0_t5 : Fin k0_t5_loop.trips) (v506 : BitVec 32) (k0_hw39 : k0_chk39 i k0_t2 v80_0 k0_t5 v506), ∀ (k0_h2 : k0_cond2 i k0_t2 = 1#1), ∀ (k0_h4 : k0_cond4 v80_0 k0_t5 = 1#1), ∀ a, (k0_off31 v506) a + S16.size a ≤ S128.size a := fun i k0_t2 v80_0 k0_t5 v506 k0_hw39 k0_h2 k0_h4 => k0_hw39.2.2.1 k0_h2 k0_h4
theorem k0_off32_inb : ∀ (i : grid0.Coords) (k0_t2 : Fin k0_t2_loop.trips) (v80_0 : BitVec 32) (k0_t5 : Fin k0_t5_loop.trips) (v506 : BitVec 32) (k0_hw39 : k0_chk39 i k0_t2 v80_0 k0_t5 v506), ∀ (k0_h2 : k0_cond2 i k0_t2 = 1#1), ∀ (k0_h4 : k0_cond4 v80_0 k0_t5 = 1#1), ∀ a, (k0_off32 v506) a + S16.size a ≤ S128.size a := fun i k0_t2 v80_0 k0_t5 v506 k0_hw39 k0_h2 k0_h4 => k0_hw39.2.2.2.1 k0_h2 k0_h4
theorem k0_off33_inb : ∀ (i : grid0.Coords) (k0_t2 : Fin k0_t2_loop.trips) (v80_0 : BitVec 32) (k0_t5 : Fin k0_t5_loop.trips) (v506 : BitVec 32) (k0_hw39 : k0_chk39 i k0_t2 v80_0 k0_t5 v506), ∀ (k0_h2 : k0_cond2 i k0_t2 = 1#1), ∀ (k0_h4 : k0_cond4 v80_0 k0_t5 = 1#1), ∀ a, (k0_off33 v506) a + S16.size a ≤ S128.size a := fun i k0_t2 v80_0 k0_t5 v506 k0_hw39 k0_h2 k0_h4 => k0_hw39.2.2.2.2 k0_h2 k0_h4

def k0_chk43 (i : grid0.Coords) (k0_t2 : Fin k0_t2_loop.trips) (v80_0 : BitVec 32) (k0_t5 : Fin k0_t5_loop.trips) (v542 : IVec S16 32) (v543 : IVec S16 32) : Prop :=
  (∀ (k0_h2 : k0_cond2 i k0_t2 = 1#1), ∀ (k0_h4 : k0_cond4 v80_0 k0_t5 = 1#1), ∀ a x, ((![v542, v543] : Fin 2 → IVec S16 32) a x).toNat < S64x512.size a)
theorem k0_idx38_inb : ∀ (i : grid0.Coords) (k0_t2 : Fin k0_t2_loop.trips) (v80_0 : BitVec 32) (k0_t5 : Fin k0_t5_loop.trips) (v542 : IVec S16 32) (v543 : IVec S16 32) (k0_hw43 : k0_chk43 i k0_t2 v80_0 k0_t5 v542 v543), ∀ (k0_h2 : k0_cond2 i k0_t2 = 1#1), ∀ (k0_h4 : k0_cond4 v80_0 k0_t5 = 1#1), ∀ a x, ((![v542, v543] : Fin 2 → IVec S16 32) a x).toNat < S64x512.size a := fun i k0_t2 v80_0 k0_t5 v542 v543 k0_hw43 k0_h2 k0_h4 => k0_hw43 k0_h2 k0_h4
def k0_mult12 (v545 : BitVec 32) : BitVec 32 :=
  let c1_i32_190 : BitVec 32 := 1#32
  let v546 : BitVec 32 := Scalar.andi v545 c1_i32_190
  let c64_i32_191 : BitVec 32 := 64#32
  let v547 : BitVec 32 := Scalar.muli v546 c64_i32_191
  v547

def k0_off34 (v545 : BitVec 32) : Fin 1 → Nat :=
  let c1_i32_190 : BitVec 32 := 1#32
  let v546 : BitVec 32 := Scalar.andi v545 c1_i32_190
  let c64_i32_191 : BitVec 32 := 64#32
  let v547 : BitVec 32 := Scalar.muli v546 c64_i32_191
  let v548 : BitVec 32 := v547
  let c0_i32_192 : BitVec 32 := 0#32
  let v551 : BitVec 32 := Scalar.addi v548 c0_i32_192
  let v554 : Index := Scalar.indexCast v551
  ![v554.toNat]

def k0_chk45 (i : grid0.Coords) (k0_t2 : Fin k0_t2_loop.trips) (v80_0 : BitVec 32) (k0_t5 : Fin k0_t5_loop.trips) (v557 : IVec S16 32) (v558 : IVec S16 32) : Prop :=
  (∀ (k0_h2 : k0_cond2 i k0_t2 = 1#1), ∀ (k0_h4 : k0_cond4 v80_0 k0_t5 = 1#1), ∀ a x, ((![v557, v558] : Fin 2 → IVec S16 32) a x).toNat < S64x512.size a)
theorem k0_idx39_inb : ∀ (i : grid0.Coords) (k0_t2 : Fin k0_t2_loop.trips) (v80_0 : BitVec 32) (k0_t5 : Fin k0_t5_loop.trips) (v557 : IVec S16 32) (v558 : IVec S16 32) (k0_hw45 : k0_chk45 i k0_t2 v80_0 k0_t5 v557 v558), ∀ (k0_h2 : k0_cond2 i k0_t2 = 1#1), ∀ (k0_h4 : k0_cond4 v80_0 k0_t5 = 1#1), ∀ a x, ((![v557, v558] : Fin 2 → IVec S16 32) a x).toNat < S64x512.size a := fun i k0_t2 v80_0 k0_t5 v557 v558 k0_hw45 k0_h2 k0_h4 => k0_hw45 k0_h2 k0_h4
def k0_off35 (v545 : BitVec 32) : Fin 1 → Nat :=
  let c1_i32_190 : BitVec 32 := 1#32
  let v546 : BitVec 32 := Scalar.andi v545 c1_i32_190
  let c64_i32_191 : BitVec 32 := 64#32
  let v547 : BitVec 32 := Scalar.muli v546 c64_i32_191
  let v548 : BitVec 32 := v547
  let c16_i32_195 : BitVec 32 := 16#32
  let v559 : BitVec 32 := Scalar.addi v548 c16_i32_195
  let v562 : Index := Scalar.indexCast v559
  ![v562.toNat]

def k0_chk46 (i : grid0.Coords) (k0_t2 : Fin k0_t2_loop.trips) (v80_0 : BitVec 32) (k0_t5 : Fin k0_t5_loop.trips) (v565 : IVec S16 32) (v566 : IVec S16 32) : Prop :=
  (∀ (k0_h2 : k0_cond2 i k0_t2 = 1#1), ∀ (k0_h4 : k0_cond4 v80_0 k0_t5 = 1#1), ∀ a x, ((![v565, v566] : Fin 2 → IVec S16 32) a x).toNat < S64x512.size a)
theorem k0_idx40_inb : ∀ (i : grid0.Coords) (k0_t2 : Fin k0_t2_loop.trips) (v80_0 : BitVec 32) (k0_t5 : Fin k0_t5_loop.trips) (v565 : IVec S16 32) (v566 : IVec S16 32) (k0_hw46 : k0_chk46 i k0_t2 v80_0 k0_t5 v565 v566), ∀ (k0_h2 : k0_cond2 i k0_t2 = 1#1), ∀ (k0_h4 : k0_cond4 v80_0 k0_t5 = 1#1), ∀ a x, ((![v565, v566] : Fin 2 → IVec S16 32) a x).toNat < S64x512.size a := fun i k0_t2 v80_0 k0_t5 v565 v566 k0_hw46 k0_h2 k0_h4 => k0_hw46 k0_h2 k0_h4
def k0_off36 (v545 : BitVec 32) : Fin 1 → Nat :=
  let c1_i32_190 : BitVec 32 := 1#32
  let v546 : BitVec 32 := Scalar.andi v545 c1_i32_190
  let c64_i32_191 : BitVec 32 := 64#32
  let v547 : BitVec 32 := Scalar.muli v546 c64_i32_191
  let v548 : BitVec 32 := v547
  let c32_i32_199 : BitVec 32 := 32#32
  let v567 : BitVec 32 := Scalar.addi v548 c32_i32_199
  let v570 : Index := Scalar.indexCast v567
  ![v570.toNat]

def k0_chk47 (i : grid0.Coords) (k0_t2 : Fin k0_t2_loop.trips) (v80_0 : BitVec 32) (k0_t5 : Fin k0_t5_loop.trips) (v573 : IVec S16 32) (v574 : IVec S16 32) : Prop :=
  (∀ (k0_h2 : k0_cond2 i k0_t2 = 1#1), ∀ (k0_h4 : k0_cond4 v80_0 k0_t5 = 1#1), ∀ a x, ((![v573, v574] : Fin 2 → IVec S16 32) a x).toNat < S64x512.size a)
theorem k0_idx41_inb : ∀ (i : grid0.Coords) (k0_t2 : Fin k0_t2_loop.trips) (v80_0 : BitVec 32) (k0_t5 : Fin k0_t5_loop.trips) (v573 : IVec S16 32) (v574 : IVec S16 32) (k0_hw47 : k0_chk47 i k0_t2 v80_0 k0_t5 v573 v574), ∀ (k0_h2 : k0_cond2 i k0_t2 = 1#1), ∀ (k0_h4 : k0_cond4 v80_0 k0_t5 = 1#1), ∀ a x, ((![v573, v574] : Fin 2 → IVec S16 32) a x).toNat < S64x512.size a := fun i k0_t2 v80_0 k0_t5 v573 v574 k0_hw47 k0_h2 k0_h4 => k0_hw47 k0_h2 k0_h4
def k0_off37 (v545 : BitVec 32) : Fin 1 → Nat :=
  let c1_i32_190 : BitVec 32 := 1#32
  let v546 : BitVec 32 := Scalar.andi v545 c1_i32_190
  let c64_i32_191 : BitVec 32 := 64#32
  let v547 : BitVec 32 := Scalar.muli v546 c64_i32_191
  let v548 : BitVec 32 := v547
  let c48_i32_203 : BitVec 32 := 48#32
  let v575 : BitVec 32 := Scalar.addi v548 c48_i32_203
  let v578 : Index := Scalar.indexCast v575
  ![v578.toNat]

def k0_chk44 (i : grid0.Coords) (k0_t2 : Fin k0_t2_loop.trips) (v80_0 : BitVec 32) (k0_t5 : Fin k0_t5_loop.trips) (v545 : BitVec 32) : Prop :=
  (∀ (k0_h2 : k0_cond2 i k0_t2 = 1#1), ∀ (k0_h4 : k0_cond4 v80_0 k0_t5 = 1#1), 16 ∣ (k0_mult12 v545).toNat) ∧
  (∀ (k0_h2 : k0_cond2 i k0_t2 = 1#1), ∀ (k0_h4 : k0_cond4 v80_0 k0_t5 = 1#1), ∀ a, (k0_off34 v545) a + S16.size a ≤ S128.size a) ∧
  (∀ (k0_h2 : k0_cond2 i k0_t2 = 1#1), ∀ (k0_h4 : k0_cond4 v80_0 k0_t5 = 1#1), ∀ a, (k0_off35 v545) a + S16.size a ≤ S128.size a) ∧
  (∀ (k0_h2 : k0_cond2 i k0_t2 = 1#1), ∀ (k0_h4 : k0_cond4 v80_0 k0_t5 = 1#1), ∀ a, (k0_off36 v545) a + S16.size a ≤ S128.size a) ∧
  (∀ (k0_h2 : k0_cond2 i k0_t2 = 1#1), ∀ (k0_h4 : k0_cond4 v80_0 k0_t5 = 1#1), ∀ a, (k0_off37 v545) a + S16.size a ≤ S128.size a)
theorem k0_mult12_dvd : ∀ (i : grid0.Coords) (k0_t2 : Fin k0_t2_loop.trips) (v80_0 : BitVec 32) (k0_t5 : Fin k0_t5_loop.trips) (v545 : BitVec 32) (k0_hw44 : k0_chk44 i k0_t2 v80_0 k0_t5 v545), ∀ (k0_h2 : k0_cond2 i k0_t2 = 1#1), ∀ (k0_h4 : k0_cond4 v80_0 k0_t5 = 1#1), 16 ∣ (k0_mult12 v545).toNat := fun i k0_t2 v80_0 k0_t5 v545 k0_hw44 k0_h2 k0_h4 => k0_hw44.1 k0_h2 k0_h4
theorem k0_off34_inb : ∀ (i : grid0.Coords) (k0_t2 : Fin k0_t2_loop.trips) (v80_0 : BitVec 32) (k0_t5 : Fin k0_t5_loop.trips) (v545 : BitVec 32) (k0_hw44 : k0_chk44 i k0_t2 v80_0 k0_t5 v545), ∀ (k0_h2 : k0_cond2 i k0_t2 = 1#1), ∀ (k0_h4 : k0_cond4 v80_0 k0_t5 = 1#1), ∀ a, (k0_off34 v545) a + S16.size a ≤ S128.size a := fun i k0_t2 v80_0 k0_t5 v545 k0_hw44 k0_h2 k0_h4 => k0_hw44.2.1 k0_h2 k0_h4
theorem k0_off35_inb : ∀ (i : grid0.Coords) (k0_t2 : Fin k0_t2_loop.trips) (v80_0 : BitVec 32) (k0_t5 : Fin k0_t5_loop.trips) (v545 : BitVec 32) (k0_hw44 : k0_chk44 i k0_t2 v80_0 k0_t5 v545), ∀ (k0_h2 : k0_cond2 i k0_t2 = 1#1), ∀ (k0_h4 : k0_cond4 v80_0 k0_t5 = 1#1), ∀ a, (k0_off35 v545) a + S16.size a ≤ S128.size a := fun i k0_t2 v80_0 k0_t5 v545 k0_hw44 k0_h2 k0_h4 => k0_hw44.2.2.1 k0_h2 k0_h4
theorem k0_off36_inb : ∀ (i : grid0.Coords) (k0_t2 : Fin k0_t2_loop.trips) (v80_0 : BitVec 32) (k0_t5 : Fin k0_t5_loop.trips) (v545 : BitVec 32) (k0_hw44 : k0_chk44 i k0_t2 v80_0 k0_t5 v545), ∀ (k0_h2 : k0_cond2 i k0_t2 = 1#1), ∀ (k0_h4 : k0_cond4 v80_0 k0_t5 = 1#1), ∀ a, (k0_off36 v545) a + S16.size a ≤ S128.size a := fun i k0_t2 v80_0 k0_t5 v545 k0_hw44 k0_h2 k0_h4 => k0_hw44.2.2.2.1 k0_h2 k0_h4
theorem k0_off37_inb : ∀ (i : grid0.Coords) (k0_t2 : Fin k0_t2_loop.trips) (v80_0 : BitVec 32) (k0_t5 : Fin k0_t5_loop.trips) (v545 : BitVec 32) (k0_hw44 : k0_chk44 i k0_t2 v80_0 k0_t5 v545), ∀ (k0_h2 : k0_cond2 i k0_t2 = 1#1), ∀ (k0_h4 : k0_cond4 v80_0 k0_t5 = 1#1), ∀ a, (k0_off37 v545) a + S16.size a ≤ S128.size a := fun i k0_t2 v80_0 k0_t5 v545 k0_hw44 k0_h2 k0_h4 => k0_hw44.2.2.2.2 k0_h2 k0_h4

def k0_chk48 (i : grid0.Coords) (k0_t2 : Fin k0_t2_loop.trips) (v80_0 : BitVec 32) (k0_t5 : Fin k0_t5_loop.trips) (v581 : IVec S16 32) (v582 : IVec S16 32) : Prop :=
  (∀ (k0_h2 : k0_cond2 i k0_t2 = 1#1), ∀ (k0_h4 : k0_cond4 v80_0 k0_t5 = 1#1), ∀ a x, ((![v581, v582] : Fin 2 → IVec S16 32) a x).toNat < S64x512.size a)
theorem k0_idx42_inb : ∀ (i : grid0.Coords) (k0_t2 : Fin k0_t2_loop.trips) (v80_0 : BitVec 32) (k0_t5 : Fin k0_t5_loop.trips) (v581 : IVec S16 32) (v582 : IVec S16 32) (k0_hw48 : k0_chk48 i k0_t2 v80_0 k0_t5 v581 v582), ∀ (k0_h2 : k0_cond2 i k0_t2 = 1#1), ∀ (k0_h4 : k0_cond4 v80_0 k0_t5 = 1#1), ∀ a x, ((![v581, v582] : Fin 2 → IVec S16 32) a x).toNat < S64x512.size a := fun i k0_t2 v80_0 k0_t5 v581 v582 k0_hw48 k0_h2 k0_h4 => k0_hw48 k0_h2 k0_h4
def k0_mult13 (v584 : BitVec 32) : BitVec 32 :=
  let c1_i32_207 : BitVec 32 := 1#32
  let v585 : BitVec 32 := Scalar.andi v584 c1_i32_207
  let c64_i32_208 : BitVec 32 := 64#32
  let v586 : BitVec 32 := Scalar.muli v585 c64_i32_208
  v586

def k0_off38 (v584 : BitVec 32) : Fin 1 → Nat :=
  let c1_i32_207 : BitVec 32 := 1#32
  let v585 : BitVec 32 := Scalar.andi v584 c1_i32_207
  let c64_i32_208 : BitVec 32 := 64#32
  let v586 : BitVec 32 := Scalar.muli v585 c64_i32_208
  let v587 : BitVec 32 := v586
  let c0_i32_209 : BitVec 32 := 0#32
  let v590 : BitVec 32 := Scalar.addi v587 c0_i32_209
  let v593 : Index := Scalar.indexCast v590
  ![v593.toNat]

def k0_chk50 (i : grid0.Coords) (k0_t2 : Fin k0_t2_loop.trips) (v80_0 : BitVec 32) (k0_t5 : Fin k0_t5_loop.trips) (v596 : IVec S16 32) (v597 : IVec S16 32) : Prop :=
  (∀ (k0_h2 : k0_cond2 i k0_t2 = 1#1), ∀ (k0_h4 : k0_cond4 v80_0 k0_t5 = 1#1), ∀ a x, ((![v596, v597] : Fin 2 → IVec S16 32) a x).toNat < S64x512.size a)
theorem k0_idx43_inb : ∀ (i : grid0.Coords) (k0_t2 : Fin k0_t2_loop.trips) (v80_0 : BitVec 32) (k0_t5 : Fin k0_t5_loop.trips) (v596 : IVec S16 32) (v597 : IVec S16 32) (k0_hw50 : k0_chk50 i k0_t2 v80_0 k0_t5 v596 v597), ∀ (k0_h2 : k0_cond2 i k0_t2 = 1#1), ∀ (k0_h4 : k0_cond4 v80_0 k0_t5 = 1#1), ∀ a x, ((![v596, v597] : Fin 2 → IVec S16 32) a x).toNat < S64x512.size a := fun i k0_t2 v80_0 k0_t5 v596 v597 k0_hw50 k0_h2 k0_h4 => k0_hw50 k0_h2 k0_h4
def k0_off39 (v584 : BitVec 32) : Fin 1 → Nat :=
  let c1_i32_207 : BitVec 32 := 1#32
  let v585 : BitVec 32 := Scalar.andi v584 c1_i32_207
  let c64_i32_208 : BitVec 32 := 64#32
  let v586 : BitVec 32 := Scalar.muli v585 c64_i32_208
  let v587 : BitVec 32 := v586
  let c16_i32_212 : BitVec 32 := 16#32
  let v598 : BitVec 32 := Scalar.addi v587 c16_i32_212
  let v601 : Index := Scalar.indexCast v598
  ![v601.toNat]

def k0_chk51 (i : grid0.Coords) (k0_t2 : Fin k0_t2_loop.trips) (v80_0 : BitVec 32) (k0_t5 : Fin k0_t5_loop.trips) (v604 : IVec S16 32) (v605 : IVec S16 32) : Prop :=
  (∀ (k0_h2 : k0_cond2 i k0_t2 = 1#1), ∀ (k0_h4 : k0_cond4 v80_0 k0_t5 = 1#1), ∀ a x, ((![v604, v605] : Fin 2 → IVec S16 32) a x).toNat < S64x512.size a)
theorem k0_idx44_inb : ∀ (i : grid0.Coords) (k0_t2 : Fin k0_t2_loop.trips) (v80_0 : BitVec 32) (k0_t5 : Fin k0_t5_loop.trips) (v604 : IVec S16 32) (v605 : IVec S16 32) (k0_hw51 : k0_chk51 i k0_t2 v80_0 k0_t5 v604 v605), ∀ (k0_h2 : k0_cond2 i k0_t2 = 1#1), ∀ (k0_h4 : k0_cond4 v80_0 k0_t5 = 1#1), ∀ a x, ((![v604, v605] : Fin 2 → IVec S16 32) a x).toNat < S64x512.size a := fun i k0_t2 v80_0 k0_t5 v604 v605 k0_hw51 k0_h2 k0_h4 => k0_hw51 k0_h2 k0_h4
def k0_off40 (v584 : BitVec 32) : Fin 1 → Nat :=
  let c1_i32_207 : BitVec 32 := 1#32
  let v585 : BitVec 32 := Scalar.andi v584 c1_i32_207
  let c64_i32_208 : BitVec 32 := 64#32
  let v586 : BitVec 32 := Scalar.muli v585 c64_i32_208
  let v587 : BitVec 32 := v586
  let c32_i32_216 : BitVec 32 := 32#32
  let v606 : BitVec 32 := Scalar.addi v587 c32_i32_216
  let v609 : Index := Scalar.indexCast v606
  ![v609.toNat]

def k0_chk52 (i : grid0.Coords) (k0_t2 : Fin k0_t2_loop.trips) (v80_0 : BitVec 32) (k0_t5 : Fin k0_t5_loop.trips) (v612 : IVec S16 32) (v613 : IVec S16 32) : Prop :=
  (∀ (k0_h2 : k0_cond2 i k0_t2 = 1#1), ∀ (k0_h4 : k0_cond4 v80_0 k0_t5 = 1#1), ∀ a x, ((![v612, v613] : Fin 2 → IVec S16 32) a x).toNat < S64x512.size a)
theorem k0_idx45_inb : ∀ (i : grid0.Coords) (k0_t2 : Fin k0_t2_loop.trips) (v80_0 : BitVec 32) (k0_t5 : Fin k0_t5_loop.trips) (v612 : IVec S16 32) (v613 : IVec S16 32) (k0_hw52 : k0_chk52 i k0_t2 v80_0 k0_t5 v612 v613), ∀ (k0_h2 : k0_cond2 i k0_t2 = 1#1), ∀ (k0_h4 : k0_cond4 v80_0 k0_t5 = 1#1), ∀ a x, ((![v612, v613] : Fin 2 → IVec S16 32) a x).toNat < S64x512.size a := fun i k0_t2 v80_0 k0_t5 v612 v613 k0_hw52 k0_h2 k0_h4 => k0_hw52 k0_h2 k0_h4
def k0_off41 (v584 : BitVec 32) : Fin 1 → Nat :=
  let c1_i32_207 : BitVec 32 := 1#32
  let v585 : BitVec 32 := Scalar.andi v584 c1_i32_207
  let c64_i32_208 : BitVec 32 := 64#32
  let v586 : BitVec 32 := Scalar.muli v585 c64_i32_208
  let v587 : BitVec 32 := v586
  let c48_i32_220 : BitVec 32 := 48#32
  let v614 : BitVec 32 := Scalar.addi v587 c48_i32_220
  let v617 : Index := Scalar.indexCast v614
  ![v617.toNat]

def k0_chk49 (i : grid0.Coords) (k0_t2 : Fin k0_t2_loop.trips) (v80_0 : BitVec 32) (k0_t5 : Fin k0_t5_loop.trips) (v584 : BitVec 32) : Prop :=
  (∀ (k0_h2 : k0_cond2 i k0_t2 = 1#1), ∀ (k0_h4 : k0_cond4 v80_0 k0_t5 = 1#1), 16 ∣ (k0_mult13 v584).toNat) ∧
  (∀ (k0_h2 : k0_cond2 i k0_t2 = 1#1), ∀ (k0_h4 : k0_cond4 v80_0 k0_t5 = 1#1), ∀ a, (k0_off38 v584) a + S16.size a ≤ S128.size a) ∧
  (∀ (k0_h2 : k0_cond2 i k0_t2 = 1#1), ∀ (k0_h4 : k0_cond4 v80_0 k0_t5 = 1#1), ∀ a, (k0_off39 v584) a + S16.size a ≤ S128.size a) ∧
  (∀ (k0_h2 : k0_cond2 i k0_t2 = 1#1), ∀ (k0_h4 : k0_cond4 v80_0 k0_t5 = 1#1), ∀ a, (k0_off40 v584) a + S16.size a ≤ S128.size a) ∧
  (∀ (k0_h2 : k0_cond2 i k0_t2 = 1#1), ∀ (k0_h4 : k0_cond4 v80_0 k0_t5 = 1#1), ∀ a, (k0_off41 v584) a + S16.size a ≤ S128.size a)
theorem k0_mult13_dvd : ∀ (i : grid0.Coords) (k0_t2 : Fin k0_t2_loop.trips) (v80_0 : BitVec 32) (k0_t5 : Fin k0_t5_loop.trips) (v584 : BitVec 32) (k0_hw49 : k0_chk49 i k0_t2 v80_0 k0_t5 v584), ∀ (k0_h2 : k0_cond2 i k0_t2 = 1#1), ∀ (k0_h4 : k0_cond4 v80_0 k0_t5 = 1#1), 16 ∣ (k0_mult13 v584).toNat := fun i k0_t2 v80_0 k0_t5 v584 k0_hw49 k0_h2 k0_h4 => k0_hw49.1 k0_h2 k0_h4
theorem k0_off38_inb : ∀ (i : grid0.Coords) (k0_t2 : Fin k0_t2_loop.trips) (v80_0 : BitVec 32) (k0_t5 : Fin k0_t5_loop.trips) (v584 : BitVec 32) (k0_hw49 : k0_chk49 i k0_t2 v80_0 k0_t5 v584), ∀ (k0_h2 : k0_cond2 i k0_t2 = 1#1), ∀ (k0_h4 : k0_cond4 v80_0 k0_t5 = 1#1), ∀ a, (k0_off38 v584) a + S16.size a ≤ S128.size a := fun i k0_t2 v80_0 k0_t5 v584 k0_hw49 k0_h2 k0_h4 => k0_hw49.2.1 k0_h2 k0_h4
theorem k0_off39_inb : ∀ (i : grid0.Coords) (k0_t2 : Fin k0_t2_loop.trips) (v80_0 : BitVec 32) (k0_t5 : Fin k0_t5_loop.trips) (v584 : BitVec 32) (k0_hw49 : k0_chk49 i k0_t2 v80_0 k0_t5 v584), ∀ (k0_h2 : k0_cond2 i k0_t2 = 1#1), ∀ (k0_h4 : k0_cond4 v80_0 k0_t5 = 1#1), ∀ a, (k0_off39 v584) a + S16.size a ≤ S128.size a := fun i k0_t2 v80_0 k0_t5 v584 k0_hw49 k0_h2 k0_h4 => k0_hw49.2.2.1 k0_h2 k0_h4
theorem k0_off40_inb : ∀ (i : grid0.Coords) (k0_t2 : Fin k0_t2_loop.trips) (v80_0 : BitVec 32) (k0_t5 : Fin k0_t5_loop.trips) (v584 : BitVec 32) (k0_hw49 : k0_chk49 i k0_t2 v80_0 k0_t5 v584), ∀ (k0_h2 : k0_cond2 i k0_t2 = 1#1), ∀ (k0_h4 : k0_cond4 v80_0 k0_t5 = 1#1), ∀ a, (k0_off40 v584) a + S16.size a ≤ S128.size a := fun i k0_t2 v80_0 k0_t5 v584 k0_hw49 k0_h2 k0_h4 => k0_hw49.2.2.2.1 k0_h2 k0_h4
theorem k0_off41_inb : ∀ (i : grid0.Coords) (k0_t2 : Fin k0_t2_loop.trips) (v80_0 : BitVec 32) (k0_t5 : Fin k0_t5_loop.trips) (v584 : BitVec 32) (k0_hw49 : k0_chk49 i k0_t2 v80_0 k0_t5 v584), ∀ (k0_h2 : k0_cond2 i k0_t2 = 1#1), ∀ (k0_h4 : k0_cond4 v80_0 k0_t5 = 1#1), ∀ a, (k0_off41 v584) a + S16.size a ≤ S128.size a := fun i k0_t2 v80_0 k0_t5 v584 k0_hw49 k0_h2 k0_h4 => k0_hw49.2.2.2.2 k0_h2 k0_h4

def k0_chk53 (i : grid0.Coords) (k0_t2 : Fin k0_t2_loop.trips) (v80_0 : BitVec 32) (k0_t5 : Fin k0_t5_loop.trips) (v620 : IVec S16 32) (v621 : IVec S16 32) : Prop :=
  (∀ (k0_h2 : k0_cond2 i k0_t2 = 1#1), ∀ (k0_h4 : k0_cond4 v80_0 k0_t5 = 1#1), ∀ a x, ((![v620, v621] : Fin 2 → IVec S16 32) a x).toNat < S64x512.size a)
theorem k0_idx46_inb : ∀ (i : grid0.Coords) (k0_t2 : Fin k0_t2_loop.trips) (v80_0 : BitVec 32) (k0_t5 : Fin k0_t5_loop.trips) (v620 : IVec S16 32) (v621 : IVec S16 32) (k0_hw53 : k0_chk53 i k0_t2 v80_0 k0_t5 v620 v621), ∀ (k0_h2 : k0_cond2 i k0_t2 = 1#1), ∀ (k0_h4 : k0_cond4 v80_0 k0_t5 = 1#1), ∀ a x, ((![v620, v621] : Fin 2 → IVec S16 32) a x).toNat < S64x512.size a := fun i k0_t2 v80_0 k0_t5 v620 v621 k0_hw53 k0_h2 k0_h4 => k0_hw53 k0_h2 k0_h4
def k0_mult14 (v623 : BitVec 32) : BitVec 32 :=
  let c1_i32_224 : BitVec 32 := 1#32
  let v624 : BitVec 32 := Scalar.andi v623 c1_i32_224
  let c64_i32_225 : BitVec 32 := 64#32
  let v625 : BitVec 32 := Scalar.muli v624 c64_i32_225
  v625

def k0_off42 (v623 : BitVec 32) : Fin 1 → Nat :=
  let c1_i32_224 : BitVec 32 := 1#32
  let v624 : BitVec 32 := Scalar.andi v623 c1_i32_224
  let c64_i32_225 : BitVec 32 := 64#32
  let v625 : BitVec 32 := Scalar.muli v624 c64_i32_225
  let v626 : BitVec 32 := v625
  let c0_i32_226 : BitVec 32 := 0#32
  let v629 : BitVec 32 := Scalar.addi v626 c0_i32_226
  let v632 : Index := Scalar.indexCast v629
  ![v632.toNat]

def k0_chk55 (i : grid0.Coords) (k0_t2 : Fin k0_t2_loop.trips) (v80_0 : BitVec 32) (k0_t5 : Fin k0_t5_loop.trips) (v635 : IVec S16 32) (v636 : IVec S16 32) : Prop :=
  (∀ (k0_h2 : k0_cond2 i k0_t2 = 1#1), ∀ (k0_h4 : k0_cond4 v80_0 k0_t5 = 1#1), ∀ a x, ((![v635, v636] : Fin 2 → IVec S16 32) a x).toNat < S64x512.size a)
theorem k0_idx47_inb : ∀ (i : grid0.Coords) (k0_t2 : Fin k0_t2_loop.trips) (v80_0 : BitVec 32) (k0_t5 : Fin k0_t5_loop.trips) (v635 : IVec S16 32) (v636 : IVec S16 32) (k0_hw55 : k0_chk55 i k0_t2 v80_0 k0_t5 v635 v636), ∀ (k0_h2 : k0_cond2 i k0_t2 = 1#1), ∀ (k0_h4 : k0_cond4 v80_0 k0_t5 = 1#1), ∀ a x, ((![v635, v636] : Fin 2 → IVec S16 32) a x).toNat < S64x512.size a := fun i k0_t2 v80_0 k0_t5 v635 v636 k0_hw55 k0_h2 k0_h4 => k0_hw55 k0_h2 k0_h4
def k0_off43 (v623 : BitVec 32) : Fin 1 → Nat :=
  let c1_i32_224 : BitVec 32 := 1#32
  let v624 : BitVec 32 := Scalar.andi v623 c1_i32_224
  let c64_i32_225 : BitVec 32 := 64#32
  let v625 : BitVec 32 := Scalar.muli v624 c64_i32_225
  let v626 : BitVec 32 := v625
  let c16_i32_229 : BitVec 32 := 16#32
  let v637 : BitVec 32 := Scalar.addi v626 c16_i32_229
  let v640 : Index := Scalar.indexCast v637
  ![v640.toNat]

def k0_chk56 (i : grid0.Coords) (k0_t2 : Fin k0_t2_loop.trips) (v80_0 : BitVec 32) (k0_t5 : Fin k0_t5_loop.trips) (v643 : IVec S16 32) (v644 : IVec S16 32) : Prop :=
  (∀ (k0_h2 : k0_cond2 i k0_t2 = 1#1), ∀ (k0_h4 : k0_cond4 v80_0 k0_t5 = 1#1), ∀ a x, ((![v643, v644] : Fin 2 → IVec S16 32) a x).toNat < S64x512.size a)
theorem k0_idx48_inb : ∀ (i : grid0.Coords) (k0_t2 : Fin k0_t2_loop.trips) (v80_0 : BitVec 32) (k0_t5 : Fin k0_t5_loop.trips) (v643 : IVec S16 32) (v644 : IVec S16 32) (k0_hw56 : k0_chk56 i k0_t2 v80_0 k0_t5 v643 v644), ∀ (k0_h2 : k0_cond2 i k0_t2 = 1#1), ∀ (k0_h4 : k0_cond4 v80_0 k0_t5 = 1#1), ∀ a x, ((![v643, v644] : Fin 2 → IVec S16 32) a x).toNat < S64x512.size a := fun i k0_t2 v80_0 k0_t5 v643 v644 k0_hw56 k0_h2 k0_h4 => k0_hw56 k0_h2 k0_h4
def k0_off44 (v623 : BitVec 32) : Fin 1 → Nat :=
  let c1_i32_224 : BitVec 32 := 1#32
  let v624 : BitVec 32 := Scalar.andi v623 c1_i32_224
  let c64_i32_225 : BitVec 32 := 64#32
  let v625 : BitVec 32 := Scalar.muli v624 c64_i32_225
  let v626 : BitVec 32 := v625
  let c32_i32_233 : BitVec 32 := 32#32
  let v645 : BitVec 32 := Scalar.addi v626 c32_i32_233
  let v648 : Index := Scalar.indexCast v645
  ![v648.toNat]

def k0_chk57 (i : grid0.Coords) (k0_t2 : Fin k0_t2_loop.trips) (v80_0 : BitVec 32) (k0_t5 : Fin k0_t5_loop.trips) (v651 : IVec S16 32) (v652 : IVec S16 32) : Prop :=
  (∀ (k0_h2 : k0_cond2 i k0_t2 = 1#1), ∀ (k0_h4 : k0_cond4 v80_0 k0_t5 = 1#1), ∀ a x, ((![v651, v652] : Fin 2 → IVec S16 32) a x).toNat < S64x512.size a)
theorem k0_idx49_inb : ∀ (i : grid0.Coords) (k0_t2 : Fin k0_t2_loop.trips) (v80_0 : BitVec 32) (k0_t5 : Fin k0_t5_loop.trips) (v651 : IVec S16 32) (v652 : IVec S16 32) (k0_hw57 : k0_chk57 i k0_t2 v80_0 k0_t5 v651 v652), ∀ (k0_h2 : k0_cond2 i k0_t2 = 1#1), ∀ (k0_h4 : k0_cond4 v80_0 k0_t5 = 1#1), ∀ a x, ((![v651, v652] : Fin 2 → IVec S16 32) a x).toNat < S64x512.size a := fun i k0_t2 v80_0 k0_t5 v651 v652 k0_hw57 k0_h2 k0_h4 => k0_hw57 k0_h2 k0_h4
def k0_off45 (v623 : BitVec 32) : Fin 1 → Nat :=
  let c1_i32_224 : BitVec 32 := 1#32
  let v624 : BitVec 32 := Scalar.andi v623 c1_i32_224
  let c64_i32_225 : BitVec 32 := 64#32
  let v625 : BitVec 32 := Scalar.muli v624 c64_i32_225
  let v626 : BitVec 32 := v625
  let c48_i32_237 : BitVec 32 := 48#32
  let v653 : BitVec 32 := Scalar.addi v626 c48_i32_237
  let v656 : Index := Scalar.indexCast v653
  ![v656.toNat]

def k0_chk54 (i : grid0.Coords) (k0_t2 : Fin k0_t2_loop.trips) (v80_0 : BitVec 32) (k0_t5 : Fin k0_t5_loop.trips) (v623 : BitVec 32) : Prop :=
  (∀ (k0_h2 : k0_cond2 i k0_t2 = 1#1), ∀ (k0_h4 : k0_cond4 v80_0 k0_t5 = 1#1), 16 ∣ (k0_mult14 v623).toNat) ∧
  (∀ (k0_h2 : k0_cond2 i k0_t2 = 1#1), ∀ (k0_h4 : k0_cond4 v80_0 k0_t5 = 1#1), ∀ a, (k0_off42 v623) a + S16.size a ≤ S128.size a) ∧
  (∀ (k0_h2 : k0_cond2 i k0_t2 = 1#1), ∀ (k0_h4 : k0_cond4 v80_0 k0_t5 = 1#1), ∀ a, (k0_off43 v623) a + S16.size a ≤ S128.size a) ∧
  (∀ (k0_h2 : k0_cond2 i k0_t2 = 1#1), ∀ (k0_h4 : k0_cond4 v80_0 k0_t5 = 1#1), ∀ a, (k0_off44 v623) a + S16.size a ≤ S128.size a) ∧
  (∀ (k0_h2 : k0_cond2 i k0_t2 = 1#1), ∀ (k0_h4 : k0_cond4 v80_0 k0_t5 = 1#1), ∀ a, (k0_off45 v623) a + S16.size a ≤ S128.size a)
theorem k0_mult14_dvd : ∀ (i : grid0.Coords) (k0_t2 : Fin k0_t2_loop.trips) (v80_0 : BitVec 32) (k0_t5 : Fin k0_t5_loop.trips) (v623 : BitVec 32) (k0_hw54 : k0_chk54 i k0_t2 v80_0 k0_t5 v623), ∀ (k0_h2 : k0_cond2 i k0_t2 = 1#1), ∀ (k0_h4 : k0_cond4 v80_0 k0_t5 = 1#1), 16 ∣ (k0_mult14 v623).toNat := fun i k0_t2 v80_0 k0_t5 v623 k0_hw54 k0_h2 k0_h4 => k0_hw54.1 k0_h2 k0_h4
theorem k0_off42_inb : ∀ (i : grid0.Coords) (k0_t2 : Fin k0_t2_loop.trips) (v80_0 : BitVec 32) (k0_t5 : Fin k0_t5_loop.trips) (v623 : BitVec 32) (k0_hw54 : k0_chk54 i k0_t2 v80_0 k0_t5 v623), ∀ (k0_h2 : k0_cond2 i k0_t2 = 1#1), ∀ (k0_h4 : k0_cond4 v80_0 k0_t5 = 1#1), ∀ a, (k0_off42 v623) a + S16.size a ≤ S128.size a := fun i k0_t2 v80_0 k0_t5 v623 k0_hw54 k0_h2 k0_h4 => k0_hw54.2.1 k0_h2 k0_h4
theorem k0_off43_inb : ∀ (i : grid0.Coords) (k0_t2 : Fin k0_t2_loop.trips) (v80_0 : BitVec 32) (k0_t5 : Fin k0_t5_loop.trips) (v623 : BitVec 32) (k0_hw54 : k0_chk54 i k0_t2 v80_0 k0_t5 v623), ∀ (k0_h2 : k0_cond2 i k0_t2 = 1#1), ∀ (k0_h4 : k0_cond4 v80_0 k0_t5 = 1#1), ∀ a, (k0_off43 v623) a + S16.size a ≤ S128.size a := fun i k0_t2 v80_0 k0_t5 v623 k0_hw54 k0_h2 k0_h4 => k0_hw54.2.2.1 k0_h2 k0_h4
theorem k0_off44_inb : ∀ (i : grid0.Coords) (k0_t2 : Fin k0_t2_loop.trips) (v80_0 : BitVec 32) (k0_t5 : Fin k0_t5_loop.trips) (v623 : BitVec 32) (k0_hw54 : k0_chk54 i k0_t2 v80_0 k0_t5 v623), ∀ (k0_h2 : k0_cond2 i k0_t2 = 1#1), ∀ (k0_h4 : k0_cond4 v80_0 k0_t5 = 1#1), ∀ a, (k0_off44 v623) a + S16.size a ≤ S128.size a := fun i k0_t2 v80_0 k0_t5 v623 k0_hw54 k0_h2 k0_h4 => k0_hw54.2.2.2.1 k0_h2 k0_h4
theorem k0_off45_inb : ∀ (i : grid0.Coords) (k0_t2 : Fin k0_t2_loop.trips) (v80_0 : BitVec 32) (k0_t5 : Fin k0_t5_loop.trips) (v623 : BitVec 32) (k0_hw54 : k0_chk54 i k0_t2 v80_0 k0_t5 v623), ∀ (k0_h2 : k0_cond2 i k0_t2 = 1#1), ∀ (k0_h4 : k0_cond4 v80_0 k0_t5 = 1#1), ∀ a, (k0_off45 v623) a + S16.size a ≤ S128.size a := fun i k0_t2 v80_0 k0_t5 v623 k0_hw54 k0_h2 k0_h4 => k0_hw54.2.2.2.2 k0_h2 k0_h4

def k0_chk58 (i : grid0.Coords) (k0_t2 : Fin k0_t2_loop.trips) (v80_0 : BitVec 32) (k0_t5 : Fin k0_t5_loop.trips) (v659 : IVec S16 32) (v660 : IVec S16 32) : Prop :=
  (∀ (k0_h2 : k0_cond2 i k0_t2 = 1#1), ∀ (k0_h4 : k0_cond4 v80_0 k0_t5 = 1#1), ∀ a x, ((![v659, v660] : Fin 2 → IVec S16 32) a x).toNat < S64x512.size a)
theorem k0_idx50_inb : ∀ (i : grid0.Coords) (k0_t2 : Fin k0_t2_loop.trips) (v80_0 : BitVec 32) (k0_t5 : Fin k0_t5_loop.trips) (v659 : IVec S16 32) (v660 : IVec S16 32) (k0_hw58 : k0_chk58 i k0_t2 v80_0 k0_t5 v659 v660), ∀ (k0_h2 : k0_cond2 i k0_t2 = 1#1), ∀ (k0_h4 : k0_cond4 v80_0 k0_t5 = 1#1), ∀ a x, ((![v659, v660] : Fin 2 → IVec S16 32) a x).toNat < S64x512.size a := fun i k0_t2 v80_0 k0_t5 v659 v660 k0_hw58 k0_h2 k0_h4 => k0_hw58 k0_h2 k0_h4
def k0_mult15 (v662 : BitVec 32) : BitVec 32 :=
  let c1_i32_241 : BitVec 32 := 1#32
  let v663 : BitVec 32 := Scalar.andi v662 c1_i32_241
  let c64_i32_242 : BitVec 32 := 64#32
  let v664 : BitVec 32 := Scalar.muli v663 c64_i32_242
  v664

def k0_off46 (v662 : BitVec 32) : Fin 1 → Nat :=
  let c1_i32_241 : BitVec 32 := 1#32
  let v663 : BitVec 32 := Scalar.andi v662 c1_i32_241
  let c64_i32_242 : BitVec 32 := 64#32
  let v664 : BitVec 32 := Scalar.muli v663 c64_i32_242
  let v665 : BitVec 32 := v664
  let c0_i32_243 : BitVec 32 := 0#32
  let v668 : BitVec 32 := Scalar.addi v665 c0_i32_243
  let v671 : Index := Scalar.indexCast v668
  ![v671.toNat]

def k0_chk60 (i : grid0.Coords) (k0_t2 : Fin k0_t2_loop.trips) (v80_0 : BitVec 32) (k0_t5 : Fin k0_t5_loop.trips) (v674 : IVec S16 32) (v675 : IVec S16 32) : Prop :=
  (∀ (k0_h2 : k0_cond2 i k0_t2 = 1#1), ∀ (k0_h4 : k0_cond4 v80_0 k0_t5 = 1#1), ∀ a x, ((![v674, v675] : Fin 2 → IVec S16 32) a x).toNat < S64x512.size a)
theorem k0_idx51_inb : ∀ (i : grid0.Coords) (k0_t2 : Fin k0_t2_loop.trips) (v80_0 : BitVec 32) (k0_t5 : Fin k0_t5_loop.trips) (v674 : IVec S16 32) (v675 : IVec S16 32) (k0_hw60 : k0_chk60 i k0_t2 v80_0 k0_t5 v674 v675), ∀ (k0_h2 : k0_cond2 i k0_t2 = 1#1), ∀ (k0_h4 : k0_cond4 v80_0 k0_t5 = 1#1), ∀ a x, ((![v674, v675] : Fin 2 → IVec S16 32) a x).toNat < S64x512.size a := fun i k0_t2 v80_0 k0_t5 v674 v675 k0_hw60 k0_h2 k0_h4 => k0_hw60 k0_h2 k0_h4
def k0_off47 (v662 : BitVec 32) : Fin 1 → Nat :=
  let c1_i32_241 : BitVec 32 := 1#32
  let v663 : BitVec 32 := Scalar.andi v662 c1_i32_241
  let c64_i32_242 : BitVec 32 := 64#32
  let v664 : BitVec 32 := Scalar.muli v663 c64_i32_242
  let v665 : BitVec 32 := v664
  let c16_i32_246 : BitVec 32 := 16#32
  let v676 : BitVec 32 := Scalar.addi v665 c16_i32_246
  let v679 : Index := Scalar.indexCast v676
  ![v679.toNat]

def k0_chk61 (i : grid0.Coords) (k0_t2 : Fin k0_t2_loop.trips) (v80_0 : BitVec 32) (k0_t5 : Fin k0_t5_loop.trips) (v682 : IVec S16 32) (v683 : IVec S16 32) : Prop :=
  (∀ (k0_h2 : k0_cond2 i k0_t2 = 1#1), ∀ (k0_h4 : k0_cond4 v80_0 k0_t5 = 1#1), ∀ a x, ((![v682, v683] : Fin 2 → IVec S16 32) a x).toNat < S64x512.size a)
theorem k0_idx52_inb : ∀ (i : grid0.Coords) (k0_t2 : Fin k0_t2_loop.trips) (v80_0 : BitVec 32) (k0_t5 : Fin k0_t5_loop.trips) (v682 : IVec S16 32) (v683 : IVec S16 32) (k0_hw61 : k0_chk61 i k0_t2 v80_0 k0_t5 v682 v683), ∀ (k0_h2 : k0_cond2 i k0_t2 = 1#1), ∀ (k0_h4 : k0_cond4 v80_0 k0_t5 = 1#1), ∀ a x, ((![v682, v683] : Fin 2 → IVec S16 32) a x).toNat < S64x512.size a := fun i k0_t2 v80_0 k0_t5 v682 v683 k0_hw61 k0_h2 k0_h4 => k0_hw61 k0_h2 k0_h4
def k0_off48 (v662 : BitVec 32) : Fin 1 → Nat :=
  let c1_i32_241 : BitVec 32 := 1#32
  let v663 : BitVec 32 := Scalar.andi v662 c1_i32_241
  let c64_i32_242 : BitVec 32 := 64#32
  let v664 : BitVec 32 := Scalar.muli v663 c64_i32_242
  let v665 : BitVec 32 := v664
  let c32_i32_250 : BitVec 32 := 32#32
  let v684 : BitVec 32 := Scalar.addi v665 c32_i32_250
  let v687 : Index := Scalar.indexCast v684
  ![v687.toNat]

def k0_chk62 (i : grid0.Coords) (k0_t2 : Fin k0_t2_loop.trips) (v80_0 : BitVec 32) (k0_t5 : Fin k0_t5_loop.trips) (v690 : IVec S16 32) (v691 : IVec S16 32) : Prop :=
  (∀ (k0_h2 : k0_cond2 i k0_t2 = 1#1), ∀ (k0_h4 : k0_cond4 v80_0 k0_t5 = 1#1), ∀ a x, ((![v690, v691] : Fin 2 → IVec S16 32) a x).toNat < S64x512.size a)
theorem k0_idx53_inb : ∀ (i : grid0.Coords) (k0_t2 : Fin k0_t2_loop.trips) (v80_0 : BitVec 32) (k0_t5 : Fin k0_t5_loop.trips) (v690 : IVec S16 32) (v691 : IVec S16 32) (k0_hw62 : k0_chk62 i k0_t2 v80_0 k0_t5 v690 v691), ∀ (k0_h2 : k0_cond2 i k0_t2 = 1#1), ∀ (k0_h4 : k0_cond4 v80_0 k0_t5 = 1#1), ∀ a x, ((![v690, v691] : Fin 2 → IVec S16 32) a x).toNat < S64x512.size a := fun i k0_t2 v80_0 k0_t5 v690 v691 k0_hw62 k0_h2 k0_h4 => k0_hw62 k0_h2 k0_h4
def k0_off49 (v662 : BitVec 32) : Fin 1 → Nat :=
  let c1_i32_241 : BitVec 32 := 1#32
  let v663 : BitVec 32 := Scalar.andi v662 c1_i32_241
  let c64_i32_242 : BitVec 32 := 64#32
  let v664 : BitVec 32 := Scalar.muli v663 c64_i32_242
  let v665 : BitVec 32 := v664
  let c48_i32_254 : BitVec 32 := 48#32
  let v692 : BitVec 32 := Scalar.addi v665 c48_i32_254
  let v695 : Index := Scalar.indexCast v692
  ![v695.toNat]

def k0_chk59 (i : grid0.Coords) (k0_t2 : Fin k0_t2_loop.trips) (v80_0 : BitVec 32) (k0_t5 : Fin k0_t5_loop.trips) (v662 : BitVec 32) : Prop :=
  (∀ (k0_h2 : k0_cond2 i k0_t2 = 1#1), ∀ (k0_h4 : k0_cond4 v80_0 k0_t5 = 1#1), 16 ∣ (k0_mult15 v662).toNat) ∧
  (∀ (k0_h2 : k0_cond2 i k0_t2 = 1#1), ∀ (k0_h4 : k0_cond4 v80_0 k0_t5 = 1#1), ∀ a, (k0_off46 v662) a + S16.size a ≤ S128.size a) ∧
  (∀ (k0_h2 : k0_cond2 i k0_t2 = 1#1), ∀ (k0_h4 : k0_cond4 v80_0 k0_t5 = 1#1), ∀ a, (k0_off47 v662) a + S16.size a ≤ S128.size a) ∧
  (∀ (k0_h2 : k0_cond2 i k0_t2 = 1#1), ∀ (k0_h4 : k0_cond4 v80_0 k0_t5 = 1#1), ∀ a, (k0_off48 v662) a + S16.size a ≤ S128.size a) ∧
  (∀ (k0_h2 : k0_cond2 i k0_t2 = 1#1), ∀ (k0_h4 : k0_cond4 v80_0 k0_t5 = 1#1), ∀ a, (k0_off49 v662) a + S16.size a ≤ S128.size a)
theorem k0_mult15_dvd : ∀ (i : grid0.Coords) (k0_t2 : Fin k0_t2_loop.trips) (v80_0 : BitVec 32) (k0_t5 : Fin k0_t5_loop.trips) (v662 : BitVec 32) (k0_hw59 : k0_chk59 i k0_t2 v80_0 k0_t5 v662), ∀ (k0_h2 : k0_cond2 i k0_t2 = 1#1), ∀ (k0_h4 : k0_cond4 v80_0 k0_t5 = 1#1), 16 ∣ (k0_mult15 v662).toNat := fun i k0_t2 v80_0 k0_t5 v662 k0_hw59 k0_h2 k0_h4 => k0_hw59.1 k0_h2 k0_h4
theorem k0_off46_inb : ∀ (i : grid0.Coords) (k0_t2 : Fin k0_t2_loop.trips) (v80_0 : BitVec 32) (k0_t5 : Fin k0_t5_loop.trips) (v662 : BitVec 32) (k0_hw59 : k0_chk59 i k0_t2 v80_0 k0_t5 v662), ∀ (k0_h2 : k0_cond2 i k0_t2 = 1#1), ∀ (k0_h4 : k0_cond4 v80_0 k0_t5 = 1#1), ∀ a, (k0_off46 v662) a + S16.size a ≤ S128.size a := fun i k0_t2 v80_0 k0_t5 v662 k0_hw59 k0_h2 k0_h4 => k0_hw59.2.1 k0_h2 k0_h4
theorem k0_off47_inb : ∀ (i : grid0.Coords) (k0_t2 : Fin k0_t2_loop.trips) (v80_0 : BitVec 32) (k0_t5 : Fin k0_t5_loop.trips) (v662 : BitVec 32) (k0_hw59 : k0_chk59 i k0_t2 v80_0 k0_t5 v662), ∀ (k0_h2 : k0_cond2 i k0_t2 = 1#1), ∀ (k0_h4 : k0_cond4 v80_0 k0_t5 = 1#1), ∀ a, (k0_off47 v662) a + S16.size a ≤ S128.size a := fun i k0_t2 v80_0 k0_t5 v662 k0_hw59 k0_h2 k0_h4 => k0_hw59.2.2.1 k0_h2 k0_h4
theorem k0_off48_inb : ∀ (i : grid0.Coords) (k0_t2 : Fin k0_t2_loop.trips) (v80_0 : BitVec 32) (k0_t5 : Fin k0_t5_loop.trips) (v662 : BitVec 32) (k0_hw59 : k0_chk59 i k0_t2 v80_0 k0_t5 v662), ∀ (k0_h2 : k0_cond2 i k0_t2 = 1#1), ∀ (k0_h4 : k0_cond4 v80_0 k0_t5 = 1#1), ∀ a, (k0_off48 v662) a + S16.size a ≤ S128.size a := fun i k0_t2 v80_0 k0_t5 v662 k0_hw59 k0_h2 k0_h4 => k0_hw59.2.2.2.1 k0_h2 k0_h4
theorem k0_off49_inb : ∀ (i : grid0.Coords) (k0_t2 : Fin k0_t2_loop.trips) (v80_0 : BitVec 32) (k0_t5 : Fin k0_t5_loop.trips) (v662 : BitVec 32) (k0_hw59 : k0_chk59 i k0_t2 v80_0 k0_t5 v662), ∀ (k0_h2 : k0_cond2 i k0_t2 = 1#1), ∀ (k0_h4 : k0_cond4 v80_0 k0_t5 = 1#1), ∀ a, (k0_off49 v662) a + S16.size a ≤ S128.size a := fun i k0_t2 v80_0 k0_t5 v662 k0_hw59 k0_h2 k0_h4 => k0_hw59.2.2.2.2 k0_h2 k0_h4

def k0_chk63 (i : grid0.Coords) (k0_t2 : Fin k0_t2_loop.trips) (v80_0 : BitVec 32) (k0_t5 : Fin k0_t5_loop.trips) (v698 : IVec S16 32) (v699 : IVec S16 32) : Prop :=
  (∀ (k0_h2 : k0_cond2 i k0_t2 = 1#1), ∀ (k0_h4 : k0_cond4 v80_0 k0_t5 = 1#1), ∀ a x, ((![v698, v699] : Fin 2 → IVec S16 32) a x).toNat < S64x512.size a)
theorem k0_idx54_inb : ∀ (i : grid0.Coords) (k0_t2 : Fin k0_t2_loop.trips) (v80_0 : BitVec 32) (k0_t5 : Fin k0_t5_loop.trips) (v698 : IVec S16 32) (v699 : IVec S16 32) (k0_hw63 : k0_chk63 i k0_t2 v80_0 k0_t5 v698 v699), ∀ (k0_h2 : k0_cond2 i k0_t2 = 1#1), ∀ (k0_h4 : k0_cond4 v80_0 k0_t5 = 1#1), ∀ a x, ((![v698, v699] : Fin 2 → IVec S16 32) a x).toNat < S64x512.size a := fun i k0_t2 v80_0 k0_t5 v698 v699 k0_hw63 k0_h2 k0_h4 => k0_hw63 k0_h2 k0_h4
def k0_mult16 (v701 : BitVec 32) : BitVec 32 :=
  let c1_i32_258 : BitVec 32 := 1#32
  let v702 : BitVec 32 := Scalar.andi v701 c1_i32_258
  let c64_i32_259 : BitVec 32 := 64#32
  let v703 : BitVec 32 := Scalar.muli v702 c64_i32_259
  v703

def k0_off50 (v701 : BitVec 32) : Fin 1 → Nat :=
  let c1_i32_258 : BitVec 32 := 1#32
  let v702 : BitVec 32 := Scalar.andi v701 c1_i32_258
  let c64_i32_259 : BitVec 32 := 64#32
  let v703 : BitVec 32 := Scalar.muli v702 c64_i32_259
  let v704 : BitVec 32 := v703
  let c0_i32_260 : BitVec 32 := 0#32
  let v707 : BitVec 32 := Scalar.addi v704 c0_i32_260
  let v710 : Index := Scalar.indexCast v707
  ![v710.toNat]

def k0_chk65 (i : grid0.Coords) (k0_t2 : Fin k0_t2_loop.trips) (v80_0 : BitVec 32) (k0_t5 : Fin k0_t5_loop.trips) (v713 : IVec S16 32) (v714 : IVec S16 32) : Prop :=
  (∀ (k0_h2 : k0_cond2 i k0_t2 = 1#1), ∀ (k0_h4 : k0_cond4 v80_0 k0_t5 = 1#1), ∀ a x, ((![v713, v714] : Fin 2 → IVec S16 32) a x).toNat < S64x512.size a)
theorem k0_idx55_inb : ∀ (i : grid0.Coords) (k0_t2 : Fin k0_t2_loop.trips) (v80_0 : BitVec 32) (k0_t5 : Fin k0_t5_loop.trips) (v713 : IVec S16 32) (v714 : IVec S16 32) (k0_hw65 : k0_chk65 i k0_t2 v80_0 k0_t5 v713 v714), ∀ (k0_h2 : k0_cond2 i k0_t2 = 1#1), ∀ (k0_h4 : k0_cond4 v80_0 k0_t5 = 1#1), ∀ a x, ((![v713, v714] : Fin 2 → IVec S16 32) a x).toNat < S64x512.size a := fun i k0_t2 v80_0 k0_t5 v713 v714 k0_hw65 k0_h2 k0_h4 => k0_hw65 k0_h2 k0_h4
def k0_off51 (v701 : BitVec 32) : Fin 1 → Nat :=
  let c1_i32_258 : BitVec 32 := 1#32
  let v702 : BitVec 32 := Scalar.andi v701 c1_i32_258
  let c64_i32_259 : BitVec 32 := 64#32
  let v703 : BitVec 32 := Scalar.muli v702 c64_i32_259
  let v704 : BitVec 32 := v703
  let c16_i32_263 : BitVec 32 := 16#32
  let v715 : BitVec 32 := Scalar.addi v704 c16_i32_263
  let v718 : Index := Scalar.indexCast v715
  ![v718.toNat]

def k0_chk66 (i : grid0.Coords) (k0_t2 : Fin k0_t2_loop.trips) (v80_0 : BitVec 32) (k0_t5 : Fin k0_t5_loop.trips) (v721 : IVec S16 32) (v722 : IVec S16 32) : Prop :=
  (∀ (k0_h2 : k0_cond2 i k0_t2 = 1#1), ∀ (k0_h4 : k0_cond4 v80_0 k0_t5 = 1#1), ∀ a x, ((![v721, v722] : Fin 2 → IVec S16 32) a x).toNat < S64x512.size a)
theorem k0_idx56_inb : ∀ (i : grid0.Coords) (k0_t2 : Fin k0_t2_loop.trips) (v80_0 : BitVec 32) (k0_t5 : Fin k0_t5_loop.trips) (v721 : IVec S16 32) (v722 : IVec S16 32) (k0_hw66 : k0_chk66 i k0_t2 v80_0 k0_t5 v721 v722), ∀ (k0_h2 : k0_cond2 i k0_t2 = 1#1), ∀ (k0_h4 : k0_cond4 v80_0 k0_t5 = 1#1), ∀ a x, ((![v721, v722] : Fin 2 → IVec S16 32) a x).toNat < S64x512.size a := fun i k0_t2 v80_0 k0_t5 v721 v722 k0_hw66 k0_h2 k0_h4 => k0_hw66 k0_h2 k0_h4
def k0_off52 (v701 : BitVec 32) : Fin 1 → Nat :=
  let c1_i32_258 : BitVec 32 := 1#32
  let v702 : BitVec 32 := Scalar.andi v701 c1_i32_258
  let c64_i32_259 : BitVec 32 := 64#32
  let v703 : BitVec 32 := Scalar.muli v702 c64_i32_259
  let v704 : BitVec 32 := v703
  let c32_i32_267 : BitVec 32 := 32#32
  let v723 : BitVec 32 := Scalar.addi v704 c32_i32_267
  let v726 : Index := Scalar.indexCast v723
  ![v726.toNat]

def k0_chk67 (i : grid0.Coords) (k0_t2 : Fin k0_t2_loop.trips) (v80_0 : BitVec 32) (k0_t5 : Fin k0_t5_loop.trips) (v729 : IVec S16 32) (v730 : IVec S16 32) : Prop :=
  (∀ (k0_h2 : k0_cond2 i k0_t2 = 1#1), ∀ (k0_h4 : k0_cond4 v80_0 k0_t5 = 1#1), ∀ a x, ((![v729, v730] : Fin 2 → IVec S16 32) a x).toNat < S64x512.size a)
theorem k0_idx57_inb : ∀ (i : grid0.Coords) (k0_t2 : Fin k0_t2_loop.trips) (v80_0 : BitVec 32) (k0_t5 : Fin k0_t5_loop.trips) (v729 : IVec S16 32) (v730 : IVec S16 32) (k0_hw67 : k0_chk67 i k0_t2 v80_0 k0_t5 v729 v730), ∀ (k0_h2 : k0_cond2 i k0_t2 = 1#1), ∀ (k0_h4 : k0_cond4 v80_0 k0_t5 = 1#1), ∀ a x, ((![v729, v730] : Fin 2 → IVec S16 32) a x).toNat < S64x512.size a := fun i k0_t2 v80_0 k0_t5 v729 v730 k0_hw67 k0_h2 k0_h4 => k0_hw67 k0_h2 k0_h4
def k0_off53 (v701 : BitVec 32) : Fin 1 → Nat :=
  let c1_i32_258 : BitVec 32 := 1#32
  let v702 : BitVec 32 := Scalar.andi v701 c1_i32_258
  let c64_i32_259 : BitVec 32 := 64#32
  let v703 : BitVec 32 := Scalar.muli v702 c64_i32_259
  let v704 : BitVec 32 := v703
  let c48_i32_271 : BitVec 32 := 48#32
  let v731 : BitVec 32 := Scalar.addi v704 c48_i32_271
  let v734 : Index := Scalar.indexCast v731
  ![v734.toNat]

def k0_chk64 (i : grid0.Coords) (k0_t2 : Fin k0_t2_loop.trips) (v80_0 : BitVec 32) (k0_t5 : Fin k0_t5_loop.trips) (v701 : BitVec 32) : Prop :=
  (∀ (k0_h2 : k0_cond2 i k0_t2 = 1#1), ∀ (k0_h4 : k0_cond4 v80_0 k0_t5 = 1#1), 16 ∣ (k0_mult16 v701).toNat) ∧
  (∀ (k0_h2 : k0_cond2 i k0_t2 = 1#1), ∀ (k0_h4 : k0_cond4 v80_0 k0_t5 = 1#1), ∀ a, (k0_off50 v701) a + S16.size a ≤ S128.size a) ∧
  (∀ (k0_h2 : k0_cond2 i k0_t2 = 1#1), ∀ (k0_h4 : k0_cond4 v80_0 k0_t5 = 1#1), ∀ a, (k0_off51 v701) a + S16.size a ≤ S128.size a) ∧
  (∀ (k0_h2 : k0_cond2 i k0_t2 = 1#1), ∀ (k0_h4 : k0_cond4 v80_0 k0_t5 = 1#1), ∀ a, (k0_off52 v701) a + S16.size a ≤ S128.size a) ∧
  (∀ (k0_h2 : k0_cond2 i k0_t2 = 1#1), ∀ (k0_h4 : k0_cond4 v80_0 k0_t5 = 1#1), ∀ a, (k0_off53 v701) a + S16.size a ≤ S128.size a)
theorem k0_mult16_dvd : ∀ (i : grid0.Coords) (k0_t2 : Fin k0_t2_loop.trips) (v80_0 : BitVec 32) (k0_t5 : Fin k0_t5_loop.trips) (v701 : BitVec 32) (k0_hw64 : k0_chk64 i k0_t2 v80_0 k0_t5 v701), ∀ (k0_h2 : k0_cond2 i k0_t2 = 1#1), ∀ (k0_h4 : k0_cond4 v80_0 k0_t5 = 1#1), 16 ∣ (k0_mult16 v701).toNat := fun i k0_t2 v80_0 k0_t5 v701 k0_hw64 k0_h2 k0_h4 => k0_hw64.1 k0_h2 k0_h4
theorem k0_off50_inb : ∀ (i : grid0.Coords) (k0_t2 : Fin k0_t2_loop.trips) (v80_0 : BitVec 32) (k0_t5 : Fin k0_t5_loop.trips) (v701 : BitVec 32) (k0_hw64 : k0_chk64 i k0_t2 v80_0 k0_t5 v701), ∀ (k0_h2 : k0_cond2 i k0_t2 = 1#1), ∀ (k0_h4 : k0_cond4 v80_0 k0_t5 = 1#1), ∀ a, (k0_off50 v701) a + S16.size a ≤ S128.size a := fun i k0_t2 v80_0 k0_t5 v701 k0_hw64 k0_h2 k0_h4 => k0_hw64.2.1 k0_h2 k0_h4
theorem k0_off51_inb : ∀ (i : grid0.Coords) (k0_t2 : Fin k0_t2_loop.trips) (v80_0 : BitVec 32) (k0_t5 : Fin k0_t5_loop.trips) (v701 : BitVec 32) (k0_hw64 : k0_chk64 i k0_t2 v80_0 k0_t5 v701), ∀ (k0_h2 : k0_cond2 i k0_t2 = 1#1), ∀ (k0_h4 : k0_cond4 v80_0 k0_t5 = 1#1), ∀ a, (k0_off51 v701) a + S16.size a ≤ S128.size a := fun i k0_t2 v80_0 k0_t5 v701 k0_hw64 k0_h2 k0_h4 => k0_hw64.2.2.1 k0_h2 k0_h4
theorem k0_off52_inb : ∀ (i : grid0.Coords) (k0_t2 : Fin k0_t2_loop.trips) (v80_0 : BitVec 32) (k0_t5 : Fin k0_t5_loop.trips) (v701 : BitVec 32) (k0_hw64 : k0_chk64 i k0_t2 v80_0 k0_t5 v701), ∀ (k0_h2 : k0_cond2 i k0_t2 = 1#1), ∀ (k0_h4 : k0_cond4 v80_0 k0_t5 = 1#1), ∀ a, (k0_off52 v701) a + S16.size a ≤ S128.size a := fun i k0_t2 v80_0 k0_t5 v701 k0_hw64 k0_h2 k0_h4 => k0_hw64.2.2.2.1 k0_h2 k0_h4
theorem k0_off53_inb : ∀ (i : grid0.Coords) (k0_t2 : Fin k0_t2_loop.trips) (v80_0 : BitVec 32) (k0_t5 : Fin k0_t5_loop.trips) (v701 : BitVec 32) (k0_hw64 : k0_chk64 i k0_t2 v80_0 k0_t5 v701), ∀ (k0_h2 : k0_cond2 i k0_t2 = 1#1), ∀ (k0_h4 : k0_cond4 v80_0 k0_t5 = 1#1), ∀ a, (k0_off53 v701) a + S16.size a ≤ S128.size a := fun i k0_t2 v80_0 k0_t5 v701 k0_hw64 k0_h2 k0_h4 => k0_hw64.2.2.2.2 k0_h2 k0_h4

def k0_chk68 (i : grid0.Coords) (k0_t2 : Fin k0_t2_loop.trips) (v80_0 : BitVec 32) (k0_t5 : Fin k0_t5_loop.trips) (v737 : IVec S16 32) (v738 : IVec S16 32) : Prop :=
  (∀ (k0_h2 : k0_cond2 i k0_t2 = 1#1), ∀ (k0_h4 : k0_cond4 v80_0 k0_t5 = 1#1), ∀ a x, ((![v737, v738] : Fin 2 → IVec S16 32) a x).toNat < S64x512.size a)
theorem k0_idx58_inb : ∀ (i : grid0.Coords) (k0_t2 : Fin k0_t2_loop.trips) (v80_0 : BitVec 32) (k0_t5 : Fin k0_t5_loop.trips) (v737 : IVec S16 32) (v738 : IVec S16 32) (k0_hw68 : k0_chk68 i k0_t2 v80_0 k0_t5 v737 v738), ∀ (k0_h2 : k0_cond2 i k0_t2 = 1#1), ∀ (k0_h4 : k0_cond4 v80_0 k0_t5 = 1#1), ∀ a x, ((![v737, v738] : Fin 2 → IVec S16 32) a x).toNat < S64x512.size a := fun i k0_t2 v80_0 k0_t5 v737 v738 k0_hw68 k0_h2 k0_h4 => k0_hw68 k0_h2 k0_h4
def k0_mult17 (v740 : BitVec 32) : BitVec 32 :=
  let c1_i32_275 : BitVec 32 := 1#32
  let v741 : BitVec 32 := Scalar.andi v740 c1_i32_275
  let c64_i32_276 : BitVec 32 := 64#32
  let v742 : BitVec 32 := Scalar.muli v741 c64_i32_276
  v742

def k0_off54 (v740 : BitVec 32) : Fin 1 → Nat :=
  let c1_i32_275 : BitVec 32 := 1#32
  let v741 : BitVec 32 := Scalar.andi v740 c1_i32_275
  let c64_i32_276 : BitVec 32 := 64#32
  let v742 : BitVec 32 := Scalar.muli v741 c64_i32_276
  let v743 : BitVec 32 := v742
  let c0_i32_277 : BitVec 32 := 0#32
  let v746 : BitVec 32 := Scalar.addi v743 c0_i32_277
  let v749 : Index := Scalar.indexCast v746
  ![v749.toNat]

def k0_chk70 (i : grid0.Coords) (k0_t2 : Fin k0_t2_loop.trips) (v80_0 : BitVec 32) (k0_t5 : Fin k0_t5_loop.trips) (v752 : IVec S16 32) (v753 : IVec S16 32) : Prop :=
  (∀ (k0_h2 : k0_cond2 i k0_t2 = 1#1), ∀ (k0_h4 : k0_cond4 v80_0 k0_t5 = 1#1), ∀ a x, ((![v752, v753] : Fin 2 → IVec S16 32) a x).toNat < S64x512.size a)
theorem k0_idx59_inb : ∀ (i : grid0.Coords) (k0_t2 : Fin k0_t2_loop.trips) (v80_0 : BitVec 32) (k0_t5 : Fin k0_t5_loop.trips) (v752 : IVec S16 32) (v753 : IVec S16 32) (k0_hw70 : k0_chk70 i k0_t2 v80_0 k0_t5 v752 v753), ∀ (k0_h2 : k0_cond2 i k0_t2 = 1#1), ∀ (k0_h4 : k0_cond4 v80_0 k0_t5 = 1#1), ∀ a x, ((![v752, v753] : Fin 2 → IVec S16 32) a x).toNat < S64x512.size a := fun i k0_t2 v80_0 k0_t5 v752 v753 k0_hw70 k0_h2 k0_h4 => k0_hw70 k0_h2 k0_h4
def k0_off55 (v740 : BitVec 32) : Fin 1 → Nat :=
  let c1_i32_275 : BitVec 32 := 1#32
  let v741 : BitVec 32 := Scalar.andi v740 c1_i32_275
  let c64_i32_276 : BitVec 32 := 64#32
  let v742 : BitVec 32 := Scalar.muli v741 c64_i32_276
  let v743 : BitVec 32 := v742
  let c16_i32_280 : BitVec 32 := 16#32
  let v754 : BitVec 32 := Scalar.addi v743 c16_i32_280
  let v757 : Index := Scalar.indexCast v754
  ![v757.toNat]

def k0_chk71 (i : grid0.Coords) (k0_t2 : Fin k0_t2_loop.trips) (v80_0 : BitVec 32) (k0_t5 : Fin k0_t5_loop.trips) (v760 : IVec S16 32) (v761 : IVec S16 32) : Prop :=
  (∀ (k0_h2 : k0_cond2 i k0_t2 = 1#1), ∀ (k0_h4 : k0_cond4 v80_0 k0_t5 = 1#1), ∀ a x, ((![v760, v761] : Fin 2 → IVec S16 32) a x).toNat < S64x512.size a)
theorem k0_idx60_inb : ∀ (i : grid0.Coords) (k0_t2 : Fin k0_t2_loop.trips) (v80_0 : BitVec 32) (k0_t5 : Fin k0_t5_loop.trips) (v760 : IVec S16 32) (v761 : IVec S16 32) (k0_hw71 : k0_chk71 i k0_t2 v80_0 k0_t5 v760 v761), ∀ (k0_h2 : k0_cond2 i k0_t2 = 1#1), ∀ (k0_h4 : k0_cond4 v80_0 k0_t5 = 1#1), ∀ a x, ((![v760, v761] : Fin 2 → IVec S16 32) a x).toNat < S64x512.size a := fun i k0_t2 v80_0 k0_t5 v760 v761 k0_hw71 k0_h2 k0_h4 => k0_hw71 k0_h2 k0_h4
def k0_off56 (v740 : BitVec 32) : Fin 1 → Nat :=
  let c1_i32_275 : BitVec 32 := 1#32
  let v741 : BitVec 32 := Scalar.andi v740 c1_i32_275
  let c64_i32_276 : BitVec 32 := 64#32
  let v742 : BitVec 32 := Scalar.muli v741 c64_i32_276
  let v743 : BitVec 32 := v742
  let c32_i32_284 : BitVec 32 := 32#32
  let v762 : BitVec 32 := Scalar.addi v743 c32_i32_284
  let v765 : Index := Scalar.indexCast v762
  ![v765.toNat]

def k0_chk72 (i : grid0.Coords) (k0_t2 : Fin k0_t2_loop.trips) (v80_0 : BitVec 32) (k0_t5 : Fin k0_t5_loop.trips) (v768 : IVec S16 32) (v769 : IVec S16 32) : Prop :=
  (∀ (k0_h2 : k0_cond2 i k0_t2 = 1#1), ∀ (k0_h4 : k0_cond4 v80_0 k0_t5 = 1#1), ∀ a x, ((![v768, v769] : Fin 2 → IVec S16 32) a x).toNat < S64x512.size a)
theorem k0_idx61_inb : ∀ (i : grid0.Coords) (k0_t2 : Fin k0_t2_loop.trips) (v80_0 : BitVec 32) (k0_t5 : Fin k0_t5_loop.trips) (v768 : IVec S16 32) (v769 : IVec S16 32) (k0_hw72 : k0_chk72 i k0_t2 v80_0 k0_t5 v768 v769), ∀ (k0_h2 : k0_cond2 i k0_t2 = 1#1), ∀ (k0_h4 : k0_cond4 v80_0 k0_t5 = 1#1), ∀ a x, ((![v768, v769] : Fin 2 → IVec S16 32) a x).toNat < S64x512.size a := fun i k0_t2 v80_0 k0_t5 v768 v769 k0_hw72 k0_h2 k0_h4 => k0_hw72 k0_h2 k0_h4
def k0_off57 (v740 : BitVec 32) : Fin 1 → Nat :=
  let c1_i32_275 : BitVec 32 := 1#32
  let v741 : BitVec 32 := Scalar.andi v740 c1_i32_275
  let c64_i32_276 : BitVec 32 := 64#32
  let v742 : BitVec 32 := Scalar.muli v741 c64_i32_276
  let v743 : BitVec 32 := v742
  let c48_i32_288 : BitVec 32 := 48#32
  let v770 : BitVec 32 := Scalar.addi v743 c48_i32_288
  let v773 : Index := Scalar.indexCast v770
  ![v773.toNat]

def k0_chk69 (i : grid0.Coords) (k0_t2 : Fin k0_t2_loop.trips) (v80_0 : BitVec 32) (k0_t5 : Fin k0_t5_loop.trips) (v740 : BitVec 32) : Prop :=
  (∀ (k0_h2 : k0_cond2 i k0_t2 = 1#1), ∀ (k0_h4 : k0_cond4 v80_0 k0_t5 = 1#1), 16 ∣ (k0_mult17 v740).toNat) ∧
  (∀ (k0_h2 : k0_cond2 i k0_t2 = 1#1), ∀ (k0_h4 : k0_cond4 v80_0 k0_t5 = 1#1), ∀ a, (k0_off54 v740) a + S16.size a ≤ S128.size a) ∧
  (∀ (k0_h2 : k0_cond2 i k0_t2 = 1#1), ∀ (k0_h4 : k0_cond4 v80_0 k0_t5 = 1#1), ∀ a, (k0_off55 v740) a + S16.size a ≤ S128.size a) ∧
  (∀ (k0_h2 : k0_cond2 i k0_t2 = 1#1), ∀ (k0_h4 : k0_cond4 v80_0 k0_t5 = 1#1), ∀ a, (k0_off56 v740) a + S16.size a ≤ S128.size a) ∧
  (∀ (k0_h2 : k0_cond2 i k0_t2 = 1#1), ∀ (k0_h4 : k0_cond4 v80_0 k0_t5 = 1#1), ∀ a, (k0_off57 v740) a + S16.size a ≤ S128.size a)
theorem k0_mult17_dvd : ∀ (i : grid0.Coords) (k0_t2 : Fin k0_t2_loop.trips) (v80_0 : BitVec 32) (k0_t5 : Fin k0_t5_loop.trips) (v740 : BitVec 32) (k0_hw69 : k0_chk69 i k0_t2 v80_0 k0_t5 v740), ∀ (k0_h2 : k0_cond2 i k0_t2 = 1#1), ∀ (k0_h4 : k0_cond4 v80_0 k0_t5 = 1#1), 16 ∣ (k0_mult17 v740).toNat := fun i k0_t2 v80_0 k0_t5 v740 k0_hw69 k0_h2 k0_h4 => k0_hw69.1 k0_h2 k0_h4
theorem k0_off54_inb : ∀ (i : grid0.Coords) (k0_t2 : Fin k0_t2_loop.trips) (v80_0 : BitVec 32) (k0_t5 : Fin k0_t5_loop.trips) (v740 : BitVec 32) (k0_hw69 : k0_chk69 i k0_t2 v80_0 k0_t5 v740), ∀ (k0_h2 : k0_cond2 i k0_t2 = 1#1), ∀ (k0_h4 : k0_cond4 v80_0 k0_t5 = 1#1), ∀ a, (k0_off54 v740) a + S16.size a ≤ S128.size a := fun i k0_t2 v80_0 k0_t5 v740 k0_hw69 k0_h2 k0_h4 => k0_hw69.2.1 k0_h2 k0_h4
theorem k0_off55_inb : ∀ (i : grid0.Coords) (k0_t2 : Fin k0_t2_loop.trips) (v80_0 : BitVec 32) (k0_t5 : Fin k0_t5_loop.trips) (v740 : BitVec 32) (k0_hw69 : k0_chk69 i k0_t2 v80_0 k0_t5 v740), ∀ (k0_h2 : k0_cond2 i k0_t2 = 1#1), ∀ (k0_h4 : k0_cond4 v80_0 k0_t5 = 1#1), ∀ a, (k0_off55 v740) a + S16.size a ≤ S128.size a := fun i k0_t2 v80_0 k0_t5 v740 k0_hw69 k0_h2 k0_h4 => k0_hw69.2.2.1 k0_h2 k0_h4
theorem k0_off56_inb : ∀ (i : grid0.Coords) (k0_t2 : Fin k0_t2_loop.trips) (v80_0 : BitVec 32) (k0_t5 : Fin k0_t5_loop.trips) (v740 : BitVec 32) (k0_hw69 : k0_chk69 i k0_t2 v80_0 k0_t5 v740), ∀ (k0_h2 : k0_cond2 i k0_t2 = 1#1), ∀ (k0_h4 : k0_cond4 v80_0 k0_t5 = 1#1), ∀ a, (k0_off56 v740) a + S16.size a ≤ S128.size a := fun i k0_t2 v80_0 k0_t5 v740 k0_hw69 k0_h2 k0_h4 => k0_hw69.2.2.2.1 k0_h2 k0_h4
theorem k0_off57_inb : ∀ (i : grid0.Coords) (k0_t2 : Fin k0_t2_loop.trips) (v80_0 : BitVec 32) (k0_t5 : Fin k0_t5_loop.trips) (v740 : BitVec 32) (k0_hw69 : k0_chk69 i k0_t2 v80_0 k0_t5 v740), ∀ (k0_h2 : k0_cond2 i k0_t2 = 1#1), ∀ (k0_h4 : k0_cond4 v80_0 k0_t5 = 1#1), ∀ a, (k0_off57 v740) a + S16.size a ≤ S128.size a := fun i k0_t2 v80_0 k0_t5 v740 k0_hw69 k0_h2 k0_h4 => k0_hw69.2.2.2.2 k0_h2 k0_h4

def k0_chk73 (i : grid0.Coords) (k0_t2 : Fin k0_t2_loop.trips) (v80_0 : BitVec 32) (k0_t5 : Fin k0_t5_loop.trips) (v776 : IVec S16 32) (v777 : IVec S16 32) : Prop :=
  (∀ (k0_h2 : k0_cond2 i k0_t2 = 1#1), ∀ (k0_h4 : k0_cond4 v80_0 k0_t5 = 1#1), ∀ a x, ((![v776, v777] : Fin 2 → IVec S16 32) a x).toNat < S64x512.size a)
theorem k0_idx62_inb : ∀ (i : grid0.Coords) (k0_t2 : Fin k0_t2_loop.trips) (v80_0 : BitVec 32) (k0_t5 : Fin k0_t5_loop.trips) (v776 : IVec S16 32) (v777 : IVec S16 32) (k0_hw73 : k0_chk73 i k0_t2 v80_0 k0_t5 v776 v777), ∀ (k0_h2 : k0_cond2 i k0_t2 = 1#1), ∀ (k0_h4 : k0_cond4 v80_0 k0_t5 = 1#1), ∀ a x, ((![v776, v777] : Fin 2 → IVec S16 32) a x).toNat < S64x512.size a := fun i k0_t2 v80_0 k0_t5 v776 v777 k0_hw73 k0_h2 k0_h4 => k0_hw73 k0_h2 k0_h4
def k0_mult18 (v779 : BitVec 32) : BitVec 32 :=
  let c1_i32_292 : BitVec 32 := 1#32
  let v780 : BitVec 32 := Scalar.andi v779 c1_i32_292
  let c64_i32_293 : BitVec 32 := 64#32
  let v781 : BitVec 32 := Scalar.muli v780 c64_i32_293
  v781

def k0_off58 (v779 : BitVec 32) : Fin 1 → Nat :=
  let c1_i32_292 : BitVec 32 := 1#32
  let v780 : BitVec 32 := Scalar.andi v779 c1_i32_292
  let c64_i32_293 : BitVec 32 := 64#32
  let v781 : BitVec 32 := Scalar.muli v780 c64_i32_293
  let v782 : BitVec 32 := v781
  let c0_i32_294 : BitVec 32 := 0#32
  let v785 : BitVec 32 := Scalar.addi v782 c0_i32_294
  let v788 : Index := Scalar.indexCast v785
  ![v788.toNat]

def k0_chk75 (i : grid0.Coords) (k0_t2 : Fin k0_t2_loop.trips) (v80_0 : BitVec 32) (k0_t5 : Fin k0_t5_loop.trips) (v791 : IVec S16 32) (v792 : IVec S16 32) : Prop :=
  (∀ (k0_h2 : k0_cond2 i k0_t2 = 1#1), ∀ (k0_h4 : k0_cond4 v80_0 k0_t5 = 1#1), ∀ a x, ((![v791, v792] : Fin 2 → IVec S16 32) a x).toNat < S64x512.size a)
theorem k0_idx63_inb : ∀ (i : grid0.Coords) (k0_t2 : Fin k0_t2_loop.trips) (v80_0 : BitVec 32) (k0_t5 : Fin k0_t5_loop.trips) (v791 : IVec S16 32) (v792 : IVec S16 32) (k0_hw75 : k0_chk75 i k0_t2 v80_0 k0_t5 v791 v792), ∀ (k0_h2 : k0_cond2 i k0_t2 = 1#1), ∀ (k0_h4 : k0_cond4 v80_0 k0_t5 = 1#1), ∀ a x, ((![v791, v792] : Fin 2 → IVec S16 32) a x).toNat < S64x512.size a := fun i k0_t2 v80_0 k0_t5 v791 v792 k0_hw75 k0_h2 k0_h4 => k0_hw75 k0_h2 k0_h4
def k0_off59 (v779 : BitVec 32) : Fin 1 → Nat :=
  let c1_i32_292 : BitVec 32 := 1#32
  let v780 : BitVec 32 := Scalar.andi v779 c1_i32_292
  let c64_i32_293 : BitVec 32 := 64#32
  let v781 : BitVec 32 := Scalar.muli v780 c64_i32_293
  let v782 : BitVec 32 := v781
  let c16_i32_297 : BitVec 32 := 16#32
  let v793 : BitVec 32 := Scalar.addi v782 c16_i32_297
  let v796 : Index := Scalar.indexCast v793
  ![v796.toNat]

def k0_chk76 (i : grid0.Coords) (k0_t2 : Fin k0_t2_loop.trips) (v80_0 : BitVec 32) (k0_t5 : Fin k0_t5_loop.trips) (v799 : IVec S16 32) (v800 : IVec S16 32) : Prop :=
  (∀ (k0_h2 : k0_cond2 i k0_t2 = 1#1), ∀ (k0_h4 : k0_cond4 v80_0 k0_t5 = 1#1), ∀ a x, ((![v799, v800] : Fin 2 → IVec S16 32) a x).toNat < S64x512.size a)
theorem k0_idx64_inb : ∀ (i : grid0.Coords) (k0_t2 : Fin k0_t2_loop.trips) (v80_0 : BitVec 32) (k0_t5 : Fin k0_t5_loop.trips) (v799 : IVec S16 32) (v800 : IVec S16 32) (k0_hw76 : k0_chk76 i k0_t2 v80_0 k0_t5 v799 v800), ∀ (k0_h2 : k0_cond2 i k0_t2 = 1#1), ∀ (k0_h4 : k0_cond4 v80_0 k0_t5 = 1#1), ∀ a x, ((![v799, v800] : Fin 2 → IVec S16 32) a x).toNat < S64x512.size a := fun i k0_t2 v80_0 k0_t5 v799 v800 k0_hw76 k0_h2 k0_h4 => k0_hw76 k0_h2 k0_h4
def k0_off60 (v779 : BitVec 32) : Fin 1 → Nat :=
  let c1_i32_292 : BitVec 32 := 1#32
  let v780 : BitVec 32 := Scalar.andi v779 c1_i32_292
  let c64_i32_293 : BitVec 32 := 64#32
  let v781 : BitVec 32 := Scalar.muli v780 c64_i32_293
  let v782 : BitVec 32 := v781
  let c32_i32_301 : BitVec 32 := 32#32
  let v801 : BitVec 32 := Scalar.addi v782 c32_i32_301
  let v804 : Index := Scalar.indexCast v801
  ![v804.toNat]

def k0_chk77 (i : grid0.Coords) (k0_t2 : Fin k0_t2_loop.trips) (v80_0 : BitVec 32) (k0_t5 : Fin k0_t5_loop.trips) (v807 : IVec S16 32) (v808 : IVec S16 32) : Prop :=
  (∀ (k0_h2 : k0_cond2 i k0_t2 = 1#1), ∀ (k0_h4 : k0_cond4 v80_0 k0_t5 = 1#1), ∀ a x, ((![v807, v808] : Fin 2 → IVec S16 32) a x).toNat < S64x512.size a)
theorem k0_idx65_inb : ∀ (i : grid0.Coords) (k0_t2 : Fin k0_t2_loop.trips) (v80_0 : BitVec 32) (k0_t5 : Fin k0_t5_loop.trips) (v807 : IVec S16 32) (v808 : IVec S16 32) (k0_hw77 : k0_chk77 i k0_t2 v80_0 k0_t5 v807 v808), ∀ (k0_h2 : k0_cond2 i k0_t2 = 1#1), ∀ (k0_h4 : k0_cond4 v80_0 k0_t5 = 1#1), ∀ a x, ((![v807, v808] : Fin 2 → IVec S16 32) a x).toNat < S64x512.size a := fun i k0_t2 v80_0 k0_t5 v807 v808 k0_hw77 k0_h2 k0_h4 => k0_hw77 k0_h2 k0_h4
def k0_off61 (v779 : BitVec 32) : Fin 1 → Nat :=
  let c1_i32_292 : BitVec 32 := 1#32
  let v780 : BitVec 32 := Scalar.andi v779 c1_i32_292
  let c64_i32_293 : BitVec 32 := 64#32
  let v781 : BitVec 32 := Scalar.muli v780 c64_i32_293
  let v782 : BitVec 32 := v781
  let c48_i32_305 : BitVec 32 := 48#32
  let v809 : BitVec 32 := Scalar.addi v782 c48_i32_305
  let v812 : Index := Scalar.indexCast v809
  ![v812.toNat]

def k0_chk74 (i : grid0.Coords) (k0_t2 : Fin k0_t2_loop.trips) (v80_0 : BitVec 32) (k0_t5 : Fin k0_t5_loop.trips) (v779 : BitVec 32) : Prop :=
  (∀ (k0_h2 : k0_cond2 i k0_t2 = 1#1), ∀ (k0_h4 : k0_cond4 v80_0 k0_t5 = 1#1), 16 ∣ (k0_mult18 v779).toNat) ∧
  (∀ (k0_h2 : k0_cond2 i k0_t2 = 1#1), ∀ (k0_h4 : k0_cond4 v80_0 k0_t5 = 1#1), ∀ a, (k0_off58 v779) a + S16.size a ≤ S128.size a) ∧
  (∀ (k0_h2 : k0_cond2 i k0_t2 = 1#1), ∀ (k0_h4 : k0_cond4 v80_0 k0_t5 = 1#1), ∀ a, (k0_off59 v779) a + S16.size a ≤ S128.size a) ∧
  (∀ (k0_h2 : k0_cond2 i k0_t2 = 1#1), ∀ (k0_h4 : k0_cond4 v80_0 k0_t5 = 1#1), ∀ a, (k0_off60 v779) a + S16.size a ≤ S128.size a) ∧
  (∀ (k0_h2 : k0_cond2 i k0_t2 = 1#1), ∀ (k0_h4 : k0_cond4 v80_0 k0_t5 = 1#1), ∀ a, (k0_off61 v779) a + S16.size a ≤ S128.size a)
theorem k0_mult18_dvd : ∀ (i : grid0.Coords) (k0_t2 : Fin k0_t2_loop.trips) (v80_0 : BitVec 32) (k0_t5 : Fin k0_t5_loop.trips) (v779 : BitVec 32) (k0_hw74 : k0_chk74 i k0_t2 v80_0 k0_t5 v779), ∀ (k0_h2 : k0_cond2 i k0_t2 = 1#1), ∀ (k0_h4 : k0_cond4 v80_0 k0_t5 = 1#1), 16 ∣ (k0_mult18 v779).toNat := fun i k0_t2 v80_0 k0_t5 v779 k0_hw74 k0_h2 k0_h4 => k0_hw74.1 k0_h2 k0_h4
theorem k0_off58_inb : ∀ (i : grid0.Coords) (k0_t2 : Fin k0_t2_loop.trips) (v80_0 : BitVec 32) (k0_t5 : Fin k0_t5_loop.trips) (v779 : BitVec 32) (k0_hw74 : k0_chk74 i k0_t2 v80_0 k0_t5 v779), ∀ (k0_h2 : k0_cond2 i k0_t2 = 1#1), ∀ (k0_h4 : k0_cond4 v80_0 k0_t5 = 1#1), ∀ a, (k0_off58 v779) a + S16.size a ≤ S128.size a := fun i k0_t2 v80_0 k0_t5 v779 k0_hw74 k0_h2 k0_h4 => k0_hw74.2.1 k0_h2 k0_h4
theorem k0_off59_inb : ∀ (i : grid0.Coords) (k0_t2 : Fin k0_t2_loop.trips) (v80_0 : BitVec 32) (k0_t5 : Fin k0_t5_loop.trips) (v779 : BitVec 32) (k0_hw74 : k0_chk74 i k0_t2 v80_0 k0_t5 v779), ∀ (k0_h2 : k0_cond2 i k0_t2 = 1#1), ∀ (k0_h4 : k0_cond4 v80_0 k0_t5 = 1#1), ∀ a, (k0_off59 v779) a + S16.size a ≤ S128.size a := fun i k0_t2 v80_0 k0_t5 v779 k0_hw74 k0_h2 k0_h4 => k0_hw74.2.2.1 k0_h2 k0_h4
theorem k0_off60_inb : ∀ (i : grid0.Coords) (k0_t2 : Fin k0_t2_loop.trips) (v80_0 : BitVec 32) (k0_t5 : Fin k0_t5_loop.trips) (v779 : BitVec 32) (k0_hw74 : k0_chk74 i k0_t2 v80_0 k0_t5 v779), ∀ (k0_h2 : k0_cond2 i k0_t2 = 1#1), ∀ (k0_h4 : k0_cond4 v80_0 k0_t5 = 1#1), ∀ a, (k0_off60 v779) a + S16.size a ≤ S128.size a := fun i k0_t2 v80_0 k0_t5 v779 k0_hw74 k0_h2 k0_h4 => k0_hw74.2.2.2.1 k0_h2 k0_h4
theorem k0_off61_inb : ∀ (i : grid0.Coords) (k0_t2 : Fin k0_t2_loop.trips) (v80_0 : BitVec 32) (k0_t5 : Fin k0_t5_loop.trips) (v779 : BitVec 32) (k0_hw74 : k0_chk74 i k0_t2 v80_0 k0_t5 v779), ∀ (k0_h2 : k0_cond2 i k0_t2 = 1#1), ∀ (k0_h4 : k0_cond4 v80_0 k0_t5 = 1#1), ∀ a, (k0_off61 v779) a + S16.size a ≤ S128.size a := fun i k0_t2 v80_0 k0_t5 v779 k0_hw74 k0_h2 k0_h4 => k0_hw74.2.2.2.2 k0_h2 k0_h4

def k0_chk78 (i : grid0.Coords) (k0_t2 : Fin k0_t2_loop.trips) (v80_0 : BitVec 32) (k0_t5 : Fin k0_t5_loop.trips) (v815 : IVec S16 32) (v816 : IVec S16 32) : Prop :=
  (∀ (k0_h2 : k0_cond2 i k0_t2 = 1#1), ∀ (k0_h4 : k0_cond4 v80_0 k0_t5 = 1#1), ∀ a x, ((![v815, v816] : Fin 2 → IVec S16 32) a x).toNat < S64x512.size a)
theorem k0_idx66_inb : ∀ (i : grid0.Coords) (k0_t2 : Fin k0_t2_loop.trips) (v80_0 : BitVec 32) (k0_t5 : Fin k0_t5_loop.trips) (v815 : IVec S16 32) (v816 : IVec S16 32) (k0_hw78 : k0_chk78 i k0_t2 v80_0 k0_t5 v815 v816), ∀ (k0_h2 : k0_cond2 i k0_t2 = 1#1), ∀ (k0_h4 : k0_cond4 v80_0 k0_t5 = 1#1), ∀ a x, ((![v815, v816] : Fin 2 → IVec S16 32) a x).toNat < S64x512.size a := fun i k0_t2 v80_0 k0_t5 v815 v816 k0_hw78 k0_h2 k0_h4 => k0_hw78 k0_h2 k0_h4
def k0_mult19 (v818 : BitVec 32) : BitVec 32 :=
  let c1_i32_309 : BitVec 32 := 1#32
  let v819 : BitVec 32 := Scalar.andi v818 c1_i32_309
  let c64_i32_310 : BitVec 32 := 64#32
  let v820 : BitVec 32 := Scalar.muli v819 c64_i32_310
  v820

def k0_off62 (v818 : BitVec 32) : Fin 1 → Nat :=
  let c1_i32_309 : BitVec 32 := 1#32
  let v819 : BitVec 32 := Scalar.andi v818 c1_i32_309
  let c64_i32_310 : BitVec 32 := 64#32
  let v820 : BitVec 32 := Scalar.muli v819 c64_i32_310
  let v821 : BitVec 32 := v820
  let c0_i32_311 : BitVec 32 := 0#32
  let v824 : BitVec 32 := Scalar.addi v821 c0_i32_311
  let v827 : Index := Scalar.indexCast v824
  ![v827.toNat]

def k0_chk80 (i : grid0.Coords) (k0_t2 : Fin k0_t2_loop.trips) (v80_0 : BitVec 32) (k0_t5 : Fin k0_t5_loop.trips) (v830 : IVec S16 32) (v831 : IVec S16 32) : Prop :=
  (∀ (k0_h2 : k0_cond2 i k0_t2 = 1#1), ∀ (k0_h4 : k0_cond4 v80_0 k0_t5 = 1#1), ∀ a x, ((![v830, v831] : Fin 2 → IVec S16 32) a x).toNat < S64x512.size a)
theorem k0_idx67_inb : ∀ (i : grid0.Coords) (k0_t2 : Fin k0_t2_loop.trips) (v80_0 : BitVec 32) (k0_t5 : Fin k0_t5_loop.trips) (v830 : IVec S16 32) (v831 : IVec S16 32) (k0_hw80 : k0_chk80 i k0_t2 v80_0 k0_t5 v830 v831), ∀ (k0_h2 : k0_cond2 i k0_t2 = 1#1), ∀ (k0_h4 : k0_cond4 v80_0 k0_t5 = 1#1), ∀ a x, ((![v830, v831] : Fin 2 → IVec S16 32) a x).toNat < S64x512.size a := fun i k0_t2 v80_0 k0_t5 v830 v831 k0_hw80 k0_h2 k0_h4 => k0_hw80 k0_h2 k0_h4
def k0_off63 (v818 : BitVec 32) : Fin 1 → Nat :=
  let c1_i32_309 : BitVec 32 := 1#32
  let v819 : BitVec 32 := Scalar.andi v818 c1_i32_309
  let c64_i32_310 : BitVec 32 := 64#32
  let v820 : BitVec 32 := Scalar.muli v819 c64_i32_310
  let v821 : BitVec 32 := v820
  let c16_i32_314 : BitVec 32 := 16#32
  let v832 : BitVec 32 := Scalar.addi v821 c16_i32_314
  let v835 : Index := Scalar.indexCast v832
  ![v835.toNat]

def k0_chk81 (i : grid0.Coords) (k0_t2 : Fin k0_t2_loop.trips) (v80_0 : BitVec 32) (k0_t5 : Fin k0_t5_loop.trips) (v838 : IVec S16 32) (v839 : IVec S16 32) : Prop :=
  (∀ (k0_h2 : k0_cond2 i k0_t2 = 1#1), ∀ (k0_h4 : k0_cond4 v80_0 k0_t5 = 1#1), ∀ a x, ((![v838, v839] : Fin 2 → IVec S16 32) a x).toNat < S64x512.size a)
theorem k0_idx68_inb : ∀ (i : grid0.Coords) (k0_t2 : Fin k0_t2_loop.trips) (v80_0 : BitVec 32) (k0_t5 : Fin k0_t5_loop.trips) (v838 : IVec S16 32) (v839 : IVec S16 32) (k0_hw81 : k0_chk81 i k0_t2 v80_0 k0_t5 v838 v839), ∀ (k0_h2 : k0_cond2 i k0_t2 = 1#1), ∀ (k0_h4 : k0_cond4 v80_0 k0_t5 = 1#1), ∀ a x, ((![v838, v839] : Fin 2 → IVec S16 32) a x).toNat < S64x512.size a := fun i k0_t2 v80_0 k0_t5 v838 v839 k0_hw81 k0_h2 k0_h4 => k0_hw81 k0_h2 k0_h4
def k0_off64 (v818 : BitVec 32) : Fin 1 → Nat :=
  let c1_i32_309 : BitVec 32 := 1#32
  let v819 : BitVec 32 := Scalar.andi v818 c1_i32_309
  let c64_i32_310 : BitVec 32 := 64#32
  let v820 : BitVec 32 := Scalar.muli v819 c64_i32_310
  let v821 : BitVec 32 := v820
  let c32_i32_318 : BitVec 32 := 32#32
  let v840 : BitVec 32 := Scalar.addi v821 c32_i32_318
  let v843 : Index := Scalar.indexCast v840
  ![v843.toNat]

def k0_chk82 (i : grid0.Coords) (k0_t2 : Fin k0_t2_loop.trips) (v80_0 : BitVec 32) (k0_t5 : Fin k0_t5_loop.trips) (v846 : IVec S16 32) (v847 : IVec S16 32) : Prop :=
  (∀ (k0_h2 : k0_cond2 i k0_t2 = 1#1), ∀ (k0_h4 : k0_cond4 v80_0 k0_t5 = 1#1), ∀ a x, ((![v846, v847] : Fin 2 → IVec S16 32) a x).toNat < S64x512.size a)
theorem k0_idx69_inb : ∀ (i : grid0.Coords) (k0_t2 : Fin k0_t2_loop.trips) (v80_0 : BitVec 32) (k0_t5 : Fin k0_t5_loop.trips) (v846 : IVec S16 32) (v847 : IVec S16 32) (k0_hw82 : k0_chk82 i k0_t2 v80_0 k0_t5 v846 v847), ∀ (k0_h2 : k0_cond2 i k0_t2 = 1#1), ∀ (k0_h4 : k0_cond4 v80_0 k0_t5 = 1#1), ∀ a x, ((![v846, v847] : Fin 2 → IVec S16 32) a x).toNat < S64x512.size a := fun i k0_t2 v80_0 k0_t5 v846 v847 k0_hw82 k0_h2 k0_h4 => k0_hw82 k0_h2 k0_h4
def k0_off65 (v818 : BitVec 32) : Fin 1 → Nat :=
  let c1_i32_309 : BitVec 32 := 1#32
  let v819 : BitVec 32 := Scalar.andi v818 c1_i32_309
  let c64_i32_310 : BitVec 32 := 64#32
  let v820 : BitVec 32 := Scalar.muli v819 c64_i32_310
  let v821 : BitVec 32 := v820
  let c48_i32_322 : BitVec 32 := 48#32
  let v848 : BitVec 32 := Scalar.addi v821 c48_i32_322
  let v851 : Index := Scalar.indexCast v848
  ![v851.toNat]

def k0_chk79 (i : grid0.Coords) (k0_t2 : Fin k0_t2_loop.trips) (v80_0 : BitVec 32) (k0_t5 : Fin k0_t5_loop.trips) (v818 : BitVec 32) : Prop :=
  (∀ (k0_h2 : k0_cond2 i k0_t2 = 1#1), ∀ (k0_h4 : k0_cond4 v80_0 k0_t5 = 1#1), 16 ∣ (k0_mult19 v818).toNat) ∧
  (∀ (k0_h2 : k0_cond2 i k0_t2 = 1#1), ∀ (k0_h4 : k0_cond4 v80_0 k0_t5 = 1#1), ∀ a, (k0_off62 v818) a + S16.size a ≤ S128.size a) ∧
  (∀ (k0_h2 : k0_cond2 i k0_t2 = 1#1), ∀ (k0_h4 : k0_cond4 v80_0 k0_t5 = 1#1), ∀ a, (k0_off63 v818) a + S16.size a ≤ S128.size a) ∧
  (∀ (k0_h2 : k0_cond2 i k0_t2 = 1#1), ∀ (k0_h4 : k0_cond4 v80_0 k0_t5 = 1#1), ∀ a, (k0_off64 v818) a + S16.size a ≤ S128.size a) ∧
  (∀ (k0_h2 : k0_cond2 i k0_t2 = 1#1), ∀ (k0_h4 : k0_cond4 v80_0 k0_t5 = 1#1), ∀ a, (k0_off65 v818) a + S16.size a ≤ S128.size a)
theorem k0_mult19_dvd : ∀ (i : grid0.Coords) (k0_t2 : Fin k0_t2_loop.trips) (v80_0 : BitVec 32) (k0_t5 : Fin k0_t5_loop.trips) (v818 : BitVec 32) (k0_hw79 : k0_chk79 i k0_t2 v80_0 k0_t5 v818), ∀ (k0_h2 : k0_cond2 i k0_t2 = 1#1), ∀ (k0_h4 : k0_cond4 v80_0 k0_t5 = 1#1), 16 ∣ (k0_mult19 v818).toNat := fun i k0_t2 v80_0 k0_t5 v818 k0_hw79 k0_h2 k0_h4 => k0_hw79.1 k0_h2 k0_h4
theorem k0_off62_inb : ∀ (i : grid0.Coords) (k0_t2 : Fin k0_t2_loop.trips) (v80_0 : BitVec 32) (k0_t5 : Fin k0_t5_loop.trips) (v818 : BitVec 32) (k0_hw79 : k0_chk79 i k0_t2 v80_0 k0_t5 v818), ∀ (k0_h2 : k0_cond2 i k0_t2 = 1#1), ∀ (k0_h4 : k0_cond4 v80_0 k0_t5 = 1#1), ∀ a, (k0_off62 v818) a + S16.size a ≤ S128.size a := fun i k0_t2 v80_0 k0_t5 v818 k0_hw79 k0_h2 k0_h4 => k0_hw79.2.1 k0_h2 k0_h4
theorem k0_off63_inb : ∀ (i : grid0.Coords) (k0_t2 : Fin k0_t2_loop.trips) (v80_0 : BitVec 32) (k0_t5 : Fin k0_t5_loop.trips) (v818 : BitVec 32) (k0_hw79 : k0_chk79 i k0_t2 v80_0 k0_t5 v818), ∀ (k0_h2 : k0_cond2 i k0_t2 = 1#1), ∀ (k0_h4 : k0_cond4 v80_0 k0_t5 = 1#1), ∀ a, (k0_off63 v818) a + S16.size a ≤ S128.size a := fun i k0_t2 v80_0 k0_t5 v818 k0_hw79 k0_h2 k0_h4 => k0_hw79.2.2.1 k0_h2 k0_h4
theorem k0_off64_inb : ∀ (i : grid0.Coords) (k0_t2 : Fin k0_t2_loop.trips) (v80_0 : BitVec 32) (k0_t5 : Fin k0_t5_loop.trips) (v818 : BitVec 32) (k0_hw79 : k0_chk79 i k0_t2 v80_0 k0_t5 v818), ∀ (k0_h2 : k0_cond2 i k0_t2 = 1#1), ∀ (k0_h4 : k0_cond4 v80_0 k0_t5 = 1#1), ∀ a, (k0_off64 v818) a + S16.size a ≤ S128.size a := fun i k0_t2 v80_0 k0_t5 v818 k0_hw79 k0_h2 k0_h4 => k0_hw79.2.2.2.1 k0_h2 k0_h4
theorem k0_off65_inb : ∀ (i : grid0.Coords) (k0_t2 : Fin k0_t2_loop.trips) (v80_0 : BitVec 32) (k0_t5 : Fin k0_t5_loop.trips) (v818 : BitVec 32) (k0_hw79 : k0_chk79 i k0_t2 v80_0 k0_t5 v818), ∀ (k0_h2 : k0_cond2 i k0_t2 = 1#1), ∀ (k0_h4 : k0_cond4 v80_0 k0_t5 = 1#1), ∀ a, (k0_off65 v818) a + S16.size a ≤ S128.size a := fun i k0_t2 v80_0 k0_t5 v818 k0_hw79 k0_h2 k0_h4 => k0_hw79.2.2.2.2 k0_h2 k0_h4

def k0_chk83 (i : grid0.Coords) (k0_t2 : Fin k0_t2_loop.trips) (v80_0 : BitVec 32) (k0_t5 : Fin k0_t5_loop.trips) (v854 : IVec S16 32) (v855 : IVec S16 32) : Prop :=
  (∀ (k0_h2 : k0_cond2 i k0_t2 = 1#1), ∀ (k0_h4 : k0_cond4 v80_0 k0_t5 = 1#1), ∀ a x, ((![v854, v855] : Fin 2 → IVec S16 32) a x).toNat < S64x512.size a)
theorem k0_idx70_inb : ∀ (i : grid0.Coords) (k0_t2 : Fin k0_t2_loop.trips) (v80_0 : BitVec 32) (k0_t5 : Fin k0_t5_loop.trips) (v854 : IVec S16 32) (v855 : IVec S16 32) (k0_hw83 : k0_chk83 i k0_t2 v80_0 k0_t5 v854 v855), ∀ (k0_h2 : k0_cond2 i k0_t2 = 1#1), ∀ (k0_h4 : k0_cond4 v80_0 k0_t5 = 1#1), ∀ a x, ((![v854, v855] : Fin 2 → IVec S16 32) a x).toNat < S64x512.size a := fun i k0_t2 v80_0 k0_t5 v854 v855 k0_hw83 k0_h2 k0_h4 => k0_hw83 k0_h2 k0_h4
def k0_mult20 (v857 : BitVec 32) : BitVec 32 :=
  let c1_i32_326 : BitVec 32 := 1#32
  let v858 : BitVec 32 := Scalar.andi v857 c1_i32_326
  let c64_i32_327 : BitVec 32 := 64#32
  let v859 : BitVec 32 := Scalar.muli v858 c64_i32_327
  v859

def k0_off66 (v857 : BitVec 32) : Fin 1 → Nat :=
  let c1_i32_326 : BitVec 32 := 1#32
  let v858 : BitVec 32 := Scalar.andi v857 c1_i32_326
  let c64_i32_327 : BitVec 32 := 64#32
  let v859 : BitVec 32 := Scalar.muli v858 c64_i32_327
  let v860 : BitVec 32 := v859
  let c0_i32_328 : BitVec 32 := 0#32
  let v863 : BitVec 32 := Scalar.addi v860 c0_i32_328
  let v866 : Index := Scalar.indexCast v863
  ![v866.toNat]

def k0_chk85 (i : grid0.Coords) (k0_t2 : Fin k0_t2_loop.trips) (v80_0 : BitVec 32) (k0_t5 : Fin k0_t5_loop.trips) (v869 : IVec S16 32) (v870 : IVec S16 32) : Prop :=
  (∀ (k0_h2 : k0_cond2 i k0_t2 = 1#1), ∀ (k0_h4 : k0_cond4 v80_0 k0_t5 = 1#1), ∀ a x, ((![v869, v870] : Fin 2 → IVec S16 32) a x).toNat < S64x512.size a)
theorem k0_idx71_inb : ∀ (i : grid0.Coords) (k0_t2 : Fin k0_t2_loop.trips) (v80_0 : BitVec 32) (k0_t5 : Fin k0_t5_loop.trips) (v869 : IVec S16 32) (v870 : IVec S16 32) (k0_hw85 : k0_chk85 i k0_t2 v80_0 k0_t5 v869 v870), ∀ (k0_h2 : k0_cond2 i k0_t2 = 1#1), ∀ (k0_h4 : k0_cond4 v80_0 k0_t5 = 1#1), ∀ a x, ((![v869, v870] : Fin 2 → IVec S16 32) a x).toNat < S64x512.size a := fun i k0_t2 v80_0 k0_t5 v869 v870 k0_hw85 k0_h2 k0_h4 => k0_hw85 k0_h2 k0_h4
def k0_off67 (v857 : BitVec 32) : Fin 1 → Nat :=
  let c1_i32_326 : BitVec 32 := 1#32
  let v858 : BitVec 32 := Scalar.andi v857 c1_i32_326
  let c64_i32_327 : BitVec 32 := 64#32
  let v859 : BitVec 32 := Scalar.muli v858 c64_i32_327
  let v860 : BitVec 32 := v859
  let c16_i32_331 : BitVec 32 := 16#32
  let v871 : BitVec 32 := Scalar.addi v860 c16_i32_331
  let v874 : Index := Scalar.indexCast v871
  ![v874.toNat]

def k0_chk86 (i : grid0.Coords) (k0_t2 : Fin k0_t2_loop.trips) (v80_0 : BitVec 32) (k0_t5 : Fin k0_t5_loop.trips) (v877 : IVec S16 32) (v878 : IVec S16 32) : Prop :=
  (∀ (k0_h2 : k0_cond2 i k0_t2 = 1#1), ∀ (k0_h4 : k0_cond4 v80_0 k0_t5 = 1#1), ∀ a x, ((![v877, v878] : Fin 2 → IVec S16 32) a x).toNat < S64x512.size a)
theorem k0_idx72_inb : ∀ (i : grid0.Coords) (k0_t2 : Fin k0_t2_loop.trips) (v80_0 : BitVec 32) (k0_t5 : Fin k0_t5_loop.trips) (v877 : IVec S16 32) (v878 : IVec S16 32) (k0_hw86 : k0_chk86 i k0_t2 v80_0 k0_t5 v877 v878), ∀ (k0_h2 : k0_cond2 i k0_t2 = 1#1), ∀ (k0_h4 : k0_cond4 v80_0 k0_t5 = 1#1), ∀ a x, ((![v877, v878] : Fin 2 → IVec S16 32) a x).toNat < S64x512.size a := fun i k0_t2 v80_0 k0_t5 v877 v878 k0_hw86 k0_h2 k0_h4 => k0_hw86 k0_h2 k0_h4
def k0_off68 (v857 : BitVec 32) : Fin 1 → Nat :=
  let c1_i32_326 : BitVec 32 := 1#32
  let v858 : BitVec 32 := Scalar.andi v857 c1_i32_326
  let c64_i32_327 : BitVec 32 := 64#32
  let v859 : BitVec 32 := Scalar.muli v858 c64_i32_327
  let v860 : BitVec 32 := v859
  let c32_i32_335 : BitVec 32 := 32#32
  let v879 : BitVec 32 := Scalar.addi v860 c32_i32_335
  let v882 : Index := Scalar.indexCast v879
  ![v882.toNat]

def k0_chk87 (i : grid0.Coords) (k0_t2 : Fin k0_t2_loop.trips) (v80_0 : BitVec 32) (k0_t5 : Fin k0_t5_loop.trips) (v885 : IVec S16 32) (v886 : IVec S16 32) : Prop :=
  (∀ (k0_h2 : k0_cond2 i k0_t2 = 1#1), ∀ (k0_h4 : k0_cond4 v80_0 k0_t5 = 1#1), ∀ a x, ((![v885, v886] : Fin 2 → IVec S16 32) a x).toNat < S64x512.size a)
theorem k0_idx73_inb : ∀ (i : grid0.Coords) (k0_t2 : Fin k0_t2_loop.trips) (v80_0 : BitVec 32) (k0_t5 : Fin k0_t5_loop.trips) (v885 : IVec S16 32) (v886 : IVec S16 32) (k0_hw87 : k0_chk87 i k0_t2 v80_0 k0_t5 v885 v886), ∀ (k0_h2 : k0_cond2 i k0_t2 = 1#1), ∀ (k0_h4 : k0_cond4 v80_0 k0_t5 = 1#1), ∀ a x, ((![v885, v886] : Fin 2 → IVec S16 32) a x).toNat < S64x512.size a := fun i k0_t2 v80_0 k0_t5 v885 v886 k0_hw87 k0_h2 k0_h4 => k0_hw87 k0_h2 k0_h4
def k0_off69 (v857 : BitVec 32) : Fin 1 → Nat :=
  let c1_i32_326 : BitVec 32 := 1#32
  let v858 : BitVec 32 := Scalar.andi v857 c1_i32_326
  let c64_i32_327 : BitVec 32 := 64#32
  let v859 : BitVec 32 := Scalar.muli v858 c64_i32_327
  let v860 : BitVec 32 := v859
  let c48_i32_339 : BitVec 32 := 48#32
  let v887 : BitVec 32 := Scalar.addi v860 c48_i32_339
  let v890 : Index := Scalar.indexCast v887
  ![v890.toNat]

def k0_chk84 (i : grid0.Coords) (k0_t2 : Fin k0_t2_loop.trips) (v80_0 : BitVec 32) (k0_t5 : Fin k0_t5_loop.trips) (v857 : BitVec 32) : Prop :=
  (∀ (k0_h2 : k0_cond2 i k0_t2 = 1#1), ∀ (k0_h4 : k0_cond4 v80_0 k0_t5 = 1#1), 16 ∣ (k0_mult20 v857).toNat) ∧
  (∀ (k0_h2 : k0_cond2 i k0_t2 = 1#1), ∀ (k0_h4 : k0_cond4 v80_0 k0_t5 = 1#1), ∀ a, (k0_off66 v857) a + S16.size a ≤ S128.size a) ∧
  (∀ (k0_h2 : k0_cond2 i k0_t2 = 1#1), ∀ (k0_h4 : k0_cond4 v80_0 k0_t5 = 1#1), ∀ a, (k0_off67 v857) a + S16.size a ≤ S128.size a) ∧
  (∀ (k0_h2 : k0_cond2 i k0_t2 = 1#1), ∀ (k0_h4 : k0_cond4 v80_0 k0_t5 = 1#1), ∀ a, (k0_off68 v857) a + S16.size a ≤ S128.size a) ∧
  (∀ (k0_h2 : k0_cond2 i k0_t2 = 1#1), ∀ (k0_h4 : k0_cond4 v80_0 k0_t5 = 1#1), ∀ a, (k0_off69 v857) a + S16.size a ≤ S128.size a)
theorem k0_mult20_dvd : ∀ (i : grid0.Coords) (k0_t2 : Fin k0_t2_loop.trips) (v80_0 : BitVec 32) (k0_t5 : Fin k0_t5_loop.trips) (v857 : BitVec 32) (k0_hw84 : k0_chk84 i k0_t2 v80_0 k0_t5 v857), ∀ (k0_h2 : k0_cond2 i k0_t2 = 1#1), ∀ (k0_h4 : k0_cond4 v80_0 k0_t5 = 1#1), 16 ∣ (k0_mult20 v857).toNat := fun i k0_t2 v80_0 k0_t5 v857 k0_hw84 k0_h2 k0_h4 => k0_hw84.1 k0_h2 k0_h4
theorem k0_off66_inb : ∀ (i : grid0.Coords) (k0_t2 : Fin k0_t2_loop.trips) (v80_0 : BitVec 32) (k0_t5 : Fin k0_t5_loop.trips) (v857 : BitVec 32) (k0_hw84 : k0_chk84 i k0_t2 v80_0 k0_t5 v857), ∀ (k0_h2 : k0_cond2 i k0_t2 = 1#1), ∀ (k0_h4 : k0_cond4 v80_0 k0_t5 = 1#1), ∀ a, (k0_off66 v857) a + S16.size a ≤ S128.size a := fun i k0_t2 v80_0 k0_t5 v857 k0_hw84 k0_h2 k0_h4 => k0_hw84.2.1 k0_h2 k0_h4
theorem k0_off67_inb : ∀ (i : grid0.Coords) (k0_t2 : Fin k0_t2_loop.trips) (v80_0 : BitVec 32) (k0_t5 : Fin k0_t5_loop.trips) (v857 : BitVec 32) (k0_hw84 : k0_chk84 i k0_t2 v80_0 k0_t5 v857), ∀ (k0_h2 : k0_cond2 i k0_t2 = 1#1), ∀ (k0_h4 : k0_cond4 v80_0 k0_t5 = 1#1), ∀ a, (k0_off67 v857) a + S16.size a ≤ S128.size a := fun i k0_t2 v80_0 k0_t5 v857 k0_hw84 k0_h2 k0_h4 => k0_hw84.2.2.1 k0_h2 k0_h4
theorem k0_off68_inb : ∀ (i : grid0.Coords) (k0_t2 : Fin k0_t2_loop.trips) (v80_0 : BitVec 32) (k0_t5 : Fin k0_t5_loop.trips) (v857 : BitVec 32) (k0_hw84 : k0_chk84 i k0_t2 v80_0 k0_t5 v857), ∀ (k0_h2 : k0_cond2 i k0_t2 = 1#1), ∀ (k0_h4 : k0_cond4 v80_0 k0_t5 = 1#1), ∀ a, (k0_off68 v857) a + S16.size a ≤ S128.size a := fun i k0_t2 v80_0 k0_t5 v857 k0_hw84 k0_h2 k0_h4 => k0_hw84.2.2.2.1 k0_h2 k0_h4
theorem k0_off69_inb : ∀ (i : grid0.Coords) (k0_t2 : Fin k0_t2_loop.trips) (v80_0 : BitVec 32) (k0_t5 : Fin k0_t5_loop.trips) (v857 : BitVec 32) (k0_hw84 : k0_chk84 i k0_t2 v80_0 k0_t5 v857), ∀ (k0_h2 : k0_cond2 i k0_t2 = 1#1), ∀ (k0_h4 : k0_cond4 v80_0 k0_t5 = 1#1), ∀ a, (k0_off69 v857) a + S16.size a ≤ S128.size a := fun i k0_t2 v80_0 k0_t5 v857 k0_hw84 k0_h2 k0_h4 => k0_hw84.2.2.2.2 k0_h2 k0_h4

def k0_chk88 (i : grid0.Coords) (k0_t2 : Fin k0_t2_loop.trips) (v80_0 : BitVec 32) (k0_t5 : Fin k0_t5_loop.trips) (v893 : IVec S16 32) (v894 : IVec S16 32) : Prop :=
  (∀ (k0_h2 : k0_cond2 i k0_t2 = 1#1), ∀ (k0_h4 : k0_cond4 v80_0 k0_t5 = 1#1), ∀ a x, ((![v893, v894] : Fin 2 → IVec S16 32) a x).toNat < S64x512.size a)
theorem k0_idx74_inb : ∀ (i : grid0.Coords) (k0_t2 : Fin k0_t2_loop.trips) (v80_0 : BitVec 32) (k0_t5 : Fin k0_t5_loop.trips) (v893 : IVec S16 32) (v894 : IVec S16 32) (k0_hw88 : k0_chk88 i k0_t2 v80_0 k0_t5 v893 v894), ∀ (k0_h2 : k0_cond2 i k0_t2 = 1#1), ∀ (k0_h4 : k0_cond4 v80_0 k0_t5 = 1#1), ∀ a x, ((![v893, v894] : Fin 2 → IVec S16 32) a x).toNat < S64x512.size a := fun i k0_t2 v80_0 k0_t5 v893 v894 k0_hw88 k0_h2 k0_h4 => k0_hw88 k0_h2 k0_h4
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S1000000x64 : Shape := ⟨2, ![1000000, 64]⟩
abbrev S16384 : Shape := ⟨1, ![16384]⟩
abbrev S16384x64 : Shape := ⟨2, ![16384, 64]⟩
abbrev S_ : Shape := ⟨0, ![]⟩
abbrev S16384x1 : Shape := ⟨2, ![16384, 1]⟩

abbrev nBuf : Space → Nat
  | .hbm => 12
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S16384, .i32⟩
  | .hbm, ⟨2, _⟩ => ⟨S16384x64, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1000000x64, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Proof.Lanes.lean ====
/-
  Facts about the kernel's sixteen-lane vectors: what an indexed store leaves behind, what a running sum of a mask
  counts, what a running maximum bounds, and what they give together: COMPACTION. A predicate `good` on positions is
  tested sixteen positions at a time; the lanes that pass are stored, in order, one behind another, at the places the
  running sum names. `Compact good B src f` says that after the first `B` positions the `n`-th good position's word
  stands at place `n` of `f`.
-/
module

public import Idealize.ShloMosaic.Lib.SparseCore.Ops
public import Idealize.ShloMosaic.Lib.Pointwise.Index
public import Mathlib.Data.Nat.Count

@[expose] public section

noncomputable section

namespace Cert.Proof.Lanes

open Idealize.ShloMosaic

/-- The shape of one register. -/
abbrev L16 : Shape := ⟨1, ![16]⟩

theorem ofLane_eq (k : Fin 16) : (Shape.ofLane (d := ![16]) k) = ix1 k := by
  funext a; obtain rfl : a = 0 := Subsingleton.elim _ _; rfl

section Store
variable {F : FTy → Type} [FloatOps F] {s : Shape} {e : EltTy}

/-- Lane `k` of an indexed store writes element `j`. -/
def Hits (idxs : Fin s.rank → IVec L16 32) (mask : IVec L16 1) (k : Fin 16) (j : s.Idx) : Prop :=
  mask (ix1 k) = 1 ∧ ∀ a, (j a).val = (idxs a (ix1 k)).toNat

open Classical in
theorem storeIdx_def (f : Vec F s e) (idxs : Fin s.rank → IVec L16 32) (v : Vec F L16 e) (mask : IVec L16 1)
    (h : ∀ a x, (idxs a x).toNat < s.size a) :
    storeIdx f idxs v mask false h
      = (List.finRange 16).foldl (fun (g : Vec F s e) (k : Fin 16) => fun j => if Hits idxs mask k j then v (ix1 k) else g j) f := by
  have e1 : storeIdx f idxs v mask false h = (List.finRange 16).foldl (fun (g : Vec F s e) (k : Fin 16) =>
      if mask (Shape.ofLane (d := ![16]) k) = 1 then
        fun j => if (∀ a, (j a).val = (idxAt idxs h (Shape.ofLane (d := ![16]) k) a).val) then v (Shape.ofLane (d := ![16]) k) else g j
      else g) f := rfl
  rw [e1]
  congr 1
  funext g k
  have e2 := ofLane_eq k
  generalize Shape.ofLane (d := ![16]) k = x at e2 ⊢
  subst e2
  by_cases h1 : mask (ix1 k) = 1
  · rw [if_pos h1]; funext j
    by_cases h2 : ∀ a, (j a).val = (idxAt idxs h (ix1 k) a).val
    · rw [if_pos h2, if_pos ⟨h1, h2⟩]
    · rw [if_neg h2, if_neg fun hh => h2 hh.2]
  · rw [if_neg h1]; funext j
    rw [if_neg fun hh => h1 hh.1]

/-- An element no lane writes keeps its value. -/
theorem storeIdx_miss (f : Vec F s e) (idxs : Fin s.rank → IVec L16 32) (v : Vec F L16 e) (mask : IVec L16 1)
    (h : ∀ a x, (idxs a x).toNat < s.size a) (j : s.Idx) (hj : ∀ k, ¬ Hits idxs mask k j) :
    storeIdx f idxs v mask false h j = f j := by
  rw [storeIdx_def]
  generalize List.finRange 16 = l
  induction l using List.reverseRecOn with
  | nil => rfl
  | append_singleton l k ih =>
    rw [List.foldl_append]
    simp only [List.foldl_cons, List.foldl_nil]
    rw [if_neg (hj k), ih]

/-- An element some lane writes, every lane that writes it with the same word, ends with that word. -/
theorem storeIdx_hit (f : Vec F s e) (idxs : Fin s.rank → IVec L16 32) (v : Vec F L16 e) (mask : IVec L16 1)
    (h : ∀ a x, (idxs a x).toNat < s.size a) (j : s.Idx) (y : Elt F e) (hex : ∃ k, Hits idxs mask k j)
    (hall : ∀ k, Hits idxs mask k j → v (ix1 k) = y) :
    storeIdx f idxs v mask false h j = y := by
  rw [storeIdx_def]
  obtain ⟨k', hk'⟩ := hex
  have hmem : k' ∈ List.finRange 16 := List.mem_finRange k'
  revert hmem
  generalize List.finRange 16 = l
  induction l using List.reverseRecOn with
  | nil => intro hk; cases hk
  | append_singleton l k ih =>
    intro hmem
    rw [List.foldl_append]
    simp only [List.foldl_cons, List.foldl_nil]
    by_cases hk : Hits idxs mask k j
    · rw [if_pos hk]; exact hall k hk
    · rw [if_neg hk]
      rcases List.mem_append.mp hmem with h' | h'
      · exact ih h'
      · exact absurd (List.mem_singleton.mp h' ▸ hk') hk

end Store

/-! ## Running sums and maxima -/

theorem scan_def (kind : ScanKind) (v : IVec L16 32) (k : Fin 16) :
    scan kind v (ix1 k) = ((List.finRange 16).filter fun q => decide (0 < q.val ∧ q.val ≤ k.val)).foldl
      (fun r q => kind.step r (v (ix1 q))) (v (ix1 0)) := by
  have e : (fun q : Fin 16 => v (Shape.ofLane (d := ![16]) q)) = fun q => v (ix1 q) := funext fun q => by rw [ofLane_eq]
  have e' : scan kind v (ix1 k) = ((List.finRange 16).filter fun q => decide (0 < q.val ∧ q.val ≤ k.val)).foldl
      (fun r q => kind.step r ((fun q : Fin 16 => v (Shape.ofLane (d := ![16]) q)) q)) ((fun q : Fin 16 => v (Shape.ofLane (d := ![16]) q)) 0) := rfl
  rw [e', e]

theorem scan_zero (kind : ScanKind) (v : IVec L16 32) : scan kind v (ix1 0) = v (ix1 0) := by
  rw [scan_def, show ((List.finRange 16).filter fun k => decide (0 < k.val ∧ k.val ≤ (0 : Fin 16).val)) = [] by decide]; rfl

theorem scan_succ (kind : ScanKind) (v : IVec L16 32) (k : Fin 15) :
    scan kind v (ix1 k.succ) = kind.step (scan kind v (ix1 k.castSucc)) (v (ix1 k.succ)) := by
  have hl : ∀ k : Fin 15, ((List.finRange 16).filter fun q => decide (0 < q.val ∧ q.val ≤ k.succ.val))
      = ((List.finRange 16).filter fun q => decide (0 < q.val ∧ q.val ≤ k.castSucc.val)) ++ [k.succ] := by decide
  rw [scan_def, scan_def, hl, List.foldl_append]; rfl

section Count
variable (good : ℕ → Prop) [DecidablePred good] (B : ℕ)

/-- The count so far, and the running sum of the mask's words over it. -/
theorem count_scan (m : IVec L16 1) (hw : 1 < 32) (hm : ∀ k : Fin 16, m (ix1 k) = 1 ↔ good (B + k.val)) (k : Fin 16) :
    BitVec.ofNat 32 (Nat.count good B) + scan .sum (extui 32 m hw) (ix1 k) = BitVec.ofNat 32 (Nat.count good (B + k.val + 1)) := by
  have one : ∀ k : Fin 16, extui 32 m hw (ix1 k) = BitVec.ofNat 32 (if good (B + k.val) then 1 else 0) := by
    intro k
    show (m (ix1 k)).setWidth 32 = _
    by_cases hg : good (B + k.val)
    · rw [(hm k).2 hg, if_pos hg]; rfl
    · have h0 : m (ix1 k) = 0 := by
        have := mt (hm k).1 hg
        revert this; generalize m (ix1 k) = b; revert b; decide
      rw [h0, if_neg hg]; rfl
  induction k using Fin.induction with
  | zero =>
    rw [scan_zero, one, Nat.count_succ, ← BitVec.ofNat_add]; rfl
  | succ k ih =>
    rw [scan_succ]
    show _ + (_ + _) = _
    rw [← BitVec.add_assoc, ih, one, ← BitVec.ofNat_add, Nat.count_succ good (B + k.succ.val)]
    rfl

/-- A lane's place: the count before it. -/
theorem count_place (m : IVec L16 1) (hw : 1 < 32) (hm : ∀ k : Fin 16, m (ix1 k) = 1 ↔ good (B + k.val)) (k : Fin 16) :
    subi (addi (broadcast L16 (BitVec.ofNat 32 (Nat.count good B))) (scan .sum (extui 32 m hw))) (extui 32 m hw) (ix1 k)
      = BitVec.ofNat 32 (Nat.count good (B + k.val)) := by
  show BitVec.ofNat 32 (Nat.count good B) + scan .sum (extui 32 m hw) (ix1 k) - (m (ix1 k)).setWidth 32 = _
  rw [count_scan good B m hw hm k, Nat.count_succ]
  by_cases hg : good (B + k.val)
  · rw [(hm k).2 hg, if_pos hg, BitVec.ofNat_add]
    show _ + 1#32 - 1#32 = _
    rw [BitVec.add_sub_cancel]
  · have h0 : m (ix1 k) = 0 := by
      have := mt (hm k).1 hg
      revert this; generalize m (ix1 k) = b; revert b; decide
    rw [h0, if_neg hg]
    show _ - 0#32 = _
    simp

/-- The count after a register's worth. -/
theorem count_total (m : IVec L16 1) (hw : 1 < 32) (hm : ∀ k : Fin 16, m (ix1 k) = 1 ↔ good (B + k.val)) :
    BitVec.ofNat 32 (Nat.count good B) + scan .sum (extui 32 m hw) (ix1 15) = BitVec.ofNat 32 (Nat.count good (B + 16)) :=
  count_scan good B m hw hm 15

end Count

theorem scan_max (v : IVec L16 32) (k : Fin 16) :
    (∃ q ≤ k, scan .max v (ix1 k) = v (ix1 q)) ∧ ∀ q ≤ k, (v (ix1 q)).toNat ≤ (scan .max v (ix1 k)).toNat := by
  induction k using Fin.induction with
  | zero =>
    rw [scan_zero]
    refine ⟨⟨0, le_refl _, rfl⟩, fun q hq => ?_⟩
    rw [Fin.le_zero_iff.mp hq]
  | succ k ih =>
    rw [scan_succ]
    obtain ⟨⟨q₀, hq₀, e₀⟩, hle⟩ := ih
    show (∃ q ≤ k.succ, IntOp.maxui _ _ = _) ∧ ∀ q ≤ k.succ, _ ≤ (IntOp.maxui _ _).toNat
    unfold IntOp.maxui
    have hs : ∀ q : Fin 16, q ≤ k.succ → q ≤ k.castSucc ∨ q = k.succ := by
      intro q hq
      rcases lt_or_eq_of_le hq with h | h
      · left; rw [Fin.le_def]; have := Fin.lt_def.mp h; simp at this ⊢; omega
      · exact .inr h
    have hk : q₀ ≤ k.succ := le_trans hq₀ (by rw [Fin.le_def]; simp)
    split
    · rename_i hlt
      have hlt' : (v (ix1 k.succ)).toNat < (scan .max v (ix1 k.castSucc)).toNat := by simpa [BitVec.ult] using hlt
      refine ⟨⟨q₀, hk, e₀⟩, fun q hq => ?_⟩
      rcases hs q hq with h | rfl
      · exact hle q h
      · exact hlt'.le
    · rename_i hlt
      have hlt' : (scan .max v (ix1 k.castSucc)).toNat ≤ (v (ix1 k.succ)).toNat := by simpa [BitVec.ult] using hlt
      refine ⟨⟨k.succ, le_refl _, rfl⟩, fun q hq => ?_⟩
      rcases hs q hq with h | rfl
      · exact (hle q h).trans hlt'
      · exact le_refl _

/-! ## Compaction -/

/-- After the first `B` positions, the `n`-th good position's word stands at place `n`. -/
def Compact (good : ℕ → Prop) [DecidablePred good] (B : ℕ) (src : ℕ → BitVec 32) {N : ℕ} (f : (⟨1, ![N]⟩ : Shape).Idx → BitVec 32) : Prop :=
  ∀ p < B, good p → ∀ j, (j 0).val = Nat.count good p → f j = src p

theorem Compact.zero (good : ℕ → Prop) [DecidablePred good] (src : ℕ → BitVec 32) {N : ℕ} (f : (⟨1, ![N]⟩ : Shape).Idx → BitVec 32) :
    Compact good 0 src f := fun _ h => absurd h (Nat.not_lt_zero _)

theorem Compact.step {F : FTy → Type} [FloatOps F] {good : ℕ → Prop} [DecidablePred good] {B : ℕ} {src : ℕ → BitVec 32} {N : ℕ}
    {f : Vec F (⟨1, ![N]⟩ : Shape) .i32} (hf : Compact good B src f) {tgt : IVec L16 32} {mask : IVec L16 1} {v : Vec F L16 .i32}
    (ht : ∀ k : Fin 16, good (B + k.val) → (tgt (ix1 k)).toNat = Nat.count good (B + k.val))
    (hm : ∀ k : Fin 16, mask (ix1 k) = 1 ↔ good (B + k.val))
    (hv : ∀ k : Fin 16, good (B + k.val) → v (ix1 k) = src (B + k.val))
    (h : ∀ a x, ((![tgt] : Fin 1 → IVec L16 32) a x).toNat < (⟨1, ![N]⟩ : Shape).size a) :
    Compact good (B + 16) src (storeIdx (F := F) (s := (⟨1, ![N]⟩ : Shape)) f ![tgt] v mask false h) := by
  intro p hp hg j hj
  by_cases hpB : p < B
  · rw [storeIdx_miss]
    · exact hf p hpB hg j hj
    · rintro k ⟨hk, hjk⟩
      have hgk := (hm k).1 hk
      have h1 : (j 0).val = Nat.count good (B + k.val) := (hjk 0).trans (ht k hgk)
      have h2 : Nat.count good p < Nat.count good (B + k.val) :=
        Nat.count_strict_mono hg (by omega)
      omega
  · obtain ⟨k, rfl⟩ : ∃ k : Fin 16, p = B + k.val := ⟨⟨p - B, by omega⟩, by simp; omega⟩
    apply storeIdx_hit
    · refine ⟨k, (hm k).2 hg, fun a => ?_⟩
      obtain rfl : a = 0 := Subsingleton.elim _ _
      exact hj.trans (ht k hg).symm
    · rintro k' ⟨hk', hjk'⟩
      have hgk := (hm k').1 hk'
      have h1 : (j 0).val = Nat.count good (B + k'.val) := (hjk' 0).trans (ht k' hgk)
      have : B + k.val = B + k'.val := Nat.count_injective hg hgk (hj.symm.trans h1)
      rw [hv k' hgk, this]

/-! ## The greatest word so far -/

/-- `L` is `-1` while no position below `B` is good, then the greatest `val` of a good one. -/
def Greatest (good : ℕ → Prop) (B : ℕ) (val : ℕ → ℕ) (L : BitVec 32) : Prop :=
  (L = -1#32 ∧ ∀ p < B, ¬ good p) ∨ ∃ p < B, good p ∧ L = BitVec.ofNat 32 (val p) ∧ ∀ q < B, good q → val q ≤ val p

theorem toNat_flip (x : BitVec 32) : (x ^^^ 2147483648#32).toNat = (2 ^ 31 + x.toNat) % 2 ^ 32 := by
  rw [BitVec.toNat_xor]
  show x.toNat ^^^ 2 ^ 31 = _
  apply Nat.eq_of_testBit_eq
  intro j
  rw [Nat.testBit_xor, Nat.testBit_mod_two_pow, Nat.testBit_two_pow]
  rcases lt_trichotomy j 31 with h | rfl | h
  · rw [Nat.testBit_two_pow_add_gt h]
    simp [show j < 32 by omega, show ¬ 31 = j by omega]
  · rw [Nat.testBit_two_pow_add_eq]; simp
  · have hx : x.toNat.testBit j = false :=
      Nat.testBit_lt_two_pow (lt_of_lt_of_le x.isLt (Nat.pow_le_pow_right (by decide) (by omega)))
    simp [hx, show ¬ j < 32 by omega, show ¬ 31 = j by omega]

theorem toInt_flip (x : BitVec 32) : ((x ^^^ 2147483648#32).toNat : ℤ) = x.toInt + 2147483648 := by
  rw [toNat_flip, BitVec.toInt_eq_toNat_cond]
  have := x.isLt
  split <;> omega

theorem flip_flip (x : BitVec 32) : (x ^^^ 2147483648#32) ^^^ 2147483648#32 = x := by
  rw [BitVec.xor_assoc, BitVec.xor_self, BitVec.xor_zero]

/-- The signed maximum of a register, as the kernel takes it: sign flipped, running unsigned maximum, sign flipped back. -/
theorem signed_max (v : IVec L16 32) :
    (∃ q, xori (scan .max (xori v (broadcast L16 2147483648#32))) (broadcast L16 2147483648#32) (ix1 15) = v (ix1 q))
      ∧ ∀ q, (v (ix1 q)).toInt ≤ (xori (scan .max (xori v (broadcast L16 2147483648#32))) (broadcast L16 2147483648#32) (ix1 15)).toInt := by
  obtain ⟨⟨q₀, -, e₀⟩, hle⟩ := scan_max (xori v (broadcast L16 2147483648#32)) 15
  have e : xori (scan .max (xori v (broadcast L16 2147483648#32))) (broadcast L16 2147483648#32) (ix1 15) = v (ix1 q₀) := by
    show scan .max _ (ix1 15) ^^^ 2147483648#32 = _
    rw [e₀]
    exact flip_flip _
  refine ⟨⟨q₀, e⟩, fun q => ?_⟩
  rw [e]
  have h := hle q (Fin.le_last q)
  rw [e₀] at h
  have h' : ((v (ix1 q) ^^^ 2147483648#32).toNat : ℤ) ≤ ((v (ix1 q₀) ^^^ 2147483648#32).toNat : ℤ) := by exact_mod_cast h
  rw [toInt_flip, toInt_flip] at h'
  omega

theorem toInt_ofNat {n : ℕ} (h : n < 2 ^ 31) : (BitVec.ofNat 32 n).toInt = n := by
  rw [BitVec.toInt_eq_toNat_cond, BitVec.toNat_ofNat]
  have : n % 2 ^ 32 = n := Nat.mod_eq_of_lt (by omega)
  rw [this]
  split <;> omega

theorem toInt_maxsi (x y : BitVec 32) :
    (IntOp.maxsi x y = x ∨ IntOp.maxsi x y = y) ∧ x.toInt ≤ (IntOp.maxsi x y).toInt ∧ y.toInt ≤ (IntOp.maxsi x y).toInt := by
  unfold IntOp.maxsi
  by_cases h : y.slt x = true
  · rw [if_pos h]; rw [BitVec.slt_iff_toInt_lt] at h; exact ⟨.inl rfl, le_refl _, h.le⟩
  · rw [if_neg h]; rw [BitVec.slt_iff_toInt_lt] at h; exact ⟨.inr rfl, not_lt.mp h, le_refl _⟩

theorem Greatest.step {good : ℕ → Prop} {B : ℕ} {val : ℕ → ℕ} {L : BitVec 32} (hL : Greatest good B val L)
    (hval : ∀ p < B + 16, good p → val p < 2 ^ 31) {comb : IVec L16 32}
    (hc : ∀ k : Fin 16, (good (B + k.val) → comb (ix1 k) = BitVec.ofNat 32 (val (B + k.val))) ∧ (¬ good (B + k.val) → comb (ix1 k) = -1#32)) :
    Greatest good (B + 16) val
      (IntOp.maxsi L (xori (scan .max (xori comb (broadcast L16 2147483648#32))) (broadcast L16 2147483648#32) (ix1 15))) := by
  obtain ⟨⟨q₀, e₀⟩, hle⟩ := signed_max comb
  generalize xori (scan .max (xori comb (broadcast L16 2147483648#32))) (broadcast L16 2147483648#32) (ix1 15) = M at e₀ hle ⊢
  obtain ⟨hor, hLm, hMm⟩ := toInt_maxsi L M
  generalize IntOp.maxsi L M = R at hor hLm hMm ⊢
  have m1 : (-1#32 : BitVec 32).toInt = -1 := by decide
  -- `R` bounds every good position
  have hbound : ∀ p < B + 16, good p → (val p : ℤ) ≤ R.toInt := by
    intro p hp hg
    by_cases hpB : p < B
    · rcases hL with ⟨-, hno⟩ | ⟨q, hq, hgq, rfl, hall⟩
      · exact absurd hg (hno p hpB)
      · rw [toInt_ofNat (hval q (by omega) hgq)] at hLm
        have := hall p hpB hg; omega
    · obtain ⟨k, rfl⟩ : ∃ k : Fin 16, p = B + k.val := ⟨⟨p - B, by omega⟩, by simp; omega⟩
      have := hle k
      rw [(hc k).1 hg, toInt_ofNat (hval _ hp hg)] at this
      omega
  -- `R` is `-1` or a good position's word
  have hR : R = -1#32 ∨ ∃ p < B + 16, good p ∧ R = BitVec.ofNat 32 (val p) := by
    rcases hor with h | h
    · rcases hL with ⟨hm, -⟩ | ⟨q, hq, hgq, hv, -⟩
      · exact .inl (h.trans hm)
      · exact .inr ⟨q, by omega, hgq, h.trans hv⟩
    · by_cases hg : good (B + q₀.val)
      · exact .inr ⟨_, by omega, hg, by rw [h, e₀, (hc q₀).1 hg]⟩
      · exact .inl (by rw [h, e₀, (hc q₀).2 hg])
  rcases hR with h | ⟨p, hp, hg, h⟩
  · refine .inl ⟨h, fun p hp hg => ?_⟩
    have := hbound p hp hg
    rw [h, m1] at this; omega
  · refine .inr ⟨p, hp, hg, h, fun q hq hgq => ?_⟩
    have := hbound q hq hgq
    rw [h, toInt_ofNat (hval p hp hg)] at this; omega

/-- Every place below the count is some good position's. -/
theorem exists_place (good : ℕ → Prop) [DecidablePred good] : ∀ (B s : ℕ), s < Nat.count good B → ∃ p < B, good p ∧ Nat.count good p = s := by
  intro B
  induction B with
  | zero => intro s hs; simp at hs
  | succ B ih =>
    intro s hs
    rw [Nat.count_succ] at hs
    by_cases h : s < Nat.count good B
    · obtain ⟨p, hp, h⟩ := ih s h; exact ⟨p, by omega, h⟩
    · by_cases hg : good B
      · rw [if_pos hg] at hs; exact ⟨B, by omega, hg, by omega⟩
      · rw [if_neg hg] at hs; omega

end Cert.Proof.Lanes

end
-- ==== Proof.Spec.lean ====
/-
  What the two lists a tile makes say, and what applying one of them does to a block of columns. Nothing here names the
  program. Positions `p` run over the index array; `ixn idx p` is the column position `p` names.
-/
module

public import proofs.«01_k».proof.Proof.Lanes
public import Idealize.ShloMosaic.Lib.Pointwise.Index

@[expose] public section

noncomputable section

namespace Cert.Proof.Spec

open Idealize.ShloMosaic Cert.Proof.Lanes

/-- Word `r` of a list, zero past its end. -/
def at1 {N : ℕ} (f : (⟨1, ![N]⟩ : Shape).Idx → BitVec 32) (r : ℕ) : BitVec 32 := if h : r < N then f (ix1 ⟨r, h⟩) else 0#32

theorem at1_of {N : ℕ} (f : (⟨1, ![N]⟩ : Shape).Idx → BitVec 32) (j : (⟨1, ![N]⟩ : Shape).Idx) : f j = at1 f (j 0).val := by
  have h : (j 0).val < N := (j 0).isLt
  have e : at1 f (j 0).val = f (ix1 ⟨(j 0).val, h⟩) := dif_pos h
  rw [e]
  exact congrArg f (ix1_eta j).symm

/-- The column position `p` names; past the array's end, a column no tile owns. -/
def ixn (idx : (⟨1, ![16384]⟩ : Shape).Idx → BitVec 32) (p : ℕ) : ℕ := if h : p < 16384 then (idx (ix1 ⟨p, h⟩)).toNat else 1000000

/-- Position `p` names one of the columns from `lo` up to `hi`. -/
def InR (idx : (⟨1, ![16384]⟩ : Shape).Idx → BitVec 32) (lo hi p : ℕ) : Prop := lo ≤ ixn idx p ∧ ixn idx p < hi
instance (idx : (⟨1, ![16384]⟩ : Shape).Idx → BitVec 32) (lo hi : ℕ) : DecidablePred (InR idx lo hi) := fun _ => inferInstanceAs (Decidable (_ ∧ _))

theorem InR.lt {idx : (⟨1, ![16384]⟩ : Shape).Idx → BitVec 32} {lo hi p : ℕ} (h : InR idx lo hi p) (hhi : hi ≤ 1000000) : p < 16384 := by
  by_contra hp
  have := h.2
  unfold ixn at this
  rw [dif_neg hp] at this
  omega

/-- A tile's list: the positions that name its columns, in order, each with its column counted from `lo`. -/
structure Listed (idx : (⟨1, ![16384]⟩ : Shape).Idx → BitVec 32) (lo hi n : ℕ) (wcol wpos : (⟨1, ![4112]⟩ : Shape).Idx → BitVec 32) : Prop where
  count : n = Nat.count (InR idx lo hi) 16384
  col : Compact (InR idx lo hi) 16384 (fun p => BitVec.ofNat 32 (ixn idx p - lo)) wcol
  pos : Compact (InR idx lo hi) 16384 (fun p => BitVec.ofNat 32 p) wpos

/-- Entry `r` of a tile's list is one of the first `n` and its column lies in the block of 512 from `c0`. -/
def Good (n c0 : ℕ) (wcol : (⟨1, ![4112]⟩ : Shape).Idx → BitVec 32) (r : ℕ) : Prop :=
  r < n ∧ c0 ≤ (at1 wcol r).toNat ∧ (at1 wcol r).toNat < c0 + 512
instance (n c0 : ℕ) (wcol : (⟨1, ![4112]⟩ : Shape).Idx → BitVec 32) : DecidablePred (Good n c0 wcol) := fun _ => inferInstanceAs (Decidable (_ ∧ _ ∧ _))

/-- The word a block's list ends with: position times 512 plus column in the block. -/
def val (c0 : ℕ) (wcol wpos : (⟨1, ![4112]⟩ : Shape).Idx → BitVec 32) (r : ℕ) : ℕ := (at1 wpos r).toNat * 512 + ((at1 wcol r).toNat - c0)

/-- A block's list after it has been filled up to whole registers: `e s` is the position entry `s` stands for. -/
def Entries (inB : ℕ → Prop) (col : ℕ → ℕ) (G : ℕ) (cc pp : (⟨1, ![2064]⟩ : Shape).Idx → BitVec 32) (e : ℕ → ℕ) : Prop :=
  (∀ s < 16 * G, inB (e s) ∧ at1 cc s = BitVec.ofNat 32 (col (e s)) ∧ at1 pp s = BitVec.ofNat 32 (e s))
    ∧ (∀ s s', s ≤ s' → s' < 16 * G → e s ≤ e s') ∧ (∀ p, inB p → ∃ s < 16 * G, e s = p)

section
variable {idx : (⟨1, ![16384]⟩ : Shape).Idx → BitVec 32} {lo hi n : ℕ} {wcol wpos : (⟨1, ![4112]⟩ : Shape).Idx → BitVec 32}

/-- Entry `r` of a tile's list is a position that names its columns. -/
theorem Listed.entry (h : Listed idx lo hi n wcol wpos) (hhi : hi ≤ 1000000) (hn : n ≤ 4096) {r : ℕ} (hr : r < n) :
    ∃ p, InR idx lo hi p ∧ Nat.count (InR idx lo hi) p = r ∧ (at1 wcol r).toNat = ixn idx p - lo ∧ (at1 wpos r).toNat = p := by
  obtain ⟨p, hp, hg, hc⟩ := exists_place (InR idx lo hi) 16384 r (h.count ▸ hr)
  have hr' : r < 4112 := by omega
  refine ⟨p, hg, hc, ?_, ?_⟩
  · have := h.col p hp hg (ix1 ⟨r, hr'⟩) hc.symm
    unfold at1; rw [dif_pos hr', this, BitVec.toNat_ofNat, Nat.mod_eq_of_lt]
    have := hg.2; omega
  · have := h.pos p hp hg (ix1 ⟨r, hr'⟩) hc.symm
    unfold at1; rw [dif_pos hr', this, BitVec.toNat_ofNat, Nat.mod_eq_of_lt]
    omega

/-- Where a listed position stands. -/
theorem Listed.place (h : Listed idx lo hi n wcol wpos) (hhi : hi ≤ 1000000) (hn : n ≤ 4096) {p : ℕ} (hp : InR idx lo hi p) :
    ∃ r < n, (at1 wcol r).toNat = ixn idx p - lo ∧ (at1 wpos r).toNat = p := by
  have hp' := hp.lt hhi
  have hr : Nat.count (InR idx lo hi) p < n := by rw [h.count]; exact Nat.count_strict_mono hp hp'
  obtain ⟨p', hp'', hc, h1, h2⟩ := h.entry hhi hn hr
  have : p' = p := Nat.count_injective hp'' hp hc
  subst this
  exact ⟨_, hr, h1, h2⟩

/-- The list's positions ascend. -/
theorem Listed.mono (h : Listed idx lo hi n wcol wpos) (hhi : hi ≤ 1000000) (hn : n ≤ 4096) {r r' : ℕ} (hrr : r ≤ r') (hr' : r' < n) :
    (at1 wpos r).toNat ≤ (at1 wpos r').toNat := by
  obtain ⟨p, hp, hc, -, h2⟩ := h.entry hhi hn (lt_of_le_of_lt hrr hr')
  obtain ⟨p', hp', hc', -, h2'⟩ := h.entry hhi hn hr'
  rw [h2, h2']
  by_contra hlt
  have := Nat.count_strict_mono hp' (show p' < p by omega)
  omega

/-- The values of a block's list are small. -/
theorem Listed.val_lt (h : Listed idx lo hi n wcol wpos) (hhi : hi ≤ 1000000) (hn : n ≤ 4096) {c0 r : ℕ} (hg : Good n c0 wcol r) :
    val c0 wcol wpos r < 2 ^ 31 := by
  obtain ⟨p, hp, -, -, h2⟩ := h.entry hhi hn hg.1
  have := hp.lt hhi
  have := hg.2.2
  unfold val; omega

/-- THE BLOCK'S LIST: the picked entries one behind another, `m` of them, and sixteen more copies of the last. -/
theorem entries_of (h : Listed idx lo hi n wcol wpos) (hhi : hi ≤ 1000000) (hn : n ≤ 4096) {c0 B m : ℕ} (hB : n ≤ B) (hc0 : lo + c0 + 512 ≤ hi)
    {ccol cpos ccol' cpos' : (⟨1, ![2064]⟩ : Shape).Idx → BitVec 32} {L : BitVec 32} (hm : m = Nat.count (Good n c0 wcol) B) (hm' : m ≤ 2048)
    (hcc : Compact (Good n c0 wcol) B (fun r => BitVec.ofNat 32 ((at1 wcol r).toNat - c0)) ccol)
    (hcp : Compact (Good n c0 wcol) B (at1 wpos) cpos) (hL : Greatest (Good n c0 wcol) B (val c0 wcol wpos) L)
    (hpc : 0 < m → ∀ s, (s < m → at1 ccol' s = at1 ccol s) ∧ (m ≤ s → s < m + 16 → at1 ccol' s = L &&& 511#32))
    (hpp : 0 < m → ∀ s, (s < m → at1 cpos' s = at1 cpos s) ∧ (m ≤ s → s < m + 16 → at1 cpos' s = BitVec.ofNat 32 (L.toNat / 512))) :
    ∃ e, Entries (InR idx (lo + c0) (lo + c0 + 512)) (fun p => ixn idx p - (lo + c0)) ((m + 15) / 16) ccol' cpos' e := by
  -- the block's positions are the good entries'
  have good_in : ∀ r, Good n c0 wcol r → InR idx (lo + c0) (lo + c0 + 512) (at1 wpos r).toNat
      ∧ ixn idx (at1 wpos r).toNat - (lo + c0) = (at1 wcol r).toNat - c0 := by
    intro r hg
    obtain ⟨p, hp, -, h1, h2⟩ := h.entry hhi hn hg.1
    have g1 := hg.2.1; have g2 := hg.2.2; have p1 := hp.1
    rw [h2]; rw [h1] at g1 g2 ⊢
    exact ⟨⟨by omega, by omega⟩, by omega⟩
  have in_good : ∀ p, InR idx (lo + c0) (lo + c0 + 512) p → ∃ r, Good n c0 wcol r ∧ (at1 wpos r).toNat = p := by
    intro p hp
    have hp1 := hp.1; have hp2 := hp.2
    obtain ⟨r, hr, h1, h2⟩ := h.place hhi hn (p := p) ⟨by omega, by omega⟩
    exact ⟨r, ⟨hr, by omega, by omega⟩, h2⟩
  by_cases hm0 : m = 0
  · refine ⟨fun _ => 0, fun s hs => by subst hm0; simp at hs, fun s s' _ hs => by subst hm0; simp at hs, fun p hp => ?_⟩
    exfalso
    obtain ⟨r, hg, -⟩ := in_good p hp
    have := Nat.count_strict_mono hg (lt_of_lt_of_le hg.1 hB)
    omega
  have hm1 : 0 < m := by omega
  rcases hL with ⟨-, hno⟩ | ⟨rl, hrl, hgl, hLv, hmax⟩
  · exfalso
    obtain ⟨r, hr, hg, -⟩ := exists_place (Good n c0 wcol) B 0 (by omega)
    exact hno r hr hg
  have hfun : ∀ s, ∃ r, s < m → r < B ∧ Good n c0 wcol r ∧ Nat.count (Good n c0 wcol) r = s := by
    intro s
    by_cases hs : s < m
    · obtain ⟨r, h⟩ := exists_place (Good n c0 wcol) B s (by omega); exact ⟨r, fun _ => h⟩
    · exact ⟨0, fun h => absurd h hs⟩
  choose rr hrr using hfun
  have hLn : L.toNat = val c0 wcol wpos rl := by
    rw [hLv, BitVec.toNat_ofNat, Nat.mod_eq_of_lt]; have := h.val_lt hhi hn hgl; omega
  have hcl := (at1 wcol rl).toNat
  have hd : L.toNat / 512 = (at1 wpos rl).toNat := by
    rw [hLn]; have := hgl.2; unfold val; omega
  have hmod : L &&& 511#32 = BitVec.ofNat 32 ((at1 wcol rl).toNat - c0) := by
    apply BitVec.eq_of_toNat_eq
    rw [BitVec.toNat_and]
    show L.toNat &&& (2 ^ 9 - 1) = _
    rw [Nat.and_two_pow_sub_one_eq_mod, hLn, BitVec.toNat_ofNat]
    have := hgl.2; unfold val; omega
  refine ⟨fun s => if s < m then (at1 wpos (rr s)).toNat else (at1 wpos rl).toNat, ?_, ?_, ?_⟩
  · intro s hs
    have hs16 : s < m + 16 := by omega
    have hs2064 : s < 2064 := by omega
    by_cases hsm : s < m
    · obtain ⟨hr, hg, hc⟩ := hrr s hsm
      simp only [if_pos hsm]
      have e1 := hcc _ hr hg (ix1 ⟨s, hs2064⟩) hc.symm
      have e2 := hcp _ hr hg (ix1 ⟨s, hs2064⟩) hc.symm
      have gi := good_in _ hg
      refine ⟨gi.1, ?_, ?_⟩
      · rw [((hpc hm1 s).1 hsm), gi.2]; unfold at1 at e1 ⊢; rw [dif_pos hs2064]; exact e1
      · rw [((hpp hm1 s).1 hsm), BitVec.ofNat_toNat, BitVec.setWidth_eq]; unfold at1 at e2 ⊢; rw [dif_pos hs2064]; exact e2
    · simp only [if_neg hsm]
      have gi := good_in _ hgl
      refine ⟨gi.1, ?_, ?_⟩
      · rw [((hpc hm1 s).2 (by omega) hs16), gi.2, hmod]
      · rw [((hpp hm1 s).2 (by omega) hs16), hd]
  · intro s s' hss hs'
    have mono' : ∀ s < m, ∀ s' < m, s ≤ s' → (at1 wpos (rr s)).toNat ≤ (at1 wpos (rr s')).toNat := by
      intro s hs s' hs' hss
      obtain ⟨-, hg, hc⟩ := hrr s hs
      obtain ⟨-, hg', hc'⟩ := hrr s' hs'
      apply h.mono hhi hn _ hg'.1
      by_contra hlt
      have := Nat.count_strict_mono hg' (show rr s' < rr s by omega)
      omega
    have top : ∀ s < m, (at1 wpos (rr s)).toNat ≤ (at1 wpos rl).toNat := by
      intro s hs
      obtain ⟨hr, hg, -⟩ := hrr s hs
      have := hmax _ hr hg
      have g1 := hg.2; have g2 := hgl.2
      unfold val at this
      omega
    dsimp only
    split <;> split
    · exact mono' _ ‹_› _ ‹_› hss
    · exact top _ ‹_›
    · omega
    · exact le_refl _
  · intro p hp
    obtain ⟨r, hg, hrp⟩ := in_good p hp
    have hrB : r < B := lt_of_lt_of_le hg.1 hB
    have hlt : Nat.count (Good n c0 wcol) r < m := by rw [hm]; exact Nat.count_strict_mono hg hrB
    refine ⟨Nat.count (Good n c0 wcol) r, by omega, ?_⟩
    simp only [if_pos hlt]
    obtain ⟨-, hg', hc'⟩ := hrr _ hlt
    rw [Nat.count_injective hg' hg hc', hrp]

end

/-! ## Applying a block's list -/

/-- The winner among lanes that name one column. -/
def Wins (cc pp win : IVec L16 32) : Prop :=
  ∀ l : Fin 16, (∃ l', cc (ix1 l') = cc (ix1 l) ∧ win (ix1 l) = pp (ix1 l')) ∧ ∀ l', cc (ix1 l') = cc (ix1 l) → (pp (ix1 l')).toInt ≤ (win (ix1 l)).toInt

/-- One column written: element `(k, c)` becomes `y k` where `c` is the column. -/
def setCol {α : Type} (g : (⟨2, ![64, 512]⟩ : Shape).Idx → α) (c : BitVec 32) (y : Fin 64 → α) : (⟨2, ![64, 512]⟩ : Shape).Idx → α :=
  fun x => if (x 1).val = c.toNat then y (x 0) else g x

/-- The first `n` lanes' columns written, in order. -/
def setCols {α : Type} (g : (⟨2, ![64, 512]⟩ : Shape).Idx → α) (cc : ℕ → BitVec 32) (y : ℕ → Fin 64 → α) : ℕ → (⟨2, ![64, 512]⟩ : Shape).Idx → α
  | 0 => g
  | n + 1 => setCol (setCols g cc y n) (cc n) (y n)

theorem setCols_miss {α : Type} (g : (⟨2, ![64, 512]⟩ : Shape).Idx → α) (cc : ℕ → BitVec 32) (y : ℕ → Fin 64 → α) (n : ℕ) (x : (⟨2, ![64, 512]⟩ : Shape).Idx)
    (h : ∀ l < n, (x 1).val ≠ (cc l).toNat) : setCols g cc y n x = g x := by
  induction n with
  | zero => rfl
  | succ n ih =>
    show (if _ then _ else _) = _
    rw [if_neg (h n (by omega)), ih fun l hl => h l (by omega)]

theorem setCols_hit {α : Type} (g : (⟨2, ![64, 512]⟩ : Shape).Idx → α) (cc : ℕ → BitVec 32) (y : ℕ → Fin 64 → α) (n : ℕ) (x : (⟨2, ![64, 512]⟩ : Shape).Idx)
    (z : α) (hex : ∃ l < n, (x 1).val = (cc l).toNat) (hall : ∀ l < n, (x 1).val = (cc l).toNat → y l (x 0) = z) : setCols g cc y n x = z := by
  induction n with
  | zero => obtain ⟨l, hl, -⟩ := hex; omega
  | succ n ih =>
    show (if _ then _ else _) = _
    by_cases h : (x 1).val = (cc n).toNat
    · rw [if_pos h]; exact hall n (by omega) h
    · rw [if_neg h]
      obtain ⟨l, hl, hx⟩ := hex
      refine ih ⟨l, ?_, hx⟩ fun l hl => hall l (by omega)
      rcases Nat.lt_succ_iff_lt_or_eq.mp hl with h' | rfl
      · exact h'
      · exact absurd hx h

/-- After the first `t` entries: a column none of them names is as it was; a column some name holds the greatest
    position's value. -/
def Applied {α : Type} (e : ℕ → ℕ) (col : ℕ → ℕ) (orig : (⟨2, ![64, 512]⟩ : Shape).Idx → α) (v : ℕ → Fin 64 → α) (t : ℕ)
    (f : (⟨2, ![64, 512]⟩ : Shape).Idx → α) : Prop :=
  ∀ x : (⟨2, ![64, 512]⟩ : Shape).Idx, ((∀ s < t, col (e s) ≠ (x 1).val) → f x = orig x)
    ∧ ∀ s < t, col (e s) = (x 1).val → (∀ s' < t, col (e s') = (x 1).val → e s' ≤ e s) → f x = v (e s) (x 0)

theorem Applied.zero {α : Type} (e : ℕ → ℕ) (col : ℕ → ℕ) (orig : (⟨2, ![64, 512]⟩ : Shape).Idx → α) (v : ℕ → Fin 64 → α) :
    Applied e col orig v 0 orig := fun _ => ⟨fun _ => rfl, fun _ h => absurd h (Nat.not_lt_zero _)⟩

theorem Applied.step {α : Type} {e : ℕ → ℕ} {col : ℕ → ℕ} {orig : (⟨2, ![64, 512]⟩ : Shape).Idx → α} {v : ℕ → Fin 64 → α} {t G : ℕ}
    {f : (⟨2, ![64, 512]⟩ : Shape).Idx → α} (hf : Applied e col orig v t f) (ht : t + 16 ≤ 16 * G)
    (hmono : ∀ s s', s ≤ s' → s' < 16 * G → e s ≤ e s') (he : ∀ s < 16 * G, e s < 16384) (hcol : ∀ s < 16 * G, col (e s) < 512)
    {cc pp win : IVec L16 32} (hcc : ∀ l : Fin 16, cc (ix1 l) = BitVec.ofNat 32 (col (e (t + l.val))))
    (hpp : ∀ l : Fin 16, pp (ix1 l) = BitVec.ofNat 32 (e (t + l.val))) (hw : Wins cc pp win)
    {y : ℕ → Fin 64 → α} (hy : ∀ l : Fin 16, ∀ k, y l.val k = v (win (ix1 l)).toNat k) :
    Applied e col orig v (t + 16) (setCols f (fun l => at1 cc l) y 16) := by
  have ccn : ∀ l : Fin 16, (at1 cc l.val).toNat = col (e (t + l.val)) := by
    intro l
    unfold at1; rw [dif_pos l.isLt]
    show (cc (ix1 l)).toNat = _
    rw [hcc, BitVec.toNat_ofNat, Nat.mod_eq_of_lt]
    have := hcol (t + l.val) (by omega); omega
  have winl : ∀ l : Fin 16, ∃ l' : Fin 16, col (e (t + l'.val)) = col (e (t + l.val)) ∧ (win (ix1 l)).toNat = e (t + l'.val)
      ∧ ∀ l'' : Fin 16, col (e (t + l''.val)) = col (e (t + l.val)) → e (t + l''.val) ≤ e (t + l'.val) := by
    intro l
    obtain ⟨⟨l', h1, h2⟩, h3⟩ := hw l
    have inj : ∀ l' : Fin 16, cc (ix1 l') = cc (ix1 l) ↔ col (e (t + l'.val)) = col (e (t + l.val)) := by
      intro l'
      rw [hcc, hcc]
      constructor
      · intro h
        have := congrArg BitVec.toNat h
        have a := hcol (t + l.val) (by omega); have b := hcol (t + l'.val) (by omega)
        rw [BitVec.toNat_ofNat, BitVec.toNat_ofNat, Nat.mod_eq_of_lt (by omega), Nat.mod_eq_of_lt (by omega)] at this
        exact this
      · intro h; rw [h]
    refine ⟨l', (inj l').1 h1, ?_, fun l'' h => ?_⟩
    · rw [h2, hpp, BitVec.toNat_ofNat, Nat.mod_eq_of_lt]
      have := he (t + l'.val) (by omega); omega
    · have := h3 l'' ((inj l'').2 h)
      have a := he (t + l''.val) (by omega); have b := he (t + l'.val) (by omega)
      rw [h2, hpp, hpp, toInt_ofNat (by omega), toInt_ofNat (by omega)] at this
      omega
  intro x
  by_cases hit : ∃ l : Fin 16, col (e (t + l.val)) = (x 1).val
  · obtain ⟨l, hl⟩ := hit
    obtain ⟨l₀, hl₀, hwl₀, hmax₀⟩ := winl l
    have hval : setCols f (fun l => at1 cc l) y 16 x = v (e (t + l₀.val)) (x 0) := by
      apply setCols_hit
      · exact ⟨l.val, l.isLt, by rw [ccn, hl]⟩
      · intro q hq hxq
        have hq' : col (e (t + q)) = (x 1).val := by rw [← ccn ⟨q, hq⟩]; exact hxq.symm
        obtain ⟨l₁, hl₁, hwl₁, hmax₁⟩ := winl ⟨q, hq⟩
        refine (hy ⟨q, hq⟩ _).trans ?_
        rw [hwl₁]
        congr 1
        have a := hmax₀ l₁ (by rw [hl₁]; show col (e (t + q)) = _; rw [hq', hl])
        have b := hmax₁ l₀ (by rw [hl₀, hl]; exact hq'.symm)
        omega
    rw [hval]
    refine ⟨fun h => absurd hl (h _ (by omega)), fun s hs hsx hsm => ?_⟩
    congr 1
    have a := hsm (t + l₀.val) (by omega) (by rw [hl₀, hl])
    by_cases hst : s < t
    · have b := hmax₀ l rfl
      have c := hmono s (t + l.val) (by omega) (by omega)
      omega
    · have b := hmax₀ ⟨s - t, by omega⟩ (by
        show col (e (t + (s - t))) = _
        rw [show t + (s - t) = s by omega, hsx, hl])
      have : e (t + (s - t)) ≤ e (t + l₀.val) := b
      rw [show t + (s - t) = s by omega] at this
      omega
  · push Not at hit
    have hmiss : setCols f (fun l => at1 cc l) y 16 x = f x := by
      apply setCols_miss
      intro q hq hxq
      exact hit ⟨q, hq⟩ (by rw [← ccn ⟨q, hq⟩]; exact hxq.symm)
    rw [hmiss]
    refine ⟨fun h => (hf x).1 fun s hs => h s (by omega), fun s hs hsx hsm => ?_⟩
    have hst : s < t := by
      by_contra hst
      exact hit ⟨s - t, by omega⟩ (by
        show col (e (t + (s - t))) = _
        rw [show t + (s - t) = s by omega, hsx])
    exact (hf x).2 s hst hsx fun s' hs' => hsm s' (by omega)

/-! ## The winners -/

section Wins

/-- One turn of the winner's loop: lane `j` of the columns and of the positions against every lane. -/
def winStep (cc pp : IVec L16 32) (w : IVec L16 32) (cj pj : BitVec 32) : IVec L16 32 :=
  select (cmpi .eq cc (broadcast L16 cj)) (maxsi w (broadcast L16 pj)) w

/-- What the winner's loop knows after `n` turns. -/
def WinUpto (cc pp w : IVec L16 32) (n : ℕ) : Prop :=
  ∀ l : Fin 16, (∃ l', cc (ix1 l') = cc (ix1 l) ∧ w (ix1 l) = pp (ix1 l'))
    ∧ ∀ l' : Fin 16, l'.val < n → cc (ix1 l') = cc (ix1 l) → (pp (ix1 l')).toInt ≤ (w (ix1 l)).toInt

theorem WinUpto.zero (cc pp : IVec L16 32) : WinUpto cc pp pp 0 := fun l => ⟨⟨l, rfl, rfl⟩, fun _ h => absurd h (Nat.not_lt_zero _)⟩

theorem WinUpto.step {cc pp w : IVec L16 32} {n : ℕ} (h : WinUpto cc pp w n) (hn : n < 16) {cj pj : BitVec 32}
    (hcj : cj = cc (ix1 ⟨n, hn⟩)) (hpj : pj = pp (ix1 ⟨n, hn⟩)) : WinUpto cc pp (winStep cc pp w cj pj) (n + 1) := by
  subst hcj; subst hpj
  intro l
  obtain ⟨⟨l₀, h1, h2⟩, h3⟩ := h l
  have e : winStep cc pp w (cc (ix1 ⟨n, hn⟩)) (pp (ix1 ⟨n, hn⟩)) (ix1 l)
      = if cc (ix1 l) = cc (ix1 ⟨n, hn⟩) then IntOp.maxsi (w (ix1 l)) (pp (ix1 ⟨n, hn⟩)) else w (ix1 l) := by
    show (if (BitVec.ofBool (cc (ix1 l) == cc (ix1 ⟨n, hn⟩))) = 1 then _ else _) = _
    by_cases hc : cc (ix1 l) = cc (ix1 ⟨n, hn⟩)
    · rw [if_pos hc, hc, beq_self_eq_true, if_pos (by decide)]; rfl
    · rw [if_neg hc, beq_eq_false_iff_ne.mpr hc, if_neg (by decide)]
  rw [e]
  by_cases hc : cc (ix1 l) = cc (ix1 ⟨n, hn⟩)
  · rw [if_pos hc]
    obtain ⟨hor, hw, hp⟩ := toInt_maxsi (w (ix1 l)) (pp (ix1 ⟨n, hn⟩))
    refine ⟨?_, fun l' hl' hcl => ?_⟩
    · rcases hor with h | h
      · exact ⟨l₀, h1, h.trans h2⟩
      · exact ⟨⟨n, hn⟩, hc.symm, h⟩
    · rcases Nat.lt_succ_iff_lt_or_eq.mp hl' with h' | h'
      · exact (h3 l' h' hcl).trans hw
      · have : l' = ⟨n, hn⟩ := Fin.ext h'
        rw [this]; exact hp
  · rw [if_neg hc]
    refine ⟨⟨l₀, h1, h2⟩, fun l' hl' hcl => ?_⟩
    rcases Nat.lt_succ_iff_lt_or_eq.mp hl' with h' | h'
    · exact h3 l' h' hcl
    · have : l' = ⟨n, hn⟩ := Fin.ext h'
      rw [this] at hcl; exact absurd hcl.symm hc

theorem WinUpto.wins {cc pp w : IVec L16 32} (h : WinUpto cc pp w 16) : Wins cc pp w := fun l => ⟨(h l).1, fun l' => (h l).2 l' l'.isLt⟩

end Wins

end Cert.Proof.Spec

end
-- ==== Proof.Words.lean ====
/-
  The kernel's scalar words as numbers. Tile `i` takes the column blocks from `beg i` up to `fin i`, each of 512 columns;
  its list has `n` entries and a block's list `m`, filled up to `⌈n/16⌉` and `⌈m/16⌉` registers.
-/
module

public import proofs.«01_k».proof.Proof.Spec
public import proofs.«01_k».proof.Proof.Gen.KernelIdeal
public import proofs.«01_k».proof.Proof.Gen.KernelIdeal.Skeleton

@[expose] public section

noncomputable section

namespace Cert.Proof.Words

open Idealize.ShloMosaic
open Cert.KernelIdeal Cert.KernelIdeal.Gen Cert.Proof.Lanes Cert.Proof.Spec

/-! ## A tile's blocks -/

/-- The tile's number among the thirty-two. -/
def wid (i : grid0.Coords) : ℕ := 2 * (i 1).val + (i 0).val
/-- Its first block, -/
def beg (i : grid0.Coords) : ℕ := wid i * 1953 / 32
/-- and the one after its last; -/
def fin (i : grid0.Coords) : ℕ := (wid i + 1) * 1953 / 32
/-- its blocks' number; -/
def nq (i : grid0.Coords) : ℕ := fin i - beg i
/-- its first column, -/
def lo (i : grid0.Coords) : ℕ := beg i * 512
/-- and the one after its last. -/
def hi (i : grid0.Coords) : ℕ := fin i * 512

theorem wid_lt (i : grid0.Coords) : wid i < 32 := by
  have h0 : (i 0).val < 2 := (i 0).isLt
  have h1 : (i 1).val < 16 := (i 1).isLt
  unfold wid; omega

theorem beg_le (i : grid0.Coords) : beg i ≤ fin i ∧ fin i ≤ 1953 ∧ fin i ≤ beg i + 62 ∧ beg i + 61 ≤ fin i := by
  have := wid_lt i
  unfold beg fin; omega

theorem hi_eq (i : grid0.Coords) : hi i = lo i + 512 * nq i := by
  have := beg_le i
  unfold hi lo nq; omega

theorem hi_le (i : grid0.Coords) : hi i ≤ 999936 := by
  have := beg_le i
  unfold hi; omega

theorem nq_le (i : grid0.Coords) : nq i ≤ 62 := by
  have := beg_le i
  unfold nq; omega

/-- The tile at given coordinates. -/
def at2 (c : Fin 2) (s : Fin 16) : grid0.Coords :=
  fun | 0 => c | 1 => s | ⟨_ + 2, h⟩ => absurd h (Nat.not_lt.2 (Nat.le_add_left _ _))

theorem at2_eta (i : grid0.Coords) : ∃ (c : Fin 2) (s : Fin 16), i = at2 c s :=
  ⟨i 0, i 1, funext fun | 0 => rfl | 1 => rfl⟩

/-! ## Floor division as the kernel spells it -/

/-- `x` over `y`, rounded down. -/
def floorW (x y : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt y 0#32)) (Scalar.extui (Scalar.cmpi .slt y 0#32))))
      (Scalar.cmpi .ne (Scalar.remsi x y) 0#32))
    (Scalar.subi (Scalar.divsi x y) 1#32) (Scalar.divsi x y)

/-- The tile's number, its first block and the one after its last, as words. -/
def widW (i : grid0.Coords) : BitVec 32 := Scalar.addi (Scalar.muli (BitVec.ofNat 32 (i 1).val) 2#32) (BitVec.ofNat 32 (i 0).val)
def begW (i : grid0.Coords) : BitVec 32 := floorW (Scalar.muli (widW i) 1953#32) 32#32
def finW (i : grid0.Coords) : BitVec 32 := floorW (Scalar.muli (Scalar.addi (widW i) 1#32) 1953#32) 32#32

theorem begW_fin : ∀ (c : Fin 2) (s : Fin 16), begW (at2 c s) = BitVec.ofNat 32 (beg (at2 c s)) ∧ finW (at2 c s) = BitVec.ofNat 32 (fin (at2 c s)) := by
  decide +kernel
theorem begW_eq (i : grid0.Coords) : begW i = BitVec.ofNat 32 (beg i) := by obtain ⟨c, s, rfl⟩ := at2_eta i; exact (begW_fin c s).1
theorem finW_eq (i : grid0.Coords) : finW i = BitVec.ofNat 32 (fin i) := by obtain ⟨c, s, rfl⟩ := at2_eta i; exact (begW_fin c s).2

theorem t1_trips : k0_t1_loop.trips = 1024 := by decide +kernel
theorem t2_trips : k0_t2_loop.trips = 62 := by decide +kernel
theorem t5_trips : k0_t5_loop.trips = 128 := by decide +kernel

theorem cond2_all : ∀ (c : Fin 2) (s : Fin 16) (t : Fin k0_t2_loop.trips), (k0_cond2 (at2 c s) t = 1#1) = (t.val < nq (at2 c s)) := by
  have : ∀ (c : Fin 2) (s : Fin 16) (t : Fin k0_t2_loop.trips), (k0_cond2 (at2 c s) t = 1#1) ↔ (t.val < nq (at2 c s)) := by decide +kernel
  exact fun c s t => propext (this c s t)
theorem cond2_iff (i : grid0.Coords) (t : Fin k0_t2_loop.trips) : (k0_cond2 i t = 1#1) ↔ t.val < nq i := by
  obtain ⟨c, s, rfl⟩ := at2_eta i; exact iff_of_eq (cond2_all c s t)

theorem off4_all : ∀ (c : Fin 2) (s : Fin 16) (t : Fin k0_t2_loop.trips), k0_off4 (at2 c s) t 0 = 0 ∧ k0_off4 (at2 c s) t 1 = lo (at2 c s) + 512 * t.val := by
  decide +kernel
theorem off4_eq (i : grid0.Coords) (t : Fin k0_t2_loop.trips) : k0_off4 i t 0 = 0 ∧ k0_off4 i t 1 = lo i + 512 * t.val := by
  obtain ⟨c, s, rfl⟩ := at2_eta i; exact off4_all c s t

/-! ## The lists' lengths -/

theorem minsi_ofNat {n k : ℕ} (hk : k < 2 ^ 31) (h : n ≤ k) : Scalar.minsi (BitVec.ofNat 32 n) (BitVec.ofNat 32 k) = BitVec.ofNat 32 n := by
  show (if (BitVec.ofNat 32 n).slt (BitVec.ofNat 32 k) then _ else _) = _
  by_cases hs : (BitVec.ofNat 32 n).slt (BitVec.ofNat 32 k) = true
  · rw [if_pos hs]
  · rw [if_neg hs]
    rw [BitVec.slt_iff_toInt_lt, toInt_ofNat (by omega), toInt_ofNat (by omega)] at hs
    congr 1; omega

/-- The group counts, over the numbers a list's length can be. -/
theorem groups_all : ∀ (a b : Fin 65), floorW (Scalar.subi (Scalar.addi (BitVec.ofNat 32 (64 * a.val + b.val)) 16#32) 1#32) 16#32
    = BitVec.ofNat 32 ((64 * a.val + b.val + 15) / 16) := by decide +kernel
theorem groups_eq {n : ℕ} (hn : n ≤ 4096) : floorW (Scalar.subi (Scalar.addi (BitVec.ofNat 32 n) 16#32) 1#32) 16#32 = BitVec.ofNat 32 ((n + 15) / 16) := by
  have h := groups_all ⟨n / 64, by omega⟩ ⟨n % 64, by omega⟩
  simp only [Nat.div_add_mod] at h
  exact h

theorem one_all : ∀ (a : Fin 257), Scalar.addi 0#32 (Scalar.muli (Scalar.divsi (Scalar.subi (BitVec.ofNat 32 a.val) 0#32) 1#32) 1#32) = BitVec.ofNat 32 a.val := by
  decide +kernel
theorem trips_all : ∀ (a : Fin 257), (⟨0#32, BitVec.ofNat 32 a.val, 1#32⟩ : Scf.Loop 32).trips = a.val ∧ (⟨0#32, BitVec.ofNat 32 a.val, 1#32⟩ : Scf.Loop 32).OK
    ∧ (⟨BitVec.ofNat 32 a.val, BitVec.ofNat 32 a.val, 1#32⟩ : Scf.Loop 32).trips = 0 ∧ (⟨BitVec.ofNat 32 a.val, BitVec.ofNat 32 a.val, 1#32⟩ : Scf.Loop 32).OK := by
  decide +kernel

theorem t3_eq {n : ℕ} (hn : n ≤ 4096) : k0_t3_loop (BitVec.ofNat 32 n) = ⟨0#32, BitVec.ofNat 32 ((n + 15) / 16), 1#32⟩ := by
  have e : k0_t3_loop (BitVec.ofNat 32 n) = ⟨0#32, Scalar.addi 0#32 (Scalar.muli (Scalar.divsi (Scalar.subi
      (floorW (Scalar.subi (Scalar.addi (Scalar.minsi (BitVec.ofNat 32 n) 4096#32) 16#32) 1#32) 16#32) 0#32) 1#32) 1#32), 1#32⟩ := rfl
  rw [e, minsi_ofNat (k := 4096) (by omega) hn, groups_eq hn, one_all ⟨(n + 15) / 16, by omega⟩]
theorem t4_eq {n : ℕ} (hn : n ≤ 4096) : k0_t4_loop (BitVec.ofNat 32 n) = ⟨BitVec.ofNat 32 ((n + 15) / 16), BitVec.ofNat 32 ((n + 15) / 16), 1#32⟩ := by
  have e : k0_t4_loop (BitVec.ofNat 32 n) = ⟨Scalar.addi 0#32 (Scalar.muli (Scalar.divsi (Scalar.subi
      (floorW (Scalar.subi (Scalar.addi (Scalar.minsi (BitVec.ofNat 32 n) 4096#32) 16#32) 1#32) 16#32) 0#32) 1#32) 1#32),
      Scalar.addi 0#32 (Scalar.subi (floorW (Scalar.subi (Scalar.addi (Scalar.minsi (BitVec.ofNat 32 n) 4096#32) 16#32) 1#32) 16#32) 0#32), 1#32⟩ := rfl
  rw [e, minsi_ofNat (k := 4096) (by omega) hn, groups_eq hn, one_all ⟨(n + 15) / 16, by omega⟩]
  show (⟨_, 0#32 + (BitVec.ofNat 32 _ - 0#32), _⟩ : Scf.Loop 32) = _
  rw [BitVec.sub_zero, BitVec.zero_add]

theorem t3_trips {n : ℕ} (hn : n ≤ 4096) : (k0_t3_loop (BitVec.ofNat 32 n)).trips = (n + 15) / 16 := by
  rw [t3_eq hn]; exact (trips_all ⟨(n + 15) / 16, by omega⟩).1
theorem t4_trips {n : ℕ} (hn : n ≤ 4096) : (k0_t4_loop (BitVec.ofNat 32 n)).trips = 0 := by
  rw [t4_eq hn]; exact (trips_all ⟨(n + 15) / 16, by omega⟩).2.2.1

theorem iv_ofNat (t : ℕ) : Scf.iv 0#32 1#32 t = BitVec.ofNat 32 t := by
  show 0#32 + BitVec.ofNat 32 t * 1#32 = _
  rw [BitVec.mul_one, BitVec.zero_add]

theorem mul16_ofNat (t : ℕ) : Scalar.muli (BitVec.ofNat 32 t) 16#32 = BitVec.ofNat 32 (16 * t) := by
  show BitVec.ofNat 32 t * BitVec.ofNat 32 16 = _
  rw [← BitVec.ofNat_mul, Nat.mul_comm]

theorem toNat_ofNat {n : ℕ} (h : n < 2 ^ 32) : (BitVec.ofNat 32 n).toNat = n := by
  rw [BitVec.toNat_ofNat, Nat.mod_eq_of_lt h]

theorem off2_eq {w : BitVec 32} (t : Fin (k0_t3_loop w).trips) (h : t.val < 2 ^ 20) : k0_off2 w t = ![16 * t.val] := by
  have e : k0_off2 w t = ![(Scalar.muli (Scf.iv 0#32 1#32 t.val) 16#32).toNat] := rfl
  rw [e, iv_ofNat, mul16_ofNat, toNat_ofNat (by omega)]

theorem chk4_of (i : grid0.Coords) {n : ℕ} (hn : n ≤ 4096) : k0_chk4 i (BitVec.ofNat 32 n) := by
  have ht := t3_trips hn
  have ht4 := t4_trips hn
  refine ⟨fun _ _ => by rw [t3_eq hn]; exact (trips_all ⟨(n + 15) / 16, by omega⟩).2.1, fun _ t _ => ?_, fun _ t _ a => ?_,
    fun _ _ => by rw [t4_eq hn]; exact (trips_all ⟨(n + 15) / 16, by omega⟩).2.2.2, fun _ t _ => ?_, fun _ t _ => ?_⟩
  · have h : t.val < (n + 15) / 16 := ht ▸ t.isLt
    have e : k0_mult2 (BitVec.ofNat 32 n) t = Scalar.muli (Scf.iv 0#32 1#32 t.val) 16#32 := rfl
    rw [e, iv_ofNat, mul16_ofNat, toNat_ofNat (by omega)]
    exact Nat.dvd_mul_right _ _
  · have h : t.val < (n + 15) / 16 := ht ▸ t.isLt
    rw [off2_eq t (by omega)]
    obtain rfl : a = 0 := Subsingleton.elim _ _
    show 16 * t.val + 16 ≤ 4112
    omega
  · exact absurd (ht4 ▸ t.isLt : t.val < 0) (by omega)
  · exact absurd (ht4 ▸ t.isLt : t.val < 0) (by omega)

theorem pos_flag {n : ℕ} (hn : n < 2 ^ 31) : (Scalar.cmpi .ne (Scalar.extui (Scalar.cmpi .sgt (BitVec.ofNat 32 n) 0#32) : BitVec 32) 0#32 = 1#1) ↔ 0 < n := by
  have e : (Scalar.cmpi .sgt (BitVec.ofNat 32 n) 0#32) = BitVec.ofBool (decide (0 < n)) := by
    show BitVec.ofBool ((0#32).slt (BitVec.ofNat 32 n)) = _
    congr 1
    rw [Bool.eq_iff_iff, BitVec.slt_iff_toInt_lt, toInt_ofNat hn, decide_eq_true_iff]
    show (0 : ℤ) < _ ↔ _
    omega
  rw [e]
  by_cases h : 0 < n
  · simp only [h, decide_true]; decide
  · simp only [h, decide_false]; decide

theorem slt_flag {a b : ℕ} (ha : a < 2 ^ 31) (hb : b < 2 ^ 31) :
    (Scalar.cmpi .ne (Scalar.extui (Scalar.cmpi .slt (BitVec.ofNat 32 a) (BitVec.ofNat 32 b)) : BitVec 32) 0#32 = 1#1) ↔ a < b := by
  have e : (Scalar.cmpi .slt (BitVec.ofNat 32 a) (BitVec.ofNat 32 b)) = BitVec.ofBool (decide (a < b)) := by
    show BitVec.ofBool ((BitVec.ofNat 32 a).slt (BitVec.ofNat 32 b)) = _
    congr 1
    rw [Bool.eq_iff_iff, BitVec.slt_iff_toInt_lt, toInt_ofNat ha, toInt_ofNat hb, decide_eq_true_iff]
    omega
  rw [e]
  by_cases h : a < b
  · simp only [h, decide_true]; decide
  · simp only [h, decide_false]; decide

theorem cond1_iff {n : ℕ} (hn : n ≤ 4096) : (k0_cond1 (BitVec.ofNat 32 n) = 1#1) ↔ 0 < n := by
  have e : k0_cond1 (BitVec.ofNat 32 n) = Scalar.cmpi .ne (Scalar.extui (Scalar.cmpi .sgt (Scalar.minsi (BitVec.ofNat 32 n) 4096#32) 0#32) : BitVec 32) 0#32 := rfl
  rw [e, minsi_ofNat (k := 4096) (by omega) hn]
  exact pos_flag (by omega)
theorem cond3_iff {m : ℕ} (hm : m ≤ 2048) : (k0_cond3 (BitVec.ofNat 32 m) = 1#1) ↔ 0 < m := by
  have e : k0_cond3 (BitVec.ofNat 32 m) = Scalar.cmpi .ne (Scalar.extui (Scalar.cmpi .sgt (Scalar.minsi (BitVec.ofNat 32 m) 2048#32) 0#32) : BitVec 32) 0#32 := rfl
  rw [e, minsi_ofNat (k := 2048) (by omega) hm]
  exact pos_flag (by omega)
theorem cond4_iff {m : ℕ} (hm : m ≤ 2048) (t : Fin k0_t5_loop.trips) : (k0_cond4 (BitVec.ofNat 32 m) t = 1#1) ↔ t.val < (m + 15) / 16 := by
  have e : k0_cond4 (BitVec.ofNat 32 m) t = Scalar.cmpi .ne (Scalar.extui (Scalar.cmpi .slt (Scf.iv 0#32 1#32 t.val)
      (floorW (Scalar.subi (Scalar.addi (Scalar.minsi (BitVec.ofNat 32 m) 2048#32) 16#32) 1#32) 16#32)) : BitVec 32) 0#32 := rfl
  rw [e, minsi_ofNat (k := 2048) (by omega) hm, groups_eq (by omega), iv_ofNat]
  have ht : t.val < 128 := t5_trips ▸ t.isLt
  exact slt_flag (by omega) (by omega)

/-! ## Comparisons and differences of words known as numbers -/

theorem sge_zero_iff {x : BitVec 32} : (IntOp.cmpi .sge x 0#32 = 1#1) ↔ 0 ≤ x.toInt := by
  show BitVec.ofBool ((0#32).sle x) = 1#1 ↔ _
  rw [show (0 ≤ x.toInt) ↔ (0#32).sle x = true by rw [BitVec.sle_iff_toInt_le]; rfl]
  cases (0#32).sle x <;> decide

theorem slt_iff {x y : BitVec 32} : (IntOp.cmpi .slt x y = 1#1) ↔ x.toInt < y.toInt := by
  show BitVec.ofBool (x.slt y) = 1#1 ↔ _
  rw [← BitVec.slt_iff_toInt_lt]
  cases x.slt y <;> decide

theorem toInt_of_lt {x : BitVec 32} (h : x.toNat < 2 ^ 31) : x.toInt = x.toNat := by
  rw [BitVec.toInt_eq_toNat_cond]; split <;> omega

/-- A difference of small numbers, as the word it is. -/
theorem toInt_sub {x : BitVec 32} {b : ℕ} (hx : x.toNat < 2 ^ 31) (hb : b < 2 ^ 31) : (x - BitVec.ofNat 32 b).toInt = (x.toNat : ℤ) - b := by
  rw [BitVec.toInt_eq_toNat_cond, BitVec.toNat_sub, toNat_ofNat (by omega)]
  split <;> omega

theorem toNat_sub {x : BitVec 32} {b : ℕ} (hx : x.toNat < 2 ^ 31) (hb : b ≤ x.toNat) : (x - BitVec.ofNat 32 b) = BitVec.ofNat 32 (x.toNat - b) := by
  apply BitVec.eq_of_toNat_eq
  rw [BitVec.toNat_sub, toNat_ofNat (by omega), toNat_ofNat (by omega)]
  omega

/-- Two words side by side in one. -/
theorem shl_or {p k : ℕ} {c : ℕ} (hk : k < 32) (hc : c < 2 ^ k) (hp : p * 2 ^ k + c < 2 ^ 32) :
    (BitVec.ofNat 32 p <<< k ||| BitVec.ofNat 32 c) = BitVec.ofNat 32 (p * 2 ^ k + c) := by
  have h2 : p ≤ p * 2 ^ k := Nat.le_mul_of_pos_right _ (Nat.two_pow_pos k)
  apply BitVec.eq_of_toNat_eq
  rw [BitVec.toNat_or, BitVec.toNat_shiftLeft, toNat_ofNat (by omega), toNat_ofNat (by omega), toNat_ofNat hp,
    Nat.shiftLeft_eq, Nat.mod_eq_of_lt (by omega), ← Nat.shiftLeft_eq]
  rw [← Nat.shiftLeft_add_eq_or_of_lt hc, Nat.shiftLeft_eq]

end Cert.Proof.Words

end
-- ==== Proof.Base.lean ====
/-
  What every part of the tile's proof shares: the program as the launch theorem sees it, the tile's thread, its buffers,
  and loads and indexed stores of a whole buffer.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.Pre_rows_fit

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The tile's thread and its buffers -/

/-- The thread of tile `i` on device `d`. -/
abbrev thr (d : Dev nD) (i : grid0.Coords) : Thread nD τ := V d ((i 0).castLE hcore0) ((i 1).castLE hsub0)

abbrev idxM : Memref sig .scVector .hbm S16384 .i32 := Memref.whole main_arg1_scv
abbrev val2M : Memref sig .scVector .hbm S8192x128 .f32 := Memref.whole main_v0_scv
abbrev memM : Memref sig .scVector .hbm S64x1000000 .f32 := Memref.whole main_v1_scv
abbrev outM : Memref sig .scVector .hbm S64x1000000 .f32 := Memref.whole main_v2_scv
abbrev idxvM : Memref sig .scVector .vmem S16384 .i32 := Memref.whole cc0_scratch0
abbrev wcolM : Memref sig .scVector .vmem S4112 .i32 := Memref.whole cc0_scratch1
abbrev wposM : Memref sig .scVector .vmem S4112 .i32 := Memref.whole cc0_scratch2
abbrev ccolM : Memref sig .scVector .vmem S2064 .i32 := Memref.whole cc0_scratch3
abbrev cposM : Memref sig .scVector .vmem S2064 .i32 := Memref.whole cc0_scratch4
abbrev blockM : Memref sig .scVector .vmem S64x512 .f32 := Memref.whole cc0_scratch5
abbrev pairsM : Memref sig .scVector .vmem S16x128 .f32 := Memref.whole cc0_scratch6
abbrev rowsM : Memref sig .scVector .vmem S16 .i32 := Memref.whole cc0_scratch7

variable [FloatOps F] (d : Dev nD) (i : grid0.Coords)

/-- A buffer the tile owns whole, at its contents. -/
abbrev own (b : Ref sig .scVector) (f : Buf (Elt F) ((thr d i).loc b)) : sProp 𝕄 := (thr d i).loc b ↦{fullShare} f

section Rules
variable {α : Type} {E : Set ℕ} {k : Fin (sig.nNear .scVector .vmem)} {hk : sig.names .scVector .vmem k = true}

/-- A load from a buffer owned whole. -/
theorem wp_ld {Q : α → sProp 𝕄} {r : LoadRect ((⟨.vmem, k, hk⟩ : Ref sig .scVector).ty.shape)} {hl : (Memref.whole (⟨.vmem, k, hk⟩ : Ref sig .scVector)).view.LoadsAt r}
    {kk : (r.shape.Idx → Elt F (⟨.vmem, k, hk⟩ : Ref sig .scVector).ty.elt) → Prog (TpuEff nD τ sig (Elt F) Λ₀ (thr d i).2) α}
    {f : Buf (Elt F) ((thr d i).loc ⟨.vmem, k, hk⟩)} :
    (own d i ⟨.vmem, k, hk⟩ f)
      ⊢ iprop((own d i ⟨.vmem, k, hk⟩ f -∗ wp frame (wpE (defs₀ (F := F)) 𝒱₀ (thr d i) none) E (kk (fun x => f (r.idx x))) Q)
        -∗ wp frame (wpE (defs₀ (F := F)) 𝒱₀ (thr d i) none) E (.op (.load (Memref.whole ⟨.vmem, k, hk⟩) r hl) kk) Q) :=
  wp_load 𝒱₀ (thr d i) none E (m := Memref.whole ⟨.vmem, k, hk⟩) (Finset.subset_univ _)

/-- An indexed store to a buffer owned whole. -/
theorem wp_vst {Q : α → sProp 𝕄} {idxs : Fin ((⟨.vmem, k, hk⟩ : Ref sig .scVector).ty.shape).rank → IVec L16 32} {v : Vec F L16 (⟨.vmem, k, hk⟩ : Ref sig .scVector).ty.elt}
    {mask : IVec L16 1} {h : ∀ a x, (idxs a x).toNat < ((⟨.vmem, k, hk⟩ : Ref sig .scVector).ty.shape).size a}
    {hs : ((Memref.whole (⟨.vmem, k, hk⟩ : Ref sig .scVector)).access (.whole _)).Stores Finset.univ}
    {kk : PUnit → Prog (TpuEff nD τ sig (Elt F) Λ₀ (thr d i).2) α}
    {f : Buf (Elt F) ((thr d i).loc ⟨.vmem, k, hk⟩)} :
    (own d i ⟨.vmem, k, hk⟩ f)
      ⊢ iprop((own d i ⟨.vmem, k, hk⟩ (storeIdx (F := F) f idxs v mask false h) -∗ wp frame (wpE (defs₀ (F := F)) 𝒱₀ (thr d i) none) E (kk ⟨⟩) Q)
        -∗ wp frame (wpE (defs₀ (F := F)) 𝒱₀ (thr d i) none) E
            (SparseCore.vectorStoreIdx (Memref.whole (⟨.vmem, k, hk⟩ : Ref sig .scVector)) idxs v mask false h hs >>= kk) Q) := by
  have h' := SparseCore.wp_vectorStoreIdx (F := F) (defs := defs₀ (F := F)) 𝒱₀ (thr d i) none E (Q := Q) (U := UU) (Ix := HIx 1)
    (base := Memref.whole (⟨.vmem, k, hk⟩ : Ref sig .scVector)) (idxs := idxs) (v := v)
    (mask := mask) (add := false) (h := h) (hs := hs) (k := kk) (f := f)
  rw [Memref.set_access_whole, Memref.write_access_whole_univ, Memref.read_access_whole] at h'
  exact h'

end Rules

/-- Sixteen words read off a list from a multiple of sixteen. -/
theorem read16 {N t : ℕ} {off : Fin 1 → ℕ} (hoff : off = ![16 * t]) (inb : ∀ a, off a + S16.size a ≤ (⟨1, ![N]⟩ : Shape).size a)
    (f : (⟨1, ![N]⟩ : Shape).Idx → BitVec 32) (k : Fin 16) :
    f ((Rect.unit (s := ⟨1, ![N]⟩) off S16.size inb).toLoadRect.idx (ix1 k)) = at1 f (16 * t + k.val) := by
  subst hoff
  rw [at1_of f]
  congr 1
  show (16 * t) + 1 * k.val = _
  omega

end Cert.Proof.Tile

end
-- ==== Proof.Scan.lean ====
/-
  The scan: a tile reads the whole index array sixteen words at a time and keeps, in two lists, the columns it owns and
  the positions that name them.
-/
module

public import proofs.«01_k».proof.Proof.Base

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The lanes' numbers. -/
abbrev lanes : IVec S16 32 := iota .scVector S16 32 [0] iota_S16_d0_w32_scVector

theorem lanes_at (k : Fin 16) : lanes (ix1 k) = BitVec.ofNat 32 k.val := by
  simp [iota]

theorem and_one {x y : BitVec 1} : x &&& y = 1#1 ↔ x = 1#1 ∧ y = 1#1 := by
  revert x y; decide

/-- The last lane of a register. -/
theorem lane15 (v : IVec S16 32) : extractAt ![15] v inpos_S16_p15 = v (ix1 15) :=
  congrArg v (funext fun a => by obtain rfl : a = 0 := Subsingleton.elim _ _; rfl)

section Words
variable (i : grid0.Coords) {B : ℕ} {mi : S16384.Idx → BitVec 32} (hidx : ∀ p, (mi p).toNat < 1000000) (hB : B + 16 ≤ 16384)
  {v : Vec F S16 .i32} (hv : ∀ k : Fin 16, v (ix1 k) = at1 mi (B + k.val))
include hidx hB hv

theorem scan_word (k : Fin 16) : (v (ix1 k)).toNat = ixn mi (B + k.val) ∧ (v (ix1 k)).toNat < 1000000 := by
  have h : B + k.val < 16384 := by have := k.isLt; omega
  have e : v (ix1 k) = mi (ix1 ⟨B + k.val, h⟩) := by rw [hv]; unfold at1; rw [dif_pos h]
  have e' : ixn mi (B + k.val) = (mi (ix1 ⟨B + k.val, h⟩)).toNat := by unfold ixn; rw [dif_pos h]
  exact ⟨by rw [e, e'], by rw [e]; exact hidx _⟩

theorem scan_col (k : Fin 16) : k0_pay1 (BitVec.ofNat 32 (beg i)) v (ix1 k) = v (ix1 k) - BitVec.ofNat 32 (lo i) := by
  show v (ix1 k) - BitVec.ofNat 32 (beg i) * BitVec.ofNat 32 512 = _
  rw [← BitVec.ofNat_mul]; rfl

theorem scan_mask (k : Fin 16) : k0_pay2 (BitVec.ofNat 32 (beg i)) (BitVec.ofNat 32 (fin i)) v (ix1 k) = 1 ↔ InR mi (lo i) (hi i) (B + k.val) := by
  obtain ⟨h1, h2⟩ := scan_word hidx hB hv k
  have hl := hi_le i
  have hh := hi_eq i
  have e : k0_pay2 (BitVec.ofNat 32 (beg i)) (BitVec.ofNat 32 (fin i)) v (ix1 k)
      = IntOp.cmpi .sge (v (ix1 k) - BitVec.ofNat 32 (lo i)) 0#32 &&& IntOp.cmpi .slt (v (ix1 k)) (BitVec.ofNat 32 (hi i)) := by
    show IntOp.cmpi .sge (k0_pay1 (BitVec.ofNat 32 (beg i)) v (ix1 k)) 0#32 &&& IntOp.cmpi .slt (v (ix1 k)) (BitVec.ofNat 32 (fin i) * BitVec.ofNat 32 512) = _
    rw [scan_col i hidx hB hv k, ← BitVec.ofNat_mul]; rfl
  rw [e]
  refine and_one.trans ?_
  rw [sge_zero_iff, slt_iff, toInt_sub (by omega) (by omega), toInt_of_lt (by omega), Lanes.toInt_ofNat (by omega), h1]
  unfold InR
  omega

theorem scan_place (k : Fin 16) :
    k0_pay5 (BitVec.ofNat 32 (beg i)) (BitVec.ofNat 32 (fin i)) (BitVec.ofNat 32 (Nat.count (InR mi (lo i) (hi i)) B)) v (ix1 k)
      = BitVec.ofNat 32 (Nat.count (InR mi (lo i) (hi i)) (B + k.val)) :=
  count_place (InR mi (lo i) (hi i)) B (k0_pay2 (BitVec.ofNat 32 (beg i)) (BitVec.ofNat 32 (fin i)) v) natLt_1_32 (scan_mask i hidx hB hv) k

theorem scan_total :
    Scalar.addi (BitVec.ofNat 32 (Nat.count (InR mi (lo i) (hi i)) B)) (extractAt ![15] (k0_pay7 (BitVec.ofNat 32 (beg i)) (BitVec.ofNat 32 (fin i)) v) inpos_S16_p15)
      = BitVec.ofNat 32 (Nat.count (InR mi (lo i) (hi i)) (B + 16)) := by
  rw [lane15]
  exact count_total (InR mi (lo i) (hi i)) B (k0_pay2 (BitVec.ofNat 32 (beg i)) (BitVec.ofNat 32 (fin i)) v) natLt_1_32 (scan_mask i hidx hB hv)

theorem scan_value (k : Fin 16) (hg : InR mi (lo i) (hi i) (B + k.val)) :
    k0_pay1 (BitVec.ofNat 32 (beg i)) v (ix1 k) = BitVec.ofNat 32 (ixn mi (B + k.val) - lo i) := by
  obtain ⟨h1, h2⟩ := scan_word hidx hB hv k
  rw [scan_col i hidx hB hv k, Words.toNat_sub (by omega) (by rw [h1]; exact hg.1), h1]

variable (hcnt : Nat.count (InR mi (lo i) (hi i)) 16384 ≤ 4096)
include hcnt

theorem scan_le (k : Fin 16) : Nat.count (InR mi (lo i) (hi i)) (B + k.val) ≤ 4096 :=
  (Nat.count_monotone _ (by have := k.isLt; omega)).trans hcnt

theorem scan_chk {w : BitVec 32} (hw : w = BitVec.ofNat 32 (Nat.count (InR mi (lo i) (hi i)) B)) :
    k0_chk1 (k0_pay5 (BitVec.ofNat 32 (beg i)) (BitVec.ofNat 32 (fin i)) w v) := by
  subst hw
  have h : ∀ a x, ((![k0_pay5 (BitVec.ofNat 32 (beg i)) (BitVec.ofNat 32 (fin i)) (BitVec.ofNat 32 (Nat.count (InR mi (lo i) (hi i)) B)) v] :
      Fin 1 → IVec S16 32) a x).toNat < S4112.size a := by
    intro a x
    obtain rfl : a = 0 := Subsingleton.elim _ _
    obtain ⟨k, rfl⟩ : ∃ k : Fin 16, x = ix1 k := ⟨x 0, (ix1_eta x).symm⟩
    show (k0_pay5 _ _ _ v (ix1 k)).toNat < 4112
    have := scan_le i hidx hB hv hcnt k
    rw [scan_place i hidx hB hv k, Words.toNat_ofNat (by omega)]
    omega
  exact ⟨h, h⟩

/-- The stores' mask: the lanes that pass; none of their places is past the list. -/
theorem scan_mask' (k : Fin 16) :
    k0_pay6 (BitVec.ofNat 32 (beg i)) (BitVec.ofNat 32 (fin i)) v
        (k0_pay5 (BitVec.ofNat 32 (beg i)) (BitVec.ofNat 32 (fin i)) (BitVec.ofNat 32 (Nat.count (InR mi (lo i) (hi i)) B)) v) (ix1 k) = 1
      ↔ InR mi (lo i) (hi i) (B + k.val) := by
  have hp := scan_place i hidx hB hv k
  have hle := scan_le i hidx hB hv hcnt
  have e : k0_pay6 (BitVec.ofNat 32 (beg i)) (BitVec.ofNat 32 (fin i)) v
        (k0_pay5 (BitVec.ofNat 32 (beg i)) (BitVec.ofNat 32 (fin i)) (BitVec.ofNat 32 (Nat.count (InR mi (lo i) (hi i)) B)) v) (ix1 k)
      = k0_pay2 (BitVec.ofNat 32 (beg i)) (BitVec.ofNat 32 (fin i)) v (ix1 k) &&& IntOp.cmpi .slt (BitVec.ofNat 32 (Nat.count (InR mi (lo i) (hi i)) (B + k.val))) 4096#32 := by
    show _ &&& IntOp.cmpi .slt (k0_pay5 _ _ _ v (ix1 k)) 4096#32 = _
    rw [hp]
  rw [e]
  refine and_one.trans ?_
  refine (and_congr_left' (scan_mask i hidx hB hv k)).trans (and_iff_left_of_imp fun hg => ?_)
  have h1 : Nat.count (InR mi (lo i) (hi i)) (B + k.val + 1) ≤ 4096 := (Nat.count_monotone _ (by have := k.isLt; omega)).trans hcnt
  rw [Nat.count_succ, if_pos hg] at h1
  rw [slt_iff, Lanes.toInt_ofNat (by omega)]
  show _ < (4096 : ℤ)
  omega

end Words

variable [FloatOps F] (d : Dev nD) (i : grid0.Coords)

/-- What the scan knows before trip `t`: the count of the positions passed, and the two lists of them. -/
def ScanInv (mi : S16384.Idx → BitVec 32) (t : ℕ) (acc : BitVec 32 × BitVec 32) : sProp 𝕄 :=
  iprop(∃ fc : S4112.Idx → BitVec 32, ∃ fp : S4112.Idx → BitVec 32,
    own d i cc0_scratch0 mi ∗ own d i cc0_scratch1 fc ∗ own d i cc0_scratch2 fp
      ∗ ⌜acc.1 = BitVec.ofNat 32 (Nat.count (InR mi (lo i) (hi i)) (16 * t))
          ∧ Compact (InR mi (lo i) (hi i)) (16 * t) (fun p => BitVec.ofNat 32 (ixn mi p - lo i)) fc
          ∧ Compact (InR mi (lo i) (hi i)) (16 * t) (fun p => BitVec.ofNat 32 p) fp⌝)

theorem scan_step (mi : S16384.Idx → BitVec 32) (hidx : ∀ p, (mi p).toNat < 1000000) (hcnt : Nat.count (InR mi (lo i) (hi i)) 16384 ≤ 4096)
    (s8 s9 s10 s11 : DmaSems sig S_) (t : Fin k0_t1_loop.trips) (acc : BitVec 32 × BitVec 32) :
    ScanInv (F := F) d i mi t.val acc ⊢ wp frame (wpE (defs₀ (F := F)) 𝒱₀ (thr d i) none) Set.univ
      (k0_t1_body (F := F) i idxM (Memref.isWhole_whole _) val2M (Memref.isWhole_whole _) memM (Memref.isWhole_whole _) outM (Memref.isWhole_whole _)
        idxvM (Memref.isWhole_whole _) wcolM (Memref.isWhole_whole _) wposM (Memref.isWhole_whole _) ccolM (Memref.isWhole_whole _) cposM (Memref.isWhole_whole _)
        blockM (Memref.isWhole_whole _) pairsM (Memref.isWhole_whole _) rowsM (Memref.isWhole_whole _) s8 s9 s10 s11
        lanes (BitVec.ofNat 32 (beg i)) (BitVec.ofNat 32 (fin i)) t acc) (ScanInv (F := F) d i mi (t.val + 1)) := by
  have ht : t.val < 1024 := t1_trips ▸ t.isLt
  obtain ⟨n, last⟩ := acc
  unfold ScanInv k0_t1_body
  iintro ⟨%fc, %fp, Hi, Hc, Hp, %hn, %hc, %hp⟩
  dsimp only at hn
  simp only [Prog.lift, Prog.bind_op, Prog.bind_ret, Prog.pure_eq_ret]
  iapply (wp_ld (F := F) d i) $$ Hi
  iintro Hi
  have hB : 16 * t.val + 16 ≤ 16384 := by omega
  generalize hveq : (fun x => mi ((Rect.unit (s := S16384) (k0_off1 t) S16.size (k0_off1_inb t)).toLoadRect.idx x)) = v
  have hv : ∀ k : Fin 16, v (ix1 k) = at1 mi (16 * t.val + k.val) := fun k => by
    rw [← hveq]; exact read16 (k0_off1_eq t) _ mi k
  have hchk := scan_chk (F := F) i hidx hB hv hcnt hn
  rw [wp_assume_of _ _ _ _ hchk]
  iapply (wp_vst (F := F) d i) $$ Hc
  iintro Hc
  iapply (wp_vst (F := F) d i) $$ Hp
  iintro Hp
  rw [wp_ret]
  imodintro
  iexists _; iexists _
  isplitl [Hi]; · iexact Hi
  isplitl [Hc]; · iexact Hc
  isplitl [Hp]; · iexact Hp
  ipureintro
  subst hn
  rw [show 16 * (t.val + 1) = 16 * t.val + 16 by omega]
  have hle := scan_le (F := F) i hidx hB hv hcnt
  have hpl : ∀ k : Fin 16, InR mi (lo i) (hi i) (16 * t.val + k.val) →
      ((k0_pay5 (BitVec.ofNat 32 (beg i)) (BitVec.ofNat 32 (fin i)) (BitVec.ofNat 32 (Nat.count (InR mi (lo i) (hi i)) (16 * t.val))) v) (ix1 k)).toNat
        = Nat.count (InR mi (lo i) (hi i)) (16 * t.val + k.val) := fun k _ => by
    rw [scan_place (F := F) i hidx hB hv k, Words.toNat_ofNat (by have := hle k; omega)]
  refine ⟨scan_total (F := F) i hidx hB hv, Compact.step hc hpl (scan_mask' (F := F) i hidx hB hv hcnt) (scan_value (F := F) i hidx hB hv) _,
    Compact.step hp hpl (scan_mask' (F := F) i hidx hB hv hcnt) (fun k _ => ?_) _⟩
  show Scalar.muli (Scf.iv 0#32 1#32 t.val) 16#32 + lanes (ix1 k) = _
  rw [iv_ofNat, mul16_ofNat, lanes_at, ← BitVec.ofNat_add]

end Cert.Proof.Tile

end
-- ==== Proof.Pick.lean ====
/-
  The pick: for one block of 512 columns a tile goes over its list and keeps the entries of that block, in a second pair
  of lists, with the greatest of position times 512 plus column.
-/
module

public import proofs.«01_k».proof.Proof.Scan

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A block's entries are no more than the positions that name its columns. -/
theorem good_count {mi : S16384.Idx → BitVec 32} {lo hi n : ℕ} {wcol wpos : S4112.Idx → BitVec 32} (h : Listed mi lo hi n wcol wpos)
    (hhi : hi ≤ 1000000) (hn : n ≤ 4096) (c0 B : ℕ) :
    Nat.count (Good n c0 wcol) B ≤ Nat.count (InR mi (lo + c0) (lo + c0 + 512)) 16384 := by
  rw [Nat.count_eq_card_filter_range, Nat.count_eq_card_filter_range]
  refine Finset.card_le_card_of_injOn (fun r => (at1 wpos r).toNat) (fun r hr => ?_) (fun r hr r' hr' e => ?_)
  · obtain ⟨-, hg⟩ := Finset.mem_filter.mp hr
    obtain ⟨p, hp, -, h1, h2⟩ := h.entry hhi hn hg.1
    have h3 := hg.2
    have h4 := hp.1
    refine Finset.mem_filter.mpr ⟨?_, ?_⟩
    · show (at1 wpos r).toNat ∈ _
      rw [h2]; exact Finset.mem_range.mpr (hp.lt hhi)
    · show InR _ _ _ (at1 wpos r).toNat
      rw [h2]; unfold InR; omega
  · obtain ⟨-, hg⟩ := Finset.mem_filter.mp hr
    obtain ⟨-, hg'⟩ := Finset.mem_filter.mp hr'
    obtain ⟨p, -, hc, -, h2⟩ := h.entry hhi hn hg.1
    obtain ⟨p', -, hc', -, h2'⟩ := h.entry hhi hn hg'.1
    have e' : (at1 wpos r).toNat = (at1 wpos r').toNat := e
    rw [h2, h2'] at e'
    rw [← hc, ← hc', e']

section Words
variable {mi : S16384.Idx → BitVec 32} {lo hi n q : ℕ} {wcol wpos : S4112.Idx → BitVec 32} (hl : Listed mi lo hi n wcol wpos)
  (hhi : hi ≤ 1000000) (hn : n ≤ 4096) (hq : q < 62) {t : Fin (k0_t3_loop (BitVec.ofNat 32 n)).trips}
  {v : Vec F S16 .i32} (hv : ∀ k : Fin 16, v (ix1 k) = at1 wcol (16 * t.val + k.val))
include hl hhi hn hq hv

theorem pick_small {r : ℕ} (hr : r < n) : (at1 wcol r).toNat < 1000000 ∧ (at1 wpos r).toNat < 16384 := by
  obtain ⟨p, hp, -, h1, h2⟩ := hl.entry hhi hn hr
  have := hp.2
  have := hp.lt hhi
  omega

theorem pick_trips : t.val < 257 := by
  have : t.val < (n + 15) / 16 := t3_trips hn ▸ t.isLt
  omega

theorem pick_col (k : Fin 16) : k0_pay117 (BitVec.ofNat 32 q) v (ix1 k) = v (ix1 k) - BitVec.ofNat 32 (512 * q) := by
  show v (ix1 k) - BitVec.ofNat 32 q * BitVec.ofNat 32 512 = _
  rw [← BitVec.ofNat_mul, Nat.mul_comm]

theorem pick_mask (k : Fin 16) :
    k0_pay118 lanes (BitVec.ofNat 32 n) (BitVec.ofNat 32 n) (BitVec.ofNat 32 q) t v (ix1 k) = 1 ↔ Good n (512 * q) wcol (16 * t.val + k.val) := by
  have ht := pick_trips hl hhi hn hq hv
  have hk := k.isLt
  have e : k0_pay118 lanes (BitVec.ofNat 32 n) (BitVec.ofNat 32 n) (BitVec.ofNat 32 q) t v (ix1 k)
      = (IntOp.cmpi .sge (v (ix1 k) - BitVec.ofNat 32 (512 * q)) 0#32 &&& IntOp.cmpi .slt (v (ix1 k) - BitVec.ofNat 32 (512 * q)) (BitVec.ofNat 32 512))
        &&& IntOp.cmpi .slt (BitVec.ofNat 32 (16 * t.val + k.val)) (BitVec.ofNat 32 n) := by
    show (IntOp.cmpi .sge (k0_pay117 (BitVec.ofNat 32 q) v (ix1 k)) 0#32 &&& IntOp.cmpi .slt (k0_pay117 (BitVec.ofNat 32 q) v (ix1 k)) 512#32)
        &&& IntOp.cmpi .slt (Scalar.muli (Scf.iv 0#32 1#32 t.val) 16#32 + lanes (ix1 k)) (BitVec.ofNat 32 n) = _
    rw [pick_col hl hhi hn hq hv k, iv_ofNat, mul16_ofNat, lanes_at, ← BitVec.ofNat_add]
  rw [e]
  refine and_one.trans ?_
  rw [slt_iff (x := BitVec.ofNat 32 (16 * t.val + k.val)), Lanes.toInt_ofNat (by omega), Lanes.toInt_ofNat (by omega)]
  by_cases hr : 16 * t.val + k.val < n
  · have hs := (pick_small hl hhi hn hq hv hr).1
    have hv' := hv k
    rw [and_one, sge_zero_iff, slt_iff, hv', toInt_sub (by omega) (by omega), Lanes.toInt_ofNat (by omega)]
    unfold Good
    omega
  · unfold Good
    omega

theorem pick_place (k : Fin 16) :
    k0_pay120 lanes (BitVec.ofNat 32 n) (BitVec.ofNat 32 n) (BitVec.ofNat 32 q) t (BitVec.ofNat 32 (Nat.count (Good n (512 * q) wcol) (16 * t.val))) v (ix1 k)
      = BitVec.ofNat 32 (Nat.count (Good n (512 * q) wcol) (16 * t.val + k.val)) :=
  count_place (Good n (512 * q) wcol) (16 * t.val) (k0_pay118 lanes (BitVec.ofNat 32 n) (BitVec.ofNat 32 n) (BitVec.ofNat 32 q) t v) natLt_1_32
    (pick_mask hl hhi hn hq hv) k

theorem pick_total :
    Scalar.addi (BitVec.ofNat 32 (Nat.count (Good n (512 * q) wcol) (16 * t.val)))
        (extractAt ![15] (k0_pay122 lanes (BitVec.ofNat 32 n) (BitVec.ofNat 32 n) (BitVec.ofNat 32 q) t v) inpos_S16_p15)
      = BitVec.ofNat 32 (Nat.count (Good n (512 * q) wcol) (16 * t.val + 16)) := by
  rw [lane15]
  exact count_total (Good n (512 * q) wcol) (16 * t.val) (k0_pay118 lanes (BitVec.ofNat 32 n) (BitVec.ofNat 32 n) (BitVec.ofNat 32 q) t v) natLt_1_32
    (pick_mask hl hhi hn hq hv)

theorem pick_value (k : Fin 16) (hg : Good n (512 * q) wcol (16 * t.val + k.val)) :
    k0_pay117 (BitVec.ofNat 32 q) v (ix1 k) = BitVec.ofNat 32 ((at1 wcol (16 * t.val + k.val)).toNat - 512 * q) := by
  have hs := (pick_small hl hhi hn hq hv hg.1).1
  rw [pick_col hl hhi hn hq hv k, hv k, Words.toNat_sub (by omega) hg.2.1]

theorem pick_comb {v' : Vec F S16 .i32} (hv' : ∀ k : Fin 16, v' (ix1 k) = at1 wpos (16 * t.val + k.val)) (k : Fin 16) :
    let comb := select (k0_pay118 lanes (BitVec.ofNat 32 n) (BitVec.ofNat 32 n) (BitVec.ofNat 32 q) t v)
      (ori (shli v' (broadcast S16 9#32)) (k0_pay117 (BitVec.ofNat 32 q) v)) (broadcast S16 4294967295#32)
    (Good n (512 * q) wcol (16 * t.val + k.val) → comb (ix1 k) = BitVec.ofNat 32 (val (512 * q) wcol wpos (16 * t.val + k.val)))
      ∧ (¬ Good n (512 * q) wcol (16 * t.val + k.val) → comb (ix1 k) = -1#32) := by
  intro comb
  have hm := pick_mask hl hhi hn hq hv k
  have e : comb (ix1 k) = if k0_pay118 lanes (BitVec.ofNat 32 n) (BitVec.ofNat 32 n) (BitVec.ofNat 32 q) t v (ix1 k) = 1
      then (v' (ix1 k) <<< 9 ||| k0_pay117 (BitVec.ofNat 32 q) v (ix1 k)) else 4294967295#32 := rfl
  constructor
  · intro hg
    have hs := pick_small hl hhi hn hq hv hg.1
    have h2 := hg.2
    have ep : v' (ix1 k) = BitVec.ofNat 32 (at1 wpos (16 * t.val + k.val)).toNat := by rw [hv' k, BitVec.ofNat_toNat, BitVec.setWidth_eq]
    rw [e, if_pos (hm.2 hg), pick_value hl hhi hn hq hv k hg, ep, shl_or (by omega) (by omega) (by omega)]
    rfl
  · intro hg
    rw [e, if_neg fun h => hg (hm.1 h)]
    rfl

variable (hcnt : ∀ B, Nat.count (Good n (512 * q) wcol) B ≤ 2048)
include hcnt

theorem pick_chk (i : grid0.Coords) (t2 : Fin k0_t2_loop.trips) {w : BitVec 32} (hw : w = BitVec.ofNat 32 (Nat.count (Good n (512 * q) wcol) (16 * t.val))) :
    k0_chk5 i t2 (k0_pay120 lanes (BitVec.ofNat 32 n) (BitVec.ofNat 32 n) (BitVec.ofNat 32 q) t w v) := by
  subst hw
  have h : ∀ a x, ((![k0_pay120 lanes (BitVec.ofNat 32 n) (BitVec.ofNat 32 n) (BitVec.ofNat 32 q) t
      (BitVec.ofNat 32 (Nat.count (Good n (512 * q) wcol) (16 * t.val))) v] : Fin 1 → IVec S16 32) a x).toNat < S2064.size a := by
    intro a x
    obtain rfl : a = 0 := Subsingleton.elim _ _
    obtain ⟨k, rfl⟩ : ∃ k : Fin 16, x = ix1 k := ⟨x 0, (ix1_eta x).symm⟩
    show (k0_pay120 _ _ _ _ _ _ v (ix1 k)).toNat < 2064
    have := hcnt (16 * t.val + k.val)
    rw [pick_place hl hhi hn hq hv k, Words.toNat_ofNat (by omega)]
    omega
  exact ⟨fun _ => h, fun _ => h⟩

theorem pick_mask' (k : Fin 16) :
    k0_pay121 lanes (BitVec.ofNat 32 n) (BitVec.ofNat 32 n) (BitVec.ofNat 32 q) t v
        (k0_pay120 lanes (BitVec.ofNat 32 n) (BitVec.ofNat 32 n) (BitVec.ofNat 32 q) t (BitVec.ofNat 32 (Nat.count (Good n (512 * q) wcol) (16 * t.val))) v) (ix1 k) = 1
      ↔ Good n (512 * q) wcol (16 * t.val + k.val) := by
  have hp := pick_place hl hhi hn hq hv k
  have e : k0_pay121 lanes (BitVec.ofNat 32 n) (BitVec.ofNat 32 n) (BitVec.ofNat 32 q) t v
        (k0_pay120 lanes (BitVec.ofNat 32 n) (BitVec.ofNat 32 n) (BitVec.ofNat 32 q) t (BitVec.ofNat 32 (Nat.count (Good n (512 * q) wcol) (16 * t.val))) v) (ix1 k)
      = k0_pay118 lanes (BitVec.ofNat 32 n) (BitVec.ofNat 32 n) (BitVec.ofNat 32 q) t v (ix1 k)
        &&& IntOp.cmpi .slt (BitVec.ofNat 32 (Nat.count (Good n (512 * q) wcol) (16 * t.val + k.val))) 2048#32 := by
    show _ &&& IntOp.cmpi .slt (k0_pay120 _ _ _ _ _ _ v (ix1 k)) 2048#32 = _
    rw [hp]
  rw [e]
  refine and_one.trans ?_
  refine (and_congr_left' (pick_mask hl hhi hn hq hv k)).trans (and_iff_left_of_imp fun hg => ?_)
  have h1 := hcnt (16 * t.val + k.val + 1)
  rw [Nat.count_succ, if_pos hg] at h1
  rw [slt_iff, Lanes.toInt_ofNat (by omega)]
  show _ < (2048 : ℤ)
  omega

end Words

variable [FloatOps F] (d : Dev nD) (i : grid0.Coords)

/-- What the pick knows before trip `t`: the count of the entries kept, their two lists, and the greatest. -/
def PickInv (n c0 : ℕ) (wcol wpos : S4112.Idx → BitVec 32) (t : ℕ) (acc : BitVec 32 × BitVec 32) : sProp 𝕄 :=
  iprop(∃ fc : S2064.Idx → BitVec 32, ∃ fp : S2064.Idx → BitVec 32,
    own d i cc0_scratch1 wcol ∗ own d i cc0_scratch2 wpos ∗ own d i cc0_scratch3 fc ∗ own d i cc0_scratch4 fp
      ∗ ⌜acc.1 = BitVec.ofNat 32 (Nat.count (Good n c0 wcol) (16 * t))
          ∧ Compact (Good n c0 wcol) (16 * t) (fun r => BitVec.ofNat 32 ((at1 wcol r).toNat - c0)) fc
          ∧ Compact (Good n c0 wcol) (16 * t) (at1 wpos) fp ∧ Greatest (Good n c0 wcol) (16 * t) (val c0 wcol wpos) acc.2⌝)

theorem pick_step {mi : S16384.Idx → BitVec 32} {lo hi n : ℕ} {wcol wpos : S4112.Idx → BitVec 32} (hl : Listed mi lo hi n wcol wpos)
    (hhi : hi ≤ 1000000) (hn : n ≤ 4096) (t2 : Fin k0_t2_loop.trips) (hcnt : ∀ B, Nat.count (Good n (512 * t2.val) wcol) B ≤ 2048)
    (hw4 : k0_chk4 i (BitVec.ofNat 32 n)) (h2 : k0_cond2 i t2 = 1#1) (v40 v66 : BitVec 32)
    (s8 s9 s10 s11 : DmaSems sig S_) (t : Fin (k0_t3_loop (BitVec.ofNat 32 n)).trips) (acc : BitVec 32 × BitVec 32) :
    PickInv (F := F) d i n (512 * t2.val) wcol wpos t.val acc ⊢ wp frame (wpE (defs₀ (F := F)) 𝒱₀ (thr d i) none) Set.univ
      (k0_t3_body (F := F) i idxM (Memref.isWhole_whole _) val2M (Memref.isWhole_whole _) memM (Memref.isWhole_whole _) outM (Memref.isWhole_whole _)
        idxvM (Memref.isWhole_whole _) wcolM (Memref.isWhole_whole _) wposM (Memref.isWhole_whole _) ccolM (Memref.isWhole_whole _) cposM (Memref.isWhole_whole _)
        blockM (Memref.isWhole_whole _) pairsM (Memref.isWhole_whole _) rowsM (Memref.isWhole_whole _) s8 s9 s10 s11
        lanes v40 (BitVec.ofNat 32 n) hw4 (BitVec.ofNat 32 n) v66 t2 (BitVec.ofNat 32 t2.val) h2 t acc)
      (PickInv (F := F) d i n (512 * t2.val) wcol wpos (t.val + 1)) := by
  have hq : t2.val < 62 := t2_trips ▸ t2.isLt
  obtain ⟨m, last⟩ := acc
  unfold PickInv k0_t3_body
  iintro ⟨%fc, %fp, Hwc, Hwp, Hc, Hp, %hm, %hc, %hp, %hg⟩
  dsimp only at hm hg
  simp only [Prog.lift, Prog.bind_op, Prog.bind_ret, Prog.pure_eq_ret]
  have ht : t.val < 2 ^ 20 := by
    have : t.val < (n + 15) / 16 := t3_trips hn ▸ t.isLt
    omega
  iapply (wp_ld (F := F) d i) $$ Hwc
  iintro Hwc
  iapply (wp_ld (F := F) d i) $$ Hwp
  iintro Hwp
  generalize hveq : (fun x => wcol ((Rect.unit (s := S4112) (k0_off2 (BitVec.ofNat 32 n) t) S16.size (k0_off2_inb i (BitVec.ofNat 32 n) hw4 t2 t h2)).toLoadRect.idx x)) = v
  generalize hveq' : (fun x => wpos ((Rect.unit (s := S4112) (k0_off2 (BitVec.ofNat 32 n) t) S16.size (k0_off2_inb i (BitVec.ofNat 32 n) hw4 t2 t h2)).toLoadRect.idx x)) = v'
  have hv : ∀ k : Fin 16, v (ix1 k) = at1 wcol (16 * t.val + k.val) := fun k => by
    rw [← hveq]; exact read16 (off2_eq t ht) _ wcol k
  have hv' : ∀ k : Fin 16, v' (ix1 k) = at1 wpos (16 * t.val + k.val) := fun k => by
    rw [← hveq']; exact read16 (off2_eq t ht) _ wpos k
  have hchk := pick_chk (F := F) hl hhi hn hq hv hcnt i t2 hm
  rw [wp_assume_of _ _ _ _ hchk]
  iapply (wp_vst (F := F) d i) $$ Hc
  iintro Hc
  iapply (wp_vst (F := F) d i) $$ Hp
  iintro Hp
  rw [wp_ret]
  imodintro
  iexists _; iexists _
  isplitl [Hwc]; · iexact Hwc
  isplitl [Hwp]; · iexact Hwp
  isplitl [Hc]; · iexact Hc
  isplitl [Hp]; · iexact Hp
  ipureintro
  subst hm
  rw [show 16 * (t.val + 1) = 16 * t.val + 16 by omega]
  have hpl : ∀ k : Fin 16, Good n (512 * t2.val) wcol (16 * t.val + k.val) →
      ((k0_pay120 lanes (BitVec.ofNat 32 n) (BitVec.ofNat 32 n) (BitVec.ofNat 32 t2.val) t (BitVec.ofNat 32 (Nat.count (Good n (512 * t2.val) wcol) (16 * t.val))) v) (ix1 k)).toNat
        = Nat.count (Good n (512 * t2.val) wcol) (16 * t.val + k.val) := fun k _ => by
    rw [pick_place (F := F) hl hhi hn hq hv k, Words.toNat_ofNat (by have := hcnt (16 * t.val + k.val); omega)]
  refine ⟨pick_total (F := F) hl hhi hn hq hv, Compact.step hc hpl (pick_mask' (F := F) hl hhi hn hq hv hcnt) (pick_value (F := F) hl hhi hn hq hv) _,
    Compact.step hp hpl (pick_mask' (F := F) hl hhi hn hq hv hcnt) (fun k _ => hv' k) _, ?_⟩
  rw [lane15]
  exact Greatest.step hg (fun p _ hgood => hl.val_lt hhi hn hgood) (pick_comb (F := F) hl hhi hn hq hv hv')

end Cert.Proof.Tile

end
-- ==== Proof.Lane.lean ====
/-
  The applying of sixteen entries, as a program over the lanes: what the printed body does for each lane stands here once,
  for any lane, and the body is the same lane sixteen times.
-/
module

public import proofs.«01_k».proof.Proof.Pick

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program -/

theorem rowInb (j : Fin 16) : ∀ a, (![j.val, 0] : Fin 2 → ℕ) a + S1x128.size a ≤ S16x128.size a := fun a => by
  have := j.isLt
  match a with
  | 0 => show j.val + 1 ≤ 16; omega
  | 1 => show 0 + 128 ≤ 128; omega

theorem laneSlice (j : Fin 16) : S16.Slices ![j.val] S1 := by revert j; decide

abbrev pairRow (j : Fin 16) : Memref sig .scVector .vmem S128 .f32 :=
  (pairsM.slice (Rect.unit (s := S16x128) ![j.val, 0] S1x128.size (rowInb j)) (fun _ => rfl)).squeeze S128 squeezes_S1x128_S128

abbrev laneAt (j : Fin 16) (w : IVec S16 32) : BitVec 32 := extractAt ![0] (extractStridedSlice S1 ![j.val] w (laneSlice j)) inpos_S1_p0

section Prog
variable (i : grid0.Coords) (t2 : Fin k0_t2_loop.trips) (h2 : k0_cond2 i t2 = 1#1) (m : BitVec 32) (t5 : Fin k0_t5_loop.trips) (h4 : k0_cond4 m t5 = 1#1)

abbrev TProg (F : FTy → Type) (i : grid0.Coords) (α : Type) := Prog (TpuEff nD τ sig (Elt F) Λ₀ (.scVector ((i 0).castLE hcore0) ((i 1).castLE hsub0))) α

/-- A quarter of lane `j`: sixteen of its row's words, from `off`, go to the column named by `cols`. -/
def quarter (j : Fin 16) (off : Fin 1 → ℕ) (inb : ∀ a, off a + S16.size a ≤ S128.size a) (rows cols : IVec S16 32) : TProg F i PUnit := do
  let y : Vec F S16 .f32 ← Prog.lift (.load (pairRow j) (Rect.unit (s := S128) off S16.size inb).toLoadRect (View.loadsAt_vmem h_S16))
  have hw : k0_chk10 i t2 m t5 rows cols := (← Prog.lift (TpuEff.assume (k0_chk10 i t2 m t5 rows cols) (k0_chk10.dec i t2 m t5 rows cols))).down
  SparseCore.vectorStoreIdx blockM ![rows, cols] y (fun _ => 1#1) false (k0_idx11_inb i t2 m t5 rows cols hw h2 h4) (View.stores_vmem_bits_univ h_S64x512 rfl)

/-- Lane `j`, its winner `w` and its column `c`. -/
def lane (j : Fin 16) (w c : BitVec 32) : TProg F i PUnit := do
  have hw : k0_chk9 i t2 m t5 w := (← Prog.lift (TpuEff.assume (k0_chk9 i t2 m t5 w) (k0_chk9.dec i t2 m t5 w))).down
  quarter i t2 h2 m t5 h4 j (k0_off6 w) (k0_off6_inb i t2 m t5 w hw h2 h4) (k0_pay25 lanes) (broadcast S16 c)
  quarter i t2 h2 m t5 h4 j (k0_off7 w) (k0_off7_inb i t2 m t5 w hw h2 h4) (k0_pay26 lanes) (broadcast S16 c)
  quarter i t2 h2 m t5 h4 j (k0_off8 w) (k0_off8_inb i t2 m t5 w hw h2 h4) (k0_pay27 lanes) (broadcast S16 c)
  quarter i t2 h2 m t5 h4 j (k0_off9 w) (k0_off9_inb i t2 m t5 w hw h2 h4) (k0_pay28 lanes) (broadcast S16 c)

/-- The lanes of a list, one after another. -/
def lanesOf (W C : IVec S16 32) : List (Fin 16) → TProg F i PUnit
  | [] => .ret ⟨⟩
  | j :: js => lane i t2 h2 m t5 h4 j (laneAt j W) (laneAt j C) >>= fun _ => lanesOf W C js

/-- The winner of each lane, as the body computes it. -/
abbrev winner (cc pp : IVec S16 32) : IVec S16 32 :=
  k0_pay21 (F := F) cc pp (k0_pay18 (F := F) cc pp (k0_pay15 (F := F) cc pp) (k0_pay16 (F := F) cc) (k0_pay17 (F := F) cc pp)) (k0_pay19 (F := F) cc) (laneAt 12 pp)

abbrev val2All : Memref sig .scVector .hbm S8192x128 .f32 :=
  val2M.slice (Rect.unit (s := S8192x128) ![0, 0] S8192x128.size inb_S8192x128_S8192x128_0_0) (fun _ => rfl)

/-- The applying of one group. -/
def applyGroup : TProg F i PUnit := do
  let cc : Vec F S16 .i32 ← Prog.lift (.load ccolM (Rect.unit (s := S2064) (k0_off5 t5) S16.size (k0_off5_inb i t2 t5 h2)).toLoadRect (View.loadsAt_vmem h_S16))
  let pp : Vec F S16 .i32 ← Prog.lift (.load cposM (Rect.unit (s := S2064) (k0_off5 t5) S16.size (k0_off5_inb i t2 t5 h2)).toLoadRect (View.loadsAt_vmem h_S16))
  let _ : Vec F S16 .i32 ← Prog.lift (.load rowsM (Rect.unit (s := S16) ![0] S16.size inb_S16_S16_0).toLoadRect (View.loadsAt_vmem h_S16))
  Prog.lift (.store rowsM (Rect.unit (s := S16) ![0] S16.size inb_S16_S16_0) (Idealize.ShloMosaic.shrsi (winner (F := F) cc pp) (broadcast S16 1#32)) Finset.univ (View.stores_vmem_bits_univ h_S16 rfl) (.inl rfl))
  SparseCore.enqueueIndirectGather rfl val2All pairsM gathers_S8192x128_S16x128 rowsM rfl cc0_scratch10.sem (View.wordExact_bits rfl) rfl (Or.inl rfl)
  SparseCore.waitIndirectGather cc0_scratch10.sem val2All pairsM (View.wordExact_bits rfl) (Memref.isWhole_whole cc0_scratch6).wordExact
  lanesOf i t2 h2 m t5 h4 (winner (F := F) cc pp) cc [0, 1, 2, 3, 4, 5, 6, 7, 8, 9, 10, 11, 12, 13, 14, 15]

end Prog

end Cert.Proof.Tile

end
-- ==== Proof.Apply.lean ====
/-
  What the applying of sixteen entries does: each lane's column of the block is its winner's half row.
-/
module

public import proofs.«01_k».proof.Proof.Lane

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] (d : Dev nD) (i : grid0.Coords)

/-! ## The words -/

theorem laneAt_eq (j : Fin 16) (w : IVec S16 32) : laneAt j w = w (ix1 j) := by
  show w _ = w _
  congr 1
  funext a
  refine Fin.ext ?_
  match a with
  | 0 => show j.val + 0 = j.val; omega

theorem off_eq (w : BitVec 32) : k0_off6 w = ![w.toNat % 2 * 64 + 0] ∧ k0_off7 w = ![w.toNat % 2 * 64 + 16]
    ∧ k0_off8 w = ![w.toNat % 2 * 64 + 32] ∧ k0_off9 w = ![w.toNat % 2 * 64 + 48] ∧ k0_mult5 w = BitVec.ofNat 32 (w.toNat % 2 * 64) := by
  have h : Scalar.andi w 1#32 = BitVec.ofNat 32 (w.toNat % 2) := by
    refine BitVec.eq_of_toNat_eq ?_
    show (w &&& 1#32).toNat = _
    rw [BitVec.toNat_and]
    exact (Nat.and_one_is_mod _).trans (Words.toNat_ofNat (by have := Nat.mod_lt w.toNat (show 0 < 2 by omega); omega)).symm
  unfold k0_off6 k0_off7 k0_off8 k0_off9 k0_mult5
  dsimp only
  rw [h]
  rcases Nat.mod_two_eq_zero_or_one w.toNat with e | e <;> rw [e] <;> decide

theorem chk9_of (t2 : Fin k0_t2_loop.trips) (m : BitVec 32) (t5 : Fin k0_t5_loop.trips) (w : BitVec 32) : k0_chk9 i t2 m t5 w := by
  obtain ⟨h6, h7, h8, h9, h5⟩ := off_eq w
  unfold k0_chk9
  rw [h6, h7, h8, h9, h5]
  rcases Nat.mod_two_eq_zero_or_one w.toNat with e | e <;> rw [e] <;>
    exact ⟨fun _ _ => by decide, fun _ _ => by decide, fun _ _ => by decide, fun _ _ => by decide, fun _ _ => by decide⟩

theorem rows_at (l : Fin 16) : k0_pay25 lanes (ix1 l) = BitVec.ofNat 32 (16 * 0 + l.val) ∧ k0_pay26 lanes (ix1 l) = BitVec.ofNat 32 (16 * 1 + l.val)
    ∧ k0_pay27 lanes (ix1 l) = BitVec.ofNat 32 (16 * 2 + l.val) ∧ k0_pay28 lanes (ix1 l) = BitVec.ofNat 32 (16 * 3 + l.val) := by
  have e : ∀ b : BitVec 32, IntOp.addi b (lanes (ix1 l)) = b + BitVec.ofNat 32 l.val := fun b => by rw [lanes_at]; rfl
  refine ⟨(e _).trans ?_, (e _).trans ?_, (e _).trans ?_, (e _).trans ?_⟩ <;> clear e <;> revert l <;> decide

/-- The winner of each lane. -/
theorem winner_wins (cc pp : IVec S16 32) : Wins cc pp (winner (F := F) cc pp) := by
  have st : ∀ (j : Fin 16) {w : IVec S16 32}, WinUpto cc pp w j.val → WinUpto cc pp (winStep cc pp w (laneAt j cc) (laneAt j pp)) (j.val + 1) :=
    fun j _ h => h.step j.isLt (laneAt_eq j cc) (laneAt_eq j pp)
  exact (st 15 (st 14 (st 13 (st 12 (st 11 (st 10 (st 9 (st 8 (st 7 (st 6 (st 5 (st 4 (st 3 (st 2 (st 1 (st 0 (WinUpto.zero cc pp))))))))))))))))).wins

/-! ## One column, sixteen rows at a time -/

/-- The first `n` rows of column `c` written. -/
def upTo {α : Type} (g : (⟨2, ![64, 512]⟩ : Shape).Idx → α) (c : BitVec 32) (y : Fin 64 → α) (n : ℕ) : (⟨2, ![64, 512]⟩ : Shape).Idx → α :=
  fun x => if (x 1).val = c.toNat ∧ (x 0).val < n then y (x 0) else g x

theorem upTo_zero {α : Type} (g : (⟨2, ![64, 512]⟩ : Shape).Idx → α) (c : BitVec 32) (y : Fin 64 → α) : upTo g c y 0 = g :=
  funext fun x => if_neg fun h => Nat.not_lt_zero _ h.2

theorem upTo_all {α : Type} (g : (⟨2, ![64, 512]⟩ : Shape).Idx → α) (c : BitVec 32) (y : Fin 64 → α) : upTo g c y 64 = setCol g c y :=
  funext fun x => if_congr ⟨And.left, fun h => ⟨h, (x 0).isLt⟩⟩ rfl rfl

theorem upTo_store (g : Vec F S64x512 .f32) (c : BitVec 32) (y : Fin 64 → Elt F .f32) {n : ℕ} (hn : n + 16 ≤ 64)
    {rows cols : IVec S16 32} (hr : ∀ l : Fin 16, rows (ix1 l) = BitVec.ofNat 32 (n + l.val)) (hc : ∀ l : Fin 16, cols (ix1 l) = c)
    {v : Vec F S16 .f32} (hv : ∀ l : Fin 16, v (ix1 l) = y ⟨n + l.val, by have := l.isLt; omega⟩)
    (h : ∀ a x, ((![rows, cols] : Fin 2 → IVec S16 32) a x).toNat < S64x512.size a) :
    storeIdx (F := F) (s := S64x512) (e := .f32) (upTo g c y n) ![rows, cols] v (fun _ => 1#1) false h = upTo g c y (n + 16) := by
  have hit : ∀ (l : Fin 16) (x : S64x512.Idx), Hits (s := S64x512) ![rows, cols] (fun _ => 1#1) l x ↔ (x 1).val = c.toNat ∧ (x 0).val = n + l.val := by
    intro l x
    have hl := l.isLt
    have e0 : (rows (ix1 l)).toNat = n + l.val := by rw [hr]; exact Words.toNat_ofNat (by omega)
    have e1 : (cols (ix1 l)).toNat = c.toNat := by rw [hc]
    constructor
    · rintro ⟨-, hx⟩
      exact ⟨(hx 1).trans e1, (hx 0).trans e0⟩
    · rintro ⟨h1, h0⟩
      refine ⟨rfl, fun a => ?_⟩
      match a with
      | 0 => exact h0.trans e0.symm
      | 1 => exact h1.trans e1.symm
  funext x
  by_cases hx : (x 1).val = c.toNat ∧ n ≤ (x 0).val ∧ (x 0).val < n + 16
  · obtain ⟨h1, h2, h3⟩ := hx
    have e : upTo g c y (n + 16) x = y (x 0) := if_pos ⟨h1, h3⟩
    rw [e]
    refine storeIdx_hit _ _ _ _ h x _ ⟨⟨(x 0).val - n, by omega⟩, (hit _ x).mpr ⟨h1, ?_⟩⟩ fun k hk => ?_
    · show (x 0).val = n + ((x 0).val - n); omega
    · rw [hv]
      congr 1
      exact Fin.ext ((hit k x).mp hk).2.symm
  · rw [storeIdx_miss _ _ _ _ h x fun k hk => hx (by have := (hit k x).mp hk; have := k.isLt; omega)]
    exact if_congr ⟨fun h => ⟨h.1, by omega⟩, fun h => ⟨h.1, by omega⟩⟩ rfl rfl

/-! ## A lane -/

/-- The half of row `j` that the winner's lowest bit names. -/
def half (P : Vec F S16x128 .f32) (j : Fin 16) (w : BitVec 32) : Fin 64 → Elt F .f32 :=
  fun k => P (ix2 j ⟨w.toNat % 2 * 64 + k.val, by have := k.isLt; have := Nat.mod_lt w.toNat (show 0 < 2 by omega); omega⟩)

theorem pairRow_emb (j : Fin 16) (x : S128.Idx) : (pairRow j).view.emb x = (ix2 j (x 0) : S16x128.Idx) := by
  show Rect.emb _ (Shape.reshapeEquiv _ x) = _
  rw [Shape.reshapeEquiv_cons_one]
  funext a
  refine Fin.ext ?_
  match a with
  | 0 => show j.val + 1 * 0 = j.val; omega
  | 1 => show 0 + 1 * (x 0).val = (x 0).val; omega

section Lane
variable (t2 : Fin k0_t2_loop.trips) (h2 : k0_cond2 i t2 = 1#1) (m : BitVec 32) (t5 : Fin k0_t5_loop.trips) (h4 : k0_cond4 m t5 = 1#1)

theorem wp_quarter {α : Type} {Q : α → sProp 𝕄} {kk : PUnit → TProg F i α} (P : Vec F S16x128 .f32) (g : Vec F S64x512 .f32) (j : Fin 16) (w c : BitVec 32) (hc : c.toNat < 512)
    {n : ℕ} (hn : n + 16 ≤ 64) {off : Fin 1 → ℕ} (hoff : off = ![w.toNat % 2 * 64 + n]) (inb : ∀ a, off a + S16.size a ≤ S128.size a)
    {rows : IVec S16 32} (hr : ∀ l : Fin 16, rows (ix1 l) = BitVec.ofNat 32 (n + l.val)) :
    iprop(own d i cc0_scratch6 P ∗ own d i cc0_scratch5 (upTo g c (half P j w) n))
      ⊢ iprop((own d i cc0_scratch6 P ∗ own d i cc0_scratch5 (upTo g c (half P j w) (n + 16))
            -∗ wp frame (wpE (defs₀ (F := F)) 𝒱₀ (thr d i) none) Set.univ (kk ⟨⟩) Q)
          -∗ wp frame (wpE (defs₀ (F := F)) 𝒱₀ (thr d i) none) Set.univ (quarter (F := F) i t2 h2 m t5 h4 j off inb rows (broadcast S16 c) >>= kk) Q) := by
  iintro ⟨Hp, Hb⟩ Hk
  unfold quarter
  simp only [Prog.lift, Prog.bind_op, Prog.bind_ret, Prog.pure_eq_ret]
  iapply (wp_load 𝒱₀ (thr d i) none Set.univ (m := pairRow j) (S := Finset.univ) (Finset.subset_univ _)) $$ Hp
  iintro Hp
  have hchk : k0_chk10 i t2 m t5 rows (broadcast S16 c) := fun _ _ a x => by
    match a with
    | 0 =>
      have hx : (x 0).val < 16 := (x 0).isLt
      have e : rows x = BitVec.ofNat 32 (n + (x 0).val) := (congrArg rows (ix1_eta x)).symm.trans (hr (x 0))
      show (rows x).toNat < 64
      rw [e, Words.toNat_ofNat (by omega)]; omega
    | 1 => exact hc
  rw [wp_assume_of _ _ _ _ hchk]
  iapply (wp_vst (F := F) d i) $$ Hb
  iintro Hb
  rw [upTo_store (F := F) g c (half P j w) hn hr (fun _ => rfl) (fun l => ?_)]
  · iapply Hk
    iframe Hp Hb
  · subst hoff
    rw [View.readAt_apply, View.read_apply]
    refine (cast_eq _ _).trans ?_
    rw [pairRow_emb]
    show P _ = P _
    congr 2
    refine Fin.ext ?_
    show (w.toNat % 2 * 64 + n) + 1 * l.val = w.toNat % 2 * 64 + (n + l.val)
    omega

theorem wp_lane {α : Type} {Q : α → sProp 𝕄} {kk : PUnit → TProg F i α} (P : Vec F S16x128 .f32) (g : Vec F S64x512 .f32) (j : Fin 16) (w c : BitVec 32) (hc : c.toNat < 512) :
    iprop(own d i cc0_scratch6 P ∗ own d i cc0_scratch5 g)
      ⊢ iprop((own d i cc0_scratch6 P ∗ own d i cc0_scratch5 (setCol g c (half P j w))
            -∗ wp frame (wpE (defs₀ (F := F)) 𝒱₀ (thr d i) none) Set.univ (kk ⟨⟩) Q)
          -∗ wp frame (wpE (defs₀ (F := F)) 𝒱₀ (thr d i) none) Set.univ (lane (F := F) i t2 h2 m t5 h4 j w c >>= kk) Q) := by
  obtain ⟨h6, h7, h8, h9, -⟩ := off_eq w
  iintro Hpb Hk
  rw [← upTo_zero g c (half P j w)]
  unfold lane
  simp only [Prog.lift, Prog.bind_op, Prog.bind_ret, Prog.bind_assoc]
  rw [wp_assume_of _ _ _ _ (chk9_of i t2 m t5 w)]
  iapply (wp_quarter d i t2 h2 m t5 h4 P g j w c hc (n := 0) (by omega) h6 _ fun l => (rows_at l).1) $$ Hpb
  iintro Hpb
  iapply (wp_quarter d i t2 h2 m t5 h4 P g j w c hc (n := 16) (by omega) h7 _ fun l => (rows_at l).2.1) $$ Hpb
  iintro Hpb
  iapply (wp_quarter d i t2 h2 m t5 h4 P g j w c hc (n := 32) (by omega) h8 _ fun l => (rows_at l).2.2.1) $$ Hpb
  iintro Hpb
  iapply (wp_quarter d i t2 h2 m t5 h4 P g j w c hc (n := 48) (by omega) h9 _ fun l => (rows_at l).2.2.2) $$ Hpb
  rw [upTo_all, upTo_zero]
  iexact Hk

/-- The lanes of a list write their columns in its order. -/
theorem wp_lanesOf {Q : PUnit → sProp 𝕄} (P : Vec F S16x128 .f32) (W C : IVec S16 32) (hC : ∀ j : Fin 16, (C (ix1 j)).toNat < 512) (js : List (Fin 16)) (g : Vec F S64x512 .f32) :
    iprop(own d i cc0_scratch6 P ∗ own d i cc0_scratch5 g)
      ⊢ iprop((own d i cc0_scratch6 P ∗ own d i cc0_scratch5 (js.foldl (fun g j => setCol g (C (ix1 j)) (half P j (W (ix1 j)))) g)
            -∗ Q ⟨⟩)
          -∗ wp frame (wpE (defs₀ (F := F)) 𝒱₀ (thr d i) none) Set.univ (lanesOf (F := F) i t2 h2 m t5 h4 W C js) Q) := by
  induction js generalizing g with
  | nil =>
    iintro Hpb Hk
    unfold lanesOf
    rw [wp_ret]
    imodintro
    iapply Hk; iexact Hpb
  | cons j js ih =>
    iintro Hpb Hk
    unfold lanesOf
    rw [laneAt_eq, laneAt_eq]
    iapply (wp_lane d i t2 h2 m t5 h4 P g j _ _ (hC j)) $$ Hpb
    iintro Hpb
    iapply (ih _) $$ Hpb
    iexact Hk

end Lane

end Cert.Proof.Tile

end
-- ==== Proof.LaneEq.lean ====
/-
  The printed body of the apply loop is the program over the lanes.
-/
module

public import proofs.«01_k».proof.Proof.Lane

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

set_option maxRecDepth 65536 in
set_option maxHeartbeats 40000000 in
theorem t5_body_eq (i : grid0.Coords) (t2 : Fin k0_t2_loop.trips) (h2 : k0_cond2 i t2 = 1#1) (m : BitVec 32) (t5 : Fin k0_t5_loop.trips) :
    k0_t5_body (F := F) i idxM (Memref.isWhole_whole _) val2M (Memref.isWhole_whole _) memM (Memref.isWhole_whole _) outM (Memref.isWhole_whole _)
        idxvM (Memref.isWhole_whole _) wcolM (Memref.isWhole_whole _) wposM (Memref.isWhole_whole _) ccolM (Memref.isWhole_whole _) cposM (Memref.isWhole_whole _)
        blockM (Memref.isWhole_whole _) pairsM (Memref.isWhole_whole _) rowsM (Memref.isWhole_whole _) cc0_scratch8 cc0_scratch9 cc0_scratch10 cc0_scoped0
        lanes t2 h2 m t5 ⟨⟩
      = if h4 : k0_cond4 m t5 = 1#1 then applyGroup (F := F) i t2 h2 m t5 h4 else .ret ⟨⟩ := by
  unfold k0_t5_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton]
  rfl

end Cert.Proof.Tile

end
-- ==== Proof.Group.lean ====
/-
  One turn of the apply loop: the winners' rows are gathered, and each lane's column of the block is its winner's half row.
-/
module

public import proofs.«01_k».proof.Proof.Apply
public import proofs.«01_k».proof.Proof.LaneEq
public import Idealize.ShloMosaic.Lib.SparseCore.FromWhole

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## A store through a rectangle of a buffer owned whole -/

open Classical in
/-- `f` with `w` put on the rectangle `r`. -/
def putAt {s : Shape} {α : Type} (r : Rect s) (f : s.Idx → α) (w : r.shape.Idx → α) : s.Idx → α :=
  fun x => if h : ∃ y, r.emb y = x then w h.choose else f x

theorem putAt_emb {s : Shape} {α : Type} (r : Rect s) (f : s.Idx → α) (w : r.shape.Idx → α) (y : r.shape.Idx) : putAt r f w (r.emb y) = w y := by
  have h : ∃ y', r.emb y' = r.emb y := ⟨y, rfl⟩
  unfold putAt
  rw [dif_pos h]
  exact congrArg w (r.emb.injective h.choose_spec)

theorem putAt_off {s : Shape} {α : Type} (r : Rect s) (f : s.Idx → α) (w : r.shape.Idx → α) (x : s.Idx) (h : ∀ y, r.emb y ≠ x) : putAt r f w x = f x := by
  unfold putAt
  rw [dif_neg fun ⟨y, hy⟩ => h y hy]

/-- Sixteen words put on a list. -/
theorem at1_putAt {N o : ℕ} {off : Fin 1 → ℕ} (hoff : off = ![o]) (inb : ∀ a, off a + S16.size a ≤ (⟨1, ![N]⟩ : Shape).size a)
    (f : (⟨1, ![N]⟩ : Shape).Idx → BitVec 32) (w : S16.Idx → BitVec 32) (s : ℕ) (hs : s < N) :
    (∀ h : o ≤ s ∧ s < o + 16, at1 (putAt (Rect.unit (s := ⟨1, ![N]⟩) off S16.size inb) f w) s = w (ix1 ⟨s - o, by omega⟩))
      ∧ (¬ (o ≤ s ∧ s < o + 16) → at1 (putAt (Rect.unit (s := ⟨1, ![N]⟩) off S16.size inb) f w) s = at1 f s) := by
  subst hoff
  have e : ∀ g : (⟨1, ![N]⟩ : Shape).Idx → BitVec 32, at1 g s = g (ix1 ⟨s, hs⟩) := fun g => (at1_of g (ix1 ⟨s, hs⟩)).symm
  constructor
  · intro h
    have hx : (Rect.unit (s := ⟨1, ![N]⟩) ![o] S16.size inb).emb (ix1 (⟨s - o, by omega⟩ : Fin 16)) = (ix1 (⟨s, hs⟩ : Fin N) : (⟨1, ![N]⟩ : Shape).Idx) := by
      funext a
      refine Fin.ext ?_
      match a with
      | 0 => show o + 1 * (s - o) = s; omega
    rw [e, ← hx]
    exact putAt_emb _ _ _ _
  · intro h
    rw [e, e]
    refine putAt_off _ _ _ _ fun y hy => h ?_
    have h1 : o + 1 * (y 0).val = s := congrArg (fun z : (⟨1, ![N]⟩ : Shape).Idx => (z 0).val) hy
    have h2 : (y 0).val < 16 := (y 0).isLt
    omega

section Rules
variable (d : Dev nD) (i : grid0.Coords) {α : Type} {E : Set ℕ} {k : Fin (sig.nNear .scVector .vmem)} {hk : sig.names .scVector .vmem k = true}

theorem write_putAt (b : Ref sig .scVector) (r : Rect b.ty.shape) (f : b.ty.Contents (Elt F)) (w : r.shape.Idx → Elt F b.ty.elt) :
    ((Memref.whole b).access r : View sig .scVector _ _ _).write (Elt F) f w Finset.univ = putAt r f w := by
  funext x
  by_cases h : ∃ y, r.emb y = x
  · obtain ⟨y, rfl⟩ := h
    rw [putAt_emb]
    exact (View.write_emb_of_mem (v := (Memref.whole b).access r) f w (Finset.mem_univ y)).trans (cast_eq _ _)
  · rw [putAt_off _ _ _ _ fun y hy => h ⟨y, hy⟩]
    refine View.write_of_not_mem (v := (Memref.whole b).access r) f w Finset.univ fun hx => h ?_
    obtain ⟨y, -, hy⟩ := Finset.mem_map.mp hx
    exact ⟨y, hy⟩

/-- A store through a rectangle of a buffer owned whole. -/
theorem wp_st {Q : α → sProp 𝕄} {r : Rect ((⟨.vmem, k, hk⟩ : Ref sig .scVector).ty.shape)} {w : r.shape.Idx → Elt F (⟨.vmem, k, hk⟩ : Ref sig .scVector).ty.elt}
    {hx : ((Memref.whole (⟨.vmem, k, hk⟩ : Ref sig .scVector)).access r).Stores Finset.univ} {hm : (Finset.univ : Finset r.shape.Idx) = Finset.univ ∨ ∀ a, r.stride a = 1}
    {kk : PUnit → Prog (TpuEff nD τ sig (Elt F) Λ₀ (thr d i).2) α}
    {f : Buf (Elt F) ((thr d i).loc ⟨.vmem, k, hk⟩)} :
    (own d i ⟨.vmem, k, hk⟩ f)
      ⊢ iprop((own d i ⟨.vmem, k, hk⟩ (putAt r f w) -∗ wp frame (wpE (defs₀ (F := F)) 𝒱₀ (thr d i) none) E (kk ⟨⟩) Q)
        -∗ wp frame (wpE (defs₀ (F := F)) 𝒱₀ (thr d i) none) E (.op (.store (Memref.whole ⟨.vmem, k, hk⟩) r w Finset.univ hx hm) kk) Q) := by
  have h' : (own d i ⟨.vmem, k, hk⟩ f)
      ⊢ iprop((own d i ⟨.vmem, k, hk⟩ (((Memref.whole (⟨.vmem, k, hk⟩ : Ref sig .scVector)).access r).write (Elt F) f w Finset.univ)
          -∗ wp frame (wpE (defs₀ (F := F)) 𝒱₀ (thr d i) none) E (kk ⟨⟩) Q)
        -∗ wp frame (wpE (defs₀ (F := F)) 𝒱₀ (thr d i) none) E (.op (.store (Memref.whole ⟨.vmem, k, hk⟩) r w Finset.univ hx hm) kk) Q) :=
    wp_store 𝒱₀ (thr d i) none E (m := Memref.whole (⟨.vmem, k, hk⟩ : Ref sig .scVector)) (r := r) (w := w) (Mk := Finset.univ) (S := Finset.univ)
      (hx := hx) (hm := hm) (f := f) (Finset.subset_univ _)
  rw [write_putAt] at h'
  exact h'

end Rules

/-! ## The gather -/

/-- Sixty-four words of value `p`, two of which share a row of `val2`. -/
def valOf (fv : Vec F S8192x128 .f32) (p : ℕ) (k : Fin 64) : Elt F .f32 :=
  fv (ix2 ⟨p % 16384 / 2, by have := Nat.mod_lt p (show 0 < 16384 by omega); omega⟩ ⟨p % 2 * 64 + k.val, by have := k.isLt; have := Nat.mod_lt p (show 0 < 2 by omega); omega⟩)

theorem shr_one {w : BitVec 32} (h : w.toNat < 16384) : (IntOp.shrsi .vector w 1#32).toNat = w.toNat / 2 := by
  have e : IntOp.shrsi .vector w 1#32 = w.sshiftRight 1 := rfl
  rw [e, BitVec.sshiftRight_eq_of_msb_false (by rw [BitVec.msb_eq_false_iff_two_mul_lt]; omega), BitVec.toNat_ushiftRight, Nat.shiftRight_eq_div_pow]

/-- The gathered rows: row `j` is the row of `val2` the list's word `j` names. -/
theorem gathered (hg : S8192x128.Gathers 0 S16x128) (fv : Vec F S8192x128 .f32) (g : S16.Idx → BitVec 32)
    (hn : S16.numel = S16x128.size hg.axis') (hin : ∀ x, (g x).toNat < S8192x128.size hg.axis) (j : Fin 16) (c : Fin 128) (r : ℕ) (hr : r < 8192) (hw : (g (ix1 j)).toNat = r) :
    SparseCore.gatherPayload (F := F) (e := .f32) hg fv (SparseCore.rows (F := F) g hn hin) (ix2 j c) = fv (ix2 ⟨r, hr⟩ c) := by
  unfold SparseCore.gatherPayload
  congr 1
  funext a
  match a with
  | 0 =>
    refine Fin.ext (Eq.trans ?_ hw)
    show (g _).toNat = _
    congr 2
    exact S16.rowMajor.symm_apply_eq.mpr (Fin.ext (Shape.rowMajor_val_one (d := ![16]) (ix1 j)).symm)
  | 1 => rfl

section Group
variable (d : Dev nD) (i : grid0.Coords) (q : PosShare TreeShare) (fv : Vec F S8192x128 .f32) (e col : ℕ → ℕ) (orig : Vec F S64x512 .f32) (G : ℕ)
  (ccol cpos : Vec F S2064 .i32) (O : CellTallies nD τ sig (HIx 1)) (W : Waits sig (HIx 1))

/-- Before turn `t` of the apply loop: the first `t` groups of entries are applied to the block. -/
def ApplyInv (t : ℕ) (_ : PUnit) : sProp 𝕄 :=
  iprop(levAts (K (F := F)).L (K (F := F)).lev ∗ own d i cc0_scratch3 ccol ∗ own d i cc0_scratch4 cpos ∗ (∃ f, own d i cc0_scratch7 f) ∗ (∃ f, own d i cc0_scratch6 f)
    ∗ (∃ f : Vec F S64x512 .f32, own d i cc0_scratch5 f ∗ ⌜Applied e col orig (valOf fv) (16 * min t G) f⌝)
    ∗ ((thr d i).loc main_v0_scv ↦{q} fv) ∗ semVal (thr d i, SemLoc.dma cc0_scratch10.sem) 0
    ∗ ∃ W', ⌜∀ p ∈ W', p ∈ W ∨ p.2 = none⌝ ∗ owes (thr d i) O W')

/-- One turn. -/
theorem apply_step (hO : ∀ g, O g none = 0) {inB : ℕ → Prop} (hE : Entries inB col G ccol cpos e) (hB : ∀ p, inB p → p < 16384 ∧ col p < 512)
    (t2 : Fin k0_t2_loop.trips) (h2 : k0_cond2 i t2 = 1#1) {m : ℕ} (hm : m ≤ 2048) (hG : G = (m + 15) / 16) (t5 : Fin k0_t5_loop.trips) (acc : PUnit) :
    ApplyInv (F := F) d i q fv e col orig G ccol cpos O W t5.val acc ⊢ wp frame (wpE (defs₀ (F := F)) 𝒱₀ (thr d i) none) Set.univ
      (k0_t5_body (F := F) i idxM (Memref.isWhole_whole _) val2M (Memref.isWhole_whole _) memM (Memref.isWhole_whole _) outM (Memref.isWhole_whole _)
        idxvM (Memref.isWhole_whole _) wcolM (Memref.isWhole_whole _) wposM (Memref.isWhole_whole _) ccolM (Memref.isWhole_whole _) cposM (Memref.isWhole_whole _)
        blockM (Memref.isWhole_whole _) pairsM (Memref.isWhole_whole _) rowsM (Memref.isWhole_whole _) cc0_scratch8 cc0_scratch9 cc0_scratch10 cc0_scoped0
        lanes t2 h2 (BitVec.ofNat 32 m) t5 acc)
      (ApplyInv (F := F) d i q fv e col orig G ccol cpos O W (t5.val + 1)) := by
  obtain ⟨⟩ := acc
  rw [t5_body_eq]
  have ht : t5.val < 128 := t5_trips ▸ t5.isLt
  by_cases h4 : k0_cond4 (BitVec.ofNat 32 m) t5 = 1#1
  · rw [dif_pos h4]
    have htG : t5.val < G := hG ▸ (cond4_iff hm t5).mp h4
    unfold ApplyInv applyGroup
    iintro ⟨#Hlv, Hc, Hp, ⟨%fr, Hr⟩, ⟨%fp, Hpr⟩, ⟨%f, Hb, %hf⟩, Hv, Hsem, %W', %hW', HO⟩
    rw [Nat.min_eq_left (by omega)] at hf
    ihave Hmw := (show levAts (K (F := F)).L (K (F := F)).lev ⊢ Transfers.MayWaits (thr d i) (default : HIx 1) O from
      (K (F := F)).mayWaits_none (thr := thr d i) hO) $$ Hlv
    simp only [Prog.lift, Prog.bind_op, Prog.bind_ret, Prog.pure_eq_ret]
    iapply (wp_ld (F := F) d i) $$ Hc
    iintro Hc
    iapply (wp_ld (F := F) d i) $$ Hp
    iintro Hp
    generalize hceq : (fun x => ccol ((Rect.unit (s := S2064) (k0_off5 t5) S16.size (k0_off5_inb i t2 t5 h2)).toLoadRect.idx x)) = cc
    generalize hpeq : (fun x => cpos ((Rect.unit (s := S2064) (k0_off5 t5) S16.size (k0_off5_inb i t2 t5 h2)).toLoadRect.idx x)) = pp
    have hc : ∀ l : Fin 16, cc (ix1 l) = at1 ccol (16 * t5.val + l.val) := fun l => by
      rw [← hceq]; exact read16 (k0_off5_eq t5) _ ccol l
    have hp : ∀ l : Fin 16, pp (ix1 l) = at1 cpos (16 * t5.val + l.val) := fun l => by
      rw [← hpeq]; exact read16 (k0_off5_eq t5) _ cpos l
    have hin : ∀ l : Fin 16, 16 * t5.val + l.val < 16 * G := fun l => by have := l.isLt; omega
    have hcc : ∀ l : Fin 16, cc (ix1 l) = BitVec.ofNat 32 (col (e (16 * t5.val + l.val))) := fun l => (hc l).trans (hE.1 _ (hin l)).2.1
    have hpp : ∀ l : Fin 16, pp (ix1 l) = BitVec.ofNat 32 (e (16 * t5.val + l.val)) := fun l => (hp l).trans (hE.1 _ (hin l)).2.2
    have he : ∀ s < 16 * G, e s < 16384 := fun s hs => (hB _ (hE.1 s hs).1).1
    have hcol : ∀ s < 16 * G, col (e s) < 512 := fun s hs => (hB _ (hE.1 s hs).1).2
    have hw := winner_wins (F := F) cc pp
    have hwlt : ∀ l : Fin 16, (winner (F := F) cc pp (ix1 l)).toNat < 16384 := fun l => by
      obtain ⟨⟨l', -, h⟩, -⟩ := hw l
      rw [h, hpp, Words.toNat_ofNat (by have := he _ (hin l'); omega)]
      exact he _ (hin l')
    generalize winner (F := F) cc pp = win at hw hwlt
    iapply (wp_ld (F := F) d i) $$ Hr
    iintro Hr
    iapply (wp_st (F := F) d i) $$ Hr
    iintro Hr
    have hrow : ∀ l : Fin 16, (putAt (Rect.unit (s := S16) ![0] S16.size inb_S16_S16_0) fr (Idealize.ShloMosaic.shrsi win (broadcast S16 1#32)) (ix1 l)).toNat
        = (win (ix1 l)).toNat / 2 := fun l => by
      have e : (ix1 l : S16.Idx) = (Rect.unit (s := S16) ![0] S16.size inb_S16_S16_0).emb (ix1 l) := by
        funext a; refine Fin.ext ?_
        match a with
        | 0 => show l.val = 0 + 1 * l.val; omega
      exact (congrArg BitVec.toNat ((congrArg _ e).trans (putAt_emb _ _ _ _))).trans (shr_one (hwlt l))
    generalize putAt (Rect.unit (s := S16) ![0] S16.size inb_S16_S16_0) fr (Idealize.ShloMosaic.shrsi win (broadcast S16 1#32)) = g at hrow
    have hN : ∀ h : S8192x128.Gathers 0 S16x128, ∑ j, (pairsM.slice (S16x128.rowRect h.axis' j) (S16x128.stride_rowRect h.axis' j)).view.dmaCredit
        = pairsM.view.dmaCredit := by decide
    have hgin : ∀ x, (rowsM.view.read (Elt F) g x).toNat < S8192x128.size gathers_S8192x128_S16x128.axis := fun x => by
      show (g x).toNat < 8192
      rw [← ix1_eta x]
      have := hwlt (x 0)
      exact lt_of_eq_of_lt (hrow (x 0)) (by omega)
    iapply (SparseCore.wp_gatherFromWhole countersEmb 𝒱₀ (thr d i) none (src := val2All) (hg := gathers_S8192x128_S16x128) (default : HIx 1)
      pairsM.view.dmaCredit (hN _) (by decide) hgin) $$ [Hv Hpr Hr Hsem]
    · iframe Hv Hpr Hr Hsem
    iintro Hfl
    unfold SparseCore.waitIndirectGather
    simp only [Prog.bind_op, Prog.bind_ret]
    iapply (Transfers.wp_waitLocalO countersEmb 𝒱₀ (thr d i) none (default : HIx 1) (rfl : pairsM.view.dmaCredit = _)) $$ [Hfl HO]
    · isplitl [Hfl]; · iexact Hfl
      isplitl [HO]; · iexact HO
      iapply (Transfers.MayWaits.elim (SemLoc.dma cc0_scratch10.sem)) $$ Hmw
    iintro ⟨⟨Hpr, Hv, Hr⟩, Hsem, HO⟩
    rw [View.write_whole_univ]
    generalize hP : SparseCore.gatherPayload (F := F) (e := .f32) gathers_S8192x128_S16x128 (val2All.view.read (Elt F) fv) _ = P
    have hread : val2All.view.read (Elt F) fv = fv := by
      funext x
      refine (View.read_apply _ _).trans ((cast_eq _ _).trans (congrArg fv (funext fun a => Fin.ext ?_)))
      match a with
      | 0 => show 0 + 1 * (x 0).val = (x 0).val; omega
      | 1 => show 0 + 1 * (x 1).val = (x 1).val; omega
    have hPv : ∀ (l : Fin 16) (k : Fin 64), half P l (win (ix1 l)) k = valOf fv (win (ix1 l)).toNat k := fun l k => by
      have hl := hwlt l
      rw [← hP, hread]
      refine (gathered _ fv g _ _ l _ ((win (ix1 l)).toNat / 2) (by omega) (hrow l)).trans ?_
      unfold valOf
      congr 2
      exact Fin.ext (by show _ = _ % 16384 / 2; rw [Nat.mod_eq_of_lt hl])
    have hC : ∀ j : Fin 16, (cc (ix1 j)).toNat < 512 := fun j => by
      have := hcol _ (hin j)
      rw [hcc, Words.toNat_ofNat (by omega)]; exact this
    iapply (wp_lanesOf (F := F) d i t2 h2 (BitVec.ofNat 32 m) t5 h4 P win cc hC _ f) $$ [Hpr Hb]
    · iframe Hpr Hb
    iintro ⟨Hpr, Hb⟩
    rw [Nat.min_eq_left (show t5.val + 1 ≤ G by omega)]
    iframe Hlv Hc Hp Hv Hsem
    isplitl [Hr]; · iexists _; iexact Hr
    isplitl [Hpr]; · iexists _; iexact Hpr
    isplitl [Hb]
    · iexists _
      isplitl [Hb]; · iexact Hb
      ipureintro
      rw [show 16 * (t5.val + 1) = 16 * t5.val + 16 by omega]
      exact hf.step (by omega) hE.2.1 he hcol hcc hpp hw (y := fun l => half P (Fin.ofNat 16 l) (win (ix1 (Fin.ofNat 16 l)))) fun l k => by
        rw [show Fin.ofNat 16 l.val = l from Fin.ext (Nat.mod_eq_of_lt l.isLt)]
        exact hPv l k
    iexists _
    isplitr
    swap; · iexact HO
    ipureintro; intro p hp
    rcases Finset.mem_insert.mp hp with hp | hp; · exact .inr (hp ▸ rfl)
    exact hW' p hp
  · rw [dif_neg h4]
    have htG : ¬ t5.val < G := fun h => h4 ((cond4_iff hm t5).mpr (hG ▸ h))
    rw [wp_ret]
    unfold ApplyInv
    rw [show min (t5.val + 1) G = min t5.val G by omega]
    iintro H
    imodintro
    iexact H

end Group

end Cert.Proof.Tile

end
-- ==== Proof.Block.lean ====
/-
  One block of a tile: the pick, the pad, the copy in, the applying and the copy out; after it the block's columns of the
  output hold what they hold in the end.
-/
module

public import proofs.«01_k».proof.Proof.Group

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What a column holds in the end -/

/-- `p` is the last position that names column `c`. -/
def Last (idx : S16384.Idx → BitVec 32) (c p : ℕ) : Prop := p < 16384 ∧ ixn idx p = c ∧ ∀ p' < 16384, ixn idx p' = c → p' ≤ p

theorem last_exists {idx : S16384.Idx → BitVec 32} {c p : ℕ} (hp : p < 16384) (hc : ixn idx p = c) : ∃ p', Last idx c p' := by
  have hs : ((Finset.range 16384).filter fun p => ixn idx p = c).Nonempty := ⟨p, Finset.mem_filter.mpr ⟨Finset.mem_range.mpr hp, hc⟩⟩
  obtain ⟨h1, h2⟩ := Finset.mem_filter.mp (Finset.max'_mem _ hs)
  exact ⟨_, Finset.mem_range.mp h1, h2, fun p' h h' => Finset.le_max' _ _ (Finset.mem_filter.mpr ⟨Finset.mem_range.mpr h, h'⟩)⟩

open Classical in
/-- The scattered array: a column that a position names holds the last such position's value, any other what it held. -/
def outFn (idx : S16384.Idx → BitVec 32) (fv : Vec F S8192x128 .f32) (mt : Vec F S64x1000000 .f32) : Vec F S64x1000000 .f32 :=
  fun x => if h : ∃ p, Last idx (x 1).val p then valOf fv h.choose (x 0) else mt x

theorem outFn_last {idx : S16384.Idx → BitVec 32} (fv : Vec F S8192x128 .f32) (mt : Vec F S64x1000000 .f32) {x : S64x1000000.Idx} {p : ℕ} (h : Last idx (x 1).val p) :
    outFn idx fv mt x = valOf fv p (x 0) := by
  have hex : ∃ p, Last idx (x 1).val p := ⟨p, h⟩
  have e : hex.choose = p := le_antisymm (h.2.2 _ hex.choose_spec.1 hex.choose_spec.2.1) (hex.choose_spec.2.2 _ h.1 h.2.1)
  unfold outFn
  rw [dif_pos hex, e]

theorem outFn_none {idx : S16384.Idx → BitVec 32} (fv : Vec F S8192x128 .f32) (mt : Vec F S64x1000000 .f32) {x : S64x1000000.Idx} (h : ∀ p < 16384, ixn idx p ≠ (x 1).val) :
    outFn idx fv mt x = mt x := by
  unfold outFn
  rw [dif_neg fun ⟨p, hp⟩ => h p hp.1 hp.2.1]

/-- A block to which all its entries are applied holds what its columns hold in the end. -/
theorem applied_out {idx : S16384.Idx → BitVec 32} (fv : Vec F S8192x128 .f32) (mt : Vec F S64x1000000 .f32) {c0 G : ℕ} (hc0 : c0 + 512 ≤ 1000000)
    {cc pp : S2064.Idx → BitVec 32} {e : ℕ → ℕ} (hE : Entries (InR idx c0 (c0 + 512)) (fun p => ixn idx p - c0) G cc pp e)
    {orig f : Vec F S64x512 .f32} {x : S64x1000000.Idx} {y : S64x512.Idx} (h0v : (x 0).val = (y 0).val) (h1 : (x 1).val = c0 + (y 1).val) (ho : orig y = mt x)
    (hf : Applied e (fun p => ixn idx p - c0) orig (valOf fv) (16 * G) f) : f y = outFn idx fv mt x := by
  have h0 : x 0 = y 0 := Fin.ext h0v
  have hy : (y 1).val < 512 := (y 1).isLt
  have hin : ∀ s < 16 * G, e s < 16384 ∧ c0 ≤ ixn idx (e s) := fun s hs => ⟨(hE.1 s hs).1.lt hc0, (hE.1 s hs).1.1⟩
  by_cases hex : ∃ p < 16384, ixn idx p = (x 1).val
  · obtain ⟨p, hp, hpc⟩ := hex
    obtain ⟨q, hq⟩ := last_exists hp hpc
    rw [outFn_last fv mt hq, h0]
    have hqc := hq.2.1
    obtain ⟨s, hs, hes⟩ := hE.2.2 q ⟨by omega, by omega⟩
    rw [← hes]
    refine (hf y).2 s hs (by show ixn idx (e s) - c0 = _; rw [hes]; omega) fun s' hs' h' => ?_
    have h'' : ixn idx (e s') - c0 = (y 1).val := h'
    have := hin s' hs'
    rw [hes]
    exact hq.2.2 _ this.1 (by omega)
  · rw [outFn_none fv mt fun p hp h => hex ⟨p, hp, h⟩, ← ho]
    refine (hf y).1 fun s hs h => hex ⟨e s, (hin s hs).1, ?_⟩
    have h'' : ixn idx (e s) - c0 = (y 1).val := h
    have := hin s hs
    omega

/-! ## The pad -/

theorem pad_at1 {N m : ℕ} (hm : m + 16 ≤ N) (hN : N < 2 ^ 32) (f : (⟨1, ![N]⟩ : Shape).Idx → BitVec 32) {rows v : IVec S16 32}
    (hr : ∀ l : Fin 16, rows (ix1 l) = BitVec.ofNat 32 (m + l.val)) {c : BitVec 32} (hv : ∀ l : Fin 16, v (ix1 l) = c)
    (h : ∀ a x, ((![rows] : Fin 1 → IVec S16 32) a x).toNat < (⟨1, ![N]⟩ : Shape).size a) (s : ℕ) :
    (s < m → at1 (storeIdx (F := F) (e := .i32) (s := ⟨1, ![N]⟩) f ![rows] v (fun _ => 1#1) false h) s = at1 f s)
      ∧ (m ≤ s → s < m + 16 → at1 (storeIdx (F := F) (e := .i32) (s := ⟨1, ![N]⟩) f ![rows] v (fun _ => 1#1) false h) s = c) := by
  have e : ∀ (g : (⟨1, ![N]⟩ : Shape).Idx → BitVec 32) (hs : s < N), at1 g s = g (ix1 ⟨s, hs⟩) := fun g hs => (at1_of g (ix1 ⟨s, hs⟩)).symm
  have er : ∀ l : Fin 16, (rows (ix1 l)).toNat = m + l.val := fun l => by rw [hr, BitVec.toNat_ofNat, Nat.mod_eq_of_lt (by have := l.isLt; omega)]
  constructor
  · intro hs
    rw [e _ (by omega), e _ (by omega)]
    refine storeIdx_miss _ _ _ _ h _ fun k hk => ?_
    have h1 : s = (rows (ix1 k)).toNat := hk.2 0
    rw [er] at h1; omega
  · intro h1 h2
    rw [e _ (by omega)]
    refine storeIdx_hit (F := F) (e := .i32) (s := ⟨1, ![N]⟩) f ![rows] v (fun _ => 1#1) h (ix1 ⟨s, by omega⟩) c ⟨⟨s - m, by omega⟩, rfl, fun a => ?_⟩ fun k _ => hv k
    match a with
    | 0 =>
      show s = (rows (ix1 ⟨s - m, by omega⟩)).toNat
      rw [er]; show s = m + (s - m); omega

theorem pad_rows {m k : ℕ} (hk : k < 2 ^ 31) (hm : m ≤ k) (l : Fin 16) :
    addi (broadcast S16 (Scalar.minsi (BitVec.ofNat 32 m) (BitVec.ofNat 32 k))) lanes (ix1 l) = BitVec.ofNat 32 (m + l.val) := by
  rw [minsi_ofNat hk hm]
  show BitVec.ofNat 32 m + lanes (ix1 l) = _
  rw [lanes_at, BitVec.ofNat_add]

theorem shr_nine {L : BitVec 32} (h : L.toNat < 2 ^ 31) : IntOp.shrsi .scalar L 9#32 = BitVec.ofNat 32 (L.toNat / 512) := by
  have e : IntOp.shrsi .scalar L 9#32 = L.sshiftRight 9 := rfl
  refine BitVec.eq_of_toNat_eq ?_
  rw [e, BitVec.sshiftRight_eq_of_msb_false (by rw [BitVec.msb_eq_false_iff_two_mul_lt]; omega), BitVec.toNat_ushiftRight, Nat.shiftRight_eq_div_pow,
    Words.toNat_ofNat (by omega)]

/-! ## One block: the pick, the pad and the copy in -/

section Block
variable (d : Dev nD) (i : grid0.Coords) (q : PosShare TreeShare) (fv : Vec F S8192x128 .f32) (mt : Vec F S64x1000000 .f32)
  (mi : S16384.Idx → BitVec 32) {n : ℕ} {wcol wpos : S4112.Idx → BitVec 32} (O : CellTallies nD τ sig (HIx 1)) (W : Waits sig (HIx 1))

abbrev memBlk (t2 : Fin k0_t2_loop.trips) (h2 : k0_cond2 i t2 = 1#1) : Memref sig .scVector .hbm S64x512 .f32 :=
  memM.slice (Rect.unit (s := S64x1000000) (k0_off4 i t2) S64x512.size (k0_off4_inb i t2 h2)) (fun _ => rfl)
abbrev outBlk (t2 : Fin k0_t2_loop.trips) (h2 : k0_cond2 i t2 = 1#1) : Memref sig .scVector .hbm S64x512 .f32 :=
  outM.slice (Rect.unit (s := S64x1000000) (k0_off4 i t2) S64x512.size (k0_off4_inb i t2 h2)) (fun _ => rfl)

/-- The block's columns come in. -/
theorem wp_copyIn (t2 : Fin k0_t2_loop.trips) (h2 : k0_cond2 i t2 = 1#1) {f : Vec F S64x512 .f32} {α : Type} {Q : α → sProp 𝕄}
    {h1 : (memBlk i t2 h2).view.WordExact} {h1' : blockM.view.WordExact} {h1'' : DmaTarget.Typed (nD := nD) (p := (thr d i).2) .hbm (SemLoc.dma cc0_scratch8.sem) (.here blockM)}
    {h3 : (memBlk i t2 h2).view.WordExact} {h3' : blockM.view.WordExact} {kk : TProg F i α} :
    iprop(Transfers.MayWaits (thr d i) (default : HIx 1) O ∗ own d i cc0_scratch5 f ∗ ((thr d i).loc main_v1_scv ↦{q} mt)
        ∗ semVal (thr d i, SemLoc.dma cc0_scratch8.sem) 0 ∗ owes (thr d i) O W)
      ⊢ iprop((∀ f : Vec F S64x512 .f32, ⌜∀ (x : S64x1000000.Idx) (y : S64x512.Idx), (x 0).val = (y 0).val → (x 1).val = lo i + 512 * t2.val + (y 1).val → f y = mt x⌝ -∗
          own d i cc0_scratch5 f -∗ ((thr d i).loc main_v1_scv ↦{q} mt) -∗ semVal (thr d i, SemLoc.dma cc0_scratch8.sem) 0
            -∗ owes (thr d i) O (insert (SemLoc.dma cc0_scratch8.sem, (default : HIx 1)) W)
            -∗ wp frame (wpE (defs₀ (F := F)) 𝒱₀ (thr d i) none) Set.univ kk Q)
          -∗ wp frame (wpE (defs₀ (F := F)) 𝒱₀ (thr d i) none) Set.univ
            (Prog.op (TpuEff.enqueueDma (memBlk i t2 h2) (.here blockM) (SemLoc.dma cc0_scratch8.sem) h1 h1' h1'') fun _ =>
              Prog.op (TpuEff.waitDma2 cc0_scratch8.sem (memBlk i t2 h2) blockM h3 h3') fun _ => kk) Q) := by
  iintro ⟨#Hmw, Hb, Hm, Hsem, HO⟩ Hk
  iapply (Transfers.wp_dmaFromWhole countersEmb 𝒱₀ (thr d i) none (src := memBlk i t2 h2) (dst := blockM) (default : HIx 1) blockM.view.dmaCredit rfl
    (by decide) (Finset.subset_univ _)) $$ [Hm Hb Hsem]
  · iframe Hm Hb Hsem
  iintro Hfl
  iapply (Transfers.wp_waitLocalO countersEmb 𝒱₀ (thr d i) none (default : HIx 1) (rfl : blockM.view.dmaCredit = _)) $$ [Hfl HO]
  · isplitl [Hfl]; · iexact Hfl
    isplitl [HO]; · iexact HO
    iapply (Transfers.MayWaits.elim (SemLoc.dma cc0_scratch8.sem)) $$ Hmw
  iintro ⟨⟨Hb, Hm⟩, Hsem, HO⟩
  rw [View.write_whole_univ]
  iapply Hk $$ %_ [] Hb Hm Hsem HO
  ipureintro
  intro x y h0 h1
  have ho := off4_eq i t2
  show (memBlk i t2 h2).view.read (Elt F) mt y = _
  rw [View.read_apply, cast_eq]
  congr 1
  funext a
  match a with
  | 0 => exact Fin.ext (by show k0_off4 i t2 0 + 1 * (y 0).val = (x 0).val; rw [ho.1, h0]; omega)
  | 1 => exact Fin.ext (by show k0_off4 i t2 1 + 1 * (y 1).val = (x 1).val; rw [ho.2, h1]; omega)

theorem wp_part21 (hl : Listed mi (lo i) (hi i) n wcol wpos) (hn : n ≤ 4096) (t2 : Fin k0_t2_loop.trips) (h2 : k0_cond2 i t2 = 1#1)
    (hblk : Nat.count (InR mi (lo i + 512 * t2.val) (lo i + 512 * t2.val + 512)) 16384 ≤ 2048) (hw4 : k0_chk4 i (BitVec.ofNat 32 n)) (v40 v66 : BitVec 32)
    (hO : ∀ g, O g none = 0) {α : Type} {Q : α → sProp 𝕄} {kk : (Σ' (_ : BitVec 32) (_ : BitVec 32) (_ : BitVec 1), BitVec 32) → TProg F i α} :
    iprop(levAts (K (F := F)).L (K (F := F)).lev ∗ own d i cc0_scratch1 wcol ∗ own d i cc0_scratch2 wpos ∗ (∃ f, own d i cc0_scratch3 f) ∗ (∃ f, own d i cc0_scratch4 f)
        ∗ (∃ f, own d i cc0_scratch5 f) ∗ ((thr d i).loc main_v1_scv ↦{q} mt) ∗ semVal (thr d i, SemLoc.dma cc0_scratch8.sem) 0 ∗ owes (thr d i) O W)
      ⊢ iprop((∀ (m : ℕ) (e : ℕ → ℕ) (fc fp : S2064.Idx → BitVec 32) (f : Vec F S64x512 .f32) (v91 : BitVec 32) (v105 : BitVec 1),
          ⌜m ≤ 2048 ∧ Entries (InR mi (lo i + 512 * t2.val) (lo i + 512 * t2.val + 512)) (fun p => ixn mi p - (lo i + 512 * t2.val)) ((m + 15) / 16) fc fp e
            ∧ ∀ (x : S64x1000000.Idx) (y : S64x512.Idx), (x 0).val = (y 0).val → (x 1).val = lo i + 512 * t2.val + (y 1).val → f y = mt x⌝ -∗
          own d i cc0_scratch1 wcol -∗ own d i cc0_scratch2 wpos -∗ own d i cc0_scratch3 fc -∗ own d i cc0_scratch4 fp
            -∗ own d i cc0_scratch5 f -∗ ((thr d i).loc main_v1_scv ↦{q} mt) -∗ semVal (thr d i, SemLoc.dma cc0_scratch8.sem) 0
            -∗ owes (thr d i) O (insert (SemLoc.dma cc0_scratch8.sem, (default : HIx 1)) W)
            -∗ wp frame (wpE (defs₀ (F := F)) 𝒱₀ (thr d i) none) Set.univ (kk ⟨BitVec.ofNat 32 m, v91, v105, 1#32⟩) Q)
          -∗ wp frame (wpE (defs₀ (F := F)) 𝒱₀ (thr d i) none) Set.univ
            (k0_part21 (F := F) i idxM (Memref.isWhole_whole _) val2M (Memref.isWhole_whole _) memM (Memref.isWhole_whole _) outM (Memref.isWhole_whole _)
              idxvM (Memref.isWhole_whole _) wcolM (Memref.isWhole_whole _) wposM (Memref.isWhole_whole _) ccolM (Memref.isWhole_whole _) cposM (Memref.isWhole_whole _)
              blockM (Memref.isWhole_whole _) pairsM (Memref.isWhole_whole _) rowsM (Memref.isWhole_whole _) cc0_scratch8 cc0_scratch9 cc0_scratch10 cc0_scoped0
              lanes v40 (BitVec.ofNat 32 n) hw4 (BitVec.ofNat 32 n) v66 t2 (BitVec.ofNat 32 t2.val) h2 >>= kk) Q) := by
  have hhi : hi i ≤ 1000000 := (hi_le i).trans (by omega)
  have hq : t2.val < nq i := (cond2_iff i t2).mp h2
  have hc0 : lo i + 512 * t2.val + 512 ≤ hi i := by rw [hi_eq]; omega
  have hcnt : ∀ B, Nat.count (Good n (512 * t2.val) wcol) B ≤ 2048 := fun B => (good_count hl hhi hn _ B).trans hblk
  iintro ⟨#Hlv, Hwc, Hwp, ⟨%fc, Hc⟩, ⟨%fp, Hp⟩, ⟨%fb, Hb⟩, Hm, Hsem, HO⟩ Hk
  ihave Hmw := (show levAts (K (F := F)).L (K (F := F)).lev ⊢ Transfers.MayWaits (thr d i) (default : HIx 1) O from
    (K (F := F)).mayWaits_none (thr := thr d i) hO) $$ Hlv
  rw [k0_part21_eq_skeleton]
  unfold k0_part21_skel
  simp only [Prog.lift, Prog.bind_op, Prog.bind_ret, Prog.pure_eq_ret, Prog.bind_assoc]
  iapply (Scf.wp_for_bind frame (wpE (defs₀ (F := F)) 𝒱₀ (thr d i) none) Set.univ _ _ _ _ _ _ (PickInv (F := F) d i n (512 * t2.val) wcol wpos)
    (pick_step (F := F) d i hl hhi hn t2 hcnt hw4 h2 v40 v66 cc0_scratch8 cc0_scratch9 cc0_scratch10 cc0_scoped0)) $$ [Hwc Hwp Hc Hp]
  · unfold PickInv
    iexists fc; iexists fp
    iframe Hwc Hwp Hc Hp
    ipureintro
    exact ⟨rfl, Compact.zero _ _ _, Compact.zero _ _ _, .inl ⟨rfl, fun _ h => absurd h (Nat.not_lt_zero _)⟩⟩
  iintro %acc HI
  obtain ⟨acc0, L⟩ := acc
  ihave ⟨%T, %hB, HI⟩ := (show PickInv (F := F) d i n (512 * t2.val) wcol wpos (k0_t3_loop (BitVec.ofNat 32 n)).trips (acc0, L)
    ⊢ iprop(∃ T, ⌜n ≤ 16 * T⌝ ∗ PickInv (F := F) d i n (512 * t2.val) wcol wpos T (acc0, L)) from by
      iintro H
      iexists (k0_t3_loop (BitVec.ofNat 32 n)).trips
      iframe H
      ipureintro
      rw [t3_trips hn]; omega) $$ HI
  unfold PickInv
  icases HI with ⟨%fc, %fp, Hwc, Hwp, Hc, Hp, %hm, %hc, %hp, %hg⟩
  dsimp only at hm hg
  generalize hmm : Nat.count (Good n (512 * t2.val) wcol) (16 * T) = m at hm
  have hm' : m ≤ 2048 := hmm ▸ hcnt _
  subst hm
  iapply (Scf.wp_for0_bind' _ _ _ _ _ _ _ _ _ (t4_trips hn) _ _ _ BIBase.Entails.rfl)
  dsimp only
  have hent := fun ccol' cpos' => entries_of hl hhi hn hB hc0 hmm.symm hm' (ccol' := ccol') (cpos' := cpos') hc hp hg
  by_cases hpos : 0 < m
  · have h3 := (cond3_iff hm').mpr hpos
    rw [dif_pos h3]
    have hrows : ∀ l : Fin 16, k0_pay131 lanes (BitVec.ofNat 32 m) (ix1 l) = BitVec.ofNat 32 (m + l.val) := pad_rows (k := 2048) (by omega) hm'
    have hLn : L.toNat < 2 ^ 31 := by
      rcases hg with ⟨-, hno⟩ | ⟨r, -, hgr, hLv, -⟩
      · exfalso
        rw [← hmm, Nat.count_eq_card_filter_range, Finset.card_pos] at hpos
        obtain ⟨r, hr⟩ := hpos
        exact hno r (Finset.mem_range.mp (Finset.mem_filter.mp hr).1) (Finset.mem_filter.mp hr).2
      · obtain ⟨p, hpi, -, -, h2'⟩ := hl.entry hhi hn hgr.1
        have hp' := hpi.lt hhi
        have h3' := hgr.2
        rw [hLv, BitVec.toNat_ofNat]
        refine lt_of_le_of_lt (Nat.mod_le _ _) ?_
        unfold val
        rw [h2']; omega
    have hchk7 : k0_chk7 i t2 (BitVec.ofNat 32 m) (k0_pay131 lanes (BitVec.ofNat 32 m)) := by
      intro _ _ a x
      match a with
      | 0 =>
        show (k0_pay131 lanes (BitVec.ofNat 32 m) x).toNat < 2064
        have := (x 0).isLt
        rw [← ix1_eta x]
        refine lt_of_eq_of_lt (congrArg BitVec.toNat (hrows (x 0))) ?_
        rw [BitVec.toNat_ofNat]
        exact lt_of_le_of_lt (Nat.mod_le _ _) (by show m + (x 0).val < 2064; have : (x 0).val < 16 := this; omega)
    have hchk8 : k0_chk8 i t2 (BitVec.ofNat 32 m) (k0_pay133 lanes (BitVec.ofNat 32 m)) := hchk7
    simp only [Prog.bind_op, Prog.bind_ret, Prog.bind_assoc]
    rw [wp_assume_of _ _ _ _ hchk7]
    iapply (wp_vst (F := F) d i) $$ Hc
    iintro Hc
    rw [wp_assume_of _ _ _ _ hchk8]
    iapply (wp_vst (F := F) d i) $$ Hp
    iintro Hp
    obtain ⟨e, he⟩ := hent _ _ (fun _ => pad_at1 (F := F) (N := 2064) (m := m) (by omega) (by omega) fc hrows (v := k0_pay132 L) (c := L &&& 511#32) (fun _ => rfl) (hchk7 h2 h3))
      fun _ => pad_at1 (F := F) (N := 2064) (m := m) (by omega) (by omega) fp hrows (v := k0_pay134 L) (c := BitVec.ofNat 32 (L.toNat / 512)) (fun _ => shr_nine hLn) (hchk8 h2 h3)
    iapply (wp_copyIn d i q mt O W t2 h2 (f := fb)) $$ [Hb Hm Hsem HO]
    · isplitl []; · iexact Hmw
      iframe Hb Hm Hsem HO
    iintro %f %hf Hb Hm Hsem HO
    iapply Hk $$ %m %e %_ %_ %f %_ %_ [] Hwc Hwp Hc Hp Hb Hm Hsem HO
    ipureintro
    exact ⟨hm', he, hf⟩
  · have h3 := fun h => hpos ((cond3_iff hm').mp h)
    rw [dif_neg h3]
    obtain ⟨e, he⟩ := hent fc fp (fun h => absurd h hpos) fun h => absurd h hpos
    simp only [Prog.bind_op, Prog.bind_ret]
    iapply (wp_copyIn d i q mt O W t2 h2 (f := fb)) $$ [Hb Hm Hsem HO]
    · isplitl []; · iexact Hmw
      iframe Hb Hm Hsem HO
    iintro %f %hf Hb Hm Hsem HO
    iapply Hk $$ %m %e %fc %fp %f %_ %_ [] Hwc Hwp Hc Hp Hb Hm Hsem HO
    ipureintro
    exact ⟨hm', he, hf⟩

/-! ## One block: the applying and the copy out -/

/-- The output's columns that the tile writes. -/
def cols (i : grid0.Coords) : Finset S64x1000000.Idx := Finset.univ.filter fun x => lo i ≤ (x 1).val ∧ (x 1).val < hi i

theorem outBlk_emb (t2 : Fin k0_t2_loop.trips) (h2 : k0_cond2 i t2 = 1#1) (y : S64x512.Idx) :
    (((outBlk i t2 h2).view.emb y : S64x1000000.Idx) 0).val = (y 0).val ∧ (((outBlk i t2 h2).view.emb y : S64x1000000.Idx) 1).val = lo i + 512 * t2.val + (y 1).val := by
  have ho := off4_eq i t2
  constructor
  · show k0_off4 i t2 0 + 1 * (y 0).val = _
    rw [ho.1]; omega
  · show k0_off4 i t2 1 + 1 * (y 1).val = _
    rw [ho.2]; omega

/-- The block's columns go out. -/
theorem wp_copyOut (t2 : Fin k0_t2_loop.trips) (h2 : k0_cond2 i t2 = 1#1) {f : Vec F S64x512 .f32} {g : Vec F S64x1000000 .f32} {α : Type} {Q : α → sProp 𝕄}
    {h1 : blockM.view.WordExact} {h1' : (outBlk i t2 h2).view.WordExact}
    {h1'' : DmaTarget.Typed (nD := nD) (p := (thr d i).2) .vmem (SemLoc.dma cc0_scratch9.sem) (.here (outBlk i t2 h2))}
    {h3 : blockM.view.WordExact} {h3' : (outBlk i t2 h2).view.WordExact} {kk : TProg F i α} :
    iprop(Transfers.MayWaits (thr d i) (default : HIx 1) O ∗ own d i cc0_scratch5 f ∗ ((thr d i).loc main_v2_scv ↦[cols i]{fullShare} g)
        ∗ semVal (thr d i, SemLoc.dma cc0_scratch9.sem) 0 ∗ owes (thr d i) O W)
      ⊢ iprop((∀ g' : Vec F S64x1000000 .f32, ⌜(∀ x : S64x1000000.Idx, ((x 1).val < lo i + 512 * t2.val ∨ lo i + 512 * t2.val + 512 ≤ (x 1).val) → g' x = g x)
            ∧ ∀ (x : S64x1000000.Idx) (y : S64x512.Idx), (x 0).val = (y 0).val → (x 1).val = lo i + 512 * t2.val + (y 1).val → g' x = f y⌝ -∗
          own d i cc0_scratch5 f -∗ ((thr d i).loc main_v2_scv ↦[cols i]{fullShare} g') -∗ semVal (thr d i, SemLoc.dma cc0_scratch9.sem) 0
            -∗ owes (thr d i) O (insert (SemLoc.dma cc0_scratch9.sem, (default : HIx 1)) W)
            -∗ wp frame (wpE (defs₀ (F := F)) 𝒱₀ (thr d i) none) Set.univ kk Q)
          -∗ wp frame (wpE (defs₀ (F := F)) 𝒱₀ (thr d i) none) Set.univ
            (Prog.op (TpuEff.enqueueDma blockM (.here (outBlk i t2 h2)) (SemLoc.dma cc0_scratch9.sem) h1 h1' h1'') fun _ =>
              Prog.op (TpuEff.waitDma2 cc0_scratch9.sem blockM (outBlk i t2 h2) h3 h3') fun _ => kk) Q) := by
  have hsub : (outBlk i t2 h2).view.set ⊆ cols i := by
    intro x hx
    obtain ⟨y, -, rfl⟩ := Finset.mem_map.mp hx
    have hq : t2.val < nq i := (cond2_iff i t2).mp h2
    have he := (outBlk_emb i t2 h2 y).2
    have hy : (y 1).val < 512 := (y 1).isLt
    have := hi_eq i
    refine Finset.mem_filter.mpr ⟨Finset.mem_univ _, ?_, ?_⟩ <;> omega
  iintro ⟨#Hmw, Hb, Hm, Hsem, HO⟩ Hk
  iapply (Transfers.wp_dmaFromWhole countersEmb 𝒱₀ (thr d i) none (src := blockM) (dst := outBlk i t2 h2) (default : HIx 1) (outBlk i t2 h2).view.dmaCredit rfl
    (show 0 < main_v2_scv.dmaCredit S64x512 .f32 by decide) hsub) $$ [Hm Hb Hsem]
  · iframe Hm Hb Hsem
  iintro Hfl
  iapply (Transfers.wp_waitLocalO countersEmb 𝒱₀ (thr d i) none (default : HIx 1) (rfl : (outBlk i t2 h2).view.dmaCredit = _)) $$ [Hfl HO]
  · isplitl [Hfl]; · iexact Hfl
    isplitl [HO]; · iexact HO
    iapply (Transfers.MayWaits.elim (SemLoc.dma cc0_scratch9.sem)) $$ Hmw
  iintro ⟨⟨Hm, Hb⟩, Hsem, HO⟩
  iapply Hk $$ %_ [] Hb Hm Hsem HO
  ipureintro
  generalize hw : ReadAs.same.apply (blockM.view.read (Elt F) f) = w
  have hw' : w = f := by rw [← hw]; rfl
  subst hw'
  constructor
  · intro x hx
    refine View.write_of_not_mem (v := (outBlk i t2 h2).view) _ _ _ fun hm => ?_
    obtain ⟨y, -, rfl⟩ := Finset.mem_map.mp hm
    have he := (outBlk_emb i t2 h2 y).2
    have hy : (y 1).val < 512 := (y 1).isLt
    omega
  · intro x y h0 h1
    have hxy : x = (outBlk i t2 h2).view.emb y := by
      have he := outBlk_emb i t2 h2 y
      funext a
      match a with
      | 0 => exact Fin.ext (h0.trans he.1.symm)
      | 1 => exact Fin.ext (h1.trans he.2.symm)
    rw [hxy]
    exact View.write_emb_of_mem (v := (outBlk i t2 h2).view) _ _ (Finset.mem_univ _)

omit [FloatOps F] in
theorem waits_insert {W W' : Waits sig (HIx 1)} (h : ∀ p ∈ W', p ∈ W ∨ p.2 = none) {sm : SemLoc sig} :
    ∀ p ∈ insert (sm, (default : HIx 1)) W', p ∈ W ∨ p.2 = none := by
  intro p hp
  rcases Finset.mem_insert.mp hp with rfl | hp
  · exact .inr rfl
  · exact h p hp

/-- After `t` blocks: their columns of the output hold what they hold in the end. -/
def BlockInv (wcol wpos : S4112.Idx → BitVec 32) (t : ℕ) (_ : PUnit) : sProp 𝕄 :=
  iprop(levAts (K (F := F)).L (K (F := F)).lev ∗ own d i cc0_scratch1 wcol ∗ own d i cc0_scratch2 wpos ∗ (∃ f, own d i cc0_scratch3 f) ∗ (∃ f, own d i cc0_scratch4 f)
    ∗ (∃ f, own d i cc0_scratch5 f) ∗ (∃ f, own d i cc0_scratch6 f) ∗ (∃ f, own d i cc0_scratch7 f)
    ∗ ((thr d i).loc main_v0_scv ↦{q} fv) ∗ ((thr d i).loc main_v1_scv ↦{q} mt)
    ∗ (∃ g, ((thr d i).loc main_v2_scv ↦[cols i]{fullShare} g)
        ∗ ⌜∀ x : S64x1000000.Idx, lo i ≤ (x 1).val → (x 1).val < lo i + 512 * min t (nq i) → g x = outFn mi fv mt x⌝)
    ∗ semVal (thr d i, SemLoc.dma cc0_scratch8.sem) 0 ∗ semVal (thr d i, SemLoc.dma cc0_scratch9.sem) 0 ∗ semVal (thr d i, SemLoc.dma cc0_scratch10.sem) 0
    ∗ ∃ W', ⌜∀ p ∈ W', p ∈ W ∨ p.2 = none⌝ ∗ owes (thr d i) O W')

theorem block_step (hl : Listed mi (lo i) (hi i) n wcol wpos) (hn : n ≤ 4096)
    (hblk : ∀ t < nq i, Nat.count (InR mi (lo i + 512 * t) (lo i + 512 * t + 512)) 16384 ≤ 2048) (hw4 : k0_chk4 i (BitVec.ofNat 32 n)) (v40 v66 : BitVec 32)
    (hO : ∀ g, O g none = 0) (t2 : Fin k0_t2_loop.trips) (acc : PUnit) :
    BlockInv (F := F) d i q fv mt mi O W wcol wpos t2.val acc
      ⊢ wp frame (wpE (defs₀ (F := F)) 𝒱₀ (thr d i) none) Set.univ
        (k0_t2_body (F := F) i idxM (Memref.isWhole_whole _) val2M (Memref.isWhole_whole _) memM (Memref.isWhole_whole _) outM (Memref.isWhole_whole _)
              idxvM (Memref.isWhole_whole _) wcolM (Memref.isWhole_whole _) wposM (Memref.isWhole_whole _) ccolM (Memref.isWhole_whole _) cposM (Memref.isWhole_whole _)
              blockM (Memref.isWhole_whole _) pairsM (Memref.isWhole_whole _) rowsM (Memref.isWhole_whole _) cc0_scratch8 cc0_scratch9 cc0_scratch10 cc0_scoped0
              lanes v40 (BitVec.ofNat 32 n) hw4 (BitVec.ofNat 32 n) v66 t2 acc)
        (BlockInv (F := F) d i q fv mt mi O W wcol wpos (t2.val + 1)) := by
  unfold BlockInv
  iintro ⟨#Hlv, Hwc, Hwp, Hc, Hp, Hb, Hpr, Hr, Hv, Hm, ⟨%g, Hg, %hg⟩, Hs8, Hs9, Hs10, %W', %hW', HO⟩
  ihave #Hmw := (show levAts (K (F := F)).L (K (F := F)).lev ⊢ Transfers.MayWaits (thr d i) (default : HIx 1) O from
    (K (F := F)).mayWaits_none (thr := thr d i) hO) $$ Hlv
  unfold k0_t2_body
  dsimp only
  by_cases h2 : k0_cond2 i t2 = 1#1
  · have hq : t2.val < nq i := (cond2_iff i t2).mp h2
    have hhi := hi_eq i
    have hle := hi_le i
    rw [dif_pos h2, iv_ofNat]
    iapply (wp_part21 (F := F) d i q mt mi O W' hl hn t2 h2 (hblk _ hq) hw4 v40 v66 hO) $$ [Hwc Hwp Hc Hp Hb Hm Hs8 HO]
    · iframe Hlv Hwc Hwp Hc Hp Hb Hm Hs8 HO
    iintro %m %e %fc %fp %f %_ %_ %hh Hwc Hwp Hc Hp Hb Hm Hs8 HO
    obtain ⟨hm, he, hf⟩ := hh
    dsimp only
    simp only [Prog.lift, Prog.bind_op, Prog.bind_ret, Prog.pure_eq_ret, Prog.bind_assoc]
    iapply (Scf.wp_for_bind frame (wpE (defs₀ (F := F)) 𝒱₀ (thr d i) none) Set.univ _ _ _ _ _ _
      (ApplyInv (F := F) d i q fv e (fun p => ixn mi p - (lo i + 512 * t2.val)) f ((m + 15) / 16) fc fp O W)
      (apply_step (F := F) d i q fv e (fun p => ixn mi p - (lo i + 512 * t2.val)) f ((m + 15) / 16) fc fp O W hO he
        (fun p hp => ⟨hp.lt (by omega), by have h1 := hp.1; have h2 := hp.2; show ixn mi p - (lo i + 512 * t2.val) < 512; omega⟩) t2 h2 hm rfl)) $$ [Hc Hp Hb Hpr Hr Hv Hs10 HO]
    · unfold ApplyInv
      iframe Hlv Hc Hp Hr Hpr Hv Hs10
      isplitl [Hb]
      · iexists f
        iframe Hb
        ipureintro
        exact Applied.zero _ _ _ _
      iexists _
      iframe HO
      ipureintro
      exact waits_insert hW'
    iintro %_ HI
    unfold ApplyInv
    icases HI with ⟨-, Hc, Hp, Hr, Hpr, ⟨%f', Hb, %hf'⟩, Hv, Hs10, %W'', %hW'', HO⟩
    iapply (wp_copyOut d i O W'' t2 h2) $$ [Hb Hg Hs9 HO]
    · isplitl []; · iexact Hmw
      iframe Hb Hg Hs9 HO
    iintro %g' %hg' Hb Hg Hs9 HO
    rw [wp_ret]; imodintro
    iframe Hlv Hwc Hwp Hv Hm Hs8 Hs9 Hs10
    isplitl [Hc]; · iexists fc; iexact Hc
    isplitl [Hp]; · iexists fp; iexact Hp
    isplitl [Hb]; · iexists f'; iexact Hb
    isplitl [Hpr]; · iexact Hpr
    isplitl [Hr]; · iexact Hr
    isplitl [Hg]
    · iexists g'
      iframe Hg
      ipureintro
      intro x h1 h2'
      by_cases hx : (x 1).val < lo i + 512 * t2.val
      · rw [hg'.1 x (.inl hx)]
        exact hg x h1 (by rw [Nat.min_eq_left hq.le]; exact hx)
      · have hx2 : (x 1).val - (lo i + 512 * t2.val) < 512 := by rw [Nat.min_eq_left (show t2.val + 1 ≤ nq i from hq)] at h2'; omega
        have e1 : (x 1).val = lo i + 512 * t2.val + ((ix2 (x 0) (⟨(x 1).val - (lo i + 512 * t2.val), hx2⟩ : Fin 512) : S64x512.Idx) 1).val := by
          show (x 1).val = lo i + 512 * t2.val + ((x 1).val - (lo i + 512 * t2.val)); omega
        rw [hg'.2 x (ix2 (x 0) (⟨(x 1).val - (lo i + 512 * t2.val), hx2⟩ : Fin 512)) rfl e1]
        refine applied_out fv mt (by omega) he rfl e1 (hf x _ rfl e1) ?_
        have hG : min (Scf.trips k0_t5_loop.lb k0_t5_loop.ub k0_t5_loop.st) ((m + 15) / 16) = (m + 15) / 16 := by
          have := t5_trips
          exact Nat.min_eq_right (by show _ ≤ k0_t5_loop.trips; omega)
        rw [hG] at hf'
        exact hf'
    iexists _
    iframe HO
    ipureintro
    exact waits_insert hW''
  · have hq : ¬ t2.val < nq i := fun h => h2 ((cond2_iff i t2).mpr h)
    rw [dif_neg h2]
    simp only [Prog.pure_eq_ret]
    rw [wp_ret]; imodintro
    iframe Hlv Hwc Hwp Hc Hp Hb Hpr Hr Hv Hm Hs8 Hs9 Hs10
    isplitl [Hg]
    · iexists g
      iframe Hg
      ipureintro
      intro x h1 h2'
      exact hg x h1 (by rw [Nat.min_eq_right (by omega)] at h2' ⊢; exact h2')
    iexists W'
    iframe HO
    ipureintro
    exact hW'

end Block

end Cert.Proof.Tile

end
-- ==== Proof.Tile.lean ====
/-
  A tile's run: the indices in, the scan, the pad, and its blocks one after another.
-/
module

public import proofs.«01_k».proof.Proof.Block
public import proofs.«01_k».proof.Proof.Scan

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The tile's own buffers and cells -/

theorem bigSep_list {ι : Type} [DecidableEq ι] {M : Type} [URA M] (Φ : ι → sProp M) : ∀ (l : List ι) (S : Finset ι), l.Nodup → (∀ b ∈ l, b ∈ S) →
    bigSep S Φ = l.foldr (fun b P => iprop(Φ b ∗ P)) (bigSep (S \ l.toFinset) Φ)
  | [], S, _, _ => by simp
  | b :: l, S, hn, hS => by
    have hb := List.nodup_cons.mp hn
    rw [SparseCore.bigSep_erase' (hS b (List.mem_cons_self ..)), bigSep_list Φ l (S.erase b) hb.2 fun c hc =>
      Finset.mem_erase.mpr ⟨fun e => hb.1 (e ▸ hc), hS c (List.mem_cons_of_mem _ hc)⟩]
    have : S.erase b \ l.toFinset = S \ (b :: l).toFinset := by
      ext c; simp only [Finset.mem_sdiff, Finset.mem_erase, List.toFinset_cons, Finset.mem_insert]; tauto
    rw [this]; rfl

/-- The tile's buffers. -/
def bufs : List (Ref sig .scVector) := [cc0_scratch0, cc0_scratch1, cc0_scratch2, cc0_scratch3, cc0_scratch4, cc0_scratch5, cc0_scratch6, cc0_scratch7]
/-- The tile's cells. -/
def cells : List (SemLoc sig) := [.dma cc0_scratch8.sem, .dma cc0_scratch9.sem, .dma cc0_scratch10.sem, .dma cc0_scoped0.sem]

section Own
variable (d : Dev nD) (i : grid0.Coords)

def restBufs : sProp 𝕄 := bigSep (ownRefs (τ := τ) (thr d i).2 \ (bufs.map (thr d i).2.devRef).toFinset) fun b => iprop(∃ f, ((d, b) : Loc nD τ sig) ↦{fullShare} f)
def restSems : sProp 𝕄 := bigSep (ownCells (thr d i) \ (cells.map fun s => ((thr d i, s) : GSem nD τ sig)).toFinset) fun g => semVal g 0

omit [FloatOps F] in
theorem ownBufs_tile : (ownBufs (thr d i) : sProp 𝕄)
    = iprop((∃ f, own (F := F) d i cc0_scratch0 f) ∗ (∃ f, own (F := F) d i cc0_scratch1 f) ∗ (∃ f, own (F := F) d i cc0_scratch2 f) ∗ (∃ f, own (F := F) d i cc0_scratch3 f)
      ∗ (∃ f, own (F := F) d i cc0_scratch4 f) ∗ (∃ f, own (F := F) d i cc0_scratch5 f) ∗ (∃ f, own (F := F) d i cc0_scratch6 f) ∗ (∃ f, own (F := F) d i cc0_scratch7 f)
      ∗ restBufs (F := F) d i) := by
  unfold SparseCore.Cfg.ownBufs
  have hn : (bufs.map (thr d i).2.devRef).Nodup := List.Nodup.map (Proc.devRef_injective _) (show bufs.Nodup by decide +kernel)
  have hm : ∀ b ∈ bufs.map (thr d i).2.devRef, b ∈ ownRefs (τ := τ) (thr d i).2 := by
    intro b hb
    obtain ⟨r, hr, rfl⟩ := List.mem_map.mp hb
    refine SparseCore.Cfg.mem_ownRefs_of_owner (p := (thr d i).2) ?_
    simp only [bufs, List.mem_cons, List.not_mem_nil, or_false] at hr
    rcases hr with rfl | rfl | rfl | rfl | rfl | rfl | rfl | rfl <;> rfl
  have h := bigSep_list (fun b => (iprop(∃ f, ((d, b) : Loc nD τ sig) ↦{fullShare} f) : sProp 𝕄)) _ _ hn hm
  refine h.trans ?_
  unfold restBufs
  generalize bigSep (ownRefs (τ := τ) (thr d i).2 \ (bufs.map (thr d i).2.devRef).toFinset) (fun b => (iprop(∃ f, ((d, b) : Loc nD τ sig) ↦{fullShare} f) : sProp 𝕄)) = R
  rfl

omit [FloatOps F] in
theorem ownSems0_tile : (ownSems0 (thr d i) : sProp 𝕄)
    = iprop(semVal (thr d i, SemLoc.dma cc0_scratch8.sem) 0 ∗ semVal (thr d i, SemLoc.dma cc0_scratch9.sem) 0 ∗ semVal (thr d i, SemLoc.dma cc0_scratch10.sem) 0
      ∗ semVal (thr d i, SemLoc.dma cc0_scoped0.sem) 0 ∗ restSems (F := F) d i) := by
  unfold SparseCore.Cfg.ownSems0
  refine (bigSep_list _ (cells.map fun s => ((thr d i, s) : GSem nD τ sig)) _ (List.Nodup.map (fun a b h => (Prod.mk.inj h).2) (by decide)) fun b hb => ?_).trans rfl
  obtain ⟨r, hr, rfl⟩ := List.mem_map.mp hb
  refine (mem_ownCells).mpr ⟨rfl, ?_⟩
  have : ∀ r ∈ cells, r.isScoped .scVector = true := by decide
  exact this r hr

end Own

/-! ## The list's pad -/

omit [FloatOps F] in
theorem Compact.agree {good : ℕ → Prop} [DecidablePred good] {B n N : ℕ} {src : ℕ → BitVec 32} {f f' : (⟨1, ![N]⟩ : Shape).Idx → BitVec 32}
    (h : Compact good B src f) (hn : n = Nat.count good B) (hf : ∀ s < n, at1 f' s = at1 f s) : Compact good B src f' := by
  intro p hp hg j hj
  have hlt : Nat.count good p < n := hn ▸ Nat.count_strict_mono hg hp
  rw [at1_of f' j, hj, hf _ hlt, ← hj, ← at1_of f j]
  exact h p hp hg j hj

/-! ## The tile -/

section Tile
variable (d : Dev nD) (i : grid0.Coords) (q : PosShare TreeShare) (fv : Vec F S8192x128 .f32) (mt : Vec F S64x1000000 .f32)
  (mi : S16384.Idx → BitVec 32) (O : CellTallies nD τ sig (HIx 1)) (W : Waits sig (HIx 1))

/-- What a tile holds of the four arrays, the output's columns at `g`. -/
def TileRes (g : Vec F S64x1000000 .f32) : sProp 𝕄 :=
  iprop(((thr d i).loc main_arg1_scv ↦{q} mi) ∗ ((thr d i).loc main_v0_scv ↦{q} fv) ∗ ((thr d i).loc main_v1_scv ↦{q} mt)
    ∗ ((thr d i).loc main_v2_scv ↦[cols i]{fullShare} g))

/-- What a tile has when it is done. -/
def TilePost : sProp 𝕄 :=
  iprop(TileRes d i q fv mt mi (outFn mi fv mt) ∗ scopedBufs (thr d i) ∗ scopedSems0 (thr d i)
    ∗ ∃ W', ⌜∀ p ∈ W', p ∈ W ∨ p.2 = none⌝ ∗ owes (thr d i) O W')

/-- The blocks, from the padded list on. -/
theorem wp_blocks {n : ℕ} {wcol wpos : S4112.Idx → BitVec 32} (hl : Listed mi (lo i) (hi i) n wcol wpos) (hn : n ≤ 4096)
    (hblk : ∀ t < nq i, Nat.count (InR mi (lo i + 512 * t) (lo i + 512 * t + 512)) 16384 ≤ 2048) (hw4 : k0_chk4 i (BitVec.ofNat 32 n)) (v40 v66 : BitVec 32)
    (hO : ∀ g, O g none = 0) {W' : Waits sig (HIx 1)} (hW' : ∀ p ∈ W', p ∈ W ∨ p.2 = none) {g0 : Vec F S64x1000000 .f32} {f0 : S16384.Idx → BitVec 32} :
    iprop(levAts (K (F := F)).L (K (F := F)).lev ∗ TileRes d i q fv mt mi g0
        ∗ (own d i cc0_scratch0 f0 ∗ own d i cc0_scratch1 wcol ∗ own d i cc0_scratch2 wpos ∗ (∃ f, own (F := F) d i cc0_scratch3 f) ∗ (∃ f, own (F := F) d i cc0_scratch4 f)
          ∗ (∃ f, own (F := F) d i cc0_scratch5 f) ∗ (∃ f, own (F := F) d i cc0_scratch6 f) ∗ (∃ f, own (F := F) d i cc0_scratch7 f) ∗ restBufs (F := F) d i)
        ∗ (semVal (thr d i, SemLoc.dma cc0_scratch8.sem) 0 ∗ semVal (thr d i, SemLoc.dma cc0_scratch9.sem) 0 ∗ semVal (thr d i, SemLoc.dma cc0_scratch10.sem) 0
          ∗ semVal (thr d i, SemLoc.dma cc0_scoped0.sem) 0 ∗ restSems (F := F) d i)
        ∗ owes (thr d i) O W')
      ⊢ wp frame (wpE (defs₀ (F := F)) 𝒱₀ (thr d i) none) Set.univ
        (Scf.Loop.for k0_t2_loop k0_t2_ok ⟨⟩ (k0_t2_body (F := F) i idxM (Memref.isWhole_whole _) val2M (Memref.isWhole_whole _) memM (Memref.isWhole_whole _) outM (Memref.isWhole_whole _)
              idxvM (Memref.isWhole_whole _) wcolM (Memref.isWhole_whole _) wposM (Memref.isWhole_whole _) ccolM (Memref.isWhole_whole _) cposM (Memref.isWhole_whole _)
              blockM (Memref.isWhole_whole _) pairsM (Memref.isWhole_whole _) rowsM (Memref.isWhole_whole _) cc0_scratch8 cc0_scratch9 cc0_scratch10 cc0_scoped0
              lanes v40 (BitVec.ofNat 32 n) hw4 (Scalar.minsi (BitVec.ofNat 32 n) 4096#32) v66) >>= fun _ => (.ret ⟨⟩ : TProg F i PUnit))
        fun _ => TilePost d i q fv mt mi O W := by
  have hF := facts (F := F)
  rw [minsi_ofNat (k := 4096) (by omega) hn]
  unfold TilePost
  rw [(K (F := F)).scopedBufs_V hF d _ _, SparseCore.Cfg.scopedSems0_V (Val := Elt F) d _ _, ownSems0_tile, ownBufs_tile]
  unfold TileRes
  iintro ⟨#Hlv, ⟨Hi, Hv, Hm, Hg⟩, ⟨Hb0, Hb1, Hb2, Hb3, Hb4, Hb5, Hb6, Hb7, Hbufs⟩, ⟨Hs8, Hs9, Hs10, Hs11, Hsems⟩, HO⟩
  iapply (Scf.wp_for_bind frame (wpE (defs₀ (F := F)) 𝒱₀ (thr d i) none) Set.univ _ _ _ _ _ _ (BlockInv (F := F) d i q fv mt mi O W' wcol wpos)
    (block_step (F := F) d i q fv mt mi O W' hl hn hblk hw4 v40 v66 hO)) $$ [Hv Hm Hg Hb1 Hb2 Hb3 Hb4 Hb5 Hb6 Hb7 Hs8 Hs9 Hs10 HO]
  · unfold BlockInv
    iframe Hlv Hv Hm Hb1 Hb2 Hb3 Hb4 Hb5 Hb6 Hb7 Hs8 Hs9 Hs10
    isplitl [Hg]
    · iexists g0
      iframe Hg
      ipureintro
      intro x h1 h2
      rw [Nat.zero_min] at h2; omega
    iexists W'
    iframe HO
    ipureintro
    exact fun p h => .inl h
  iintro %_ HI
  ihave HI := (show BlockInv (F := F) d i q fv mt mi O W' wcol wpos k0_t2_loop.trips ⟨⟩ ⊢ BlockInv (F := F) d i q fv mt mi O W' wcol wpos 62 ⟨⟩ from by rw [t2_trips]) $$ HI
  unfold BlockInv
  icases HI with ⟨-, Hb1, Hb2, Hb3, Hb4, Hb5, Hb6, Hb7, Hv, Hm, ⟨%g, Hg, %hg⟩, Hs8, Hs9, Hs10, %W'', %hW'', HO⟩
  have hgo : ∀ x ∈ cols i, g x = outFn mi fv mt x := by
    intro x hx
    obtain ⟨-, h1, h2⟩ := Finset.mem_filter.mp hx
    have := hi_eq i
    have := nq_le i
    exact hg x h1 (by rw [Nat.min_eq_right (by omega)]; omega)
  ihave Hg := (Entails.of_eq (pointsTo_congr (ℓ := (thr d i).loc main_v2_scv) (I := cols i) (q := fullShare) hgo)) $$ Hg
  rw [wp_ret]; imodintro
  iframe Hi Hv Hm Hg
  isplitl [Hb0 Hb1 Hb2 Hb3 Hb4 Hb5 Hb6 Hb7 Hbufs]
  · isplitl [Hb0]; · iexists f0; iexact Hb0
    isplitl [Hb1]; · iexists wcol; iexact Hb1
    isplitl [Hb2]; · iexists wpos; iexact Hb2
    iframe Hb3 Hb4 Hb5 Hb6 Hb7 Hbufs
  iframe Hs8 Hs9 Hs10 Hs11 Hsems
  iexists W''
  iframe HO
  ipureintro
  intro p hp
  rcases hW'' p hp with h | h
  · exact hW' p h
  · exact .inr h

theorem tile_body (hidx : ∀ p, (mi p).toNat < 1000000) (hcnt : Nat.count (InR mi (lo i) (hi i)) 16384 ≤ 4096)
    (hblk : ∀ t < nq i, Nat.count (InR mi (lo i + 512 * t) (lo i + 512 * t + 512)) 16384 ≤ 2048) (hO : ∀ g, O g none = 0) (g0 : Vec F S64x1000000 .f32) :
    iprop(levAts (K (F := F)).L (K (F := F)).lev ∗ emp ∗ TileRes d i q fv mt mi g0 ∗ scopedBufs (thr d i) ∗ scopedSems0 (thr d i) ∗ owes (thr d i) O W)
      ⊢ wp frame (wpE (defs₀ (F := F)) 𝒱₀ (thr d i) none) Set.univ
        (cc0_scatter (F := F) i idxM (Memref.isWhole_whole _) val2M (Memref.isWhole_whole _) memM (Memref.isWhole_whole _) outM (Memref.isWhole_whole _)
              idxvM (Memref.isWhole_whole _) wcolM (Memref.isWhole_whole _) wposM (Memref.isWhole_whole _) ccolM (Memref.isWhole_whole _) cposM (Memref.isWhole_whole _)
              blockM (Memref.isWhole_whole _) pairsM (Memref.isWhole_whole _) rowsM (Memref.isWhole_whole _) cc0_scratch8 cc0_scratch9 cc0_scratch10 cc0_scoped0)
        fun _ => TilePost d i q fv mt mi O W := by
  have hF := facts (F := F)
  simp only [cc0_scatter_eq_skeleton]; unfold cc0_scatter_skel
  rw [(K (F := F)).scopedBufs_V hF d _ _, SparseCore.Cfg.scopedSems0_V (Val := Elt F) d _ _, ownSems0_tile, ownBufs_tile]
  unfold TileRes
  iintro ⟨#Hlv, -, ⟨Hi, Hv, Hm, Hg⟩, ⟨⟨%f0, Hb0⟩, ⟨%f1, Hb1⟩, ⟨%f2, Hb2⟩, Hb3, Hb4, Hb5, Hb6, Hb7, Hbufs⟩, ⟨Hs8, Hs9, Hs10, Hs11, Hsems⟩, HO⟩
  ihave #Hmw := (show levAts (K (F := F)).L (K (F := F)).lev ⊢ Transfers.MayWaits (thr d i) (default : HIx 1) O from
    (K (F := F)).mayWaits_none (thr := thr d i) hO) $$ Hlv
  rw [show ∀ (a : DmaSems sig S_) (b c e : DmaSems sig S_), k0_part22 (F := F) i idxM (Memref.isWhole_whole _) val2M (Memref.isWhole_whole _) memM (Memref.isWhole_whole _) outM (Memref.isWhole_whole _)
              idxvM (Memref.isWhole_whole _) wcolM (Memref.isWhole_whole _) wposM (Memref.isWhole_whole _) ccolM (Memref.isWhole_whole _) cposM (Memref.isWhole_whole _)
              blockM (Memref.isWhole_whole _) pairsM (Memref.isWhole_whole _) rowsM (Memref.isWhole_whole _) a b c e = .ret ⟨lanes, begW i, finW i⟩ from fun _ _ _ _ => by
    rw [k0_part22_eq_skeleton]; rfl]
  simp only [Prog.lift, Prog.bind_op, Prog.bind_ret, Prog.pure_eq_ret, Prog.bind_assoc]
  rw [begW_eq, finW_eq]
  -- the indices come in
  iapply (Transfers.wp_dmaFromWhole countersEmb 𝒱₀ (thr d i) none (src := idxM) (dst := idxvM) (default : HIx 1) idxvM.view.dmaCredit rfl
    (by decide) (Finset.subset_univ _)) $$ [Hi Hb0 Hs11]
  · iframe Hi Hb0 Hs11
  iintro Hfl
  iapply (Transfers.wp_waitLocalO countersEmb 𝒱₀ (thr d i) none (default : HIx 1) (rfl : idxvM.view.dmaCredit = _)) $$ [Hfl HO]
  · isplitl [Hfl]; · iexact Hfl
    isplitl [HO]; · iexact HO
    iapply (Transfers.MayWaits.elim (SemLoc.dma cc0_scoped0.sem)) $$ Hmw
  iintro ⟨⟨Hb0, Hi⟩, Hs11, HO⟩
  rw [View.write_whole_univ]
  -- the scan
  iapply (Scf.wp_for_bind frame (wpE (defs₀ (F := F)) 𝒱₀ (thr d i) none) Set.univ _ _ _ _ _ _ (ScanInv (F := F) d i mi)
    (scan_step (F := F) d i mi hidx hcnt cc0_scratch8 cc0_scratch9 cc0_scratch10 cc0_scoped0)) $$ [Hb0 Hb1 Hb2]
  · unfold ScanInv
    iexists f1; iexists f2
    isplitl [Hb0]; · iexact Hb0
    iframe Hb1 Hb2
    ipureintro
    exact ⟨rfl, Compact.zero _ _ _, Compact.zero _ _ _⟩
  iintro %acc HI
  obtain ⟨n, last⟩ := acc
  ihave HI := (show ScanInv (F := F) d i mi k0_t1_loop.trips (n, last) ⊢ ScanInv (F := F) d i mi 1024 (n, last) from by rw [t1_trips]) $$ HI
  unfold ScanInv
  icases HI with ⟨%wc, %wpo, Hb0, Hb1, Hb2, %hn, %hc, %hp⟩
  dsimp only at hn
  have hl : Listed mi (lo i) (hi i) (Nat.count (InR mi (lo i) (hi i)) 16384) wc wpo := ⟨rfl, hc, hp⟩
  generalize Nat.count (InR mi (lo i) (hi i)) 16384 = n at hcnt hn hl
  subst hn
  have hc' := hl.col
  have hp' := hl.pos
  dsimp only
  have hw4 := chk4_of i hcnt
  rw [wp_assume_of _ _ _ _ hw4]
  by_cases hpos : 0 < n
  · have h1 := (cond1_iff hcnt).mpr hpos
    rw [dif_pos h1]
    have hrows : ∀ l : Fin 16, k0_pay9 lanes (BitVec.ofNat 32 n) (ix1 l) = BitVec.ofNat 32 (n + l.val) := pad_rows (k := 4096) (by omega) hcnt
    have hchk2 : k0_chk2 (BitVec.ofNat 32 n) (k0_pay9 lanes (BitVec.ofNat 32 n)) := by
      intro _ a x
      match a with
      | 0 =>
        show (k0_pay9 lanes (BitVec.ofNat 32 n) x).toNat < 4112
        rw [← ix1_eta x]
        refine lt_of_eq_of_lt (congrArg BitVec.toNat (hrows (x 0))) ?_
        rw [BitVec.toNat_ofNat]
        exact lt_of_le_of_lt (Nat.mod_le _ _) (by show n + (x 0).val < 4112; have : (x 0).val < 16 := (x 0).isLt; omega)
    have hchk3 : k0_chk3 (BitVec.ofNat 32 n) (k0_pay11 lanes (BitVec.ofNat 32 n)) := hchk2
    rw [wp_assume_of _ _ _ _ hchk2]
    iapply (wp_vst (F := F) d i) $$ Hb1
    iintro Hb1
    rw [wp_assume_of _ _ _ _ hchk3]
    iapply (wp_vst (F := F) d i) $$ Hb2
    iintro Hb2
    iapply (wp_blocks (F := F) d i q fv mt mi O W ⟨hl.count,
      Compact.agree hc' hl.count fun s hs => (pad_at1 (F := F) (N := 4112) (m := n) (by omega) (by omega) wc hrows (v := k0_pay10 last) (fun _ => rfl) (hchk2 h1) s).1 hs,
      Compact.agree hp' hl.count fun s hs => (pad_at1 (F := F) (N := 4112) (m := n) (by omega) (by omega) wpo hrows (v := k0_pay12 last) (fun _ => rfl) (hchk3 h1) s).1 hs⟩
      hcnt hblk hw4 _ _ hO (waits_insert fun p h => .inl h))
    unfold TileRes
    iframe Hlv Hi Hv Hm Hg Hb0 Hb1 Hb2 Hb3 Hb4 Hb5 Hb6 Hb7 Hbufs Hs8 Hs9 Hs10 Hs11 Hsems HO
  · rw [dif_neg fun h => hpos ((cond1_iff hcnt).mp h)]
    iapply (wp_blocks (F := F) d i q fv mt mi O W hl hcnt hblk hw4 _ _ hO (waits_insert fun p h => .inl h))
    unfold TileRes
    iframe Hlv Hi Hv Hm Hg Hb0 Hb1 Hb2 Hb3 Hb4 Hb5 Hb6 Hb7 Hbufs Hs8 Hs9 Hs10 Hs11 Hsems HO

end Tile

end Cert.Proof.Tile

end
-- ==== Proof.Host.lean ====
/-
  @main around the call: the host operations before it and after it, as lists, and what they leave alone.
-/
module

public import proofs.«01_k».proof.Proof.Base

@[expose] public section

noncomputable section

namespace Cert.Proof.Host

open Cert.KernelIdeal Cert.KernelIdeal.Gen Idealize.ShloMosaic Idealize.ShloMosaic.TcCoe Idealize.SL.Sem Idealize.ShloMosaic.StableHlo

variable {F : FTy → Type} [FloatOps F]

/-- The operations before the call. -/
abbrev pre : List (HloOp τ sig (Elt F)) :=
  [ reshape main_arg2 main_v0 (rfl : (.f32 : EltTy) = .f32) shapeCasts_S16384x64_S8192x128,
    unary main_arg0 main_v1 ((transpose S64x1000000 [1, 0] · transposes_S1000000x64_S64x1000000_1_0) : (⟨S1000000x64, .f32⟩ : BufTy).Contents (Elt F) → (⟨S64x1000000, .f32⟩ : BufTy).Contents (Elt F)) ]

/-- The operations after it. -/
abbrev post : List (HloOp τ sig (Elt F)) :=
  [ unary main_v2 main_v3 ((transpose S1000000x64 [1, 0] · transposes_S64x1000000_S1000000x64_1_0) : (⟨S64x1000000, .f32⟩ : BufTy).Contents (Elt F) → (⟨S1000000x64, .f32⟩ : BufTy).Contents (Elt F)),
    unary main_arg1 main_v4 (broadcastInDim S1x16384 ![1] bcast_S16384_S1x16384_1 : (⟨S16384, .i32⟩ : BufTy).Contents (Elt F) → (⟨S1x16384, .i32⟩ : BufTy).Contents (Elt F)),
    nullary main_v5 (iotaInDim S64 32 0),
    unary main_v5 main_v6 (broadcastInDim S64x1 ![0] bcast_S64_S64x1_0 : (⟨S64, .i32⟩ : BufTy).Contents (Elt F) → (⟨S64x1, .i32⟩ : BufTy).Contents (Elt F)),
    nullary main_c (constantI S_ 32 999936#32),
    unary main_c main_v7 (broadcastInDim S64x1 ![] bcast_S_S64x1 : (⟨S_, .i32⟩ : BufTy).Contents (Elt F) → (⟨S64x1, .i32⟩ : BufTy).Contents (Elt F)),
    binary main_v7 main_v6 main_v8 (addi : (⟨S64x1, .i32⟩ : BufTy).Contents (Elt F) → (⟨S64x1, .i32⟩ : BufTy).Contents (Elt F) → (⟨S64x1, .i32⟩ : BufTy).Contents (Elt F)),
    unary main_v4 main_v9 (broadcastInDim S64x16384 ![0, 1] bcast_S1x16384_S64x16384_0_1 : (⟨S1x16384, .i32⟩ : BufTy).Contents (Elt F) → (⟨S64x16384, .i32⟩ : BufTy).Contents (Elt F)),
    unary main_v8 main_v10 (broadcastInDim S64x16384 ![0, 1] bcast_S64x1_S64x16384_0_1 : (⟨S64x1, .i32⟩ : BufTy).Contents (Elt F) → (⟨S64x16384, .i32⟩ : BufTy).Contents (Elt F)),
    binary main_v9 main_v10 main_v11 (cmpi .eq : (⟨S64x16384, .i32⟩ : BufTy).Contents (Elt F) → (⟨S64x16384, .i32⟩ : BufTy).Contents (Elt F) → (⟨S64x16384, .i1⟩ : BufTy).Contents (Elt F)),
    nullary main_v12 (iotaInDim S16384 32 0),
    unary main_v12 main_v13 (broadcastInDim S1x16384 ![1] bcast_S16384_S1x16384_1 : (⟨S16384, .i32⟩ : BufTy).Contents (Elt F) → (⟨S1x16384, .i32⟩ : BufTy).Contents (Elt F)),
    nullary main_c_0 (constantI S_ 32 4294967295#32),
    TRef.unary (.of main_c_0 : TRef sig ⟨S_, .i32⟩) main_call0.v0 id,
    TRef.unary (.of main_v13 : TRef sig ⟨S1x16384, .i32⟩) main_call0.v1 (broadcastInDim S64x16384 ![0, 1] bcast_S1x16384_S64x16384_0_1),
    TRef.unary main_call0.v0 main_call0.v2 (broadcastInDim S64x16384 ![] bcast_S_S64x16384),
    TRef.ternary (.of main_v11 : TRef sig ⟨S64x16384, .i1⟩) main_call0.v1 main_call0.v2 main_call0.v3 select,
    nullary main_c_1 (constantI S_ 32 2147483648#32),
    binary main_v14 main_c_1 main_v15 ((fun x v => Host.reduce IntOp.maxsi x v reducesTo_S64x16384_S64_d1 h_S_) : (⟨S64x16384, .i32⟩ : BufTy).Contents (Elt F) → (⟨S_, .i32⟩ : BufTy).Contents (Elt F) → (⟨S64, .i32⟩ : BufTy).Contents (Elt F)),
    unary main_v15 main_v16 (broadcastInDim S64x1 ![0] bcast_S64_S64x1_0 : (⟨S64, .i32⟩ : BufTy).Contents (Elt F) → (⟨S64x1, .i32⟩ : BufTy).Contents (Elt F)),
    nullary main_c_2 (constantI S_ 32 0#32),
    unary main_c_2 main_v17 (broadcastInDim S64x1 ![] bcast_S_S64x1 : (⟨S_, .i32⟩ : BufTy).Contents (Elt F) → (⟨S64x1, .i32⟩ : BufTy).Contents (Elt F)),
    binary main_v16 main_v17 main_v18 (cmpi .sge : (⟨S64x1, .i32⟩ : BufTy).Contents (Elt F) → (⟨S64x1, .i32⟩ : BufTy).Contents (Elt F) → (⟨S64x1, .i1⟩ : BufTy).Contents (Elt F)),
    nullary main_c_3 (constantI S_ 32 0#32),
    TRef.unary (.of main_c_3 : TRef sig ⟨S_, .i32⟩) main_call1.v0 id,
    TRef.unary main_call1.v0 main_call1.v1 (broadcastInDim S64 ![] bcast_S_S64),
    TRef.binary main_call1.v1 (.of main_v15 : TRef sig ⟨S64, .i32⟩) main_call1.v2 maxsi,
    nullary main_c_4 (constantI S_ 32 0#32),
    unary main_c_4 main_v20 (broadcastInDim S64 ![] bcast_S_S64 : (⟨S_, .i32⟩ : BufTy).Contents (Elt F) → (⟨S64, .i32⟩ : BufTy).Contents (Elt F)),
    binary main_v19 main_v20 main_v21 (cmpi .slt : (⟨S64, .i32⟩ : BufTy).Contents (Elt F) → (⟨S64, .i32⟩ : BufTy).Contents (Elt F) → (⟨S64, .i1⟩ : BufTy).Contents (Elt F)),
    nullary main_c_5 (constantI S_ 32 16384#32),
    unary main_c_5 main_v22 (broadcastInDim S64 ![] bcast_S_S64 : (⟨S_, .i32⟩ : BufTy).Contents (Elt F) → (⟨S64, .i32⟩ : BufTy).Contents (Elt F)),
    binary main_v19 main_v22 main_v23 (addi : (⟨S64, .i32⟩ : BufTy).Contents (Elt F) → (⟨S64, .i32⟩ : BufTy).Contents (Elt F) → (⟨S64, .i32⟩ : BufTy).Contents (Elt F)),
    ternary main_v21 main_v23 main_v19 main_v24 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v24 main_v25 (broadcastInDim S64x1 ![0] bcast_S64_S64x1_0 : (⟨S64, .i32⟩ : BufTy).Contents (Elt F) → (⟨S64x1, .i32⟩ : BufTy).Contents (Elt F)),
    binary main_arg2 main_v25 main_v26 ((fun x i => Host.gather gather_S16384x64_S64x1_S64x64_1_0_n_n_0_1_164 x i) : (⟨S16384x64, .f32⟩ : BufTy).Contents (Elt F) → (⟨S64x1, .i32⟩ : BufTy).Contents (Elt F) → (⟨S64x64, .f32⟩ : BufTy).Contents (Elt F)),
    unary main_arg0 main_v27 ((extractStridedSlice S64x64 ![999936, 0] · slices_S1000000x64_S64x64_999936_0) : (⟨S1000000x64, .f32⟩ : BufTy).Contents (Elt F) → (⟨S64x64, .f32⟩ : BufTy).Contents (Elt F)),
    TRef.unary (.of main_v18 : TRef sig ⟨S64x1, .i1⟩) main_call2.v0 (broadcastInDim S64x64 ![0, 1] bcast_S64x1_S64x64_0_1),
    TRef.ternary main_call2.v0 (.of main_v26 : TRef sig ⟨S64x64, .f32⟩) (.of main_v27 : TRef sig ⟨S64x64, .f32⟩) main_call2.v1 select,
    nullary main_c_6 (constantI S_ 32 999936#32),
    nullary main_c_7 (constantI S_ 32 0#32),
    binaryIndexed main_v3 main_v28 ![main_c_6, main_c_7] ⟨S_, .i32⟩ main_v29 ((fun x u i => Host.dynamicUpdateSlice x u (fun k => (i k (Shape.Idx.first h_S_)).toInt) updateFits_S1000000x64_S64x64) : (⟨S1000000x64, .f32⟩ : BufTy).Contents (Elt F) → (⟨S64x64, .f32⟩ : BufTy).Contents (Elt F) → (Fin 2 → (⟨S_, .i32⟩ : BufTy).Contents (Elt F)) → (⟨S1000000x64, .f32⟩ : BufTy).Contents (Elt F)) ]

theorem main_eq (d : Dev nD) : main (F := F) d = seq pre >>= fun _ => (sc (F := F)).run d 0 >>= fun _ => seq post >>= fun _ => .ret ⟨⟩ := rfl

theorem pre_sub : ∀ op ∈ (pre : List (HloOp τ sig (Elt F))), op.bufs ⊆ tcRefs τ sig :=
  List.forall_iff_forall_mem.mp (show (pre : List (HloOp τ sig (Elt F))).Forall fun op => op.bufs ⊆ tcRefs τ sig from ⟨reshape_bufs_sub .., unary_bufs_sub ..⟩)

theorem post_sub : ∀ op ∈ (post : List (HloOp τ sig (Elt F))), op.bufs ⊆ tcRefs τ sig :=
  List.forall_iff_forall_mem.mp (show (post : List (HloOp τ sig (Elt F))).Forall fun op => op.bufs ⊆ tcRefs τ sig from
    ⟨unary_bufs_sub .., unary_bufs_sub .., nullary_bufs_sub .., unary_bufs_sub .., nullary_bufs_sub .., unary_bufs_sub .., binary_bufs_sub .., unary_bufs_sub .., unary_bufs_sub .., binary_bufs_sub .., nullary_bufs_sub .., unary_bufs_sub .., nullary_bufs_sub .., unary_bufs_sub .., unary_bufs_sub .., unary_bufs_sub .., ternary_bufs_sub .., nullary_bufs_sub .., binary_bufs_sub .., unary_bufs_sub .., nullary_bufs_sub .., unary_bufs_sub .., binary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., ternary_bufs_sub .., nullary_bufs_sub .., nullary_bufs_sub .., binaryIndexed_bufs_sub ..⟩)

theorem pre_fresh : ∀ op ∈ (pre : List (HloOp τ sig (Elt F))), op.fresh = ∅ :=
  List.forall_iff_forall_mem.mp (show (pre : List (HloOp τ sig (Elt F))).Forall fun op => op.fresh = ∅ from by repeat' first | exact rfl | constructor)

theorem post_fresh : ∀ op ∈ (post : List (HloOp τ sig (Elt F))), op.fresh = ∅ :=
  List.forall_iff_forall_mem.mp (show (post : List (HloOp τ sig (Elt F))).Forall fun op => op.fresh = ∅ from by repeat' first | exact rfl | constructor)

/-- What the operations after the call write. -/
abbrev postW : List (Ref sig .tc) :=
  [main_v3, main_v4, main_v5, main_v6, main_c, main_v7, main_v8, main_v9, main_v10, main_v11, main_v12, main_v13, main_c_0, main_call0_v0, main_call0_v1, main_call0_v2, main_v14, main_c_1, main_v15, main_v16, main_c_2, main_v17, main_v18, main_c_3, main_call1_v0, main_call1_v1, main_v19, main_c_4, main_v20, main_v21, main_c_5, main_v22, main_v23, main_v24, main_v25, main_v26, main_v27, main_call2_v0, main_v28, main_c_6, main_c_7, main_v29]

theorem post_keeps (V : Valuation τ sig (Elt F)) {r : Ref sig .tc} (hr : r ∉ postW) : after post V (Proc.devRef .tc r) = V (Proc.devRef .tc r) :=
  after_of_writes_sub (W := postW) post V (forall_writes_sub_of_map rfl) hr

theorem pre_keeps (V : Valuation τ sig (Elt F)) {r : Ref sig .tc} (hr : r ∉ [main_v0, main_v1]) : after pre V (Proc.devRef .tc r) = V (Proc.devRef .tc r) :=
  after_of_writes_sub (W := [main_v0, main_v1]) pre V (forall_writes_sub_of_map rfl) hr

end Cert.Proof.Host
-- ==== Proof.Launch.lean ====
/-
  The launch: what the call takes and gives back, each core's and each tile's part of it, and @main around it.
-/
module

public import proofs.«01_k».proof.Proof.Tile
public import proofs.«01_k».proof.Proof.Host
public import Idealize.ShloMosaic.Lib.ShareLeaves
public import Idealize.ShloMosaic.Lib.Pipeline.Frame

@[expose] public section

noncomputable section

namespace Cert.Proof.Tile

open Cert.KernelIdeal Cert.KernelIdeal.Gen Cert.Proof.Lanes Cert.Proof.Spec Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The columns of the tiles -/

theorem wid_at2_inj {c c' : Fin 2} {s s' : Fin 16} (h : wid (at2 c s) = wid (at2 c' s')) : c = c' ∧ s = s' := by
  have h' : 2 * s.val + c.val = 2 * s'.val + c'.val := h
  constructor <;> apply Fin.ext <;> omega

theorem cols_disjoint {i j : grid0.Coords} (h : wid i ≠ wid j) : Disjoint (cols i) (cols j) := by
  refine Finset.disjoint_left.mpr fun x hx hy => ?_
  have h1 := (Finset.mem_filter.mp hx).2
  have h2 := (Finset.mem_filter.mp hy).2
  unfold lo hi beg fin at h1 h2
  omega

/-- The columns of core `c`'s tiles, -/
def coreCols (c : Fin 2) : Finset S64x1000000.Idx := Finset.univ.biUnion fun s : Fin 16 => cols (at2 c s)
/-- and of all tiles. -/
def allCols : Finset S64x1000000.Idx := Finset.univ.biUnion fun c : Fin 2 => coreCols c

theorem tiles_disjoint (c : Fin 2) : ∀ s ∈ (Finset.univ : Finset (Fin 16)), ∀ s' ∈ (Finset.univ : Finset (Fin 16)), s ≠ s' →
    Disjoint (cols (at2 c s)) (cols (at2 c s')) :=
  fun _ _ _ _ h => cols_disjoint fun e => h (wid_at2_inj e).2

theorem cores_disjoint : ∀ c ∈ (Finset.univ : Finset (Fin 2)), ∀ c' ∈ (Finset.univ : Finset (Fin 2)), c ≠ c' → Disjoint (coreCols c) (coreCols c') := by
  intro c _ c' _ h
  unfold coreCols
  refine (Finset.disjoint_biUnion_left _ _ _).mpr fun s _ => (Finset.disjoint_biUnion_right _ _ _).mpr fun s' _ => ?_
  exact cols_disjoint fun e => h (wid_at2_inj e).1

theorem mem_allCols {x : S64x1000000.Idx} : x ∈ allCols ↔ (x 1).val < 999936 := by
  unfold allCols coreCols
  simp only [Finset.mem_biUnion, Finset.mem_univ, true_and]
  constructor
  · rintro ⟨c, s, h⟩
    exact ((Finset.mem_filter.mp h).2.2).trans_le (hi_le _)
  · intro h
    obtain ⟨w, hw, h1, h2⟩ : ∃ w < 32, w * 1953 / 32 * 512 ≤ (x 1).val ∧ (x 1).val < (w + 1) * 1953 / 32 * 512 := by
      refine ⟨(((x 1).val / 512 + 1) * 32 - 1) / 1953, ?_, ?_, ?_⟩ <;> omega
    refine ⟨⟨w % 2, by omega⟩, ⟨w / 2, by omega⟩, Finset.mem_filter.mpr ⟨Finset.mem_univ _, ?_⟩⟩
    have e : wid (at2 ⟨w % 2, by omega⟩ ⟨w / 2, by omega⟩) = w := by
      show 2 * (w / 2) + w % 2 = w; omega
    unfold lo hi beg fin
    rw [e]; exact ⟨h1, h2⟩

/-! ## What the call carries -/

abbrev iLoc (d : Dev nD) : Loc nD τ sig := (SparseCore.T d).loc main_arg1
abbrev vLoc (d : Dev nD) : Loc nD τ sig := (SparseCore.T d).loc main_v0
abbrev mLoc (d : Dev nD) : Loc nD τ sig := (SparseCore.T d).loc main_v1
abbrev oLoc (d : Dev nD) : Loc nD τ sig := (SparseCore.T d).loc main_v2

variable (A : Dev nD → Valuation τ sig (Elt F))

/-- What the call is called with: the indices, -/
abbrev miA (d : Dev nD) : Vec F S16384 .i32 := A d (Proc.devRef .tc main_arg1)
/-- the rows' values in pairs, -/
abbrev fvA (d : Dev nD) : Vec F S8192x128 .f32 := A d (Proc.devRef .tc main_v0)
/-- the memory transposed, -/
abbrev mtA (d : Dev nD) : Vec F S64x1000000 .f32 := A d (Proc.devRef .tc main_v1)
/-- and what the result's buffer holds. -/
abbrev g0A (d : Dev nD) : Vec F S64x1000000 .f32 := A d (Proc.devRef .tc main_v2)
/-- What the tiles write. -/
abbrev outA (d : Dev nD) : Vec F S64x1000000 .f32 := outFn (miA A d) (fvA A d) (mtA A d)

/-- A share of the three inputs, and the result's columns `I`. -/
abbrev Res (d : Dev nD) (q : PosShare TreeShare) (I : Finset S64x1000000.Idx) (g : Vec F S64x1000000 .f32) : sProp 𝕄 :=
  iprop((iLoc d ↦{q} miA A d) ∗ (vLoc d ↦{q} fvA A d) ∗ (mLoc d ↦{q} mtA A d) ∗ (oLoc d ↦[I]{fullShare} g))

/-- Core `c`'s share, -/
def csh (c : Fin 2) : PosShare TreeShare := ShareLeaves.leaf 1 fullShare c
/-- and tile `s`'s of it. -/
def tsh (c : Fin 2) (s : Fin 16) : PosShare TreeShare := ShareLeaves.leaf 4 (csh c) s

theorem Res_cores (d : Dev nD) (g : Vec F S64x1000000 .f32) :
    Res A d fullShare allCols g = bigSep Finset.univ fun c : Fin 2 => Res A d (csh c) (coreCols c) g := by
  have h : ∀ {ℓ : Loc nD τ sig} (f : Buf (Elt F) ℓ), (ℓ ↦{fullShare} f : sProp 𝕄) = bigSep Finset.univ fun c : Fin 2 => ℓ ↦{csh c} f :=
    fun f => ShareLeaves.pointsTo_leaves Finset.univ f 1 fullShare
  have ho : (oLoc d ↦[allCols]{fullShare} g : sProp 𝕄) = bigSep Finset.univ fun c : Fin 2 => oLoc d ↦[coreCols c]{fullShare} g :=
    pointsTo_biUnion (ℓ := oLoc d) Finset.univ coreCols cores_disjoint
  unfold Res
  rw [bigSep_sep', bigSep_sep', bigSep_sep', ← h, ← h, ← h, ho]

theorem Res_tiles (d : Dev nD) (c : Fin 2) (g : Vec F S64x1000000 .f32) :
    Res A d (csh c) (coreCols c) g = bigSep Finset.univ fun s : Fin 16 => Res A d (tsh c s) (cols (at2 c s)) g := by
  have h : ∀ {ℓ : Loc nD τ sig} (f : Buf (Elt F) ℓ), (ℓ ↦{csh c} f : sProp 𝕄) = bigSep Finset.univ fun s : Fin 16 => ℓ ↦{tsh c s} f :=
    fun f => ShareLeaves.pointsTo_leaves Finset.univ f 4 (csh c)
  have ho : (oLoc d ↦[coreCols c]{fullShare} g : sProp 𝕄) = bigSep Finset.univ fun s : Fin 16 => oLoc d ↦[cols (at2 c s)]{fullShare} g :=
    pointsTo_biUnion (ℓ := oLoc d) Finset.univ (fun s => cols (at2 c s)) (tiles_disjoint c)
  unfold Res
  rw [bigSep_sep', bigSep_sep', bigSep_sep', ← h, ← h, ← h, ho]

variable [FloatOps F]

theorem nCore_zero : (K (F := F)).nCore 0 = 2 := rfl
theorem nSub_zero : (K (F := F)).nSub 0 = 16 := rfl

/-- The call's payloads. -/
def P : (K (F := F)).Pay (nD := nD) (Val := Elt F) (Name := ℕ) (U := UU) where
  st := fun q d c => match q with | 0 => Res A d (csh (Fin.cast nCore_zero c)) (coreCols (Fin.cast nCore_zero c)) (g0A A d)
  dn := fun q d c => match q with | 0 => Res A d (csh (Fin.cast nCore_zero c)) (coreCols (Fin.cast nCore_zero c)) (outA A d)
  go := fun q d c s => match q with
    | 0 => Res A d (tsh (Fin.cast nCore_zero c) (Fin.cast nSub_zero s)) (cols (at2 (Fin.cast nCore_zero c) (Fin.cast nSub_zero s))) (g0A A d)
  td := fun q d c s => match q with
    | 0 => Res A d (tsh (Fin.cast nCore_zero c) (Fin.cast nSub_zero s)) (cols (at2 (Fin.cast nCore_zero c) (Fin.cast nSub_zero s))) (outA A d)
  x := fun _ _ => iprop(emp)

instance P_storable : (P (F := F) A).IsStorable where
  st q d c := match q with
    | 0 => (inferInstance : BI.Storable (upEmb : UEmb _ 𝕄) (Res A d (csh (Fin.cast nCore_zero c)) (coreCols (Fin.cast nCore_zero c)) (g0A A d)))
  dn q d c := match q with
    | 0 => (inferInstance : BI.Storable (upEmb : UEmb _ 𝕄) (Res A d (csh (Fin.cast nCore_zero c)) (coreCols (Fin.cast nCore_zero c)) (outA A d)))
  go q d c s := match q with
    | 0 => (inferInstance : BI.Storable (upEmb : UEmb _ 𝕄)
        (Res A d (tsh (Fin.cast nCore_zero c) (Fin.cast nSub_zero s)) (cols (at2 (Fin.cast nCore_zero c) (Fin.cast nSub_zero s))) (g0A A d)))
  td q d c s := match q with
    | 0 => (inferInstance : BI.Storable (upEmb : UEmb _ 𝕄)
        (Res A d (tsh (Fin.cast nCore_zero c) (Fin.cast nSub_zero s)) (cols (at2 (Fin.cast nCore_zero c) (Fin.cast nSub_zero s))) (outA A d)))

/-! ## The tile's obligation -/

/-- What the tiles ask of the indices. -/
structure Good (mi : Vec F S16384 .i32) : Prop where
  idx : ∀ p, (mi p).toNat < 1000000
  worker : ∀ i, Nat.count (InR mi (lo i) (hi i)) 16384 ≤ 4096
  block : ∀ i, ∀ t < nq i, Nat.count (InR mi (lo i + 512 * t) (lo i + 512 * t + 512)) 16384 ≤ 2048

theorem defs₀_vector (c : Fin τ.nSC) (s : Fin τ.nSub) :
    defs₀ (F := F) (.scVector c s) 0 ()
      = SparseCore.onTile hcore0 hsub0 (fun c s => cc0_scatter (F := F) (at2 c s) idxM (Memref.isWhole_whole _) val2M (Memref.isWhole_whole _) memM (Memref.isWhole_whole _) outM (Memref.isWhole_whole _)
              idxvM (Memref.isWhole_whole _) wcolM (Memref.isWhole_whole _) wposM (Memref.isWhole_whole _) ccolM (Memref.isWhole_whole _) cposM (Memref.isWhole_whole _)
              blockM (Memref.isWhole_whole _) pairsM (Memref.isWhole_whole _) rowsM (Memref.isWhole_whole _) cc0_scratch8 cc0_scratch9 cc0_scratch10 cc0_scoped0) ⟨⟩ c s := rfl

/-- The waits a tile records are at no call's index. -/
theorem post_weaken {thr : Thread nD τ} {B C D : sProp 𝕄} {O : CellTallies nD τ sig (HIx 1)} {W : Waits sig (HIx 1)} {q : Fin 1} :
    iprop(B ∗ C ∗ D ∗ ∃ W', ⌜∀ p ∈ W', p ∈ W ∨ p.2 = none⌝ ∗ owes thr O W')
      ⊢ iprop(B ∗ C ∗ D ∗ ∃ W', ⌜∀ p ∈ W', p ∈ W ∨ p.2 = none ∨ p.2 = some q⌝ ∗ owes thr O W') := by
  iintro ⟨HB, HC, HD, %W', %hW, HO⟩
  iframe HB HC HD
  iexists W'
  isplitr
  · ipureintro; exact fun p hp => (hW p hp).imp_right Or.inl
  iexact HO

theorem tileObl (hA : ∀ d, Good (miA A d)) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (F := F) d (at2 ⟨_, hci.1⟩ ⟨_, hci.2⟩) (tsh (Fin.cast nCore_zero c) (Fin.cast nSub_zero i)) (fvA A d) (mtA A d) (miA A d) O W
    (hA d).idx ((hA d).worker _) ((hA d).block _) hO (g0A A d)).trans (wp_mono frame _ _ fun _ => post_weaken)

theorem vecSplit : (K (F := F)).VecSplit' (P A) 0 := by
  intro d c
  have h : ∀ g, (bigSep Finset.univ fun s : Fin ((K (F := F)).nSub 0) => Res A d (tsh (Fin.cast nCore_zero c) (Fin.cast nSub_zero s)) (cols (at2 (Fin.cast nCore_zero c) (Fin.cast nSub_zero s))) g)
      = Res A d (csh (Fin.cast nCore_zero c)) (coreCols (Fin.cast nCore_zero c)) g := fun g => (Res_tiles A d (Fin.cast nCore_zero c) g).symm
  show Res A d (csh (Fin.cast nCore_zero c)) (coreCols (Fin.cast nCore_zero c)) (g0A A d) ⊢ |={Set.univ}=> iprop(
      (bigSep Finset.univ fun s : Fin ((K (F := F)).nSub 0) => Res A d (tsh (Fin.cast nCore_zero c) (Fin.cast nSub_zero s)) (cols (at2 (Fin.cast nCore_zero c) (Fin.cast nSub_zero s))) (g0A A d))
      ∗ ((bigSep Finset.univ fun s : Fin ((K (F := F)).nSub 0) => Res A d (tsh (Fin.cast nCore_zero c) (Fin.cast nSub_zero s)) (cols (at2 (Fin.cast nCore_zero c) (Fin.cast nSub_zero s))) (outA A d))
          -∗ Res A d (csh (Fin.cast nCore_zero c)) (coreCols (Fin.cast nCore_zero c)) (outA A d)))
  rw [h, h]
  iintro H; imodintro
  isplitl [H]; · iexact H
  iintro H; iexact H

/-! ## The launch element -/

def u₀ : UU := (initOf (K (F := F)).hsCells (K (F := F)).hsToks, 1)

theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P A).x q thr) := by
  have hx : (bigSep Finset.univ fun thr : Thread nD τ => bigSep Finset.univ fun q : Fin 1 => (P (F := F) A).x q thr) = bigSep Finset.univ fun _ => iprop(emp) :=
    bigSep_congr fun _ _ => bigSep_univ_of_subsingleton (0 : Fin 1)
  rw [hx, emps, emps]
  unfold u₀
  iintro Hu
  ihave ⟨HH, -⟩ := (ownU_pair (initOf (K (F := F)).hsCells (K (F := F)).hsToks) (1 : Counters)) $$ Hu
  imodintro
  isplitl [HH]; · iexact HH
  isplitr <;> iempintro

end Cert.Proof.Tile
-- ==== Proof.Run.lean ====
/-
  @main: the host operations, the call, the host operations after it; and the run of the whole program.
-/
module

public import proofs.«01_k».proof.Proof.Launch

@[expose] public section

noncomputable section

namespace Cert.Proof.Tile

open Cert.KernelIdeal Cert.KernelIdeal.Gen Cert.Proof.Lanes Cert.Proof.Spec Cert.Proof.Words

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs unscopedBufs_held sub_ucRefs)

variable {F : FTy → Type}

local notation "𝕄" => MT nD τ sig (HIx 1) (Elt F) ℕ UU ℕ

variable [FloatOps F] (m : (ℓ : Loc nD τ sig) → Buf (Elt F) ℓ) (ρ : Dev nD → PrngReg)

/-! ## The contents along @main -/

/-- At the launch, -/
abbrev V0 (d : Dev nD) : Valuation τ sig (Elt F) := fun b => m (d, b)
/-- at the call, -/
abbrev V1 (d : Dev nD) : Valuation τ sig (Elt F) := StableHlo.after Host.pre (V0 m d)
/-- what the call leaves of its result, -/
def outG (d : Dev nD) : Vec F S64x1000000 .f32 := fun x => if (x 1).val < 999936 then outA (V1 m) d x else g0A (V1 m) d x
/-- after the call, -/
def V2 (d : Dev nD) : Valuation τ sig (Elt F) := Function.update (V1 m d) (Proc.devRef .tc main_v2) (outG m d)
/-- and at the end. -/
abbrev V3 (d : Dev nD) : Valuation τ sig (Elt F) := StableHlo.after Host.post (V2 m d)

theorem V2_of_ne (d : Dev nD) {b : Ref sig .tc} (h : b ≠ main_v2) : V2 m d (Proc.devRef .tc b) = V1 m d (Proc.devRef .tc b) :=
  Function.update_of_ne (fun e => h (Proc.devRef_injective _ e)) _ _

theorem V3_arg (d : Dev nD) {b : Ref sig .tc} (h1 : b ∉ Host.postW) (h2 : b ≠ main_v2) (h3 : b ∉ [main_v0, main_v1]) :
    V3 m d (Proc.devRef .tc b) = m ((SparseCore.T d).loc b) :=
  (Host.post_keeps _ h1).trans ((V2_of_ne m d h2).trans (Host.pre_keeps _ h3))

/-- The four buffers of the call. -/
abbrev callRefs : Finset (DevRef τ sig) := {Proc.devRef .tc main_arg1, Proc.devRef .tc main_v0, Proc.devRef .tc main_v1, Proc.devRef .tc main_v2}
/-- The buffers the claims read. -/
abbrev finRefs : Finset (DevRef τ sig) := {Proc.devRef .tc main_v29, Proc.devRef .tc main_arg0, Proc.devRef .tc main_arg1, Proc.devRef .tc main_arg2}

theorem callRefs_sub : callRefs ⊆ ucRefs τ sig := by decide +kernel
theorem finRefs_sub : finRefs ⊆ ucRefs τ sig := by decide +kernel

theorem held_call (d : Dev nD) (W : Valuation τ sig (Elt F)) :
    (StableHlo.held (SparseCore.T d) callRefs W : sProp 𝕄)
      = iprop((iLoc d ↦{fullShare} W (Proc.devRef .tc main_arg1)) ∗ (vLoc d ↦{fullShare} W (Proc.devRef .tc main_v0))
        ∗ (mLoc d ↦{fullShare} W (Proc.devRef .tc main_v1)) ∗ oLoc d ↦{fullShare} W (Proc.devRef .tc main_v2)) := by
  unfold StableHlo.held callRefs
  rw [SparseCore.bigSep_insert' (by decide +kernel), SparseCore.bigSep_insert' (by decide +kernel), SparseCore.bigSep_insert' (by decide +kernel), bigSep_singleton]

/-- The result's buffer: the tiles' columns and the rest. -/
theorem out_split (d : Dev nD) (g : Vec F S64x1000000 .f32) :
    (oLoc d ↦{fullShare} g : sProp 𝕄) ⊣⊢ iprop((oLoc d ↦[allCols]{fullShare} g) ∗ oLoc d ↦[Finset.univ \ allCols]{fullShare} g) :=
  pointsTo_split_subset (Finset.subset_univ _)

theorem out_join (d : Dev nD) :
    iprop((oLoc d ↦[allCols]{fullShare} outA (V1 m) d) ∗ oLoc d ↦[Finset.univ \ allCols]{fullShare} g0A (V1 m) d) ⊢ (oLoc d ↦{fullShare} outG m d : sProp 𝕄) := by
  have h1 : (oLoc d ↦[allCols]{fullShare} outA (V1 m) d : sProp 𝕄) = oLoc d ↦[allCols]{fullShare} outG m d :=
    pointsTo_congr fun x hx => (if_pos (mem_allCols.mp hx)).symm
  have h2 : (oLoc d ↦[Finset.univ \ allCols]{fullShare} g0A (V1 m) d : sProp 𝕄) = oLoc d ↦[Finset.univ \ allCols]{fullShare} outG m d :=
    pointsTo_congr fun x hx => (if_neg fun h => (Finset.mem_sdiff.mp hx).2 (mem_allCols.mpr h)).symm
  rw [h1, h2]
  exact (out_split d (outG m d)).2

theorem st_cores (d : Dev nD) :
    (bigSep Finset.univ fun c : Fin ((K (F := F)).nCore 0) => (P (V1 m)).st 0 d c) = Res (V1 m) d fullShare allCols (g0A (V1 m) d) := (Res_cores (V1 m) d _).symm
theorem dn_cores (d : Dev nD) :
    (bigSep Finset.univ fun c : Fin ((K (F := F)).nCore 0) => (P (V1 m)).dn 0 d c) = Res (V1 m) d fullShare allCols (outA (V1 m) d) := (Res_cores (V1 m) d _).symm

/-- The buffers the claims read, at the end. -/
abbrev FIN (d : Dev nD) : sProp 𝕄 := StableHlo.held (SparseCore.T d) finRefs (V3 m d)

set_option backward.isDefEq.respectTransparency.types false in
theorem hmain (κ : GSem nD τ sig → ℕ) (d : Dev nD) :
    iprop((K (F := F)).ctx EH (P (V1 m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = StableHlo.held (d.tc : Thread nD τ) (ucRefs τ sig) (V0 m d) from unscopedBufs_held d (V0 m d),
    Host.main_eq]
  iintro ⟨#Hctx, Hst, ⟨Hb, Hbufs, Hts, -⟩, -⟩
  iapply (StableHlo.wp_seq 𝒱 none Set.univ d (ucRefs τ sig) _ Host.pre (fun op h => sub_ucRefs op (Host.pre_sub op h)) Host.pre_fresh (V0 m d)) $$ [Hb Hbufs]
  · isplitl [Hb] <;> iassumption
  iintro ⟨Hb, Hbufs⟩
  ihave ⟨Hcall, Hrest⟩ := (Entails.of_eq (StableHlo.held_sub_split (d.tc : Thread nD τ) callRefs_sub (V1 m d))) $$ Hbufs
  ihave ⟨Hi, Hv, Hm, Ho⟩ := (Entails.of_eq (held_call d (V1 m d))) $$ Hcall
  ihave ⟨Ho, Ho'⟩ := (out_split d (g0A (V1 m) d)).1 $$ Ho
  rw [wp_bind]
  iapply ((K (F := F)).wp_run (D (F := F)) 𝒱 (EH := EH) (P := P (V1 m)) κ d 0) $$ [Hst Hi Hv Hm Ho Ho' Hb Hrest Hts]
  isplitr; · iexact Hctx
  isplitl [Hst]; · iexact Hst
  isplitl [Hi Hv Hm Ho]
  · rw [st_cores]
    iframe Hi Hv Hm Ho
  iintro ⟨Hst, Hdn⟩
  ihave ⟨Hi, Hv, Hm, Ho⟩ := (Entails.of_eq (dn_cores m d)) $$ Hdn
  ihave Ho := (out_join m d) $$ [Ho Ho']
  · isplitl [Ho] <;> iassumption
  have hrest : (StableHlo.held (d.tc : Thread nD τ) (ucRefs τ sig \ callRefs) (V1 m d) : sProp 𝕄) = StableHlo.held (d.tc : Thread nD τ) (ucRefs τ sig \ callRefs) (V2 m d) :=
    StableHlo.held_congr _ fun b hb => (Function.update_of_ne (fun e => (Finset.mem_sdiff.mp hb).2 (by rw [e]; decide +kernel)) _ _).symm
  have hcall : (StableHlo.held (d.tc : Thread nD τ) callRefs (V2 m d) : sProp 𝕄)
      = iprop((iLoc d ↦{fullShare} miA (V1 m) d) ∗ (vLoc d ↦{fullShare} fvA (V1 m) d) ∗ (mLoc d ↦{fullShare} mtA (V1 m) d) ∗ oLoc d ↦{fullShare} outG m d) := by
    refine (held_call d (V2 m d)).trans ?_
    rw [V2_of_ne m d (by decide), V2_of_ne m d (by decide), V2_of_ne m d (by decide), show V2 m d (Proc.devRef .tc main_v2) = outG m d from Function.update_self ..]
  ihave Hbufs := (Entails.of_eq (StableHlo.held_sub_split (d.tc : Thread nD τ) callRefs_sub (V2 m d)).symm) $$ [Hi Hv Hm Ho Hrest]
  · rw [hcall, ← hrest]
    iframe Hi Hv Hm Ho Hrest
  iapply (StableHlo.wp_seq 𝒱 none Set.univ d (ucRefs τ sig) _ Host.post (fun op h => sub_ucRefs op (Host.post_sub op h)) Host.post_fresh (V2 m d)) $$ [Hb Hbufs]
  · isplitl [Hb] <;> iassumption
  iintro ⟨Hb, Hbufs⟩
  ihave ⟨Hfin, -⟩ := (Entails.of_eq (StableHlo.held_sub_split (d.tc : Thread nD τ) finRefs_sub (V3 m d))) $$ Hbufs
  rw [wp_ret]; imodintro
  isplitl [Hst]; · iexact Hst
  isplitl [Hfin]; · iexact Hfin
  isplitl [Hb] <;> iassumption

def fq (d : Dev nD) (s' : Phys nD τ sig (Elt F)) : Prop := ∀ b ∈ (finRefs : Finset (DevRef τ sig)), s'.mem.mem (d, b) = V3 m d b

theorem hfin (d : Dev nD) (s' : Phys nD τ sig (Elt F)) : iprop(FIN m d ∗ SI s') ⊢ (⌜fq m d s'⌝ : sProp 𝕄) := by
  unfold fq
  have h : ∀ b ∈ (finRefs : Finset (DevRef τ sig)), iprop(FIN m d ∗ SI s') ⊢ (⌜s'.mem.mem (d, b) = V3 m d b⌝ : sProp 𝕄) := fun b hb => by
    unfold FIN StableHlo.held
    rw [SparseCore.bigSep_erase' hb]
    iintro ⟨⟨H, -⟩, HSI⟩
    ihave %h := (SI_pointsTo_agree (st := s') (ℓ := (d, b)) (I := Finset.univ) (q := fullShare) (f := V3 m d b)) $$ [HSI H]
    · isplitl [HSI] <;> iassumption
    ipureintro; exact funext fun i => h i (Finset.mem_univ i)
  iintro H
  ihave ⟨%h29, H⟩ := (persistent_entails_right (h (Proc.devRef .tc main_v29) (by decide +kernel))) $$ H
  ihave ⟨%h0, H⟩ := (persistent_entails_right (h (Proc.devRef .tc main_arg0) (by decide +kernel))) $$ H
  ihave ⟨%h1, H⟩ := (persistent_entails_right (h (Proc.devRef .tc main_arg1) (by decide +kernel))) $$ H
  ihave %h2 := (h (Proc.devRef .tc main_arg2) (by decide +kernel)) $$ H
  ipureintro
  intro b hb
  simp only [finRefs, Finset.mem_insert, Finset.mem_singleton] at hb
  rcases hb with rfl | rfl | rfl | rfl <;> assumption

/-! ## The program's run -/

def QC : PUnit × MemSt nD τ sig (Elt F) → Prop := fun r => (∀ d : Dev nD, ∀ b ∈ (finRefs : Finset (DevRef τ sig)), r.2.mem (d, b) = V3 m d b) ∧ r.2.sem = fun _ => 0

theorem run_sc [∀ e, Nonempty (Elt F e)] (hA : ∀ d, Good (miA (V1 m) d)) : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (V1 m)) (A := ∅) facts v₀
    (fun q hq => match q with | 0 => nomatch hq)
    (fun q _ => match q with | 0 => tileObl (V1 m) hA)
    (fun q _ => match q with | 0 => SparseCore.Cfg.VecSplit.of_plain (vecSplit (V1 m)))
    m ρ main (fun _ => iprop(emp)) (FIN m) (u₀ (F := F)) (sep_elim_left.trans (hu₀ (V1 m))) (hmain m ρ) (fq m) (hfin m) (QC m) (fun _ h hz => ⟨h, hz⟩)

/-- Where the indices are good, every run ends with the result as the host operations make it of the call's, the arguments
    as they were, and every counter at zero. -/
theorem run_main [∀ e, Nonempty (Elt F e)] (hA : ∀ d, Good (m ((SparseCore.T d).loc main_arg1) : Vec F S16384 .i32)) :
    θ_run (Cert.KernelIdeal.defs (F := F)) (Cert.KernelIdeal.threads (F := F)) ⟨m, fun _ => 0, ρ⟩ fun r => (∀ c : Dev nD,
      r.2.mem ((c.tc : Thread nD τ).loc main_v29) = V3 m c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0 :=
  (θ_run _ _ _).mono (fun r h => ⟨fun c => ⟨h.1 c (Proc.devRef .tc main_v29) (by decide +kernel),
      (h.1 c (Proc.devRef .tc main_arg0) (by decide +kernel)).trans (V3_arg m c (by decide) (by decide) (by decide)),
      (h.1 c (Proc.devRef .tc main_arg1) (by decide +kernel)).trans (V3_arg m c (by decide) (by decide) (by decide)),
      (h.1 c (Proc.devRef .tc main_arg2) (by decide +kernel)).trans (V3_arg m c (by decide) (by decide) (by decide))⟩, h.2⟩)
    (run_sc m ρ fun d => by
      have e : miA (V1 m) d = m ((SparseCore.T d).loc main_arg1) := Host.pre_keeps _ (by decide)
      rw [e]; exact hA d)

end Cert.Proof.Tile
-- ==== Proof.Pre.lean ====
/-
  What the precondition says: every row index is a row, no tile has more than 4096 of them, no block more than 2048.
-/
module

public import proofs.«01_k».proof.Proof.Run
public import Idealize.ShloMosaic.Lib.Routing.Ops

@[expose] public section

noncomputable section

namespace Cert.Proof.Pre

open Idealize.ShloMosaic Cert.Proof.Spec Cert.Proof.Words Cert.Pre_rows_fit
open Cert.Pre_rows_fit.Facts
open Idealize.ShloMosaic.Routing (shape0 shape1 shape2 bc0 bcCol bcRows bcCols)
open Idealize.ShloMosaic.StableHlo.Predicate (sle_iff_toNat sge_iff_toNat slt_iff_toNat cmpi_eq_iff)

theorem andi_one {a b : BitVec 1} : IntOp.andi a b = 1#1 ↔ a = 1#1 ∧ b = 1#1 := by
  revert a b; decide

/-- A word from 0 up to a small bound, signed, is below that bound unsigned. -/
theorem in_range {a : BitVec 32} {n : ℕ} (hn : n < 2 ^ 31) (h0 : IntOp.cmpi .sge a 0#32 = 1#1) (h1 : IntOp.cmpi .slt a (BitVec.ofNat 32 n) = 1#1) : a.toNat < n := by
  have e0 : (0#32).sle a = true := (StableHlo.Predicate.ofBool_eq_one_iff _).mp h0
  have e1 : a.slt (BitVec.ofNat 32 n) = true := (StableHlo.Predicate.ofBool_eq_one_iff _).mp h1
  have e0' : (0 : ℤ) ≤ a.toInt := by simpa [BitVec.sle] using e0
  have e1' : a.toInt < n := by
    rw [← StableHlo.Predicate.toInt_ofNat_small n hn]; simpa [BitVec.slt] using e1
  rw [BitVec.toInt_eq_toNat_cond] at e0' e1'
  have := a.isLt
  split at e0' <;> simp_all <;> omega

/-- A count that compares under a bound is under it. -/
theorem count_le {n c : ℕ} (hc : c < 2 ^ 31) (msk : IVec (shape2 n 16384) 1) (hw : 1 < 32) (h : (shape2 n 16384).ReducesTo [1] (shape1 n)) (hu : 0 < shape0.numel)
    (hb : shape0.BroadcastsInDim (shape1 n) (![] : Fin 0 → Fin (shape1 n).rank)) (i : Fin n) (Q : ℕ → Prop) [DecidablePred Q] (hQ : ∀ q : Fin 16384, msk (ix2 i q) = 1#1 ↔ Q q.val)
    (hle : cmpi .sle (Host.reduce IntOp.addi (extui 32 msk hw) (constantI shape0 32 0#32) h hu) (broadcastInDim (shape1 n) ![] hb (constantI shape0 32 (BitVec.ofNat 32 c))) = fun _ => 1#1) :
    Nat.count Q 16384 ≤ c := by
  have e := congrFun hle (ix1 i)
  have hr := Routing.reduce_count (by norm_num) msk hw h hu i Q hQ
  have hcnt := Nat.count_le (p := Q) (n := 16384)
  have e' : IntOp.cmpi .sle (BitVec.ofNat 32 (Nat.count Q 16384)) (BitVec.ofNat 32 c) = 1#1 := by
    rw [← hr]; exact e
  have := (sle_iff_toNat (by rw [BitVec.toNat_ofNat]; omega) (by rw [BitVec.toNat_ofNat]; omega)).mp e'
  rw [BitVec.toNat_ofNat, BitVec.toNat_ofNat] at this
  omega

theorem ixn_of (idx : IVec S16384 32) (q : Fin 16384) : ixn idx q.val = (idx (ix1 q)).toNat := dif_pos q.isLt

/-- The word a tile's columns start at. -/
def first (n : BitVec 32) : BitVec 32 := IntOp.shli .host (IntOp.shrsi .host (IntOp.muli n 1953#32) 5#32) 9#32

theorem first_eq : ∀ w : Fin 33, first (BitVec.ofNat 32 w.val) = BitVec.ofNat 32 (w.val * 1953 / 32 * 512) := by decide +kernel

/-- Which updates name a row between two words a tile each. -/
def tileMask (v w : IVec S32x1 32) (idx : IVec S16384 32) [Facts] : IVec S32x16384 1 :=
  andi (cmpi .sge (broadcastInDim S32x16384 ![0, 1] bcast_S1x16384_S32x16384_0_1 (broadcastInDim S1x16384 ![1] bcast_S16384_S1x16384_1 idx)) (broadcastInDim S32x16384 ![0, 1] bcast_S32x1_S32x16384_0_1 v))
    (cmpi .slt (broadcastInDim S32x16384 ![0, 1] bcast_S1x16384_S32x16384_0_1 (broadcastInDim S1x16384 ![1] bcast_S16384_S1x16384_1 idx)) (broadcastInDim S32x16384 ![0, 1] bcast_S32x1_S32x16384_0_1 w))

/-- Which updates name a row of a block. -/
def blockMask (idx : IVec S16384 32) [Facts] : IVec S1953x16384 1 :=
  cmpi .eq (broadcastInDim S1953x16384 ![0, 1] bcast_S1x16384_S1953x16384_0_1
      (Host.shrsi (broadcastInDim S1x16384 ![1] bcast_S16384_S1x16384_1 idx) (broadcastInDim S1x16384 ![] bcast_S_S1x16384 (constantI S_ 32 9#32))))
    (broadcastInDim S1953x16384 ![0, 1] bcast_S1953x1_S1953x16384_0_1 (broadcastInDim S1953x1 ![0] bcast_S1953_S1953x1_0 (iotaInDim S1953 32 0)))

/-- The tiles' numbers plus a word, times 1953, in blocks of 32, in columns. -/
def tileCols (n : IVec S32x1 32) [Facts] : IVec S32x1 32 :=
  Host.shli (Host.shrsi (muli n (broadcastInDim S32x1 ![] bcast_S_S32x1 (constantI S_ 32 1953#32))) (broadcastInDim S32x1 ![] bcast_S_S32x1 (constantI S_ 32 5#32)))
    (broadcastInDim S32x1 ![] bcast_S_S32x1 (constantI S_ 32 9#32))

def tileIds [Facts] : IVec S32x1 32 := broadcastInDim S32x1 ![0] bcast_S32_S32x1_0 (iotaInDim S32 32 0)

def tileNext [Facts] : IVec S32x1 32 := addi tileIds (broadcastInDim S32x1 ![] bcast_S_S32x1 (constantI S_ 32 1#32))

/-- A column spread over the columns. -/
theorem spread {α : Type} {n m : Nat} (h : (shape2 n 1).BroadcastsInDim (shape2 n m) (![0, 1] : Fin 2 → Fin (shape2 n m).rank)) (v : (shape2 n 1).Idx → α) (p : Fin n) (q : Fin m) :
    broadcastInDim (shape2 n m) ![0, 1] h v (ix2 p q) = v (ix2 p (0 : Fin 1)) := by
  refine broadcastInDim_apply _ h v _ _ fun a => ?_
  match a with
  | ⟨0, _⟩ => show p.val = if n = 1 then 0 else p.val; have := p.isLt; split <;> omega
  | ⟨1, _⟩ => show (0 : Nat) = if (1 : Nat) = 1 then 0 else q.val; rw [if_pos rfl]

/-- A row spread over the rows. -/
theorem spread' {α : Type} {n m : Nat} (h : (shape2 1 m).BroadcastsInDim (shape2 n m) (![0, 1] : Fin 2 → Fin (shape2 n m).rank)) (v : (shape2 1 m).Idx → α) (p : Fin n) (q : Fin m) :
    broadcastInDim (shape2 n m) ![0, 1] h v (ix2 p q) = v (ix2 (0 : Fin 1) q) := by
  refine broadcastInDim_apply _ h v _ _ fun a => ?_
  match a with
  | ⟨0, _⟩ => show (0 : Nat) = if (1 : Nat) = 1 then 0 else p.val; rw [if_pos rfl]
  | ⟨1, _⟩ => show q.val = if m = 1 then 0 else q.val; have := q.isLt; split <;> omega

theorem laid {α : Type} {m : Nat} (h : (shape1 m).BroadcastsInDim (shape2 1 m) (![1] : Fin 1 → Fin (shape2 1 m).rank)) (v : (shape1 m).Idx → α) (q : Fin m) :
    broadcastInDim (shape2 1 m) ![1] h v (ix2 (0 : Fin 1) q) = v (ix1 q) := by
  refine broadcastInDim_apply _ h v _ _ fun a => ?_
  match a with
  | ⟨0, _⟩ => show q.val = if m = 1 then 0 else q.val; have := q.isLt; split <;> omega

variable [Facts]

theorem tileIds_at (w : Fin 32) : tileIds (ix2 w (0 : Fin 1)) = BitVec.ofNat 32 w.val := bcCol _ _ w

theorem tileNext_at (w : Fin 32) : tileNext (ix2 w (0 : Fin 1)) = BitVec.ofNat 32 (w.val + 1) := by
  refine (congrArg (fun x => IntOp.addi x 1#32) (tileIds_at w)).trans ?_
  revert w; decide +kernel

theorem tileCols_at {n : IVec S32x1 32} (w : Fin 32) {k : ℕ} (hk : k < 33) (h : n (ix2 w (0 : Fin 1)) = BitVec.ofNat 32 k) :
    tileCols n (ix2 w (0 : Fin 1)) = BitVec.ofNat 32 (k * 1953 / 32 * 512) :=
  (congrArg first h).trans (first_eq ⟨k, hk⟩)

theorem tileMask_iff (idx : IVec S16384 32) (hidx : ∀ p, (idx p).toNat < 1000000) (w : Fin 32) (q : Fin 16384) :
    tileMask (tileCols tileIds) (tileCols tileNext) idx (ix2 w q) = 1#1 ↔ InR idx (w.val * 1953 / 32 * 512) ((w.val + 1) * 1953 / 32 * 512) q.val := by
  have hx := hidx (ix1 q)
  have hw := w.isLt
  have hlo : w.val * 1953 / 32 ≤ 1953 := by omega
  have hhi : (w.val + 1) * 1953 / 32 ≤ 1953 := by omega
  refine andi_one.trans ?_
  unfold InR
  rw [ixn_of]
  refine and_congr ?_ ?_
  · show IntOp.cmpi .sge (broadcastInDim S32x16384 ![0, 1] _ (broadcastInDim S1x16384 ![1] _ idx) (ix2 w q)) (broadcastInDim S32x16384 ![0, 1] _ (tileCols tileIds) (ix2 w q)) = 1#1 ↔ _
    rw [show broadcastInDim S32x16384 ![0, 1] bcast_S1x16384_S32x16384_0_1 (broadcastInDim S1x16384 ![1] bcast_S16384_S1x16384_1 idx) (ix2 w q) = idx (ix1 q) from bcCols _ _ idx w q,
      show broadcastInDim S32x16384 ![0, 1] bcast_S32x1_S32x16384_0_1 (tileCols tileIds) (ix2 w q) = _ from (spread _ _ w q).trans (tileCols_at w (by omega) (tileIds_at w)),
      sge_iff_toNat (by omega) (by rw [BitVec.toNat_ofNat]; exact lt_of_le_of_lt (Nat.mod_le _ _) (by omega)), BitVec.toNat_ofNat, Nat.mod_eq_of_lt (by omega)]
  · show IntOp.cmpi .slt (broadcastInDim S32x16384 ![0, 1] _ (broadcastInDim S1x16384 ![1] _ idx) (ix2 w q)) (broadcastInDim S32x16384 ![0, 1] _ (tileCols tileNext) (ix2 w q)) = 1#1 ↔ _
    rw [show broadcastInDim S32x16384 ![0, 1] bcast_S1x16384_S32x16384_0_1 (broadcastInDim S1x16384 ![1] bcast_S16384_S1x16384_1 idx) (ix2 w q) = idx (ix1 q) from bcCols _ _ idx w q,
      show broadcastInDim S32x16384 ![0, 1] bcast_S32x1_S32x16384_0_1 (tileCols tileNext) (ix2 w q) = _ from (spread _ _ w q).trans (tileCols_at w (by omega) (tileNext_at w)),
      slt_iff_toNat (by omega) (by rw [BitVec.toNat_ofNat]; exact lt_of_le_of_lt (Nat.mod_le _ _) (by omega)), BitVec.toNat_ofNat, Nat.mod_eq_of_lt (by omega)]

theorem shr9 {a : BitVec 32} {b : ℕ} (ha : a.toNat < 1000000) (hb : b < 1953) : IntOp.shrsi .host a 9#32 = BitVec.ofNat 32 b ↔ b * 512 ≤ a.toNat ∧ a.toNat < b * 512 + 512 := by
  have e : (IntOp.shrsi .host a 9#32).toNat = a.toNat / 512 := by
    have hm : a.msb = false := by rw [BitVec.msb_eq_false_iff_two_mul_lt]; omega
    have e1 : IntOp.shrsi .host a 9#32 = a.sshiftRight 9 := rfl
    rw [e1, BitVec.toNat_sshiftRight_of_msb_false hm, Nat.shiftRight_eq_div_pow]
  rw [← BitVec.toNat_inj, e, BitVec.toNat_ofNat]
  omega

theorem blockMask_iff (idx : IVec S16384 32) (hidx : ∀ p, (idx p).toNat < 1000000) (b : Fin 1953) (q : Fin 16384) :
    blockMask idx (ix2 b q) = 1#1 ↔ InR idx (b.val * 512) (b.val * 512 + 512) q.val := by
  unfold InR
  rw [ixn_of, ← shr9 (hidx (ix1 q)) b.isLt]
  refine cmpi_eq_iff.trans ?_
  rw [show broadcastInDim S1953x16384 ![0, 1] bcast_S1953x1_S1953x16384_0_1 (broadcastInDim S1953x1 ![0] bcast_S1953_S1953x1_0 (iotaInDim S1953 32 0)) (ix2 b q) = BitVec.ofNat 32 b.val from bcRows _ _ _ b q]
  refine Eq.congr ((spread' _ _ b q).trans ?_) rfl
  exact congrArg (fun x => IntOp.shrsi .host x 9#32) (laid _ idx q)

variable {F : FTy → Type} [FloatOps F]

theorem good (a0 : FVec F S1000000x64 .f32) (idx : IVec S16384 32) (a2 : FVec F S16384x64 .f32) (h1 : (fn (F := F) a0 idx a2).1 = fun _ => 1#1)
    (h2 : (fn (F := F) a0 idx a2).2.1 = fun _ => 1#1) (h3 : (fn (F := F) a0 idx a2).2.2 = fun _ => 1#1) : Tile.Good (F := F) idx := by
  have hidx : ∀ p, (idx p).toNat < 1000000 := fun p => by
    obtain ⟨ha, hb⟩ := andi_one.mp (congrFun h1 p)
    refine in_range (by norm_num) ?_ ?_
    · exact ha
    · exact hb
  have e2 : (fn (F := F) a0 idx a2).2.1 = cmpi .sle (Host.reduce IntOp.addi (extui 32 (tileMask (tileCols tileIds) (tileCols tileNext) idx) natLt_1_32) (constantI S_ 32 0#32) reducesTo_S32x16384_S32_d1 h_S_)
      (broadcastInDim S32 ![] bcast_S_S32 (constantI S_ 32 4096#32)) := by
    unfold tileMask tileCols tileNext tileIds fn fn_part1 fn_part2
    dsimp only
  have e3 : (fn (F := F) a0 idx a2).2.2 = cmpi .sle (Host.reduce IntOp.addi (extui 32 (blockMask idx) natLt_1_32) (constantI S_ 32 0#32) reducesTo_S1953x16384_S1953_d1 h_S_)
      (broadcastInDim S1953 ![] bcast_S_S1953 (constantI S_ 32 2048#32)) := by
    unfold blockMask fn fn_part1 fn_part2
    dsimp only
  refine ⟨hidx, fun i => ?_, fun i t ht => ?_⟩
  · exact count_le (by norm_num) _ _ _ _ _ ⟨wid i, wid_lt i⟩ _ (fun q => tileMask_iff idx hidx ⟨wid i, wid_lt i⟩ q) (e2.symm.trans h2)
  · have ht' : beg i + t < 1953 := by
      have := wid_lt i
      unfold nq fin beg at ht; unfold beg; omega
    have e : lo i + 512 * t = (beg i + t) * 512 := by unfold lo; omega
    rw [e]
    exact count_le (by norm_num) _ _ _ _ _ ⟨beg i + t, ht'⟩ _ (fun q => blockMask_iff idx hidx ⟨beg i + t, ht'⟩ q) (e3.symm.trans h3)

end Cert.Proof.Pre
-- ==== Proof.Rows.lean ====
/-
  A scatter of rows into a matrix: each row holds the last update that names it, or what it held.
-/
module

public import Idealize.ShloMosaic.Lib.Routing.OpsSet
public import Idealize.ShloMosaic.Lib.Routing.OpsPair

@[expose] public section

noncomputable section

namespace Cert.Proof.Rows

open Idealize.ShloMosaic Idealize.ShloMosaic.Routing Idealize.ShloMosaic.ValueIdx

theorem foldl_skip {ι α : Type} (hit : ι → Prop) [DecidablePred hit] (v : ι → α) (l : List ι) (h : ∀ n ∈ l, ¬ hit n) (a : α) :
    l.foldl (fun a n => if hit n then v n else a) a = a := by
  induction l generalizing a with
  | nil => rfl
  | cons n l ih =>
    rw [List.foldl_cons, if_neg (h n List.mem_cons_self)]
    exact ih (fun k hk => h k (List.mem_cons_of_mem _ hk)) a

/-- Of a list in order, the last hit is what a fold that overwrites leaves. -/
theorem foldl_last {N : ℕ} {α : Type} (hit : Fin N → Prop) [DecidablePred hit] (v : Fin N → α) (p : Fin N) (hp : hit p) (hl : ∀ n, hit n → n ≤ p)
    (l : List (Fin N)) (hs : l.Pairwise (· < ·)) (hm : p ∈ l) (a : α) : l.foldl (fun a n => if hit n then v n else a) a = v p := by
  induction l generalizing a with
  | nil => exact absurd hm List.not_mem_nil
  | cons n l ih =>
    rw [List.foldl_cons]
    obtain ⟨h1, h2⟩ := List.pairwise_cons.mp hs
    rcases List.mem_cons.mp hm with rfl | hm
    · rw [if_pos hp]
      exact foldl_skip hit v l (fun k hk hh => absurd (hl k hh) (not_le.mpr (h1 k hk))) _
    · exact ih h2 hm _

variable {R C N : ℕ} (d : ScatterDims (shape2 R C) (shape2 N 1) (shape2 N C)) (huw : d.updateWindowDims = [1]) (hiw : d.insertedWindowDims = [0])
  (hsd : d.scatterDimsToOperandDims = [0]) (hivd : d.indexVectorDim = 1) (idx : IVec (shape2 N 1) 32)

include huw hiw hsd hivd in
/-- Where entry (i, k) of the updates lands. -/
theorem lands_row (i : Fin N) (k : Fin C) (x : Fin R) (c : Fin C) :
    d.resultIdx? (ix2 i k) idx = some (ix2 x c) ↔ (idx (ix2 i (0 : Fin 1))).toInt = x.val ∧ k = c := by
  have e : ∀ {n : ℕ} (l l' : List (Fin n)) (j : ℕ) (h : j < l.length) (a : Fin n), l = l' → l'[j]? = some a → l[j]'h = a := by
    intro n l l' j h a hl ha
    subst hl
    rw [List.getElem?_eq_getElem h] at ha
    exact Option.some.inj ha
  have hsK : d.sKept = [1] := by
    show (shape2 R C).kept d.insertedWindowDims = _
    rw [hiw]; rfl
  have hsi : d.siKept = [0] := by
    show (List.finRange 2).filter (fun x => decide (x.val ≠ d.indexVectorDim)) = _
    rw [hivd]; rfl
  have hu : d.uScatter = [0] := by
    show (shape2 N C).kept d.updateWindowDims = _
    rw [huw]; rfl
  have hm0 : (0 : Fin 2) ∈ d.scatterDimsToOperandDims := by rw [hsd]; exact List.mem_singleton.2 rfl
  have hm1 : (1 : Fin 2) ∉ d.scatterDimsToOperandDims := by rw [hsd]; exact fun h => absurd (List.mem_singleton.1 h) (by decide : (1 : Fin 2) ≠ 0)
  have hw0 : d.window (ix2 i k) 0 = 0 := by
    unfold ScatterDims.window
    rw [dif_neg (by rw [hsK]; exact fun h => absurd (List.mem_singleton.1 h) (by decide : (0 : Fin 2) ≠ 1))]
  have hw1 : d.window (ix2 i k) 1 = k.val := by
    unfold ScatterDims.window
    rw [dif_pos (by rw [hsK]; exact List.mem_singleton.2 rfl)]
    rw [e _ [1] _ _ 1 huw (by rw [hsK]; rfl)]
    rfl
  have hs1 : d.start (ix2 i k) idx 1 = 0 := by
    unfold ScatterDims.start
    rw [dif_neg hm1]
  have hs0 : d.start (ix2 i k) idx 0 = (idx (ix2 i (0 : Fin 1))).toInt := by
    unfold ScatterDims.start
    rw [dif_pos hm0]
    refine congrArg (fun q => (idx q).toInt) (funext fun b => Fin.ext ?_)
    match b with
    | ⟨0, _⟩ =>
      unfold ScatterDims.siIdx
      rw [dif_neg (by rw [hivd]; exact Nat.zero_ne_one)]
      unfold ScatterDims.siCoord
      simp only [Fin.val_cast]
      rw [e _ [0] _ _ 0 hu (by rw [hsi]; rfl)]
      rfl
    | ⟨1, _⟩ =>
      unfold ScatterDims.siIdx
      rw [dif_pos (by rw [hivd])]
      show List.idxOf (0 : Fin 2) d.scatterDimsToOperandDims = 0
      rw [hsd]; simp
  rw [resultIdx?_ix2, hs0, hs1, hw0, hw1, Nat.cast_zero, add_zero, zero_add]
  exact and_congr Iff.rfl (Int.natCast_inj.trans Fin.ext_iff.symm)

variable {α : Type} (x0 : (shape2 R C).Idx → α) (upd : (shape2 N C).Idx → α)

include huw hiw hsd hivd in
/-- A row no update names keeps what it held. -/
theorem scatter_none (x : Fin R) (c : Fin C) (h : ∀ i : Fin N, (idx (ix2 i (0 : Fin 1))).toInt ≠ x.val) :
    Host.scatter d (fun _ b => b) x0 idx upd (ix2 x c) = x0 (ix2 x c) :=
  scatter_set_miss d x0 idx upd _ fun k hk => by
    rw [show k = ix2 (k 0) (k 1) from funext fun a => by match a with | ⟨0, _⟩ => rfl | ⟨1, _⟩ => rfl] at hk
    exact h _ ((lands_row d huw hiw hsd hivd idx _ _ x c).mp hk).1

include huw hiw hsd hivd in
/-- A row some update names holds the last such update. -/
theorem scatter_last (x : Fin R) (c : Fin C) (p : Fin N) (hp : (idx (ix2 p (0 : Fin 1))).toInt = x.val)
    (hl : ∀ i : Fin N, (idx (ix2 i (0 : Fin 1))).toInt = x.val → i ≤ p) :
    Host.scatter d (fun _ b => b) x0 idx upd (ix2 x c) = upd (ix2 p c) := by
  have hn : ∀ k : (shape2 N C).Idx, ((shape2 N C).rowMajor k).val = (k 0).val * C + (k 1).val := fun k => Shape.rowMajor_val_two k
  rw [scatter_at]
  refine (foldl_last (fun n => d.resultIdx? ((shape2 N C).rowMajor.symm n) idx = some (ix2 x c)) (fun n => upd ((shape2 N C).rowMajor.symm n))
    ((shape2 N C).rowMajor (ix2 p c)) ?_ (fun n hh => ?_) _ (List.pairwise_lt_finRange _) (List.mem_finRange _) _).trans ?_
  · show d.resultIdx? ((shape2 N C).rowMajor.symm _) idx = _
    rw [Equiv.symm_apply_apply]
    exact (lands_row d huw hiw hsd hivd idx p c x c).mpr ⟨hp, rfl⟩
  · obtain ⟨k, rfl⟩ := (shape2 N C).rowMajor.surjective n
    rw [Equiv.symm_apply_apply, show k = ix2 (k 0) (k 1) from funext fun a => by match a with | ⟨0, _⟩ => rfl | ⟨1, _⟩ => rfl] at hh
    obtain ⟨h0, h1⟩ := (lands_row d huw hiw hsd hivd idx _ _ x c).mp hh
    have h2 : (k 0).val ≤ p.val := hl _ h0
    have h3 : (k 1).val = c.val := congrArg Fin.val h1
    show ((shape2 N C).rowMajor k).val ≤ ((shape2 N C).rowMajor (ix2 p c)).val
    rw [hn, hn, h3]
    exact Nat.add_le_add_right (Nat.mul_le_mul_right _ h2) _
  · show upd ((shape2 N C).rowMajor.symm _) = _
    rw [Equiv.symm_apply_apply]

end Cert.Proof.Rows
-- ==== Proof.Tail.lean ====
/-
  The last 64 rows, and what the operations after the call leave.
-/
module

public import proofs.«01_k».proof.Proof.Run
public import proofs.«01_k».proof.Proof.Rows
public import Idealize.ShloMosaic.Lib.SortNet.Extract
public import Idealize.ShloMosaic.Lib.WordCmp

@[expose] public section

noncomputable section

namespace Cert.Proof.Tail

open Cert.KernelIdeal Cert.KernelIdeal.Gen Idealize.ShloMosaic Idealize.ShloMosaic.StableHlo Cert.Proof.Spec

variable {F : FTy → Type} [FloatOps F]

/-- For each of the last 64 rows, the largest position of the updates that names it, below zero if none does. -/
def top (idx : IVec S16384 32) : IVec S64 32 :=
  Host.reduce IntOp.maxsi
    (select (cmpi .eq (broadcastInDim S64x16384 ![0, 1] bcast_S1x16384_S64x16384_0_1 (broadcastInDim S1x16384 ![1] bcast_S16384_S1x16384_1 idx))
        (broadcastInDim S64x16384 ![0, 1] bcast_S64x1_S64x16384_0_1
          (addi (broadcastInDim S64x1 ![] bcast_S_S64x1 (constantI S_ 32 999936#32)) (broadcastInDim S64x1 ![0] bcast_S64_S64x1_0 (iotaInDim S64 32 0)))))
      (broadcastInDim S64x16384 ![0, 1] bcast_S1x16384_S64x16384_0_1 (broadcastInDim S1x16384 ![1] bcast_S16384_S1x16384_1 (iotaInDim S16384 32 0)))
      (broadcastInDim S64x16384 ![] bcast_S_S64x16384 (constantI S_ 32 4294967295#32)))
    (constantI S_ 32 2147483648#32) reducesTo_S64x16384_S64_d1 h_S_

/-- The position to read for each row. -/
def pos (t : IVec S64 32) : IVec S64 32 := maxsi (broadcastInDim S64 ![] bcast_S_S64 (constantI S_ 32 0#32)) t

/-- The last 64 rows. -/
def rows (a0 : FVec F S1000000x64 .f32) (t : IVec S64 32) (a2 : FVec F S16384x64 .f32) : FVec F S64x64 .f32 :=
  select (broadcastInDim S64x64 ![0, 1] bcast_S64x1_S64x64_0_1
      (cmpi .sge (broadcastInDim S64x1 ![0] bcast_S64_S64x1_0 t) (broadcastInDim S64x1 ![] bcast_S_S64x1 (constantI S_ 32 0#32))))
    (Host.gather gather_S16384x64_S64x1_S64x64_1_0_n_n_0_1_164 a2
      (broadcastInDim S64x1 ![0] bcast_S64_S64x1_0
        (select (cmpi .slt (pos t) (broadcastInDim S64 ![] bcast_S_S64 (constantI S_ 32 0#32))) (addi (pos t) (broadcastInDim S64 ![] bcast_S_S64 (constantI S_ 32 16384#32))) (pos t))))
    (extractStridedSlice S64x64 ![999936, 0] a0 slices_S1000000x64_S64x64_999936_0)

/-- The result: the call's, with the last 64 rows put in. -/
def whole (a0 : FVec F S1000000x64 .f32) (idx : IVec S16384 32) (a2 : FVec F S16384x64 .f32) (o : FVec F S64x1000000 .f32) : FVec F S1000000x64 .f32 :=
  Host.dynamicUpdateSlice (transpose S1000000x64 [1, 0] o transposes_S64x1000000_S1000000x64_1_0) (rows a0 (top idx) a2)
    (fun k => ((![constantI S_ 32 999936#32, constantI S_ 32 0#32] : Fin 2 → IVec S_ 32) k (Shape.Idx.first h_S_)).toInt) updateFits_S1000000x64_S64x64

theorem put_congr {x x' : FVec F S1000000x64 .f32} {u u' : FVec F S64x64 .f32} {k k' : Fin 2 → Int} (hx : x = x') (hu : u = u') (hk : k = k') :
    Host.dynamicUpdateSlice x u k updateFits_S1000000x64_S64x64 = Host.dynamicUpdateSlice x' u' k' updateFits_S1000000x64_S64x64 := by
  rw [hx, hu, hk]

/-- The two words of the corner the last 64 rows go to. -/
theorem corner (W : Valuation τ sig (Elt F)) (h6 : W (Proc.devRef .tc main_c_6) = constantI S_ 32 999936#32) (h7 : W (Proc.devRef .tc main_c_7) = constantI S_ 32 0#32)
    (hT : ∀ k : Fin 2, ((![main_c_6, main_c_7] : Fin 2 → Ref sig .tc) k).ty = ⟨S_, .i32⟩) (k : Fin 2) :
    (cast (congrArg (fun U : BufTy => U.Contents (Elt F)) (hT k)) (W (Proc.devRef .tc ((![main_c_6, main_c_7] : Fin 2 → Ref sig .tc) k))) (Shape.Idx.first h_S_) : BitVec 32).toInt
      = ((![constantI S_ 32 999936#32, constantI S_ 32 0#32] : Fin 2 → IVec S_ 32) k (Shape.Idx.first h_S_)).toInt := by
  match k with
  | ⟨0, _⟩ => exact congrArg (fun v : IVec S_ 32 => (v (Shape.Idx.first h_S_)).toInt) h6
  | ⟨1, _⟩ => exact congrArg (fun v : IVec S_ 32 => (v (Shape.Idx.first h_S_)).toInt) h7

set_option maxHeartbeats 2000000 in
theorem post_out (V : Valuation τ sig (Elt F)) :
    after Host.post V (Proc.devRef .tc main_v29) = whole (V (Proc.devRef .tc main_arg0)) (V (Proc.devRef .tc main_arg1)) (V (Proc.devRef .tc main_arg2)) (V (Proc.devRef .tc main_v2)) := by
  after_results
  refine put_congr rfl ?_ (funext fun k => ?_)
  · dsimp only [TRef.ofBuf, TRef.toBuf, TRef.of, cast_eq, id_eq]
    unfold rows pos top
    rfl
  · exact corner _ ((nullary_result_ne _ _ _ _ (by decide)).trans (nullary_result ..)) (nullary_result ..) (by decide) k

end Cert.Proof.Tail
-- ==== Proof.Last64.lean ====
/-
  What the last 64 rows are: the last update that names the row, or the row of the array.
-/
module

public import proofs.«01_k».proof.Proof.Tail
public import proofs.«01_k».proof.Proof.Pre
public import Idealize.ShloMosaic.Lib.Routing.Words

@[expose] public section

noncomputable section

namespace Cert.Proof.Tail

open Cert.KernelIdeal Cert.KernelIdeal.Gen Idealize.ShloMosaic Idealize.ShloMosaic.StableHlo Cert.Proof.Spec
open Idealize.ShloMosaic.Routing (shape0 shape1 shape2 bc0 bcCol bcRows bcCols)
open Idealize.ShloMosaic.StableHlo.Predicate (sle_iff_toNat sge_iff_toNat slt_iff_toNat cmpi_eq_iff)

theorem select_one {α : Type} {c : BitVec 1} (h : c = 1#1) (a b : α) : Scalar.select c a b = a := by rw [h]; rfl

theorem select_other {α : Type} {c : BitVec 1} (h : c ≠ 1#1) (a b : α) : Scalar.select c a b = b := by
  have : c = 0#1 := by revert c; decide
  rw [this]; rfl

/-- The table whose rows `top` takes the largest of. -/
def tbl (idx : IVec S16384 32) : IVec S64x16384 32 :=
  select (cmpi .eq (broadcastInDim S64x16384 ![0, 1] bcast_S1x16384_S64x16384_0_1 (broadcastInDim S1x16384 ![1] bcast_S16384_S1x16384_1 idx))
        (broadcastInDim S64x16384 ![0, 1] bcast_S64x1_S64x16384_0_1
          (addi (broadcastInDim S64x1 ![] bcast_S_S64x1 (constantI S_ 32 999936#32)) (broadcastInDim S64x1 ![0] bcast_S64_S64x1_0 (iotaInDim S64 32 0)))))
      (broadcastInDim S64x16384 ![0, 1] bcast_S1x16384_S64x16384_0_1 (broadcastInDim S1x16384 ![1] bcast_S16384_S1x16384_1 (iotaInDim S16384 32 0)))
      (broadcastInDim S64x16384 ![] bcast_S_S64x16384 (constantI S_ 32 4294967295#32))

theorem rowWord : ∀ j : Fin 64, IntOp.addi 999936#32 (BitVec.ofNat 32 j.val) = BitVec.ofNat 32 (999936 + j.val) := by decide +kernel

theorem named (idx : IVec S16384 32) (j : Fin 64) (q : Fin 16384) :
    cmpi .eq (broadcastInDim S64x16384 ![0, 1] bcast_S1x16384_S64x16384_0_1 (broadcastInDim S1x16384 ![1] bcast_S16384_S1x16384_1 idx))
        (broadcastInDim S64x16384 ![0, 1] bcast_S64x1_S64x16384_0_1
          (addi (broadcastInDim S64x1 ![] bcast_S_S64x1 (constantI S_ 32 999936#32)) (broadcastInDim S64x1 ![0] bcast_S64_S64x1_0 (iotaInDim S64 32 0)))) (ix2 j q) = 1#1
      ↔ ixn idx q.val = 999936 + j.val := by
  have e : addi (broadcastInDim S64x1 ![] bcast_S_S64x1 (constantI S_ 32 999936#32)) (broadcastInDim S64x1 ![0] bcast_S64_S64x1_0 (iotaInDim S64 32 0)) (ix2 j (0 : Fin 1))
      = BitVec.ofNat 32 (999936 + j.val) :=
    (congrArg (IntOp.addi 999936#32) (bcCol bcast_S64_S64x1_0 (iotaInDim S64 32 0) j)).trans (rowWord j)
  refine (cmpi_eq_iff (a := broadcastInDim S64x16384 ![0, 1] bcast_S1x16384_S64x16384_0_1 (broadcastInDim S1x16384 ![1] bcast_S16384_S1x16384_1 idx) (ix2 j q))).trans ?_
  rw [show broadcastInDim S64x16384 ![0, 1] bcast_S1x16384_S64x16384_0_1 (broadcastInDim S1x16384 ![1] bcast_S16384_S1x16384_1 idx) (ix2 j q) = idx (ix1 q) from bcCols _ _ idx j q,
    show broadcastInDim S64x16384 ![0, 1] bcast_S64x1_S64x16384_0_1
          (addi (broadcastInDim S64x1 ![] bcast_S_S64x1 (constantI S_ 32 999936#32)) (broadcastInDim S64x1 ![0] bcast_S64_S64x1_0 (iotaInDim S64 32 0))) (ix2 j q) = _ from (Pre.spread _ _ j q).trans e,
    Pre.ixn_of, ← BitVec.toNat_inj, BitVec.toNat_ofNat]
  have := j.isLt
  omega

theorem tbl_hit (idx : IVec S16384 32) (j : Fin 64) (q : Fin 16384) (h : ixn idx q.val = 999936 + j.val) : tbl idx (ix2 j q) = BitVec.ofNat 32 q.val :=
  (select_one ((named idx j q).mpr h) _ _).trans (bcCols bcast_S16384_S1x16384_1 bcast_S1x16384_S64x16384_0_1 (iotaInDim S16384 32 0) j q)

theorem tbl_miss (idx : IVec S16384 32) (j : Fin 64) (q : Fin 16384) (h : ixn idx q.val ≠ 999936 + j.val) : tbl idx (ix2 j q) = 4294967295#32 :=
  select_other (fun e => h ((named idx j q).mp e)) _ _

theorem top_spec (idx : IVec S16384 32) (j : Fin 64) :
    (∀ q : Fin 16384, (tbl idx (ix2 j q)).toInt ≤ (top idx (ix1 j)).toInt) ∧ ∃ q : Fin 16384, top idx (ix1 j) = tbl idx (ix2 j q) := by
  have hdrop : ∀ i : S64x16384.Idx, reducesTo_S64x16384_S64_d1.drop i = ix1 j ↔ i 0 = j := by
    intro i
    have hv : (reducesTo_S64x16384_S64_d1.drop i 0 : Nat) = i 0 := Shape.ReducesTo.drop_apply_val _ i 0
    constructor
    · intro e; rw [e] at hv; exact Fin.ext hv.symm
    · intro e; funext b; have hb : b = 0 := Subsingleton.elim _ _; subst hb; exact Fin.ext (hv.trans (congrArg Fin.val e))
  have e : top idx (ix1 j) = (Finset.univ.filter fun i => reducesTo_S64x16384_S64_d1.drop i = ix1 j).fold IntOp.maxsi 2147483648#32 (tbl idx) :=
    Host.reduce_eq_fold IntOp.maxsi (tbl idx) (constantI S_ 32 2147483648#32) reducesTo_S64x16384_S64_d1 h_S_ (ix1 j)
  obtain ⟨-, h2, h3⟩ := SortNet.fold_maxsi_spec (tbl idx) (Finset.univ.filter fun i => reducesTo_S64x16384_S64_d1.drop i = ix1 j) 2147483648#32
  rw [← e] at h2 h3
  have h2' : ∀ q : Fin 16384, (tbl idx (ix2 j q)).toInt ≤ (top idx (ix1 j)).toInt := fun q =>
    h2 _ (Finset.mem_filter.mpr ⟨Finset.mem_univ _, (hdrop _).mpr rfl⟩)
  refine ⟨h2', ?_⟩
  rcases h3 with h3 | ⟨i, hi, h3⟩
  · exfalso
    have := h2' 0
    rw [h3] at this
    have hm : (2147483648#32 : BitVec 32).toInt = -2147483648 := by decide
    by_cases hh : ixn idx (0 : Fin 16384).val = 999936 + j.val
    · rw [tbl_hit idx j 0 hh, hm] at this
      exact absurd this (by decide)
    · rw [tbl_miss idx j 0 hh, hm] at this
      exact absurd this (by decide)
  · have hi' := (hdrop i).mp (Finset.mem_filter.mp hi).2
    refine ⟨i 1, h3.trans (congrArg (tbl idx) (funext fun a => ?_))⟩
    match a with
    | ⟨0, _⟩ => exact hi'
    | ⟨1, _⟩ => rfl

theorem neg_one : (4294967295#32 : BitVec 32).toInt = -1 := by decide

theorem top_last (idx : IVec S16384 32) (j : Fin 64) (p : ℕ) (h : Tile.Last idx (999936 + j.val) p) : top idx (ix1 j) = BitVec.ofNat 32 p := by
  obtain ⟨hp, he, hl⟩ := h
  obtain ⟨h1, q, h2⟩ := top_spec idx j
  have h3 := h1 ⟨p, hp⟩
  rw [tbl_hit idx j ⟨p, hp⟩ he, h2, Predicate.toInt_ofNat_small _ (by show p < _; omega)] at h3
  have hq := q.isLt
  by_cases hh : ixn idx q.val = 999936 + j.val
  · rw [h2, tbl_hit idx j q hh]
    rw [tbl_hit idx j q hh, Predicate.toInt_ofNat_small _ (by omega)] at h3
    have h4 := hl q.val hq hh
    have h5 : (p : ℤ) ≤ q.val := h3
    rw [show q.val = p by omega]
  · rw [tbl_miss idx j q hh, neg_one] at h3
    have h5 : (p : ℤ) ≤ -1 := h3
    omega

theorem top_none (idx : IVec S16384 32) (j : Fin 64) (h : ∀ p < 16384, ixn idx p ≠ 999936 + j.val) : top idx (ix1 j) = 4294967295#32 := by
  obtain ⟨-, q, h2⟩ := top_spec idx j
  rw [h2, tbl_miss idx j q (h q.val q.isLt)]

variable {F : FTy → Type} [FloatOps F] (a0 : FVec F S1000000x64 .f32) (t : IVec S64 32) (a2 : FVec F S16384x64 .f32)

theorem nonneg_iff (j k : Fin 64) : broadcastInDim S64x64 ![0, 1] bcast_S64x1_S64x64_0_1
      (cmpi .sge (broadcastInDim S64x1 ![0] bcast_S64_S64x1_0 t) (broadcastInDim S64x1 ![] bcast_S_S64x1 (constantI S_ 32 0#32))) (ix2 j k)
    = IntOp.cmpi .sge (t (ix1 j)) 0#32 :=
  (Pre.spread bcast_S64x1_S64x64_0_1 _ j k).trans (congrArg (fun x => IntOp.cmpi .sge x 0#32) (bcCol bcast_S64_S64x1_0 t j))

theorem rows_old (j k : Fin 64) (h : t (ix1 j) = 4294967295#32) : rows a0 t a2 (ix2 j k) = a0 (ix2 ⟨999936 + j.val, by omega⟩ k) := by
  refine (select_other ?_ _ _).trans ?_
  · rw [nonneg_iff, h]; decide
  · refine extractStridedSlice_apply _ _ _ _ _ fun a => ?_
    match a with
    | ⟨0, _⟩ => rfl
    | ⟨1, _⟩ => exact (Nat.zero_add _).symm

theorem rows_new (j k : Fin 64) (p : Fin 16384) (h : t (ix1 j) = BitVec.ofNat 32 p.val) : rows a0 t a2 (ix2 j k) = a2 (ix2 p k) := by
  have hp := p.isLt
  have hpos : pos t (ix1 j) = BitVec.ofNat 32 p.val := by
    refine (congrArg (IntOp.maxsi 0#32) h).trans ?_
    exact Routing.maxsi_zero_left (by omega)
  refine (select_one ?_ _ _).trans ?_
  · rw [nonneg_iff, h, sge_iff_toNat (by rw [BitVec.toNat_ofNat]; omega) (by decide)]
    exact Nat.zero_le _
  · refine Routing.gather_row _ rfl rfl rfl rfl rfl a2 _ j k p ?_ (by norm_num)
    refine (bcCol bcast_S64_S64x1_0 _ j).trans ?_
    refine (Routing.wrap_of_lt _ _ ?_).trans hpos
    show (pos t (ix1 j)).toNat < _
    rw [hpos, BitVec.toNat_ofNat]
    omega

theorem whole_eq (idx : IVec S16384 32) (o : FVec F S64x1000000 .f32) : whole a0 idx a2 o
    = updateSlice (transpose S1000000x64 [1, 0] o transposes_S64x1000000_S1000000x64_1_0) (rows a0 (top idx) a2) ![999936, 0] (by decide) := by
  refine WordCmp.dynamicUpdateSlice_eq_update _ _ _ _ _ _ fun a => ?_
  match a with
  | ⟨0, _⟩ => exact (by decide : (999936#32 : BitVec 32).toInt = ((999936 : ℕ) : ℤ))
  | ⟨1, _⟩ => exact (by decide : (0#32 : BitVec 32).toInt = ((0 : ℕ) : ℤ))

/-- Before the last 64 rows the result is the call's. -/
theorem whole_first (idx : IVec S16384 32) (o : FVec F S64x1000000 .f32) (r : Fin 1000000) (k : Fin 64) (hr : r.val < 999936) :
    whole a0 idx a2 o (ix2 r k) = o (ix2 k r) := by
  rw [whole_eq]
  unfold updateSlice
  rw [dif_neg fun h => absurd (h 0).1 (not_le.mpr hr)]
  refine transpose_apply _ _ _ _ _ fun b => ?_
  match b with
  | ⟨0, _⟩ => rfl
  | ⟨1, _⟩ => rfl

/-- The last 64 rows. -/
theorem whole_rest (idx : IVec S16384 32) (o : FVec F S64x1000000 .f32) (j k : Fin 64) :
    whole a0 idx a2 o (ix2 ⟨999936 + j.val, by omega⟩ k) = rows a0 (top idx) a2 (ix2 j k) := by
  rw [whole_eq]
  unfold updateSlice
  rw [dif_pos fun a => ?_]
  · refine congrArg (rows a0 (top idx) a2) (funext fun b => Fin.ext ?_)
    match b with
    | ⟨0, _⟩ => exact Nat.add_sub_cancel_left ..
    | ⟨1, _⟩ => exact Nat.sub_zero _
  · match a with
    | ⟨0, _⟩ => exact ⟨Nat.le_add_right .., Nat.add_lt_add_left j.isLt _⟩
    | ⟨1, _⟩ => exact ⟨Nat.zero_le _, (Nat.zero_add 64).symm ▸ k.isLt⟩

end Cert.Proof.Tail
-- ==== Proof.Value.lean ====
/-
  The kernel's result is the reference's: each row holds the last update that names it, or the row of the array.
-/
module

public import proofs.«01_k».proof.Proof.Last64

@[expose] public section

noncomputable section

namespace Cert.Proof.Value

open Cert.KernelIdeal Cert.KernelIdeal.Gen Idealize.ShloMosaic Idealize.ShloMosaic.StableHlo Cert.Proof.Spec
open Idealize.ShloMosaic.Routing (shape0 shape1 shape2 bcCol)

variable {F : FTy → Type} [FloatOps F]

abbrev SIx : Shape := ⟨2, ![16384, 1]⟩

/-- The reference: the updates scattered into the array by their row indices, a negative one counted from the end. -/
def scattered (d : ScatterDims S1000000x64 SIx S16384x64) (h0 : S_.BroadcastsInDim S16384 (![] : Fin 0 → Fin S16384.rank)) (h1 : S16384.BroadcastsInDim SIx (![0] : Fin 1 → Fin SIx.rank))
    (a0 : FVec F S1000000x64 .f32) (idx : IVec S16384 32) (a2 : FVec F S16384x64 .f32) : FVec F S1000000x64 .f32 :=
  Host.scatter d (fun _ b => b) a0
    (broadcastInDim SIx ![0] h1 (select (cmpi .slt idx (broadcastInDim S16384 ![] h0 (constantI S_ 32 0#32))) (addi idx (broadcastInDim S16384 ![] h0 (constantI S_ 32 1000000#32))) idx)) a2

section Reference

variable (d : ScatterDims S1000000x64 SIx S16384x64) (huw : d.updateWindowDims = [1]) (hiw : d.insertedWindowDims = [0]) (hsd : d.scatterDimsToOperandDims = [0])
  (hivd : d.indexVectorDim = 1) (h0 : S_.BroadcastsInDim S16384 (![] : Fin 0 → Fin S16384.rank)) (h1 : S16384.BroadcastsInDim SIx (![0] : Fin 1 → Fin SIx.rank))
  (a0 : FVec F S1000000x64 .f32) (idx : IVec S16384 32) (a2 : FVec F S16384x64 .f32) (hidx : ∀ p, (idx p).toNat < 1000000)

include hidx in
theorem word_at (i : Fin 16384) :
    (broadcastInDim SIx ![0] h1 (select (cmpi .slt idx (broadcastInDim S16384 ![] h0 (constantI S_ 32 0#32))) (addi idx (broadcastInDim S16384 ![] h0 (constantI S_ 32 1000000#32))) idx)
      (ix2 i (0 : Fin 1))).toInt = (ixn idx i.val : ℤ) := by
  have hx := hidx (ix1 i)
  have e : broadcastInDim SIx ![0] h1 (select (cmpi .slt idx (broadcastInDim S16384 ![] h0 (constantI S_ 32 0#32))) (addi idx (broadcastInDim S16384 ![] h0 (constantI S_ 32 1000000#32))) idx)
      (ix2 i (0 : Fin 1)) = idx (ix1 i) :=
    (bcCol h1 _ i).trans (Routing.wrap_of_lt _ _ (by show (idx (ix1 i)).toNat < _; omega))
  rw [e, Pre.ixn_of, BitVec.toInt_eq_toNat_cond, if_pos (by omega)]

include huw hiw hsd hivd hidx in
theorem scattered_last (r : Fin 1000000) (k : Fin 64) (p : Fin 16384) (h : Tile.Last idx r.val p.val) : scattered d h0 h1 a0 idx a2 (ix2 r k) = a2 (ix2 p k) := by
  obtain ⟨hp, he, hl⟩ := h
  refine Rows.scatter_last d huw hiw hsd hivd _ a0 a2 r k p ((word_at h0 h1 idx hidx p).trans (by rw [he])) fun i hi => ?_
  exact hl i.val i.isLt (by exact_mod_cast (word_at h0 h1 idx hidx i).symm.trans hi)

include huw hiw hsd hivd hidx in
theorem scattered_none (r : Fin 1000000) (k : Fin 64) (h : ∀ p < 16384, ixn idx p ≠ r.val) : scattered d h0 h1 a0 idx a2 (ix2 r k) = a0 (ix2 r k) := by
  refine Rows.scatter_none d huw hiw hsd hivd _ a0 a2 r k fun i hi => h i.val i.isLt ?_
  exact_mod_cast (word_at h0 h1 idx hidx i).symm.trans hi

end Reference

section Kernel

variable (m : (ℓ : Loc nD τ sig) → Buf (Elt F) ℓ) (c : Dev nD)

abbrev a0 : FVec F S1000000x64 .f32 := m ((SparseCore.T c).loc main_arg0)
abbrev a1 : IVec S16384 32 := m ((SparseCore.T c).loc main_arg1)
abbrev a2 : FVec F S16384x64 .f32 := m ((SparseCore.T c).loc main_arg2)

theorem result_eq : Tile.V3 m c (Proc.devRef .tc main_v29) = Tail.whole (a0 m c) (a1 m c) (a2 m c) (Tile.outG m c) := by
  have e0 : Tile.V2 m c (Proc.devRef .tc main_arg0) = a0 m c := (Tile.V2_of_ne m c (by decide)).trans (Host.pre_keeps _ (by decide))
  have e1 : Tile.V2 m c (Proc.devRef .tc main_arg1) = a1 m c := (Tile.V2_of_ne m c (by decide)).trans (Host.pre_keeps _ (by decide))
  have e2 : Tile.V2 m c (Proc.devRef .tc main_arg2) = a2 m c := (Tile.V2_of_ne m c (by decide)).trans (Host.pre_keeps _ (by decide))
  have e3 : Tile.V2 m c (Proc.devRef .tc main_v2) = Tile.outG m c := Function.update_self ..
  exact (Tail.post_out (Tile.V2 m c)).trans (by rw [e0, e1, e2, e3])

/-- The updates' rows in pairs hold the updates. -/
theorem pairs (p : Fin 16384) (k : Fin 64) : Tile.valOf (Tile.fvA (Tile.V1 m) c) p.val k = a2 m c (ix2 p k) := by
  have e : Tile.fvA (Tile.V1 m) c = shapeCast S8192x128 (a2 m c) shapeCasts_S16384x64_S8192x128 := by
    show after Host.pre (Tile.V0 m c) (Proc.devRef .tc main_v0) = _
    after_results <;> rfl
  unfold Tile.valOf
  rw [e]
  refine shapeCast_apply _ _ _ _ ?_
  refine (Shape.rowMajor_val_two _).trans (Eq.trans ?_ (Shape.rowMajor_val_two _).symm)
  have hp := p.isLt
  show p.val * 64 + k.val = p.val % 16384 / 2 * 128 + (p.val % 2 * 64 + k.val)
  omega

theorem rest (r : Fin 1000000) (hr : ¬ r.val < 999936) : ∃ j : Fin 64, r = ⟨999936 + j.val, lt_of_lt_of_le (Nat.add_lt_add_left j.isLt _) (by decide)⟩ :=
  ⟨⟨r.val - 999936, by omega⟩, Fin.ext (by show r.val = 999936 + (r.val - 999936); omega)⟩

/-- The array transposed. -/
theorem columns (r : Fin 1000000) (k : Fin 64) : Tile.mtA (Tile.V1 m) c (ix2 k r) = a0 m c (ix2 r k) := by
  have e : Tile.mtA (Tile.V1 m) c = transpose S64x1000000 [1, 0] (a0 m c) transposes_S1000000x64_S64x1000000_1_0 := by
    show after Host.pre (Tile.V0 m c) (Proc.devRef .tc main_v1) = _
    after_results <;> rfl
  rw [e]
  refine transpose_apply _ _ _ _ _ fun b => ?_
  match b with
  | ⟨0, _⟩ => rfl
  | ⟨1, _⟩ => rfl

theorem result_last (hidx : ∀ p, (a1 m c p).toNat < 1000000) (r : Fin 1000000) (k : Fin 64) (p : Fin 16384) (h : Tile.Last (a1 m c) r.val p.val) :
    Tail.whole (a0 m c) (a1 m c) (a2 m c) (Tile.outG m c) (ix2 r k) = a2 m c (ix2 p k) := by
  have e1 : Tile.miA (Tile.V1 m) c = a1 m c := Host.pre_keeps _ (by decide)
  by_cases hr : r.val < 999936
  · rw [Tail.whole_first _ _ _ _ r k hr]
    show (if r.val < 999936 then Tile.outA (Tile.V1 m) c (ix2 k r) else _) = _
    rw [if_pos hr]
    refine (Tile.outFn_last _ _ (p := p.val) ?_).trans (pairs m c p k)
    rw [e1]; exact h
  · obtain ⟨j, rfl⟩ := rest r hr
    rw [Tail.whole_rest]
    exact Tail.rows_new _ _ _ j k p (Tail.top_last _ j _ h)

theorem result_none (r : Fin 1000000) (k : Fin 64) (h : ∀ p < 16384, ixn (a1 m c) p ≠ r.val) :
    Tail.whole (a0 m c) (a1 m c) (a2 m c) (Tile.outG m c) (ix2 r k) = a0 m c (ix2 r k) := by
  have e1 : Tile.miA (Tile.V1 m) c = a1 m c := Host.pre_keeps _ (by decide)
  by_cases hr : r.val < 999936
  · rw [Tail.whole_first _ _ _ _ r k hr]
    show (if r.val < 999936 then Tile.outA (Tile.V1 m) c (ix2 k r) else _) = _
    rw [if_pos hr]
    refine (Tile.outFn_none _ _ ?_).trans (columns m c r k)
    rw [e1]; exact h
  · obtain ⟨j, rfl⟩ := rest r hr
    rw [Tail.whole_rest]
    exact Tail.rows_old _ _ _ j k (Tail.top_none _ j h)

variable (d : ScatterDims S1000000x64 SIx S16384x64) (huw : d.updateWindowDims = [1]) (hiw : d.insertedWindowDims = [0]) (hsd : d.scatterDimsToOperandDims = [0])
  (hivd : d.indexVectorDim = 1) (h0 : S_.BroadcastsInDim S16384 (![] : Fin 0 → Fin S16384.rank)) (h1 : S16384.BroadcastsInDim SIx (![0] : Fin 1 → Fin SIx.rank))

include huw hiw hsd hivd in
/-- The kernel's result is the scattered array. -/
theorem result (hidx : ∀ p, (a1 m c p).toNat < 1000000) : Tile.V3 m c (Proc.devRef .tc main_v29) = scattered d h0 h1 (a0 m c) (a1 m c) (a2 m c) := by
  rw [result_eq]
  funext x
  obtain ⟨r, k, rfl⟩ : ∃ (r : Fin 1000000) (k : Fin 64), x = ix2 r k := ⟨x 0, x 1, funext fun a => by match a with | ⟨0, _⟩ => rfl | ⟨1, _⟩ => rfl⟩
  by_cases h : ∃ p < 16384, ixn (a1 m c) p = r.val
  · obtain ⟨p, hp, he⟩ := h
    obtain ⟨q, hq⟩ := Tile.last_exists hp he
    rw [result_last m c hidx r k ⟨q, hq.1⟩ hq, scattered_last d huw hiw hsd hivd h0 h1 _ _ _ hidx r k ⟨q, hq.1⟩ hq]
  · have h' : ∀ p < 16384, ixn (a1 m c) p ≠ r.val := fun p hp he => h ⟨p, hp, he⟩
    rw [result_none m c r k h', scattered_none d huw hiw hsd hivd h0 h1 _ _ _ hidx r k h']

end Kernel

end Cert.Proof.Value
-- ==== Proof.lean ====
/-
  The certificate's claims. The kernel's run is `Tile.run_main`, over any float values, and serves both the program and its ideal form;
  the references' runs are their operations read back.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.Reference.Run
public import proofs.«01_k».proof.Proof.Gen.Reference.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_fit
public import proofs.«01_k».proof.Proof.Pre
public import proofs.«01_k».proof.Proof.Value
public import Idealize.ShloMosaic.Adequacy
public import Idealize.ShloMosaic.Init

@[expose] public section

noncomputable section

namespace Cert.Proof

open Idealize.ShloMosaic Idealize.SL.Sem

set_option maxHeartbeats 0 in
theorem frame_k : Cert.quiescent_Kernel (hKernel := Cert.Kernel.Gen.facts) (hPre_rows_fit := Cert.Pre_rows_fit.Gen.facts) := fun m ρ hp =>
  (θ_run Cert.KernelIdeal.defs _ _).mono (fun _ h => ⟨fun c => (h.1 c).2, h.2⟩)
    (Tile.run_main (F := Bits) m ρ fun d => Pre.good _ _ _ (hp d).1 (hp d).2.1 (hp d).2.2)

theorem frame_ki : Cert.quiescent_KernelIdeal (hKernelIdeal := Cert.KernelIdeal.Gen.facts) (hPre_rows_fit := Cert.Pre_rows_fit.Gen.facts) := fun m ρ hp =>
  (θ_run Cert.KernelIdeal.defs _ _).mono (fun _ h => ⟨fun c => (h.1 c).2, h.2⟩)
    (Tile.run_main (F := Ideal) m ρ fun d => Pre.good _ _ _ (hp d).1 (hp d).2.1 (hp d).2.2)

theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_r : Cert.quiescent_Reference (hReference := Cert.Reference.Gen.facts) (hPre_rows_fit := Cert.Pre_rows_fit.Gen.facts) := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal (hKernelIdeal := Cert.KernelIdeal.Gen.facts) (hReferenceIdeal := Cert.ReferenceIdeal.Gen.facts) (hPre_rows_fit := Cert.Pre_rows_fit.Gen.facts) := fun m g m' g' hp heq => by
  have hg : ∀ c : Dev Cert.KernelIdeal.nD, Tile.Good (F := Ideal) (Value.a1 m c) := fun c => Pre.good _ _ _ (hp c).1 (hp c).2.1 (hp c).2.2
  refine ⟨fun c => Tile.V3 (F := Ideal) m c (Proc.devRef .tc Cert.KernelIdeal.main_v29), (θ_run Cert.KernelIdeal.defs _ _).mono (fun _ h c => h.1 c) (Tile.run_main (F := Ideal) m g hg),
    (θ_run Cert.ReferenceIdeal.defs _ _).mono (fun _ h c => ⟨(h c).1.trans (Eq.trans ?_
        (Value.result (F := Ideal) m c Cert.ReferenceIdeal.scatter_S1000000x64_S16384x1_S16384x64_1_0_0_1 rfl rfl rfl rfl Cert.ReferenceIdeal.Gen.bcast_S_S16384 Cert.ReferenceIdeal.Gen.bcast_S16384_S16384x1_0 (hg c).1).symm), (h c).2⟩)
      (Cert.ReferenceIdeal.Value.run (F := Ideal) m' g')⟩
  obtain ⟨e0, e1, e2⟩ := heq c
  rw [e0, e1, e2]
  rfl

set_option maxHeartbeats 0 in
theorem bitexact : Cert.bitexact_Kernel_Reference (hKernel := Cert.Kernel.Gen.facts) (hReference := Cert.Reference.Gen.facts) (hPre_rows_fit := Cert.Pre_rows_fit.Gen.facts) := fun m g m' g' hp heq => by
  have hg : ∀ c : Dev Cert.KernelIdeal.nD, Tile.Good (F := Bits) (Value.a1 m c) := fun c => Pre.good _ _ _ (hp c).1 (hp c).2.1 (hp c).2.2
  refine ⟨fun c => Tile.V3 (F := Bits) m c (Proc.devRef .tc Cert.KernelIdeal.main_v29), (θ_run Cert.KernelIdeal.defs _ _).mono (fun _ h c => h.1 c) (Tile.run_main (F := Bits) m g hg),
    (θ_run Cert.Reference.defs _ _).mono (fun _ h c => ⟨(h c).1.trans (Eq.trans ?_
        (Value.result (F := Bits) m c Cert.Reference.scatter_S1000000x64_S16384x1_S16384x64_1_0_0_1 rfl rfl rfl rfl Cert.Reference.Gen.bcast_S_S16384 Cert.Reference.Gen.bcast_S16384_S16384x1_0 (hg c).1).symm), (h c).2⟩)
      (Cert.Reference.Value.run (F := Bits) m' g')⟩
  obtain ⟨e0, e1, e2⟩ := heq c
  rw [e0, e1, e2]
  rfl

theorem claim : Cert.Claim := ⟨Cert.Kernel.Gen.facts, Cert.KernelIdeal.Gen.facts, Cert.ReferenceIdeal.Gen.facts, Cert.Reference.Gen.facts, Cert.Pre_rows_fit.Gen.facts,
  frame_k, frame_ki, frame_ri, fun m ρ _ => frame_ri m ρ trivial, frame_r, trivial, algebraic, bitexact⟩

end Cert.Proof

end
